-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_mla_finite_qk [hPre_mla_finite_qk : Cert.Pre_mla_finite_qk.Facts] (m : (ℓ : Loc Cert.MlaIdeal.nD Cert.MlaIdeal.τ Cert.MlaIdeal.sig) → Buf (Elt Ideal) ℓ) : Prop :=
  ∀ c : Dev Cert.MlaIdeal.nD,
    (Cert.Pre_mla_finite_qk.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)) (m ((c.tc : Thread Cert.MlaIdeal.nD Cert.MlaIdeal.τ).loc Cert.MlaIdeal.main_arg3)) (m ((c.tc : Thread Cert.MlaIdeal.nD Cert.MlaIdeal.τ).loc Cert.MlaIdeal.main_arg4)) (m ((c.tc : Thread Cert.MlaIdeal.nD Cert.MlaIdeal.τ).loc Cert.MlaIdeal.main_arg5))) = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_mla_finite_qk [hPre_mla_finite_qk : Cert.Pre_mla_finite_qk.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_mla_finite_qk.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2)) (m ((c.tc : Thread Cert.MlaRefIdeal.nD Cert.MlaRefIdeal.τ).loc Cert.MlaRefIdeal.main_arg3)) (m ((c.tc : Thread Cert.MlaRefIdeal.nD Cert.MlaRefIdeal.τ).loc Cert.MlaRefIdeal.main_arg4)) (m ((c.tc : Thread Cert.MlaRefIdeal.nD Cert.MlaRefIdeal.τ).loc Cert.MlaRefIdeal.main_arg5))) = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite_qk [hPre_gqa_finite_qk : Cert.Pre_gqa_finite_qk.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite_qk.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)) (m ((c.tc : Thread Cert.GqaIdeal.nD Cert.GqaIdeal.τ).loc Cert.GqaIdeal.main_arg3)) (m ((c.tc : Thread Cert.GqaIdeal.nD Cert.GqaIdeal.τ).loc Cert.GqaIdeal.main_arg4)) (m ((c.tc : Thread Cert.GqaIdeal.nD Cert.GqaIdeal.τ).loc Cert.GqaIdeal.main_arg5))) = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite_qk [hPre_gqa_finite_qk : Cert.Pre_gqa_finite_qk.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite_qk.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2)) (m ((c.tc : Thread Cert.GqaRefIdeal.nD Cert.GqaRefIdeal.τ).loc Cert.GqaRefIdeal.main_arg3)) (m ((c.tc : Thread Cert.GqaRefIdeal.nD Cert.GqaRefIdeal.τ).loc Cert.GqaRefIdeal.main_arg4)) (m ((c.tc : Thread Cert.GqaRefIdeal.nD Cert.GqaRefIdeal.τ).loc Cert.GqaRefIdeal.main_arg5))) = (fun _ => 1#1)

def Pre_Moe [hPre_tables_in_range : Cert.Pre_tables_in_range.Facts] (m : (ℓ : Loc Cert.Moe.nD Cert.Moe.τ Cert.Moe.sig) → Buf (Elt Bits) ℓ) : Prop :=
  ∀ c : Dev Cert.Moe.nD,
    (Cert.Pre_tables_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6))) = (fun _ => 1#1)

def Pre_MoeIdeal [hPre_tables_in_range : Cert.Pre_tables_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_tables_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_tables_in_range [hPre_tables_in_range : Cert.Pre_tables_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_tables_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Halves (m : (ℓ : Loc Cert.Halves.nD Cert.Halves.τ Cert.Halves.sig) → Buf (Elt Bits) ℓ) : Prop :=
  True

def Pre_HalvesIdeal (m : (ℓ : Loc Cert.HalvesIdeal.nD Cert.HalvesIdeal.τ Cert.HalvesIdeal.sig) → Buf (Elt Ideal) ℓ) : Prop :=
  True

def Pre_HalvesRefIdeal (m : (ℓ : Loc Cert.HalvesRefIdeal.nD Cert.HalvesRefIdeal.τ Cert.HalvesRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatRefIdeal (m : (ℓ : Loc Cert.FeatRefIdeal.nD Cert.FeatRefIdeal.τ Cert.FeatRefIdeal.sig) → Buf (Elt Ideal) ℓ) : Prop :=
  True

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2)
      ∧ r.2.mem ((c.tc : Thread Cert.Mla.nD Cert.Mla.τ).loc Cert.Mla.main_arg3) = m ((c.tc : Thread Cert.Mla.nD Cert.Mla.τ).loc Cert.Mla.main_arg3)
      ∧ r.2.mem ((c.tc : Thread Cert.Mla.nD Cert.Mla.τ).loc Cert.Mla.main_arg4) = m ((c.tc : Thread Cert.Mla.nD Cert.Mla.τ).loc Cert.Mla.main_arg4)
      ∧ r.2.mem ((c.tc : Thread Cert.Mla.nD Cert.Mla.τ).loc Cert.Mla.main_arg5) = m ((c.tc : Thread Cert.Mla.nD Cert.Mla.τ).loc Cert.Mla.main_arg5))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaIdeal_pre_mla_finite_qk [hMlaIdeal : Cert.MlaIdeal.Facts] [hPre_mla_finite_qk : Cert.Pre_mla_finite_qk.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_mla_finite_qk m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
      ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
      ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
      ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_MlaRefIdeal_pre_mla_finite_qk [hMlaRefIdeal : Cert.MlaRefIdeal.Facts] [hPre_mla_finite_qk : Cert.Pre_mla_finite_qk.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_mla_finite_qk m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2)
      ∧ r.2.mem ((c.tc : Thread Cert.MlaRefIdeal.nD Cert.MlaRefIdeal.τ).loc Cert.MlaRefIdeal.main_arg3) = m ((c.tc : Thread Cert.MlaRefIdeal.nD Cert.MlaRefIdeal.τ).loc Cert.MlaRefIdeal.main_arg3)
      ∧ r.2.mem ((c.tc : Thread Cert.MlaRefIdeal.nD Cert.MlaRefIdeal.τ).loc Cert.MlaRefIdeal.main_arg4) = m ((c.tc : Thread Cert.MlaRefIdeal.nD Cert.MlaRefIdeal.τ).loc Cert.MlaRefIdeal.main_arg4)
      ∧ r.2.mem ((c.tc : Thread Cert.MlaRefIdeal.nD Cert.MlaRefIdeal.τ).loc Cert.MlaRefIdeal.main_arg5) = m ((c.tc : Thread Cert.MlaRefIdeal.nD Cert.MlaRefIdeal.τ).loc Cert.MlaRefIdeal.main_arg5))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2)
      ∧ r.2.mem ((c.tc : Thread Cert.Gqa.nD Cert.Gqa.τ).loc Cert.Gqa.main_arg3) = m ((c.tc : Thread Cert.Gqa.nD Cert.Gqa.τ).loc Cert.Gqa.main_arg3)
      ∧ r.2.mem ((c.tc : Thread Cert.Gqa.nD Cert.Gqa.τ).loc Cert.Gqa.main_arg4) = m ((c.tc : Thread Cert.Gqa.nD Cert.Gqa.τ).loc Cert.Gqa.main_arg4)
      ∧ r.2.mem ((c.tc : Thread Cert.Gqa.nD Cert.Gqa.τ).loc Cert.Gqa.main_arg5) = m ((c.tc : Thread Cert.Gqa.nD Cert.Gqa.τ).loc Cert.Gqa.main_arg5))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaIdeal_pre_gqa_finite_qk [hGqaIdeal : Cert.GqaIdeal.Facts] [hPre_gqa_finite_qk : Cert.Pre_gqa_finite_qk.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite_qk m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
      ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
      ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
      ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_GqaRefIdeal_pre_gqa_finite_qk [hGqaRefIdeal : Cert.GqaRefIdeal.Facts] [hPre_gqa_finite_qk : Cert.Pre_gqa_finite_qk.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite_qk m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2)
      ∧ r.2.mem ((c.tc : Thread Cert.GqaRefIdeal.nD Cert.GqaRefIdeal.τ).loc Cert.GqaRefIdeal.main_arg3) = m ((c.tc : Thread Cert.GqaRefIdeal.nD Cert.GqaRefIdeal.τ).loc Cert.GqaRefIdeal.main_arg3)
      ∧ r.2.mem ((c.tc : Thread Cert.GqaRefIdeal.nD Cert.GqaRefIdeal.τ).loc Cert.GqaRefIdeal.main_arg4) = m ((c.tc : Thread Cert.GqaRefIdeal.nD Cert.GqaRefIdeal.τ).loc Cert.GqaRefIdeal.main_arg4)
      ∧ r.2.mem ((c.tc : Thread Cert.GqaRefIdeal.nD Cert.GqaRefIdeal.τ).loc Cert.GqaRefIdeal.main_arg5) = m ((c.tc : Thread Cert.GqaRefIdeal.nD Cert.GqaRefIdeal.τ).loc Cert.GqaRefIdeal.main_arg5))
      ∧ r.2.sem = fun _ => 0)

def quiescent_Moe [hMoe : Cert.Moe.Facts] [hPre_tables_in_range : Cert.Pre_tables_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6))
      ∧ r.2.sem = fun _ => 0)

def quiescent_MoeIdeal [hMoeIdeal : Cert.MoeIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_MoeRefIdeal_pre_tables_in_range [hMoeRefIdeal : Cert.MoeRefIdeal.Facts] [hPre_tables_in_range : Cert.Pre_tables_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_tables_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Halves [hHalves : Cert.Halves.Facts] : Prop :=
  ∀ (m : (ℓ : Loc Cert.Halves.nD Cert.Halves.τ Cert.Halves.sig) → Buf (Elt Bits) ℓ) (g : Dev Cert.Halves.nD → PrngReg), Pre_Halves m →
    θ_run (Cert.Halves.defs (F := Bits)) (onTc (τ := Cert.Halves.τ) (Cert.Halves.main (F := Bits))) ⟨m, fun _ => 0, g⟩ (fun r => (∀ c : Dev Cert.Halves.nD,
      r.2.mem ((c.tc : Thread Cert.Halves.nD Cert.Halves.τ).loc Cert.Halves.main_arg0) = m ((c.tc : Thread Cert.Halves.nD Cert.Halves.τ).loc Cert.Halves.main_arg0))
      ∧ r.2.sem = fun _ => 0)

def quiescent_HalvesIdeal [hHalvesIdeal : Cert.HalvesIdeal.Facts] : Prop :=
  ∀ (m : (ℓ : Loc Cert.HalvesIdeal.nD Cert.HalvesIdeal.τ Cert.HalvesIdeal.sig) → Buf (Elt Ideal) ℓ) (g : Dev Cert.HalvesIdeal.nD → PrngReg), Pre_HalvesIdeal m →
    θ_run (Cert.HalvesIdeal.defs (F := Ideal)) (onTc (τ := Cert.HalvesIdeal.τ) (Cert.HalvesIdeal.main (F := Ideal))) ⟨m, fun _ => 0, g⟩ (fun r => (∀ c : Dev Cert.HalvesIdeal.nD,
      r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0))
      ∧ r.2.sem = fun _ => 0)

def quiescent_HalvesRefIdeal [hHalvesRefIdeal : Cert.HalvesRefIdeal.Facts] : Prop :=
  ∀ (m : (ℓ : Loc Cert.HalvesRefIdeal.nD Cert.HalvesRefIdeal.τ Cert.HalvesRefIdeal.sig) → Buf (Elt Ideal) ℓ) (g : Dev Cert.HalvesRefIdeal.nD → PrngReg), Pre_HalvesRefIdeal m →
    θ_run (Cert.HalvesRefIdeal.defs (F := Ideal)) (onTc (τ := Cert.HalvesRefIdeal.τ) (Cert.HalvesRefIdeal.main (F := Ideal))) ⟨m, fun _ => 0, g⟩ (fun r => (∀ c : Dev Cert.HalvesRefIdeal.nD,
      r.2.mem ((c.tc : Thread Cert.HalvesRefIdeal.nD Cert.HalvesRefIdeal.τ).loc Cert.HalvesRefIdeal.main_arg0) = m ((c.tc : Thread Cert.HalvesRefIdeal.nD Cert.HalvesRefIdeal.τ).loc Cert.HalvesRefIdeal.main_arg0))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1)
      ∧ r.2.mem ((c.tc : Thread Cert.Feat.nD Cert.Feat.τ).loc Cert.Feat.main_arg2) = m ((c.tc : Thread Cert.Feat.nD Cert.Feat.τ).loc Cert.Feat.main_arg2)
      ∧ r.2.mem ((c.tc : Thread Cert.Feat.nD Cert.Feat.τ).loc Cert.Feat.main_arg3) = m ((c.tc : Thread Cert.Feat.nD Cert.Feat.τ).loc Cert.Feat.main_arg3)
      ∧ r.2.mem ((c.tc : Thread Cert.Feat.nD Cert.Feat.τ).loc Cert.Feat.main_arg4) = m ((c.tc : Thread Cert.Feat.nD Cert.Feat.τ).loc Cert.Feat.main_arg4)
      ∧ r.2.mem ((c.tc : Thread Cert.Feat.nD Cert.Feat.τ).loc Cert.Feat.main_arg5) = m ((c.tc : Thread Cert.Feat.nD Cert.Feat.τ).loc Cert.Feat.main_arg5)
      ∧ r.2.mem ((c.tc : Thread Cert.Feat.nD Cert.Feat.τ).loc Cert.Feat.main_arg6) = m ((c.tc : Thread Cert.Feat.nD Cert.Feat.τ).loc Cert.Feat.main_arg6)
      ∧ r.2.mem ((c.tc : Thread Cert.Feat.nD Cert.Feat.τ).loc Cert.Feat.main_arg7) = m ((c.tc : Thread Cert.Feat.nD Cert.Feat.τ).loc Cert.Feat.main_arg7)
      ∧ r.2.mem ((c.tc : Thread Cert.Feat.nD Cert.Feat.τ).loc Cert.Feat.main_arg8) = m ((c.tc : Thread Cert.Feat.nD Cert.Feat.τ).loc Cert.Feat.main_arg8)
      ∧ r.2.mem ((c.tc : Thread Cert.Feat.nD Cert.Feat.τ).loc Cert.Feat.main_arg9) = m ((c.tc : Thread Cert.Feat.nD Cert.Feat.τ).loc Cert.Feat.main_arg9)
      ∧ r.2.mem ((c.tc : Thread Cert.Feat.nD Cert.Feat.τ).loc Cert.Feat.main_arg10) = m ((c.tc : Thread Cert.Feat.nD Cert.Feat.τ).loc Cert.Feat.main_arg10)
      ∧ r.2.mem ((c.tc : Thread Cert.Feat.nD Cert.Feat.τ).loc Cert.Feat.main_arg11) = m ((c.tc : Thread Cert.Feat.nD Cert.Feat.τ).loc Cert.Feat.main_arg11)
      ∧ r.2.mem ((c.tc : Thread Cert.Feat.nD Cert.Feat.τ).loc Cert.Feat.main_arg12) = m ((c.tc : Thread Cert.Feat.nD Cert.Feat.τ).loc Cert.Feat.main_arg12)
      ∧ r.2.mem ((c.tc : Thread Cert.Feat.nD Cert.Feat.τ).loc Cert.Feat.main_arg13) = m ((c.tc : Thread Cert.Feat.nD Cert.Feat.τ).loc Cert.Feat.main_arg13)
      ∧ r.2.mem ((c.tc : Thread Cert.Feat.nD Cert.Feat.τ).loc Cert.Feat.main_arg14) = m ((c.tc : Thread Cert.Feat.nD Cert.Feat.τ).loc Cert.Feat.main_arg14)
      ∧ r.2.mem ((c.tc : Thread Cert.Feat.nD Cert.Feat.τ).loc Cert.Feat.main_arg15) = m ((c.tc : Thread Cert.Feat.nD Cert.Feat.τ).loc Cert.Feat.main_arg15)
      ∧ r.2.mem ((c.tc : Thread Cert.Feat.nD Cert.Feat.τ).loc Cert.Feat.main_arg16) = m ((c.tc : Thread Cert.Feat.nD Cert.Feat.τ).loc Cert.Feat.main_arg16)
      ∧ r.2.mem ((c.tc : Thread Cert.Feat.nD Cert.Feat.τ).loc Cert.Feat.main_arg17) = m ((c.tc : Thread Cert.Feat.nD Cert.Feat.τ).loc Cert.Feat.main_arg17))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
      ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
      ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
      ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
      ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
      ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
      ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
      ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
      ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9)
      ∧ r.2.mem ((c.tc : Thread Cert.FeatIdeal.nD Cert.FeatIdeal.τ).loc Cert.FeatIdeal.main_arg10) = m ((c.tc : Thread Cert.FeatIdeal.nD Cert.FeatIdeal.τ).loc Cert.FeatIdeal.main_arg10)
      ∧ r.2.mem ((c.tc : Thread Cert.FeatIdeal.nD Cert.FeatIdeal.τ).loc Cert.FeatIdeal.main_arg11) = m ((c.tc : Thread Cert.FeatIdeal.nD Cert.FeatIdeal.τ).loc Cert.FeatIdeal.main_arg11)
      ∧ r.2.mem ((c.tc : Thread Cert.FeatIdeal.nD Cert.FeatIdeal.τ).loc Cert.FeatIdeal.main_arg12) = m ((c.tc : Thread Cert.FeatIdeal.nD Cert.FeatIdeal.τ).loc Cert.FeatIdeal.main_arg12)
      ∧ r.2.mem ((c.tc : Thread Cert.FeatIdeal.nD Cert.FeatIdeal.τ).loc Cert.FeatIdeal.main_arg13) = m ((c.tc : Thread Cert.FeatIdeal.nD Cert.FeatIdeal.τ).loc Cert.FeatIdeal.main_arg13)
      ∧ r.2.mem ((c.tc : Thread Cert.FeatIdeal.nD Cert.FeatIdeal.τ).loc Cert.FeatIdeal.main_arg14) = m ((c.tc : Thread Cert.FeatIdeal.nD Cert.FeatIdeal.τ).loc Cert.FeatIdeal.main_arg14)
      ∧ r.2.mem ((c.tc : Thread Cert.FeatIdeal.nD Cert.FeatIdeal.τ).loc Cert.FeatIdeal.main_arg15) = m ((c.tc : Thread Cert.FeatIdeal.nD Cert.FeatIdeal.τ).loc Cert.FeatIdeal.main_arg15)
      ∧ r.2.mem ((c.tc : Thread Cert.FeatIdeal.nD Cert.FeatIdeal.τ).loc Cert.FeatIdeal.main_arg16) = m ((c.tc : Thread Cert.FeatIdeal.nD Cert.FeatIdeal.τ).loc Cert.FeatIdeal.main_arg16)
      ∧ r.2.mem ((c.tc : Thread Cert.FeatIdeal.nD Cert.FeatIdeal.τ).loc Cert.FeatIdeal.main_arg17) = m ((c.tc : Thread Cert.FeatIdeal.nD Cert.FeatIdeal.τ).loc Cert.FeatIdeal.main_arg17))
      ∧ r.2.sem = fun _ => 0)

def quiescent_FeatRefIdeal [hFeatRefIdeal : Cert.FeatRefIdeal.Facts] : Prop :=
  ∀ (m : (ℓ : Loc Cert.FeatRefIdeal.nD Cert.FeatRefIdeal.τ Cert.FeatRefIdeal.sig) → Buf (Elt Ideal) ℓ) (g : Dev Cert.FeatRefIdeal.nD → PrngReg), Pre_FeatRefIdeal m →
    θ_run (Cert.FeatRefIdeal.defs (F := Ideal)) (onTc (τ := Cert.FeatRefIdeal.τ) (Cert.FeatRefIdeal.main (F := Ideal))) ⟨m, fun _ => 0, g⟩ (fun r => (∀ c : Dev Cert.FeatRefIdeal.nD,
      r.2.mem ((c.tc : Thread Cert.FeatRefIdeal.nD Cert.FeatRefIdeal.τ).loc Cert.FeatRefIdeal.main_arg0) = m ((c.tc : Thread Cert.FeatRefIdeal.nD Cert.FeatRefIdeal.τ).loc Cert.FeatRefIdeal.main_arg0)
      ∧ r.2.mem ((c.tc : Thread Cert.FeatRefIdeal.nD Cert.FeatRefIdeal.τ).loc Cert.FeatRefIdeal.main_arg1) = m ((c.tc : Thread Cert.FeatRefIdeal.nD Cert.FeatRefIdeal.τ).loc Cert.FeatRefIdeal.main_arg1)
      ∧ r.2.mem ((c.tc : Thread Cert.FeatRefIdeal.nD Cert.FeatRefIdeal.τ).loc Cert.FeatRefIdeal.main_arg2) = m ((c.tc : Thread Cert.FeatRefIdeal.nD Cert.FeatRefIdeal.τ).loc Cert.FeatRefIdeal.main_arg2)
      ∧ r.2.mem ((c.tc : Thread Cert.FeatRefIdeal.nD Cert.FeatRefIdeal.τ).loc Cert.FeatRefIdeal.main_arg3) = m ((c.tc : Thread Cert.FeatRefIdeal.nD Cert.FeatRefIdeal.τ).loc Cert.FeatRefIdeal.main_arg3)
      ∧ r.2.mem ((c.tc : Thread Cert.FeatRefIdeal.nD Cert.FeatRefIdeal.τ).loc Cert.FeatRefIdeal.main_arg4) = m ((c.tc : Thread Cert.FeatRefIdeal.nD Cert.FeatRefIdeal.τ).loc Cert.FeatRefIdeal.main_arg4)
      ∧ r.2.mem ((c.tc : Thread Cert.FeatRefIdeal.nD Cert.FeatRefIdeal.τ).loc Cert.FeatRefIdeal.main_arg5) = m ((c.tc : Thread Cert.FeatRefIdeal.nD Cert.FeatRefIdeal.τ).loc Cert.FeatRefIdeal.main_arg5)
      ∧ r.2.mem ((c.tc : Thread Cert.FeatRefIdeal.nD Cert.FeatRefIdeal.τ).loc Cert.FeatRefIdeal.main_arg6) = m ((c.tc : Thread Cert.FeatRefIdeal.nD Cert.FeatRefIdeal.τ).loc Cert.FeatRefIdeal.main_arg6)
      ∧ r.2.mem ((c.tc : Thread Cert.FeatRefIdeal.nD Cert.FeatRefIdeal.τ).loc Cert.FeatRefIdeal.main_arg7) = m ((c.tc : Thread Cert.FeatRefIdeal.nD Cert.FeatRefIdeal.τ).loc Cert.FeatRefIdeal.main_arg7)
      ∧ r.2.mem ((c.tc : Thread Cert.FeatRefIdeal.nD Cert.FeatRefIdeal.τ).loc Cert.FeatRefIdeal.main_arg8) = m ((c.tc : Thread Cert.FeatRefIdeal.nD Cert.FeatRefIdeal.τ).loc Cert.FeatRefIdeal.main_arg8)
      ∧ r.2.mem ((c.tc : Thread Cert.FeatRefIdeal.nD Cert.FeatRefIdeal.τ).loc Cert.FeatRefIdeal.main_arg9) = m ((c.tc : Thread Cert.FeatRefIdeal.nD Cert.FeatRefIdeal.τ).loc Cert.FeatRefIdeal.main_arg9)
      ∧ r.2.mem ((c.tc : Thread Cert.FeatRefIdeal.nD Cert.FeatRefIdeal.τ).loc Cert.FeatRefIdeal.main_arg10) = m ((c.tc : Thread Cert.FeatRefIdeal.nD Cert.FeatRefIdeal.τ).loc Cert.FeatRefIdeal.main_arg10)
      ∧ r.2.mem ((c.tc : Thread Cert.FeatRefIdeal.nD Cert.FeatRefIdeal.τ).loc Cert.FeatRefIdeal.main_arg11) = m ((c.tc : Thread Cert.FeatRefIdeal.nD Cert.FeatRefIdeal.τ).loc Cert.FeatRefIdeal.main_arg11)
      ∧ r.2.mem ((c.tc : Thread Cert.FeatRefIdeal.nD Cert.FeatRefIdeal.τ).loc Cert.FeatRefIdeal.main_arg12) = m ((c.tc : Thread Cert.FeatRefIdeal.nD Cert.FeatRefIdeal.τ).loc Cert.FeatRefIdeal.main_arg12)
      ∧ r.2.mem ((c.tc : Thread Cert.FeatRefIdeal.nD Cert.FeatRefIdeal.τ).loc Cert.FeatRefIdeal.main_arg13) = m ((c.tc : Thread Cert.FeatRefIdeal.nD Cert.FeatRefIdeal.τ).loc Cert.FeatRefIdeal.main_arg13)
      ∧ r.2.mem ((c.tc : Thread Cert.FeatRefIdeal.nD Cert.FeatRefIdeal.τ).loc Cert.FeatRefIdeal.main_arg14) = m ((c.tc : Thread Cert.FeatRefIdeal.nD Cert.FeatRefIdeal.τ).loc Cert.FeatRefIdeal.main_arg14)
      ∧ r.2.mem ((c.tc : Thread Cert.FeatRefIdeal.nD Cert.FeatRefIdeal.τ).loc Cert.FeatRefIdeal.main_arg15) = m ((c.tc : Thread Cert.FeatRefIdeal.nD Cert.FeatRefIdeal.τ).loc Cert.FeatRefIdeal.main_arg15)
      ∧ r.2.mem ((c.tc : Thread Cert.FeatRefIdeal.nD Cert.FeatRefIdeal.τ).loc Cert.FeatRefIdeal.main_arg16) = m ((c.tc : Thread Cert.FeatRefIdeal.nD Cert.FeatRefIdeal.τ).loc Cert.FeatRefIdeal.main_arg16)
      ∧ r.2.mem ((c.tc : Thread Cert.FeatRefIdeal.nD Cert.FeatRefIdeal.τ).loc Cert.FeatRefIdeal.main_arg17) = m ((c.tc : Thread Cert.FeatRefIdeal.nD Cert.FeatRefIdeal.τ).loc Cert.FeatRefIdeal.main_arg17))
      ∧ r.2.sem = fun _ => 0)

def preserves_Mla_MlaIdeal : Prop :=
  True

def algebraic_MlaIdeal_MlaRefIdeal_pre_mla_finite_qk [hMlaIdeal : Cert.MlaIdeal.Facts] [hMlaRefIdeal : Cert.MlaRefIdeal.Facts] [hPre_mla_finite_qk : Cert.Pre_mla_finite_qk.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_mla_finite_qk m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)
      ∧ m' ((c.tc : Thread Cert.MlaRefIdeal.nD Cert.MlaRefIdeal.τ).loc Cert.MlaRefIdeal.main_arg3) = m ((c.tc : Thread Cert.MlaIdeal.nD Cert.MlaIdeal.τ).loc Cert.MlaIdeal.main_arg3)
      ∧ m' ((c.tc : Thread Cert.MlaRefIdeal.nD Cert.MlaRefIdeal.τ).loc Cert.MlaRefIdeal.main_arg4) = m ((c.tc : Thread Cert.MlaIdeal.nD Cert.MlaIdeal.τ).loc Cert.MlaIdeal.main_arg4)
      ∧ m' ((c.tc : Thread Cert.MlaRefIdeal.nD Cert.MlaRefIdeal.τ).loc Cert.MlaRefIdeal.main_arg5) = m ((c.tc : Thread Cert.MlaIdeal.nD Cert.MlaIdeal.τ).loc Cert.MlaIdeal.main_arg5)) →
    ∃ (v0 : (c : Dev Cert.MlaIdeal.nD) → Buf (Elt Ideal) ((c.tc : Thread Cert.MlaIdeal.nD Cert.MlaIdeal.τ).loc Cert.MlaIdeal.main_v33)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v33) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2)
          ∧ r.2.mem ((c.tc : Thread Cert.MlaIdeal.nD Cert.MlaIdeal.τ).loc Cert.MlaIdeal.main_arg3) = m ((c.tc : Thread Cert.MlaIdeal.nD Cert.MlaIdeal.τ).loc Cert.MlaIdeal.main_arg3)
          ∧ r.2.mem ((c.tc : Thread Cert.MlaIdeal.nD Cert.MlaIdeal.τ).loc Cert.MlaIdeal.main_arg4) = m ((c.tc : Thread Cert.MlaIdeal.nD Cert.MlaIdeal.τ).loc Cert.MlaIdeal.main_arg4)
          ∧ r.2.mem ((c.tc : Thread Cert.MlaIdeal.nD Cert.MlaIdeal.τ).loc Cert.MlaIdeal.main_arg5) = m ((c.tc : Thread Cert.MlaIdeal.nD Cert.MlaIdeal.τ).loc Cert.MlaIdeal.main_arg5))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v40) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2)
          ∧ r.2.mem ((c.tc : Thread Cert.MlaRefIdeal.nD Cert.MlaRefIdeal.τ).loc Cert.MlaRefIdeal.main_arg3) = m' ((c.tc : Thread Cert.MlaRefIdeal.nD Cert.MlaRefIdeal.τ).loc Cert.MlaRefIdeal.main_arg3)
          ∧ r.2.mem ((c.tc : Thread Cert.MlaRefIdeal.nD Cert.MlaRefIdeal.τ).loc Cert.MlaRefIdeal.main_arg4) = m' ((c.tc : Thread Cert.MlaRefIdeal.nD Cert.MlaRefIdeal.τ).loc Cert.MlaRefIdeal.main_arg4)
          ∧ r.2.mem ((c.tc : Thread Cert.MlaRefIdeal.nD Cert.MlaRefIdeal.τ).loc Cert.MlaRefIdeal.main_arg5) = m' ((c.tc : Thread Cert.MlaRefIdeal.nD Cert.MlaRefIdeal.τ).loc Cert.MlaRefIdeal.main_arg5))

def preserves_Gqa_GqaIdeal : Prop :=
  True

def algebraic_GqaIdeal_GqaRefIdeal_pre_gqa_finite_qk [hGqaIdeal : Cert.GqaIdeal.Facts] [hGqaRefIdeal : Cert.GqaRefIdeal.Facts] [hPre_gqa_finite_qk : Cert.Pre_gqa_finite_qk.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite_qk m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)
      ∧ m' ((c.tc : Thread Cert.GqaRefIdeal.nD Cert.GqaRefIdeal.τ).loc Cert.GqaRefIdeal.main_arg3) = m ((c.tc : Thread Cert.GqaIdeal.nD Cert.GqaIdeal.τ).loc Cert.GqaIdeal.main_arg3)
      ∧ m' ((c.tc : Thread Cert.GqaRefIdeal.nD Cert.GqaRefIdeal.τ).loc Cert.GqaRefIdeal.main_arg4) = m ((c.tc : Thread Cert.GqaIdeal.nD Cert.GqaIdeal.τ).loc Cert.GqaIdeal.main_arg4)
      ∧ m' ((c.tc : Thread Cert.GqaRefIdeal.nD Cert.GqaRefIdeal.τ).loc Cert.GqaRefIdeal.main_arg5) = m ((c.tc : Thread Cert.GqaIdeal.nD Cert.GqaIdeal.τ).loc Cert.GqaIdeal.main_arg5)) →
    ∃ (v0 : (c : Dev Cert.GqaIdeal.nD) → Buf (Elt Ideal) ((c.tc : Thread Cert.GqaIdeal.nD Cert.GqaIdeal.τ).loc Cert.GqaIdeal.main_v17)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v17) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2)
          ∧ r.2.mem ((c.tc : Thread Cert.GqaIdeal.nD Cert.GqaIdeal.τ).loc Cert.GqaIdeal.main_arg3) = m ((c.tc : Thread Cert.GqaIdeal.nD Cert.GqaIdeal.τ).loc Cert.GqaIdeal.main_arg3)
          ∧ r.2.mem ((c.tc : Thread Cert.GqaIdeal.nD Cert.GqaIdeal.τ).loc Cert.GqaIdeal.main_arg4) = m ((c.tc : Thread Cert.GqaIdeal.nD Cert.GqaIdeal.τ).loc Cert.GqaIdeal.main_arg4)
          ∧ r.2.mem ((c.tc : Thread Cert.GqaIdeal.nD Cert.GqaIdeal.τ).loc Cert.GqaIdeal.main_arg5) = m ((c.tc : Thread Cert.GqaIdeal.nD Cert.GqaIdeal.τ).loc Cert.GqaIdeal.main_arg5))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v40) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2)
          ∧ r.2.mem ((c.tc : Thread Cert.GqaRefIdeal.nD Cert.GqaRefIdeal.τ).loc Cert.GqaRefIdeal.main_arg3) = m' ((c.tc : Thread Cert.GqaRefIdeal.nD Cert.GqaRefIdeal.τ).loc Cert.GqaRefIdeal.main_arg3)
          ∧ r.2.mem ((c.tc : Thread Cert.GqaRefIdeal.nD Cert.GqaRefIdeal.τ).loc Cert.GqaRefIdeal.main_arg4) = m' ((c.tc : Thread Cert.GqaRefIdeal.nD Cert.GqaRefIdeal.τ).loc Cert.GqaRefIdeal.main_arg4)
          ∧ r.2.mem ((c.tc : Thread Cert.GqaRefIdeal.nD Cert.GqaRefIdeal.τ).loc Cert.GqaRefIdeal.main_arg5) = m' ((c.tc : Thread Cert.GqaRefIdeal.nD Cert.GqaRefIdeal.τ).loc Cert.GqaRefIdeal.main_arg5))

def preserves_Moe_MoeIdeal : Prop :=
  True

def algebraic_MoeIdeal_MoeRefIdeal [hMoeIdeal : Cert.MoeIdeal.Facts] [hMoeRefIdeal : Cert.MoeRefIdeal.Facts] [hPre_tables_in_range : Cert.Pre_tables_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v42) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Halves_HalvesIdeal : Prop :=
  True

def algebraic_HalvesIdeal_HalvesRefIdeal [hHalvesIdeal : Cert.HalvesIdeal.Facts] [hHalvesRefIdeal : Cert.HalvesRefIdeal.Facts] : Prop :=
  ∀ (m : (ℓ : Loc Cert.HalvesIdeal.nD Cert.HalvesIdeal.τ Cert.HalvesIdeal.sig) → Buf (Elt Ideal) ℓ) (g : Dev Cert.HalvesIdeal.nD → PrngReg)
    (m' : (ℓ : Loc Cert.HalvesRefIdeal.nD Cert.HalvesRefIdeal.τ Cert.HalvesRefIdeal.sig) → Buf (Elt Ideal) ℓ) (g' : Dev Cert.HalvesRefIdeal.nD → PrngReg), Pre_HalvesIdeal m →
    (∀ c : Dev Cert.HalvesIdeal.nD,
      m' ((c.tc : Thread Cert.HalvesRefIdeal.nD Cert.HalvesRefIdeal.τ).loc Cert.HalvesRefIdeal.main_arg0) = m ((c.tc : Thread Cert.HalvesIdeal.nD Cert.HalvesIdeal.τ).loc Cert.HalvesIdeal.main_arg0)) →
    ∃ (v0 : (c : Dev Cert.HalvesIdeal.nD) → Buf (Elt Ideal) ((c.tc : Thread Cert.HalvesIdeal.nD Cert.HalvesIdeal.τ).loc Cert.HalvesIdeal.main_v18)),
      θ_run (Cert.HalvesIdeal.defs (F := Ideal)) (onTc (τ := Cert.HalvesIdeal.τ) (Cert.HalvesIdeal.main (F := Ideal))) ⟨m, fun _ => 0, g⟩ (fun r => ∀ c : Dev Cert.HalvesIdeal.nD,
          r.2.mem ((c.tc : Thread Cert.HalvesIdeal.nD Cert.HalvesIdeal.τ).loc Cert.HalvesIdeal.main_v18) = v0 c
          ∧ r.2.mem ((c.tc : Thread Cert.HalvesIdeal.nD Cert.HalvesIdeal.τ).loc Cert.HalvesIdeal.main_arg0) = m ((c.tc : Thread Cert.HalvesIdeal.nD Cert.HalvesIdeal.τ).loc Cert.HalvesIdeal.main_arg0))
      ∧ θ_run (Cert.HalvesRefIdeal.defs (F := Ideal)) (onTc (τ := Cert.HalvesRefIdeal.τ) (Cert.HalvesRefIdeal.main (F := Ideal))) ⟨m', fun _ => 0, g'⟩ (fun r => ∀ c : Dev Cert.HalvesRefIdeal.nD,
          r.2.mem ((c.tc : Thread Cert.HalvesRefIdeal.nD Cert.HalvesRefIdeal.τ).loc Cert.HalvesRefIdeal.main_v3) = v0 c
          ∧ r.2.mem ((c.tc : Thread Cert.HalvesRefIdeal.nD Cert.HalvesRefIdeal.τ).loc Cert.HalvesRefIdeal.main_arg0) = m' ((c.tc : Thread Cert.HalvesRefIdeal.nD Cert.HalvesRefIdeal.τ).loc Cert.HalvesRefIdeal.main_arg0))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v5_0)) (v1 : (c : Dev Cert.OutIdeal.nD) → Buf (Elt Ideal) ((c.tc : Thread Cert.OutIdeal.nD Cert.OutIdeal.τ).loc Cert.OutIdeal.main_v5_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5_0) = v0 c
          ∧ r.2.mem ((c.tc : Thread Cert.OutIdeal.nD Cert.OutIdeal.τ).loc Cert.OutIdeal.main_v5_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v25) = v0 c
          ∧ r.2.mem ((c.tc : Thread Cert.OutRefIdeal.nD Cert.OutRefIdeal.τ).loc Cert.OutRefIdeal.main_v42) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Feat_FeatIdeal : Prop :=
  True

def algebraic_FeatIdeal_FeatRefIdeal [hFeatIdeal : Cert.FeatIdeal.Facts] [hFeatRefIdeal : Cert.FeatRefIdeal.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.FeatRefIdeal.nD Cert.FeatRefIdeal.τ Cert.FeatRefIdeal.sig) → Buf (Elt Ideal) ℓ) (g' : Dev Cert.FeatRefIdeal.nD → PrngReg), Pre_FeatIdeal m →
    (∀ c : Dev Cert.FeatIdeal.nD,
      m' ((c.tc : Thread Cert.FeatRefIdeal.nD Cert.FeatRefIdeal.τ).loc Cert.FeatRefIdeal.main_arg0) = m ((c.tc : Thread Cert.FeatIdeal.nD Cert.FeatIdeal.τ).loc Cert.FeatIdeal.main_arg0)
      ∧ m' ((c.tc : Thread Cert.FeatRefIdeal.nD Cert.FeatRefIdeal.τ).loc Cert.FeatRefIdeal.main_arg1) = m ((c.tc : Thread Cert.FeatIdeal.nD Cert.FeatIdeal.τ).loc Cert.FeatIdeal.main_arg1)
      ∧ m' ((c.tc : Thread Cert.FeatRefIdeal.nD Cert.FeatRefIdeal.τ).loc Cert.FeatRefIdeal.main_arg2) = m ((c.tc : Thread Cert.FeatIdeal.nD Cert.FeatIdeal.τ).loc Cert.FeatIdeal.main_arg2)
      ∧ m' ((c.tc : Thread Cert.FeatRefIdeal.nD Cert.FeatRefIdeal.τ).loc Cert.FeatRefIdeal.main_arg3) = m ((c.tc : Thread Cert.FeatIdeal.nD Cert.FeatIdeal.τ).loc Cert.FeatIdeal.main_arg3)
      ∧ m' ((c.tc : Thread Cert.FeatRefIdeal.nD Cert.FeatRefIdeal.τ).loc Cert.FeatRefIdeal.main_arg4) = m ((c.tc : Thread Cert.FeatIdeal.nD Cert.FeatIdeal.τ).loc Cert.FeatIdeal.main_arg4)
      ∧ m' ((c.tc : Thread Cert.FeatRefIdeal.nD Cert.FeatRefIdeal.τ).loc Cert.FeatRefIdeal.main_arg5) = m ((c.tc : Thread Cert.FeatIdeal.nD Cert.FeatIdeal.τ).loc Cert.FeatIdeal.main_arg5)
      ∧ m' ((c.tc : Thread Cert.FeatRefIdeal.nD Cert.FeatRefIdeal.τ).loc Cert.FeatRefIdeal.main_arg6) = m ((c.tc : Thread Cert.FeatIdeal.nD Cert.FeatIdeal.τ).loc Cert.FeatIdeal.main_arg6)
      ∧ m' ((c.tc : Thread Cert.FeatRefIdeal.nD Cert.FeatRefIdeal.τ).loc Cert.FeatRefIdeal.main_arg7) = m ((c.tc : Thread Cert.FeatIdeal.nD Cert.FeatIdeal.τ).loc Cert.FeatIdeal.main_arg7)
      ∧ m' ((c.tc : Thread Cert.FeatRefIdeal.nD Cert.FeatRefIdeal.τ).loc Cert.FeatRefIdeal.main_arg8) = m ((c.tc : Thread Cert.FeatIdeal.nD Cert.FeatIdeal.τ).loc Cert.FeatIdeal.main_arg8)
      ∧ m' ((c.tc : Thread Cert.FeatRefIdeal.nD Cert.FeatRefIdeal.τ).loc Cert.FeatRefIdeal.main_arg9) = m ((c.tc : Thread Cert.FeatIdeal.nD Cert.FeatIdeal.τ).loc Cert.FeatIdeal.main_arg9)
      ∧ m' ((c.tc : Thread Cert.FeatRefIdeal.nD Cert.FeatRefIdeal.τ).loc Cert.FeatRefIdeal.main_arg10) = m ((c.tc : Thread Cert.FeatIdeal.nD Cert.FeatIdeal.τ).loc Cert.FeatIdeal.main_arg10)
      ∧ m' ((c.tc : Thread Cert.FeatRefIdeal.nD Cert.FeatRefIdeal.τ).loc Cert.FeatRefIdeal.main_arg11) = m ((c.tc : Thread Cert.FeatIdeal.nD Cert.FeatIdeal.τ).loc Cert.FeatIdeal.main_arg11)
      ∧ m' ((c.tc : Thread Cert.FeatRefIdeal.nD Cert.FeatRefIdeal.τ).loc Cert.FeatRefIdeal.main_arg12) = m ((c.tc : Thread Cert.FeatIdeal.nD Cert.FeatIdeal.τ).loc Cert.FeatIdeal.main_arg12)
      ∧ m' ((c.tc : Thread Cert.FeatRefIdeal.nD Cert.FeatRefIdeal.τ).loc Cert.FeatRefIdeal.main_arg13) = m ((c.tc : Thread Cert.FeatIdeal.nD Cert.FeatIdeal.τ).loc Cert.FeatIdeal.main_arg13)
      ∧ m' ((c.tc : Thread Cert.FeatRefIdeal.nD Cert.FeatRefIdeal.τ).loc Cert.FeatRefIdeal.main_arg14) = m ((c.tc : Thread Cert.FeatIdeal.nD Cert.FeatIdeal.τ).loc Cert.FeatIdeal.main_arg14)
      ∧ m' ((c.tc : Thread Cert.FeatRefIdeal.nD Cert.FeatRefIdeal.τ).loc Cert.FeatRefIdeal.main_arg15) = m ((c.tc : Thread Cert.FeatIdeal.nD Cert.FeatIdeal.τ).loc Cert.FeatIdeal.main_arg15)
      ∧ m' ((c.tc : Thread Cert.FeatRefIdeal.nD Cert.FeatRefIdeal.τ).loc Cert.FeatRefIdeal.main_arg16) = m ((c.tc : Thread Cert.FeatIdeal.nD Cert.FeatIdeal.τ).loc Cert.FeatIdeal.main_arg16)
      ∧ m' ((c.tc : Thread Cert.FeatRefIdeal.nD Cert.FeatRefIdeal.τ).loc Cert.FeatRefIdeal.main_arg17) = m ((c.tc : Thread Cert.FeatIdeal.nD Cert.FeatIdeal.τ).loc Cert.FeatIdeal.main_arg17)) →
    ∃ (v0 : (c : Dev Cert.FeatIdeal.nD) → Buf (Elt Ideal) ((c.tc : Thread Cert.FeatIdeal.nD Cert.FeatIdeal.τ).loc Cert.FeatIdeal.main_v56_0)) (v1 : (c : Dev Cert.FeatIdeal.nD) → Buf (Elt Ideal) ((c.tc : Thread Cert.FeatIdeal.nD Cert.FeatIdeal.τ).loc Cert.FeatIdeal.main_v56_1)) (v2 : (c : Dev Cert.FeatIdeal.nD) → Buf (Elt Ideal) ((c.tc : Thread Cert.FeatIdeal.nD Cert.FeatIdeal.τ).loc Cert.FeatIdeal.main_v56_6)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v56_0) = v0 c
          ∧ r.2.mem ((c.tc : Thread Cert.FeatIdeal.nD Cert.FeatIdeal.τ).loc Cert.FeatIdeal.main_v56_1) = v1 c
          ∧ r.2.mem ((c.tc : Thread Cert.FeatIdeal.nD Cert.FeatIdeal.τ).loc Cert.FeatIdeal.main_v56_6) = v2 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1)
          ∧ r.2.mem ((c.tc : Thread Cert.FeatIdeal.nD Cert.FeatIdeal.τ).loc Cert.FeatIdeal.main_arg2) = m ((c.tc : Thread Cert.FeatIdeal.nD Cert.FeatIdeal.τ).loc Cert.FeatIdeal.main_arg2)
          ∧ r.2.mem ((c.tc : Thread Cert.FeatIdeal.nD Cert.FeatIdeal.τ).loc Cert.FeatIdeal.main_arg3) = m ((c.tc : Thread Cert.FeatIdeal.nD Cert.FeatIdeal.τ).loc Cert.FeatIdeal.main_arg3)
          ∧ r.2.mem ((c.tc : Thread Cert.FeatIdeal.nD Cert.FeatIdeal.τ).loc Cert.FeatIdeal.main_arg4) = m ((c.tc : Thread Cert.FeatIdeal.nD Cert.FeatIdeal.τ).loc Cert.FeatIdeal.main_arg4)
          ∧ r.2.mem ((c.tc : Thread Cert.FeatIdeal.nD Cert.FeatIdeal.τ).loc Cert.FeatIdeal.main_arg5) = m ((c.tc : Thread Cert.FeatIdeal.nD Cert.FeatIdeal.τ).loc Cert.FeatIdeal.main_arg5)
          ∧ r.2.mem ((c.tc : Thread Cert.FeatIdeal.nD Cert.FeatIdeal.τ).loc Cert.FeatIdeal.main_arg6) = m ((c.tc : Thread Cert.FeatIdeal.nD Cert.FeatIdeal.τ).loc Cert.FeatIdeal.main_arg6)
          ∧ r.2.mem ((c.tc : Thread Cert.FeatIdeal.nD Cert.FeatIdeal.τ).loc Cert.FeatIdeal.main_arg7) = m ((c.tc : Thread Cert.FeatIdeal.nD Cert.FeatIdeal.τ).loc Cert.FeatIdeal.main_arg7)
          ∧ r.2.mem ((c.tc : Thread Cert.FeatIdeal.nD Cert.FeatIdeal.τ).loc Cert.FeatIdeal.main_arg8) = m ((c.tc : Thread Cert.FeatIdeal.nD Cert.FeatIdeal.τ).loc Cert.FeatIdeal.main_arg8)
          ∧ r.2.mem ((c.tc : Thread Cert.FeatIdeal.nD Cert.FeatIdeal.τ).loc Cert.FeatIdeal.main_arg9) = m ((c.tc : Thread Cert.FeatIdeal.nD Cert.FeatIdeal.τ).loc Cert.FeatIdeal.main_arg9)
          ∧ r.2.mem ((c.tc : Thread Cert.FeatIdeal.nD Cert.FeatIdeal.τ).loc Cert.FeatIdeal.main_arg10) = m ((c.tc : Thread Cert.FeatIdeal.nD Cert.FeatIdeal.τ).loc Cert.FeatIdeal.main_arg10)
          ∧ r.2.mem ((c.tc : Thread Cert.FeatIdeal.nD Cert.FeatIdeal.τ).loc Cert.FeatIdeal.main_arg11) = m ((c.tc : Thread Cert.FeatIdeal.nD Cert.FeatIdeal.τ).loc Cert.FeatIdeal.main_arg11)
          ∧ r.2.mem ((c.tc : Thread Cert.FeatIdeal.nD Cert.FeatIdeal.τ).loc Cert.FeatIdeal.main_arg12) = m ((c.tc : Thread Cert.FeatIdeal.nD Cert.FeatIdeal.τ).loc Cert.FeatIdeal.main_arg12)
          ∧ r.2.mem ((c.tc : Thread Cert.FeatIdeal.nD Cert.FeatIdeal.τ).loc Cert.FeatIdeal.main_arg13) = m ((c.tc : Thread Cert.FeatIdeal.nD Cert.FeatIdeal.τ).loc Cert.FeatIdeal.main_arg13)
          ∧ r.2.mem ((c.tc : Thread Cert.FeatIdeal.nD Cert.FeatIdeal.τ).loc Cert.FeatIdeal.main_arg14) = m ((c.tc : Thread Cert.FeatIdeal.nD Cert.FeatIdeal.τ).loc Cert.FeatIdeal.main_arg14)
          ∧ r.2.mem ((c.tc : Thread Cert.FeatIdeal.nD Cert.FeatIdeal.τ).loc Cert.FeatIdeal.main_arg15) = m ((c.tc : Thread Cert.FeatIdeal.nD Cert.FeatIdeal.τ).loc Cert.FeatIdeal.main_arg15)
          ∧ r.2.mem ((c.tc : Thread Cert.FeatIdeal.nD Cert.FeatIdeal.τ).loc Cert.FeatIdeal.main_arg16) = m ((c.tc : Thread Cert.FeatIdeal.nD Cert.FeatIdeal.τ).loc Cert.FeatIdeal.main_arg16)
          ∧ r.2.mem ((c.tc : Thread Cert.FeatIdeal.nD Cert.FeatIdeal.τ).loc Cert.FeatIdeal.main_arg17) = m ((c.tc : Thread Cert.FeatIdeal.nD Cert.FeatIdeal.τ).loc Cert.FeatIdeal.main_arg17))
      ∧ θ_run (Cert.FeatRefIdeal.defs (F := Ideal)) (onTc (τ := Cert.FeatRefIdeal.τ) (Cert.FeatRefIdeal.main (F := Ideal))) ⟨m', fun _ => 0, g'⟩ (fun r => ∀ c : Dev Cert.FeatRefIdeal.nD,
          r.2.mem ((c.tc : Thread Cert.FeatRefIdeal.nD Cert.FeatRefIdeal.τ).loc Cert.FeatRefIdeal.main_v164) = v0 c
          ∧ r.2.mem ((c.tc : Thread Cert.FeatRefIdeal.nD Cert.FeatRefIdeal.τ).loc Cert.FeatRefIdeal.main_v165) = v1 c
          ∧ r.2.mem ((c.tc : Thread Cert.FeatRefIdeal.nD Cert.FeatRefIdeal.τ).loc Cert.FeatRefIdeal.main_v166) = v2 c
          ∧ r.2.mem ((c.tc : Thread Cert.FeatRefIdeal.nD Cert.FeatRefIdeal.τ).loc Cert.FeatRefIdeal.main_arg0) = m' ((c.tc : Thread Cert.FeatRefIdeal.nD Cert.FeatRefIdeal.τ).loc Cert.FeatRefIdeal.main_arg0)
          ∧ r.2.mem ((c.tc : Thread Cert.FeatRefIdeal.nD Cert.FeatRefIdeal.τ).loc Cert.FeatRefIdeal.main_arg1) = m' ((c.tc : Thread Cert.FeatRefIdeal.nD Cert.FeatRefIdeal.τ).loc Cert.FeatRefIdeal.main_arg1)
          ∧ r.2.mem ((c.tc : Thread Cert.FeatRefIdeal.nD Cert.FeatRefIdeal.τ).loc Cert.FeatRefIdeal.main_arg2) = m' ((c.tc : Thread Cert.FeatRefIdeal.nD Cert.FeatRefIdeal.τ).loc Cert.FeatRefIdeal.main_arg2)
          ∧ r.2.mem ((c.tc : Thread Cert.FeatRefIdeal.nD Cert.FeatRefIdeal.τ).loc Cert.FeatRefIdeal.main_arg3) = m' ((c.tc : Thread Cert.FeatRefIdeal.nD Cert.FeatRefIdeal.τ).loc Cert.FeatRefIdeal.main_arg3)
          ∧ r.2.mem ((c.tc : Thread Cert.FeatRefIdeal.nD Cert.FeatRefIdeal.τ).loc Cert.FeatRefIdeal.main_arg4) = m' ((c.tc : Thread Cert.FeatRefIdeal.nD Cert.FeatRefIdeal.τ).loc Cert.FeatRefIdeal.main_arg4)
          ∧ r.2.mem ((c.tc : Thread Cert.FeatRefIdeal.nD Cert.FeatRefIdeal.τ).loc Cert.FeatRefIdeal.main_arg5) = m' ((c.tc : Thread Cert.FeatRefIdeal.nD Cert.FeatRefIdeal.τ).loc Cert.FeatRefIdeal.main_arg5)
          ∧ r.2.mem ((c.tc : Thread Cert.FeatRefIdeal.nD Cert.FeatRefIdeal.τ).loc Cert.FeatRefIdeal.main_arg6) = m' ((c.tc : Thread Cert.FeatRefIdeal.nD Cert.FeatRefIdeal.τ).loc Cert.FeatRefIdeal.main_arg6)
          ∧ r.2.mem ((c.tc : Thread Cert.FeatRefIdeal.nD Cert.FeatRefIdeal.τ).loc Cert.FeatRefIdeal.main_arg7) = m' ((c.tc : Thread Cert.FeatRefIdeal.nD Cert.FeatRefIdeal.τ).loc Cert.FeatRefIdeal.main_arg7)
          ∧ r.2.mem ((c.tc : Thread Cert.FeatRefIdeal.nD Cert.FeatRefIdeal.τ).loc Cert.FeatRefIdeal.main_arg8) = m' ((c.tc : Thread Cert.FeatRefIdeal.nD Cert.FeatRefIdeal.τ).loc Cert.FeatRefIdeal.main_arg8)
          ∧ r.2.mem ((c.tc : Thread Cert.FeatRefIdeal.nD Cert.FeatRefIdeal.τ).loc Cert.FeatRefIdeal.main_arg9) = m' ((c.tc : Thread Cert.FeatRefIdeal.nD Cert.FeatRefIdeal.τ).loc Cert.FeatRefIdeal.main_arg9)
          ∧ r.2.mem ((c.tc : Thread Cert.FeatRefIdeal.nD Cert.FeatRefIdeal.τ).loc Cert.FeatRefIdeal.main_arg10) = m' ((c.tc : Thread Cert.FeatRefIdeal.nD Cert.FeatRefIdeal.τ).loc Cert.FeatRefIdeal.main_arg10)
          ∧ r.2.mem ((c.tc : Thread Cert.FeatRefIdeal.nD Cert.FeatRefIdeal.τ).loc Cert.FeatRefIdeal.main_arg11) = m' ((c.tc : Thread Cert.FeatRefIdeal.nD Cert.FeatRefIdeal.τ).loc Cert.FeatRefIdeal.main_arg11)
          ∧ r.2.mem ((c.tc : Thread Cert.FeatRefIdeal.nD Cert.FeatRefIdeal.τ).loc Cert.FeatRefIdeal.main_arg12) = m' ((c.tc : Thread Cert.FeatRefIdeal.nD Cert.FeatRefIdeal.τ).loc Cert.FeatRefIdeal.main_arg12)
          ∧ r.2.mem ((c.tc : Thread Cert.FeatRefIdeal.nD Cert.FeatRefIdeal.τ).loc Cert.FeatRefIdeal.main_arg13) = m' ((c.tc : Thread Cert.FeatRefIdeal.nD Cert.FeatRefIdeal.τ).loc Cert.FeatRefIdeal.main_arg13)
          ∧ r.2.mem ((c.tc : Thread Cert.FeatRefIdeal.nD Cert.FeatRefIdeal.τ).loc Cert.FeatRefIdeal.main_arg14) = m' ((c.tc : Thread Cert.FeatRefIdeal.nD Cert.FeatRefIdeal.τ).loc Cert.FeatRefIdeal.main_arg14)
          ∧ r.2.mem ((c.tc : Thread Cert.FeatRefIdeal.nD Cert.FeatRefIdeal.τ).loc Cert.FeatRefIdeal.main_arg15) = m' ((c.tc : Thread Cert.FeatRefIdeal.nD Cert.FeatRefIdeal.τ).loc Cert.FeatRefIdeal.main_arg15)
          ∧ r.2.mem ((c.tc : Thread Cert.FeatRefIdeal.nD Cert.FeatRefIdeal.τ).loc Cert.FeatRefIdeal.main_arg16) = m' ((c.tc : Thread Cert.FeatRefIdeal.nD Cert.FeatRefIdeal.τ).loc Cert.FeatRefIdeal.main_arg16)
          ∧ r.2.mem ((c.tc : Thread Cert.FeatRefIdeal.nD Cert.FeatRefIdeal.τ).loc Cert.FeatRefIdeal.main_arg17) = m' ((c.tc : Thread Cert.FeatRefIdeal.nD Cert.FeatRefIdeal.τ).loc Cert.FeatRefIdeal.main_arg17))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hMoe : Cert.Moe.Facts) (hMoeIdeal : Cert.MoeIdeal.Facts) (hMoeRefIdeal : Cert.MoeRefIdeal.Facts) (hAda : Cert.Ada.Facts) (hAdaIdeal : Cert.AdaIdeal.Facts) (hAdaRefIdeal : Cert.AdaRefIdeal.Facts) (hHalves : Cert.Halves.Facts) (hHalvesIdeal : Cert.HalvesIdeal.Facts) (hHalvesRefIdeal : Cert.HalvesRefIdeal.Facts) (hOut : Cert.Out.Facts) (hOutIdeal : Cert.OutIdeal.Facts) (hOutRefIdeal : Cert.OutRefIdeal.Facts) (hFeat : Cert.Feat.Facts) (hFeatIdeal : Cert.FeatIdeal.Facts) (hFeatRefIdeal : Cert.FeatRefIdeal.Facts) (hPre_mla_finite_qk : Cert.Pre_mla_finite_qk.Facts) (hPre_gqa_finite_qk : Cert.Pre_gqa_finite_qk.Facts) (hPre_tables_in_range : Cert.Pre_tables_in_range.Facts),
    quiescent_Mla (hMla := hMla)
    ∧ quiescent_MlaIdeal (hMlaIdeal := hMlaIdeal)
    ∧ quiescent_MlaIdeal_pre_mla_finite_qk (hMlaIdeal := hMlaIdeal) (hPre_mla_finite_qk := hPre_mla_finite_qk)
    ∧ quiescent_MlaRefIdeal (hMlaRefIdeal := hMlaRefIdeal)
    ∧ quiescent_MlaRefIdeal_pre_mla_finite_qk (hMlaRefIdeal := hMlaRefIdeal) (hPre_mla_finite_qk := hPre_mla_finite_qk)
    ∧ quiescent_Gqa (hGqa := hGqa)
    ∧ quiescent_GqaIdeal (hGqaIdeal := hGqaIdeal)
    ∧ quiescent_GqaIdeal_pre_gqa_finite_qk (hGqaIdeal := hGqaIdeal) (hPre_gqa_finite_qk := hPre_gqa_finite_qk)
    ∧ quiescent_GqaRefIdeal (hGqaRefIdeal := hGqaRefIdeal)
    ∧ quiescent_GqaRefIdeal_pre_gqa_finite_qk (hGqaRefIdeal := hGqaRefIdeal) (hPre_gqa_finite_qk := hPre_gqa_finite_qk)
    ∧ quiescent_Moe (hMoe := hMoe) (hPre_tables_in_range := hPre_tables_in_range)
    ∧ quiescent_MoeIdeal (hMoeIdeal := hMoeIdeal) (hPre_tables_in_range := hPre_tables_in_range)
    ∧ quiescent_MoeRefIdeal (hMoeRefIdeal := hMoeRefIdeal)
    ∧ quiescent_MoeRefIdeal_pre_tables_in_range (hMoeRefIdeal := hMoeRefIdeal) (hPre_tables_in_range := hPre_tables_in_range)
    ∧ quiescent_Ada (hAda := hAda)
    ∧ quiescent_AdaIdeal (hAdaIdeal := hAdaIdeal)
    ∧ quiescent_AdaRefIdeal (hAdaRefIdeal := hAdaRefIdeal)
    ∧ quiescent_Halves (hHalves := hHalves)
    ∧ quiescent_HalvesIdeal (hHalvesIdeal := hHalvesIdeal)
    ∧ quiescent_HalvesRefIdeal (hHalvesRefIdeal := hHalvesRefIdeal)
    ∧ quiescent_Out (hOut := hOut)
    ∧ quiescent_OutIdeal (hOutIdeal := hOutIdeal)
    ∧ quiescent_OutRefIdeal (hOutRefIdeal := hOutRefIdeal)
    ∧ quiescent_Feat (hFeat := hFeat)
    ∧ quiescent_FeatIdeal (hFeatIdeal := hFeatIdeal)
    ∧ quiescent_FeatRefIdeal (hFeatRefIdeal := hFeatRefIdeal)
    ∧ preserves_Mla_MlaIdeal
    ∧ algebraic_MlaIdeal_MlaRefIdeal_pre_mla_finite_qk (hMlaIdeal := hMlaIdeal) (hMlaRefIdeal := hMlaRefIdeal) (hPre_mla_finite_qk := hPre_mla_finite_qk)
    ∧ preserves_Gqa_GqaIdeal
    ∧ algebraic_GqaIdeal_GqaRefIdeal_pre_gqa_finite_qk (hGqaIdeal := hGqaIdeal) (hGqaRefIdeal := hGqaRefIdeal) (hPre_gqa_finite_qk := hPre_gqa_finite_qk)
    ∧ preserves_Moe_MoeIdeal
    ∧ algebraic_MoeIdeal_MoeRefIdeal (hMoeIdeal := hMoeIdeal) (hMoeRefIdeal := hMoeRefIdeal) (hPre_tables_in_range := hPre_tables_in_range)
    ∧ preserves_Ada_AdaIdeal
    ∧ algebraic_AdaIdeal_AdaRefIdeal (hAdaIdeal := hAdaIdeal) (hAdaRefIdeal := hAdaRefIdeal)
    ∧ preserves_Halves_HalvesIdeal
    ∧ algebraic_HalvesIdeal_HalvesRefIdeal (hHalvesIdeal := hHalvesIdeal) (hHalvesRefIdeal := hHalvesRefIdeal)
    ∧ preserves_Out_OutIdeal
    ∧ algebraic_OutIdeal_OutRefIdeal (hOutIdeal := hOutIdeal) (hOutRefIdeal := hOutRefIdeal)
    ∧ preserves_Feat_FeatIdeal
    ∧ algebraic_FeatIdeal_FeatRefIdeal (hFeatIdeal := hFeatIdeal) (hFeatRefIdeal := hFeatRefIdeal)
-- ==== Pre_gqa_finite_qk.lean ====
abbrev S8x4096x2x2x128 : Shape := ⟨5, ![8, 4096, 2, 2, 128]⟩
abbrev S8x4096x2x128 : Shape := ⟨4, ![8, 4096, 2, 128]⟩
abbrev S8x256x2x2x128 : Shape := ⟨5, ![8, 256, 2, 2, 128]⟩
abbrev S8x256x2x128 : Shape := ⟨4, ![8, 256, 2, 128]⟩
abbrev S_ : Shape := ⟨0, ![]⟩

class Facts : Prop where
  bcast_S_S8x4096x2x2x128 : S_.BroadcastsInDim S8x4096x2x2x128 (![] : Fin 0 → Fin S8x4096x2x2x128.rank)
  reducesTo_S8x4096x2x2x128_S_d0_1_2_3_4 : S8x4096x2x2x128.ReducesTo [0, 1, 2, 3, 4] S_
  h_S_ : 0 < S_.numel
  bcast_S_S8x4096x2x128 : S_.BroadcastsInDim S8x4096x2x128 (![] : Fin 0 → Fin S8x4096x2x128.rank)
  reducesTo_S8x4096x2x128_S_d0_1_2_3 : S8x4096x2x128.ReducesTo [0, 1, 2, 3] S_
  bcast_S_S8x256x2x2x128 : S_.BroadcastsInDim S8x256x2x2x128 (![] : Fin 0 → Fin S8x256x2x2x128.rank)
  reducesTo_S8x256x2x2x128_S_d0_1_2_3_4 : S8x256x2x2x128.ReducesTo [0, 1, 2, 3, 4] S_
  bcast_S_S8x256x2x128 : S_.BroadcastsInDim S8x256x2x128 (![] : Fin 0 → Fin S8x256x2x128.rank)
  reducesTo_S8x256x2x128_S_d0_1_2_3 : S8x256x2x128.ReducesTo [0, 1, 2, 3] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x2x2x128 .f32) (main_arg1 : FVec F S8x4096x2x128 .f32) (main_arg2 : FVec F S8x4096x2x128 .f32) (main_arg3 : FVec F S8x256x2x2x128 .f32) (main_arg4 : FVec F S8x256x2x128 .f32) (main_arg5 : FVec F S8x256x2x128 .f32) : IVec S_ 1 :=
  let main_v0 : FVec F S8x4096x2x2x128 .f32 := Host.absf main_arg0
  let main_cst : FVec F S_ .f32 := constant S_ .f32 0x7F800000#32
  let main_v1 : FVec F S8x4096x2x2x128 .f32 := broadcastInDim S8x4096x2x2x128 ![] bcast_S_S8x4096x2x2x128 main_cst
  let main_v2 : IVec S8x4096x2x2x128 1 := cmpf .olt main_v0 main_v1
  let main_c : IVec S_ 1 := constantI S_ 1 1#1
  let main_v3 : IVec S_ 1 := (fun x v => Host.reduce IntOp.andi x v reducesTo_S8x4096x2x2x128_S_d0_1_2_3_4 h_S_) main_v2 main_c
  let main_v4 : FVec F S8x4096x2x128 .f32 := Host.absf main_arg1
  let main_cst_0 : FVec F S_ .f32 := constant S_ .f32 0x7F800000#32
  let main_v5 : FVec F S8x4096x2x128 .f32 := broadcastInDim S8x4096x2x128 ![] bcast_S_S8x4096x2x128 main_cst_0
  let main_v6 : IVec S8x4096x2x128 1 := cmpf .olt main_v4 main_v5
  let main_c_1 : IVec S_ 1 := constantI S_ 1 1#1
  let main_v7 : IVec S_ 1 := (fun x v => Host.reduce IntOp.andi x v reducesTo_S8x4096x2x128_S_d0_1_2_3 h_S_) main_v6 main_c_1
  let main_v8 : FVec F S8x256x2x2x128 .f32 := Host.absf main_arg3
  let main_cst_2 : FVec F S_ .f32 := constant S_ .f32 0x7F800000#32
  let main_v9 : FVec F S8x256x2x2x128 .f32 := broadcastInDim S8x256x2x2x128 ![] bcast_S_S8x256x2x2x128 main_cst_2
  let main_v10 : IVec S8x256x2x2x128 1 := cmpf .olt main_v8 main_v9
  let main_c_3 : IVec S_ 1 := constantI S_ 1 1#1
  let main_v11 : IVec S_ 1 := (fun x v => Host.reduce IntOp.andi x v reducesTo_S8x256x2x2x128_S_d0_1_2_3_4 h_S_) main_v10 main_c_3
  let main_v12 : FVec F S8x256x2x128 .f32 := Host.absf main_arg4
  let main_cst_4 : FVec F S_ .f32 := constant S_ .f32 0x7F800000#32
  let main_v13 : FVec F S8x256x2x128 .f32 := broadcastInDim S8x256x2x128 ![] bcast_S_S8x256x2x128 main_cst_4
  let main_v14 : IVec S8x256x2x128 1 := cmpf .olt main_v12 main_v13
  let main_c_5 : IVec S_ 1 := constantI S_ 1 1#1
  let main_v15 : IVec S_ 1 := (fun x v => Host.reduce IntOp.andi x v reducesTo_S8x256x2x128_S_d0_1_2_3 h_S_) main_v14 main_c_5
  fn_part1 (F := F) main_v3 main_v7 main_v11 main_v15
-- ==== Pre_mla_finite_qk.lean ====
abbrev S8x4096x4x1x192 : Shape := ⟨5, ![8, 4096, 4, 1, 192]⟩
abbrev S8x4096x4x192 : Shape := ⟨4, ![8, 4096, 4, 192]⟩
abbrev S8x4096x4x128 : Shape := ⟨4, ![8, 4096, 4, 128]⟩
abbrev S8x256x4x1x192 : Shape := ⟨5, ![8, 256, 4, 1, 192]⟩
abbrev S8x256x4x192 : Shape := ⟨4, ![8, 256, 4, 192]⟩
abbrev S8x256x4x128 : Shape := ⟨4, ![8, 256, 4, 128]⟩
abbrev S_ : Shape := ⟨0, ![]⟩

class Facts : Prop where
  bcast_S_S8x4096x4x1x192 : S_.BroadcastsInDim S8x4096x4x1x192 (![] : Fin 0 → Fin S8x4096x4x1x192.rank)
  reducesTo_S8x4096x4x1x192_S_d0_1_2_3_4 : S8x4096x4x1x192.ReducesTo [0, 1, 2, 3, 4] S_
  h_S_ : 0 < S_.numel
  bcast_S_S8x4096x4x192 : S_.BroadcastsInDim S8x4096x4x192 (![] : Fin 0 → Fin S8x4096x4x192.rank)
  reducesTo_S8x4096x4x192_S_d0_1_2_3 : S8x4096x4x192.ReducesTo [0, 1, 2, 3] S_
  bcast_S_S8x256x4x1x192 : S_.BroadcastsInDim S8x256x4x1x192 (![] : Fin 0 → Fin S8x256x4x1x192.rank)
  reducesTo_S8x256x4x1x192_S_d0_1_2_3_4 : S8x256x4x1x192.ReducesTo [0, 1, 2, 3, 4] S_
  bcast_S_S8x256x4x192 : S_.BroadcastsInDim S8x256x4x192 (![] : Fin 0 → Fin S8x256x4x192.rank)
  reducesTo_S8x256x4x192_S_d0_1_2_3 : S8x256x4x192.ReducesTo [0, 1, 2, 3] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8x4096x4x1x192 .f32) (main_arg1 : FVec F S8x4096x4x192 .f32) (main_arg2 : FVec F S8x4096x4x128 .f32) (main_arg3 : FVec F S8x256x4x1x192 .f32) (main_arg4 : FVec F S8x256x4x192 .f32) (main_arg5 : FVec F S8x256x4x128 .f32) : IVec S_ 1 :=
  let main_v0 : FVec F S8x4096x4x1x192 .f32 := Host.absf main_arg0
  let main_cst : FVec F S_ .f32 := constant S_ .f32 0x7F800000#32
  let main_v1 : FVec F S8x4096x4x1x192 .f32 := broadcastInDim S8x4096x4x1x192 ![] bcast_S_S8x4096x4x1x192 main_cst
  let main_v2 : IVec S8x4096x4x1x192 1 := cmpf .olt main_v0 main_v1
  let main_c : IVec S_ 1 := constantI S_ 1 1#1
  let main_v3 : IVec S_ 1 := (fun x v => Host.reduce IntOp.andi x v reducesTo_S8x4096x4x1x192_S_d0_1_2_3_4 h_S_) main_v2 main_c
  let main_v4 : FVec F S8x4096x4x192 .f32 := Host.absf main_arg1
  let main_cst_0 : FVec F S_ .f32 := constant S_ .f32 0x7F800000#32
  let main_v5 : FVec F S8x4096x4x192 .f32 := broadcastInDim S8x4096x4x192 ![] bcast_S_S8x4096x4x192 main_cst_0
  let main_v6 : IVec S8x4096x4x192 1 := cmpf .olt main_v4 main_v5
  let main_c_1 : IVec S_ 1 := constantI S_ 1 1#1
  let main_v7 : IVec S_ 1 := (fun x v => Host.reduce IntOp.andi x v reducesTo_S8x4096x4x192_S_d0_1_2_3 h_S_) main_v6 main_c_1
  let main_v8 : FVec F S8x256x4x1x192 .f32 := Host.absf main_arg3
  let main_cst_2 : FVec F S_ .f32 := constant S_ .f32 0x7F800000#32
  let main_v9 : FVec F S8x256x4x1x192 .f32 := broadcastInDim S8x256x4x1x192 ![] bcast_S_S8x256x4x1x192 main_cst_2
  let main_v10 : IVec S8x256x4x1x192 1 := cmpf .olt main_v8 main_v9
  let main_c_3 : IVec S_ 1 := constantI S_ 1 1#1
  let main_v11 : IVec S_ 1 := (fun x v => Host.reduce IntOp.andi x v reducesTo_S8x256x4x1x192_S_d0_1_2_3_4 h_S_) main_v10 main_c_3
  let main_v12 : FVec F S8x256x4x192 .f32 := Host.absf main_arg4
  let main_cst_4 : FVec F S_ .f32 := constant S_ .f32 0x7F800000#32
  let main_v13 : FVec F S8x256x4x192 .f32 := broadcastInDim S8x256x4x192 ![] bcast_S_S8x256x4x192 main_cst_4
  let main_v14 : IVec S8x256x4x192 1 := cmpf .olt main_v12 main_v13
  let main_c_5 : IVec S_ 1 := constantI S_ 1 1#1
  let main_v15 : IVec S_ 1 := (fun x v => Host.reduce IntOp.andi x v reducesTo_S8x256x4x192_S_d0_1_2_3 h_S_) main_v14 main_c_5
  fn_part1 (F := F) main_v3 main_v7 main_v11 main_v15
-- ==== Pre_tables_in_range.lean ====
abbrev S304 : Shape := ⟨1, ![304]⟩
abbrev S1 : Shape := ⟨1, ![1]⟩
abbrev S1245184x128 : Shape := ⟨2, ![1245184, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S_ : Shape := ⟨0, ![]⟩

class Facts : Prop where
  bcast_S_S304 : S_.BroadcastsInDim S304 (![] : Fin 0 → Fin S304.rank)
  reducesTo_S304_S_d0 : S304.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S304 32) (main_arg1 : IVec S1 32) (main_arg2 : FVec F S1245184x128 .f32) (main_arg3 : FVec F S32x1024x2048 .bf16) (main_arg4 : FVec F S32x1x2048 .f32) (main_arg5 : FVec F S32x1024x1024 .bf16) (main_arg6 : FVec F S32x1x1024 .f32) : IVec S_ 1 :=
  let main_c : IVec S_ 32 := constantI S_ 32 0#32
  let main_v0 : IVec S304 32 := broadcastInDim S304 ![] bcast_S_S304 main_c
  let main_v1 : IVec S304 1 := cmpi .sge main_arg0 main_v0
  let main_c_0 : IVec S_ 1 := constantI S_ 1 1#1
  let main_v2 : IVec S_ 1 := (fun x v => Host.reduce IntOp.andi x v reducesTo_S304_S_d0 h_S_) main_v1 main_c_0
  let main_c_1 : IVec S_ 32 := constantI S_ 32 32#32
  let main_v3 : IVec S304 32 := broadcastInDim S304 ![] bcast_S_S304 main_c_1
  let main_v4 : IVec S304 1 := cmpi .slt main_arg0 main_v3
  let main_c_2 : IVec S_ 1 := constantI S_ 1 1#1
  let main_v5 : IVec S_ 1 := (fun x v => Host.reduce IntOp.andi x v reducesTo_S304_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Mla.lean ====
abbrev S8x4096x4x1x192 : Shape := ⟨5, ![8, 4096, 4, 1, 192]⟩
abbrev S8x4096x4x192 : Shape := ⟨4, ![8, 4096, 4, 192]⟩
abbrev S8x4096x4x128 : Shape := ⟨4, ![8, 4096, 4, 128]⟩
abbrev S8x256x4x1x192 : Shape := ⟨5, ![8, 256, 4, 1, 192]⟩
abbrev S8x256x4x192 : Shape := ⟨4, ![8, 256, 4, 192]⟩
abbrev S8x256x4x128 : Shape := ⟨4, ![8, 256, 4, 128]⟩
abbrev S8x4352x4x192 : Shape := ⟨4, ![8, 4352, 4, 192]⟩
abbrev S8x4x4352x192 : Shape := ⟨4, ![8, 4, 4352, 192]⟩
abbrev S8x4x4352x64 : Shape := ⟨4, ![8, 4, 4352, 64]⟩
abbrev S_ : Shape := ⟨0, ![]⟩
abbrev S8x4x4352x32 : Shape := ⟨4, ![8, 4, 4352, 32]⟩
abbrev S8x4x4352x128 : Shape := ⟨4, ![8, 4, 4352, 128]⟩
abbrev S8x4x4352x16 : Shape := ⟨4, ![8, 4, 4352, 16]⟩
abbrev S8x4x4352x256 : Shape := ⟨4, ![8, 4, 4352, 256]⟩
abbrev S8x4352x4x128 : Shape := ⟨4, ![8, 4352, 4, 128]⟩
abbrev S8x4352x512 : Shape := ⟨3, ![8, 4352, 512]⟩
abbrev S1x1x256x256 : Shape := ⟨4, ![1, 1, 256, 256]⟩
abbrev S1x1x4352x256 : Shape := ⟨4, ![1, 1, 4352, 256]⟩
abbrev S1x1x4352x128 : Shape := ⟨4, ![1, 1, 4352, 128]⟩
abbrev S1x256x128 : Shape := ⟨3, ![1, 256, 128]⟩
abbrev S256x256 : Shape := ⟨2, ![256, 256]⟩
abbrev S1x1x256x128 : Shape := ⟨4, ![1, 1, 256, 128]⟩
abbrev S256x128 : Shape := ⟨2, ![256, 128]⟩
abbrev S256 : Shape := ⟨1, ![256]⟩
abbrev S256x1 : Shape := ⟨2, ![256, 1]⟩
abbrev S4352x256 : Shape := ⟨2, ![4352, 256]⟩
abbrev S4352x128 : Shape := ⟨2, ![4352, 128]⟩
abbrev S256x4352 : Shape := ⟨2, ![256, 4352]⟩

abbrev nBuf : Space → Nat
  | .hbm => 45
  | .vmem => 8
  | .smem => 0
  | _ => 0

abbrev bufTy : (tb : Table) → Fin (tcTables nBuf tb) → BufTy
  | .hbm, ⟨0, _⟩ => ⟨S8x4096x4x1x192, .f32⟩
  | .hbm, ⟨1, _⟩ => ⟨S8x4096x4x192, .f32⟩
  | .hbm, ⟨2, _⟩ => ⟨S8x4096x4x128, .f32⟩
  | .hbm, ⟨3, _⟩ => ⟨S8x256x4x1x192, .f32⟩
  | .hbm, ⟨4, _⟩ => ⟨S8x256x4x192, .f32⟩
  | .hbm, ⟨5, _⟩ => ⟨S8x256x4x128, .f32⟩
  | .hbm, ⟨6, _⟩ => ⟨S8x256x4x192, .f32⟩
  | .hbm, ⟨7, _⟩ => ⟨S8x4096x4x192, .f32⟩
  | .hbm, ⟨8, _⟩ => ⟨S8x4352x4x192, .f32⟩
  | .hbm, ⟨9, _⟩ => ⟨S8x4x4352x192, .f32⟩
  | .hbm, ⟨10, _⟩ => ⟨S8x4x4352x64, .f32⟩
  | .hbm, ⟨11, _⟩ => ⟨S_, .f32⟩
  | .hbm, ⟨12, _⟩ => ⟨S8x4x4352x32, .f32⟩
  | .hbm, ⟨13, _⟩ => ⟨S8x4x4352x128, .f32⟩
  | .hbm, ⟨14, _⟩ => ⟨S8x4x4352x16, .f32⟩
  | .hbm, ⟨15, _⟩ => ⟨S8x4x4352x16, .f32⟩
  | .hbm, ⟨16, _⟩ => ⟨S8x4x4352x16, .f32⟩
  | .hbm, ⟨17, _⟩ => ⟨S8x4x4352x16, .f32⟩
  | .hbm, ⟨18, _⟩ => ⟨S8x4x4352x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x4x4352x256, .f32⟩
  | .hbm, ⟨27, _⟩ => ⟨S8x4x4352x256, .f32⟩
  | .hbm, ⟨28, _⟩ => ⟨S8x4x4352x256, .bf16⟩
  | .hbm, ⟨29, _⟩ => ⟨S8x4352x4x192, .f32⟩
  | .hbm, ⟨30, _⟩ => ⟨S8x4x4352x192, .f32⟩
  | .hbm, ⟨31, _⟩ => ⟨S8x4x4352x64, .f32⟩
  | .hbm, ⟨32, _⟩ => ⟨S_, .f32⟩
  | .hbm, ⟨33, _⟩ => ⟨S8x4x4352x32, .f32⟩
  | .hbm, ⟨34, _⟩ => ⟨S8x4x4352x128, .f32⟩
  | .hbm, ⟨35, _⟩ => ⟨S8x4x4352x16, .f32⟩
  | .hbm, ⟨36, _⟩ => ⟨S8x4x4352x16, .f32⟩
  | .hbm, ⟨37, _⟩ => ⟨S8x4x4352x16, .f32⟩
  | .hbm, ⟨38, _⟩ => ⟨S8x4x4352x16, .f32⟩
  | .hbm, ⟨39, _⟩ => ⟨S8x4x4352x256, .f32⟩
  | .hbm, ⟨40, _⟩ => ⟨S8x4x4352x256, .bf16⟩
  | .hbm, ⟨41, _⟩ => ⟨S8x4352x4x128, .f32⟩
  | .hbm, ⟨42, _⟩ => ⟨S8x4x4352x128, .f32⟩
  | .hbm, ⟨43, _⟩ => ⟨S8x4x4352x128, .bf16⟩
  | .hbm, ⟨44, _⟩ => ⟨S8x4352x512, .bf16⟩
  | .local _ .vmem, ⟨0, _⟩ => ⟨S1x1x256x256, .bf16⟩
  | .local _ .vmem, ⟨1, _⟩ => ⟨S1x1x256x256, .bf16⟩
  | .local _ .vmem, ⟨2, _⟩ => ⟨S1x1x4352x256, .bf16⟩
  | .local _ .vmem, ⟨3, _⟩ => ⟨S1x1x4352x256, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x256x128, .bf16⟩
  | .local _ .vmem, ⟨7, _⟩ => ⟨S1x256x128, .bf16⟩
  | _, _ => ⟨S8x4096x4x1x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 17], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg2 : BitVec 32 := BitVec.ofNat 32 (i 2).val
  let c0_i32 : BitVec 32 := 0#32
  let v2 : BitVec 1 := Scalar.cmpi .eq arg2 c0_i32
  let v_true : BitVec 1 := 1#1
  let v5 : BitVec 1 := Scalar.xori v2 v_true
  let v6 : BitVec 32 := Scalar.extui v5
  let c0_i32_4 : BitVec 32 := 0#32
  let v7 : BitVec 1 := Scalar.cmpi .ne v6 c0_i32_4
  v7

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaRefIdeal.lean ====
abbrev S8x4096x4x1x192 : Shape := ⟨5, ![8, 4096, 4, 1, 192]⟩
abbrev S8x4096x4x192 : Shape := ⟨4, ![8, 4096, 4, 192]⟩
abbrev S8x4096x4x128 : Shape := ⟨4, ![8, 4096, 4, 128]⟩
abbrev S8x256x4x1x192 : Shape := ⟨5, ![8, 256, 4, 1, 192]⟩
abbrev S8x256x4x192 : Shape := ⟨4, ![8, 256, 4, 192]⟩
abbrev S8x256x4x128 : Shape := ⟨4, ![8, 256, 4, 128]⟩
abbrev S_ : Shape := ⟨0, ![]⟩
abbrev S8x4x256x256x1 : Shape := ⟨5, ![8, 4, 256, 256, 1]⟩
abbrev S8x4x1x256x256 : Shape := ⟨5, ![8, 4, 1, 256, 256]⟩
abbrev S8x4x1x256 : Shape := ⟨4, ![8, 4, 1, 256]⟩
abbrev S8x4x1x256x1 : Shape := ⟨5, ![8, 4, 1, 256, 1]⟩
abbrev S8x4x128x1x256 : Shape := ⟨5, ![8, 4, 128, 1, 256]⟩
abbrev S8x256x4x1x128 : Shape := ⟨5, ![8, 256, 4, 1, 128]⟩
abbrev S8x4352x4x192 : Shape := ⟨4, ![8, 4352, 4, 192]⟩
abbrev S8x4352x4x128 : Shape := ⟨4, ![8, 4352, 4, 128]⟩
abbrev S8x4x4352x4096x1 : Shape := ⟨5, ![8, 4, 4352, 4096, 1]⟩
abbrev S8x4x1x4096x4352 : Shape := ⟨5, ![8, 4, 1, 4096, 4352]⟩
abbrev S8x4x1x4096 : Shape := ⟨4, ![8, 4, 1, 4096]⟩
abbrev S8x4x1x4096x1 : Shape := ⟨5, ![8, 4, 1, 4096, 1]⟩
abbrev S8x4x128x1x4096 : Shape := ⟨5, ![8, 4, 128, 1, 4096]⟩
abbrev S8x4096x4x1x128 : Shape := ⟨5, ![8, 4096, 4, 1, 128]⟩
abbrev S8x4352x4x1x128 : Shape := ⟨5, ![8, 4352, 4, 1, 128]⟩
abbrev S8x4352x512 : Shape := ⟨3, ![8, 4352, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x4x1x192, .f32⟩
  | .hbm, ⟨1, _⟩ => ⟨S8x4096x4x192, .f32⟩
  | .hbm, ⟨2, _⟩ => ⟨S8x4096x4x128, .f32⟩
  | .hbm, ⟨3, _⟩ => ⟨S8x256x4x1x192, .f32⟩
  | .hbm, ⟨4, _⟩ => ⟨S8x256x4x192, .f32⟩
  | .hbm, ⟨5, _⟩ => ⟨S8x256x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x4x256x256x1, .f32⟩
  | .hbm, ⟨11, _⟩ => ⟨S8x4x1x256x256, .f32⟩
  | .hbm, ⟨12, _⟩ => ⟨S8x4x1x256x256, .f32⟩
  | .hbm, ⟨13, _⟩ => ⟨S8x4x1x256x256, .f32⟩
  | .hbm, ⟨14, _⟩ => ⟨S_, .f32⟩
  | .hbm, ⟨15, _⟩ => ⟨S8x4x1x256, .f32⟩
  | .hbm, ⟨16, _⟩ => ⟨S_, .f32⟩
  | .hbm, ⟨17, _⟩ => ⟨S8x4x1x256, .f32⟩
  | .hbm, ⟨18, _⟩ => ⟨S8x4x1x256, .f32⟩
  | .hbm, ⟨19, _⟩ => ⟨S8x4x1x256x1, .f32⟩
  | .hbm, ⟨20, _⟩ => ⟨S8x4x1x256x256, .f32⟩
  | .hbm, ⟨21, _⟩ => ⟨S8x4x1x256x256, .f32⟩
  | .hbm, ⟨22, _⟩ => ⟨S8x4x1x256x256, .f32⟩
  | .hbm, ⟨23, _⟩ => ⟨S_, .f32⟩
  | .hbm, ⟨24, _⟩ => ⟨S8x4x1x256, .f32⟩
  | .hbm, ⟨25, _⟩ => ⟨S8x4x1x256x1, .f32⟩
  | .hbm, ⟨26, _⟩ => ⟨S8x4x1x256x256, .f32⟩
  | .hbm, ⟨27, _⟩ => ⟨S8x4x1x256x256, .f32⟩
  | .hbm, ⟨28, _⟩ => ⟨S8x4x128x1x256, .f32⟩
  | .hbm, ⟨29, _⟩ => ⟨S8x256x4x1x128, .f32⟩
  | .hbm, ⟨30, _⟩ => ⟨S8x4352x4x192, .f32⟩
  | .hbm, ⟨31, _⟩ => ⟨S8x4352x4x128, .f32⟩
  | .hbm, ⟨32, _⟩ => ⟨S8x4x4352x4096x1, .f32⟩
  | .hbm, ⟨33, _⟩ => ⟨S8x4x1x4096x4352, .f32⟩
  | .hbm, ⟨34, _⟩ => ⟨S8x4x1x4096x4352, .f32⟩
  | .hbm, ⟨35, _⟩ => ⟨S8x4x1x4096x4352, .f32⟩
  | .hbm, ⟨36, _⟩ => ⟨S_, .f32⟩
  | .hbm, ⟨37, _⟩ => ⟨S8x4x1x4096, .f32⟩
  | .hbm, ⟨38, _⟩ => ⟨S_, .f32⟩
  | .hbm, ⟨39, _⟩ => ⟨S8x4x1x4096, .f32⟩
  | .hbm, ⟨40, _⟩ => ⟨S8x4x1x4096, .f32⟩
  | .hbm, ⟨41, _⟩ => ⟨S8x4x1x4096x1, .f32⟩
  | .hbm, ⟨42, _⟩ => ⟨S8x4x1x4096x4352, .f32⟩
  | .hbm, ⟨43, _⟩ => ⟨S8x4x1x4096x4352, .f32⟩
  | .hbm, ⟨44, _⟩ => ⟨S8x4x1x4096x4352, .f32⟩
  | .hbm, ⟨45, _⟩ => ⟨S_, .f32⟩
  | .hbm, ⟨46, _⟩ => ⟨S8x4x1x4096, .f32⟩
  | .hbm, ⟨47, _⟩ => ⟨S8x4x1x4096x1, .f32⟩
  | .hbm, ⟨48, _⟩ => ⟨S8x4x1x4096x4352, .f32⟩
  | .hbm, ⟨49, _⟩ => ⟨S8x4x1x4096x4352, .f32⟩
  | .hbm, ⟨50, _⟩ => ⟨S8x4x128x1x4096, .f32⟩
  | .hbm, ⟨51, _⟩ => ⟨S8x4096x4x1x128, .f32⟩
  | .hbm, ⟨52, _⟩ => ⟨S8x4352x4x1x128, .f32⟩
  | .hbm, ⟨53, _⟩ => ⟨S8x4352x512, .f32⟩
  | .hbm, ⟨54, _⟩ => ⟨S8x4352x512, .bf16⟩
  | _, _ => ⟨S8x4096x4x1x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Gqa.lean ====
abbrev S8x4096x2x2x128 : Shape := ⟨5, ![8, 4096, 2, 2, 128]⟩
abbrev S8x4096x2x128 : Shape := ⟨4, ![8, 4096, 2, 128]⟩
abbrev S8x256x2x2x128 : Shape := ⟨5, ![8, 256, 2, 2, 128]⟩
abbrev S8x256x2x128 : Shape := ⟨4, ![8, 256, 2, 128]⟩
abbrev S8x256x4x128 : Shape := ⟨4, ![8, 256, 4, 128]⟩
abbrev S8x4096x4x128 : Shape := ⟨4, ![8, 4096, 4, 128]⟩
abbrev S8x4352x4x128 : Shape := ⟨4, ![8, 4352, 4, 128]⟩
abbrev S8x4x4352x128 : Shape := ⟨4, ![8, 4, 4352, 128]⟩
abbrev S_ : Shape := ⟨0, ![]⟩
abbrev S8x4352x2x128 : Shape := ⟨4, ![8, 4352, 2, 128]⟩
abbrev S8x2x4352x128 : Shape := ⟨4, ![8, 2, 4352, 128]⟩
abbrev S8x4352x512 : Shape := ⟨3, ![8, 4352, 512]⟩
abbrev S1x1x256x128 : Shape := ⟨4, ![1, 1, 256, 128]⟩
abbrev S1x1x4352x128 : Shape := ⟨4, ![1, 1, 4352, 128]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S4352x128 : Shape := ⟨2, ![4352, 128]⟩
abbrev S256x4352 : Shape := ⟨2, ![256, 4352]⟩

abbrev nBuf : Space → Nat
  | .hbm => 27
  | .vmem => 8
  | .smem => 0
  | _ => 0

abbrev bufTy : (tb : Table) → Fin (tcTables nBuf tb) → BufTy
  | .hbm, ⟨0, _⟩ => ⟨S8x4096x2x2x128, .f32⟩
  | .hbm, ⟨1, _⟩ => ⟨S8x4096x2x128, .f32⟩
  | .hbm, ⟨2, _⟩ => ⟨S8x4096x2x128, .f32⟩
  | .hbm, ⟨3, _⟩ => ⟨S8x256x2x2x128, .f32⟩
  | .hbm, ⟨4, _⟩ => ⟨S8x256x2x128, .f32⟩
  | .hbm, ⟨5, _⟩ => ⟨S8x256x2x128, .f32⟩
  | .hbm, ⟨6, _⟩ => ⟨S8x256x4x128, .f32⟩
  | .hbm, ⟨7, _⟩ => ⟨S8x4096x4x128, .f32⟩
  | .hbm, ⟨8, _⟩ => ⟨S8x4352x4x128, .f32⟩
  | .hbm, ⟨9, _⟩ => ⟨S8x4x4352x128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x4x4352x128, .f32⟩
  | .hbm, ⟨18, _⟩ => ⟨S8x4x4352x128, .f32⟩
  | .hbm, ⟨19, _⟩ => ⟨S8x4x4352x128, .bf16⟩
  | .hbm, ⟨20, _⟩ => ⟨S8x4352x2x128, .f32⟩
  | .hbm, ⟨21, _⟩ => ⟨S8x2x4352x128, .f32⟩
  | .hbm, ⟨22, _⟩ => ⟨S8x2x4352x128, .bf16⟩
  | .hbm, ⟨23, _⟩ => ⟨S8x4352x2x128, .f32⟩
  | .hbm, ⟨24, _⟩ => ⟨S8x2x4352x128, .f32⟩
  | .hbm, ⟨25, _⟩ => ⟨S8x2x4352x128, .bf16⟩
  | .hbm, ⟨26, _⟩ => ⟨S8x4352x512, .bf16⟩
  | .local _ .vmem, ⟨0, _⟩ => ⟨S1x1x256x128, .bf16⟩
  | .local _ .vmem, ⟨1, _⟩ => ⟨S1x1x256x128, .bf16⟩
  | .local _ .vmem, ⟨2, _⟩ => ⟨S1x1x4352x128, .bf16⟩
  | .local _ .vmem, ⟨3, _⟩ => ⟨S1x1x4352x128, .bf16⟩
  | .local _ .vmem, ⟨4, _⟩ => ⟨S1x1x4352x128, .bf16⟩
  | .local _ .vmem, ⟨5, _⟩ => ⟨S1x1x4352x128, .bf16⟩
  | .local _ .vmem, ⟨6, _⟩ => ⟨S1x256x128, .bf16⟩
  | .local _ .vmem, ⟨7, _⟩ => ⟨S1x256x128, .bf16⟩
  | _, _ => ⟨S8x4096x2x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 17], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg2 : BitVec 32 := BitVec.ofNat 32 (i 2).val
  let c0_i32 : BitVec 32 := 0#32
  let v2 : BitVec 1 := Scalar.cmpi .eq arg2 c0_i32
  let v_true : BitVec 1 := 1#1
  let v5 : BitVec 1 := Scalar.xori v2 v_true
  let v6 : BitVec 32 := Scalar.extui v5
  let c0_i32_4 : BitVec 32 := 0#32
  let v7 : BitVec 1 := Scalar.cmpi .ne v6 c0_i32_4
  v7

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x4352x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaRefIdeal.lean ====
abbrev S8x4096x2x2x128 : Shape := ⟨5, ![8, 4096, 2, 2, 128]⟩
abbrev S8x4096x2x128 : Shape := ⟨4, ![8, 4096, 2, 128]⟩
abbrev S8x256x2x2x128 : Shape := ⟨5, ![8, 256, 2, 2, 128]⟩
abbrev S8x256x2x128 : Shape := ⟨4, ![8, 256, 2, 128]⟩
abbrev S_ : Shape := ⟨0, ![]⟩
abbrev S8x2x256x256x2 : Shape := ⟨5, ![8, 2, 256, 256, 2]⟩
abbrev S8x2x2x256x256 : Shape := ⟨5, ![8, 2, 2, 256, 256]⟩
abbrev S8x2x2x256 : Shape := ⟨4, ![8, 2, 2, 256]⟩
abbrev S8x2x2x256x1 : Shape := ⟨5, ![8, 2, 2, 256, 1]⟩
abbrev S8x2x128x2x256 : Shape := ⟨5, ![8, 2, 128, 2, 256]⟩
abbrev S8x4352x2x128 : Shape := ⟨4, ![8, 4352, 2, 128]⟩
abbrev S8x2x4352x4096x2 : Shape := ⟨5, ![8, 2, 4352, 4096, 2]⟩
abbrev S8x2x2x4096x4352 : Shape := ⟨5, ![8, 2, 2, 4096, 4352]⟩
abbrev S8x2x2x4096 : Shape := ⟨4, ![8, 2, 2, 4096]⟩
abbrev S8x2x2x4096x1 : Shape := ⟨5, ![8, 2, 2, 4096, 1]⟩
abbrev S8x2x128x2x4096 : Shape := ⟨5, ![8, 2, 128, 2, 4096]⟩
abbrev S8x4352x2x2x128 : Shape := ⟨5, ![8, 4352, 2, 2, 128]⟩
abbrev S8x4352x512 : Shape := ⟨3, ![8, 4352, 512]⟩

abbrev nBuf : Space → Nat
  | .hbm => 55
  | .vmem => 0
  | .smem => 0
  | _ => 0

abbrev bufTy : (tb : Table) → Fin (tcTables nBuf tb) → BufTy
  | .hbm, ⟨0, _⟩ => ⟨S8x4096x2x2x128, .f32⟩
  | .hbm, ⟨1, _⟩ => ⟨S8x4096x2x128, .f32⟩
  | .hbm, ⟨2, _⟩ => ⟨S8x4096x2x128, .f32⟩
  | .hbm, ⟨3, _⟩ => ⟨S8x256x2x2x128, .f32⟩
  | .hbm, ⟨4, _⟩ => ⟨S8x256x2x128, .f32⟩
  | .hbm, ⟨5, _⟩ => ⟨S8x256x2x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S8x2x256x256x2, .f32⟩
  | .hbm, ⟨11, _⟩ => ⟨S8x2x2x256x256, .f32⟩
  | .hbm, ⟨12, _⟩ => ⟨S8x2x2x256x256, .f32⟩
  | .hbm, ⟨13, _⟩ => ⟨S8x2x2x256x256, .f32⟩
  | .hbm, ⟨14, _⟩ => ⟨S_, .f32⟩
  | .hbm, ⟨15, _⟩ => ⟨S8x2x2x256, .f32⟩
  | .hbm, ⟨16, _⟩ => ⟨S_, .f32⟩
  | .hbm, ⟨17, _⟩ => ⟨S8x2x2x256, .f32⟩
  | .hbm, ⟨18, _⟩ => ⟨S8x2x2x256, .f32⟩
  | .hbm, ⟨19, _⟩ => ⟨S8x2x2x256x1, .f32⟩
  | .hbm, ⟨20, _⟩ => ⟨S8x2x2x256x256, .f32⟩
  | .hbm, ⟨21, _⟩ => ⟨S8x2x2x256x256, .f32⟩
  | .hbm, ⟨22, _⟩ => ⟨S8x2x2x256x256, .f32⟩
  | .hbm, ⟨23, _⟩ => ⟨S_, .f32⟩
  | .hbm, ⟨24, _⟩ => ⟨S8x2x2x256, .f32⟩
  | .hbm, ⟨25, _⟩ => ⟨S8x2x2x256x1, .f32⟩
  | .hbm, ⟨26, _⟩ => ⟨S8x2x2x256x256, .f32⟩
  | .hbm, ⟨27, _⟩ => ⟨S8x2x2x256x256, .f32⟩
  | .hbm, ⟨28, _⟩ => ⟨S8x2x128x2x256, .f32⟩
  | .hbm, ⟨29, _⟩ => ⟨S8x256x2x2x128, .f32⟩
  | .hbm, ⟨30, _⟩ => ⟨S8x4352x2x128, .f32⟩
  | .hbm, ⟨31, _⟩ => ⟨S8x4352x2x128, .f32⟩
  | .hbm, ⟨32, _⟩ => ⟨S8x2x4352x4096x2, .f32⟩
  | .hbm, ⟨33, _⟩ => ⟨S8x2x2x4096x4352, .f32⟩
  | .hbm, ⟨34, _⟩ => ⟨S8x2x2x4096x4352, .f32⟩
  | .hbm, ⟨35, _⟩ => ⟨S8x2x2x4096x4352, .f32⟩
  | .hbm, ⟨36, _⟩ => ⟨S_, .f32⟩
  | .hbm, ⟨37, _⟩ => ⟨S8x2x2x4096, .f32⟩
  | .hbm, ⟨38, _⟩ => ⟨S_, .f32⟩
  | .hbm, ⟨39, _⟩ => ⟨S8x2x2x4096, .f32⟩
  | .hbm, ⟨40, _⟩ => ⟨S8x2x2x4096, .f32⟩
  | .hbm, ⟨41, _⟩ => ⟨S8x2x2x4096x1, .f32⟩
  | .hbm, ⟨42, _⟩ => ⟨S8x2x2x4096x4352, .f32⟩
  | .hbm, ⟨43, _⟩ => ⟨S8x2x2x4096x4352, .f32⟩
  | .hbm, ⟨44, _⟩ => ⟨S8x2x2x4096x4352, .f32⟩
  | .hbm, ⟨45, _⟩ => ⟨S_, .f32⟩
  | .hbm, ⟨46, _⟩ => ⟨S8x2x2x4096, .f32⟩
  | .hbm, ⟨47, _⟩ => ⟨S8x2x2x4096x1, .f32⟩
  | .hbm, ⟨48, _⟩ => ⟨S8x2x2x4096x4352, .f32⟩
  | .hbm, ⟨49, _⟩ => ⟨S8x2x2x4096x4352, .f32⟩
  | .hbm, ⟨50, _⟩ => ⟨S8x2x128x2x4096, .f32⟩
  | .hbm, ⟨51, _⟩ => ⟨S8x4096x2x2x128, .f32⟩
  | .hbm, ⟨52, _⟩ => ⟨S8x4352x2x2x128, .f32⟩
  | .hbm, ⟨53, _⟩ => ⟨S8x4352x512, .f32⟩
  | .hbm, ⟨54, _⟩ => ⟨S8x4352x512, .bf16⟩
  | _, _ => ⟨S8x4096x2x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Moe.lean ====
abbrev S304 : Shape := ⟨1, ![304]⟩
abbrev S1 : Shape := ⟨1, ![1]⟩
abbrev S1245184x128 : Shape := ⟨2, ![1245184, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S4096x128 : Shape := ⟨2, ![4096, 128]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x128 : Shape := ⟨2, ![512, 128]⟩
abbrev S512x1024 : Shape := ⟨2, ![512, 1024]⟩
abbrev S1024x2048 : Shape := ⟨2, ![1024, 2048]⟩
abbrev S512x2048 : Shape := ⟨2, ![512, 2048]⟩
abbrev S1x2048 : Shape := ⟨2, ![1, 2048]⟩
abbrev S1024x1024 : Shape := ⟨2, ![1024, 1024]⟩
abbrev S1x1024 : Shape := ⟨2, ![1, 1024]⟩

abbrev nBuf : Space → Nat
  | .hbm => 6
  | .vmem => 12
  | .smem => 2
  | _ => 0

abbrev bufTy : (tb : Table) → Fin (tcTables nBuf tb) → BufTy
  | .hbm, ⟨0, _⟩ => ⟨S1245184x128, .f32⟩
  | .hbm, ⟨1, _⟩ => ⟨S32x1024x2048, .bf16⟩
  | .hbm, ⟨2, _⟩ => ⟨S32x1x2048, .f32⟩
  | .hbm, ⟨3, _⟩ => ⟨S32x1024x1024, .bf16⟩
  | .hbm, ⟨4, _⟩ => ⟨S32x1x1024, .f32⟩
  | .hbm, ⟨5, _⟩ => ⟨S1245184x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .bf16⟩
  | .local _ .vmem, ⟨7, _⟩ => ⟨S1x1024x1024, .bf16⟩
  | .local _ .vmem, ⟨8, _⟩ => ⟨S1x1x1024, .f32⟩
  | .local _ .vmem, ⟨9, _⟩ => ⟨S1x1x1024, .f32⟩
  | .local _ .vmem, ⟨10, _⟩ => ⟨S4096x128, .f32⟩
  | .local _ .vmem, ⟨11, _⟩ => ⟨S4096x128, .f32⟩
  | .local _ .smem, ⟨0, _⟩ => ⟨S304, .i32⟩
  | .local _ .smem, ⟨1, _⟩ => ⟨S1, .i32⟩
  | _, _ => ⟨S1245184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![304], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S304.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S304) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S304 : Shape := ⟨1, ![304]⟩
abbrev S1 : Shape := ⟨1, ![1]⟩
abbrev S1245184x128 : Shape := ⟨2, ![1245184, 128]⟩
abbrev S32x1024x2048 : Shape := ⟨3, ![32, 1024, 2048]⟩
abbrev S32x1x2048 : Shape := ⟨3, ![32, 1, 2048]⟩
abbrev S32x1024x1024 : Shape := ⟨3, ![32, 1024, 1024]⟩
abbrev S32x1x1024 : Shape := ⟨3, ![32, 1, 1024]⟩
abbrev S155648x1024 : Shape := ⟨2, ![155648, 1024]⟩
abbrev S32x1024x2x1024 : Shape := ⟨4, ![32, 1024, 2, 1024]⟩
abbrev S32x1024x1024x2 : Shape := ⟨4, ![32, 1024, 1024, 2]⟩
abbrev S32x1x2x1024 : Shape := ⟨4, ![32, 1, 2, 1024]⟩
abbrev S32x1x1024x2 : Shape := ⟨4, ![32, 1, 1024, 2]⟩
abbrev S_ : Shape := ⟨0, ![]⟩
abbrev S304x512 : Shape := ⟨2, ![304, 512]⟩
abbrev S155648 : Shape := ⟨1, ![155648]⟩
abbrev S155648x1 : Shape := ⟨2, ![155648, 1]⟩
abbrev S1x32 : Shape := ⟨2, ![1, 32]⟩
abbrev S155648x32 : Shape := ⟨2, ![155648, 32]⟩
abbrev S32x2048x155648 : Shape := ⟨3, ![32, 2048, 155648]⟩
abbrev S32x155648x2048 : Shape := ⟨3, ![32, 155648, 2048]⟩
abbrev S32x155648x1024 : Shape := ⟨3, ![32, 155648, 1024]⟩

abbrev nBuf : Space → Nat
  | .hbm => 70
  | .vmem => 0
  | .smem => 0
  | _ => 0

abbrev bufTy : (tb : Table) → Fin (tcTables nBuf tb) → BufTy
  | .hbm, ⟨0, _⟩ => ⟨S304, .i32⟩
  | .hbm, ⟨1, _⟩ => ⟨S1, .i32⟩
  | .hbm, ⟨2, _⟩ => ⟨S1245184x128, .f32⟩
  | .hbm, ⟨3, _⟩ => ⟨S32x1024x2048, .bf16⟩
  | .hbm, ⟨4, _⟩ => ⟨S32x1x2048, .f32⟩
  | .hbm, ⟨5, _⟩ => ⟨S32x1024x1024, .bf16⟩
  | .hbm, ⟨6, _⟩ => ⟨S32x1x1024, .f32⟩
  | .hbm, ⟨7, _⟩ => ⟨S155648x1024, .f32⟩
  | .hbm, ⟨8, _⟩ => ⟨S32x1024x2048, .f32⟩
  | .hbm, ⟨9, _⟩ => ⟨S32x1024x2x1024, .f32⟩
  | .hbm, ⟨10, _⟩ => ⟨S32x1024x1024x2, .f32⟩
  | .hbm, ⟨11, _⟩ => ⟨S32x1024x2048, .f32⟩
  | .hbm, ⟨12, _⟩ => ⟨S32x1x2x1024, .f32⟩
  | .hbm, ⟨13, _⟩ => ⟨S32x1x1024x2, .f32⟩
  | .hbm, ⟨14, _⟩ => ⟨S32x1x2048, .f32⟩
  | .hbm, ⟨15, _⟩ => ⟨S32x1024x1024, .f32⟩
  | .hbm, ⟨16, _⟩ => ⟨S304, .i32⟩
  | .hbm, ⟨17, _⟩ => ⟨S_, .i32⟩
  | .hbm, ⟨18, _⟩ => ⟨S304, .i32⟩
  | .hbm, ⟨19, _⟩ => ⟨S304, .i1⟩
  | .hbm, ⟨20, _⟩ => ⟨S_, .i32⟩
  | .hbm, ⟨21, _⟩ => ⟨S_, .i32⟩
  | .hbm, ⟨22, _⟩ => ⟨S304, .i32⟩
  | .hbm, ⟨23, _⟩ => ⟨S304, .i32⟩
  | .hbm, ⟨24, _⟩ => ⟨S304x512, .i32⟩
  | .hbm, ⟨25, _⟩ => ⟨S155648, .i32⟩
  | .hbm, ⟨26, _⟩ => ⟨S155648x1, .i32⟩
  | .hbm, ⟨27, _⟩ => ⟨S1x32, .i32⟩
  | .hbm, ⟨28, _⟩ => ⟨S155648x32, .i32⟩
  | .hbm, ⟨29, _⟩ => ⟨S155648x32, .i32⟩
  | .hbm, ⟨30, _⟩ => ⟨S155648x32, .i1⟩
  | .hbm, ⟨31, _⟩ => ⟨S155648x32, .f32⟩
  | .hbm, ⟨32, _⟩ => ⟨S32x2048x155648, .f32⟩
  | .hbm, ⟨33, _⟩ => ⟨S32x155648x2048, .f32⟩
  | .hbm, ⟨34, _⟩ => ⟨S32x155648x2048, .f32⟩
  | .hbm, ⟨35, _⟩ => ⟨S32x155648x2048, .f32⟩
  | .hbm, ⟨36, _⟩ => ⟨S32x155648x1024, .f32⟩
  | .hbm, ⟨37, _⟩ => ⟨S32x155648x1024, .f32⟩
  | .hbm, ⟨38, _⟩ => ⟨S_, .f32⟩
  | .hbm, ⟨39, _⟩ => ⟨S32x155648x1024, .f32⟩
  | .hbm, ⟨40, _⟩ => ⟨S32x155648x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S32x155648x1024, .f32⟩
  | .hbm, ⟨45, _⟩ => ⟨S32x155648x1024, .f32⟩
  | .hbm, ⟨46, _⟩ => ⟨S_, .f32⟩
  | .hbm, ⟨47, _⟩ => ⟨S32x155648x1024, .f32⟩
  | .hbm, ⟨48, _⟩ => ⟨S32x155648x1024, .f32⟩
  | .hbm, ⟨49, _⟩ => ⟨S_, .f32⟩
  | .hbm, ⟨50, _⟩ => ⟨S32x155648x1024, .f32⟩
  | .hbm, ⟨51, _⟩ => ⟨S32x155648x1024, .f32⟩
  | .hbm, ⟨52, _⟩ => ⟨S32x155648x1024, .f32⟩
  | .hbm, ⟨53, _⟩ => ⟨S32x155648x1024, .f32⟩
  | .hbm, ⟨54, _⟩ => ⟨S_, .f32⟩
  | .hbm, ⟨55, _⟩ => ⟨S32x155648x1024, .f32⟩
  | .hbm, ⟨56, _⟩ => ⟨S32x155648x1024, .f32⟩
  | .hbm, ⟨57, _⟩ => ⟨S_, .f32⟩
  | .hbm, ⟨58, _⟩ => ⟨S32x155648x1024, .f32⟩
  | .hbm, ⟨59, _⟩ => ⟨S32x155648x1024, .f32⟩
  | .hbm, ⟨60, _⟩ => ⟨S32x155648x1024, .f32⟩
  | .hbm, ⟨61, _⟩ => ⟨S_, .f32⟩
  | .hbm, ⟨62, _⟩ => ⟨S32x155648x1024, .f32⟩
  | .hbm, ⟨63, _⟩ => ⟨S32x155648x1024, .f32⟩
  | .hbm, ⟨64, _⟩ => ⟨S32x155648x1024, .f32⟩
  | .hbm, ⟨65, _⟩ => ⟨S32x155648x1024, .f32⟩
  | .hbm, ⟨66, _⟩ => ⟨S32x155648x1024, .f32⟩
  | .hbm, ⟨67, _⟩ => ⟨S32x155648x1024, .f32⟩
  | .hbm, ⟨68, _⟩ => ⟨S155648x1024, .f32⟩
  | .hbm, ⟨69, _⟩ => ⟨S1245184x128, .f32⟩
  | _, _ => ⟨S304, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_cst_0 : Ref sig .tc := ⟨.hbm, 41, rfl⟩
abbrev main_cst_1 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_5 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Ada.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S4x6144x16 : Shape := ⟨3, ![4, 6144, 16]⟩
abbrev S4x16x6144 : Shape := ⟨3, ![4, 16, 6144]⟩
abbrev S4x1x6144 : Shape := ⟨3, ![4, 1, 6144]⟩

abbrev nBuf : Space → Nat
  | .hbm => 17
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S4x6144x16, .f32⟩
  | .hbm, ⟨13, _⟩ => ⟨S4x16x6144, .f32⟩
  | .hbm, ⟨14, _⟩ => ⟨S4x1x6144, .f32⟩
  | .hbm, ⟨15, _⟩ => ⟨S4x16x6144, .f32⟩
  | .hbm, ⟨16, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Halves.lean ====
abbrev S131072x2048 : Shape := ⟨2, ![131072, 2048]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x2048 : Shape := ⟨2, ![512, 2048]⟩
abbrev S512x256 : Shape := ⟨2, ![512, 256]⟩
abbrev S512x128 : Shape := ⟨2, ![512, 128]⟩

abbrev nBuf : Space → Nat
  | .hbm => 25
  | .vmem => 5
  | .smem => 0
  | _ => 0

abbrev bufTy : (tb : Table) → Fin (tcTables nBuf tb) → BufTy
  | .hbm, ⟨0, _⟩ => ⟨S131072x2048, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S_, .i32⟩
  | .hbm, ⟨12, _⟩ => ⟨S256, .i32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256, .i32⟩
  | .hbm, ⟨18, _⟩ => ⟨S256x1, .i32⟩
  | .hbm, ⟨19, _⟩ => ⟨S1x256, .i32⟩
  | .hbm, ⟨20, _⟩ => ⟨S256x256, .i32⟩
  | .hbm, ⟨21, _⟩ => ⟨S256x256, .i32⟩
  | .hbm, ⟨22, _⟩ => ⟨S256x256, .i1⟩
  | .hbm, ⟨23, _⟩ => ⟨S256x256, .bf16⟩
  | .hbm, ⟨24, _⟩ => ⟨S131072x2048, .bf16⟩
  | .local _ .vmem, ⟨0, _⟩ => ⟨S512x2048, .f32⟩
  | .local _ .vmem, ⟨1, _⟩ => ⟨S512x2048, .f32⟩
  | .local _ .vmem, ⟨2, _⟩ => ⟨S256x256, .bf16⟩
  | .local _ .vmem, ⟨3, _⟩ => ⟨S512x2048, .bf16⟩
  | .local _ .vmem, ⟨4, _⟩ => ⟨S512x2048, .bf16⟩
  | _, _ => ⟨S131072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_c_2 : Ref sig .tc := ⟨.hbm, 11, rfl⟩
abbrev main_v7 : Ref sig .tc := ⟨.hbm, 12, rfl⟩
abbrev main_v8 : Ref sig .tc := ⟨.hbm, 13, rfl⟩
abbrev main_c_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HalvesRefIdeal.lean ====
abbrev S131072x2048 : Shape := ⟨2, ![131072, 2048]⟩
abbrev S131072x1024 : Shape := ⟨2, ![131072, 1024]⟩

abbrev nBuf : Space → Nat
  | .hbm => 5
  | .vmem => 0
  | .smem => 0
  | _ => 0

abbrev bufTy : (tb : Table) → Fin (tcTables nBuf tb) → BufTy
  | .hbm, ⟨0, _⟩ => ⟨S131072x2048, .f32⟩
  | .hbm, ⟨1, _⟩ => ⟨S131072x1024, .f32⟩
  | .hbm, ⟨2, _⟩ => ⟨S131072x1024, .f32⟩
  | .hbm, ⟨3, _⟩ => ⟨S131072x2048, .f32⟩
  | .hbm, ⟨4, _⟩ => ⟨S131072x2048, .bf16⟩
  | _, _ => ⟨S131072x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]
-- ==== Out.lean ====
abbrev S8x4352x512 : Shape := ⟨3, ![8, 4352, 512]⟩
abbrev S8x4352x1024 : Shape := ⟨3, ![8, 4352, 1024]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S8x4352x128 : Shape := ⟨3, ![8, 4352, 128]⟩
abbrev S1x256x512 : Shape := ⟨3, ![1, 256, 512]⟩
abbrev S1x256x1024 : Shape := ⟨3, ![1, 256, 1024]⟩
abbrev S1x1x6x1024 : Shape := ⟨4, ![1, 1, 6, 1024]⟩
abbrev S1x256x128 : Shape := ⟨3, ![1, 256, 128]⟩
abbrev S6x1024 : Shape := ⟨2, ![6, 1024]⟩
abbrev S256x512 : Shape := ⟨2, ![256, 512]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩

abbrev nBuf : Space → Nat
  | .hbm => 21
  | .vmem => 20
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .f32⟩
  | .hbm, ⟨3, _⟩ => ⟨S8x2x6x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S_, .f32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S1024x1024, .bf16⟩
  | .hbm, ⟨16, _⟩ => ⟨S1x1024, .f32⟩
  | .hbm, ⟨17, _⟩ => ⟨S8x4352x1024, .f32⟩
  | .hbm, ⟨18, _⟩ => ⟨S8x4352x1024, .f32⟩
  | .hbm, ⟨19, _⟩ => ⟨S8x4352x128, .i32⟩
  | .hbm, ⟨20, _⟩ => ⟨S8x4352x128, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1024x1024, .bf16⟩
  | .local _ .vmem, ⟨9, _⟩ => ⟨S1x1024, .f32⟩
  | .local _ .vmem, ⟨10, _⟩ => ⟨S1024x128, .f32⟩
  | .local _ .vmem, ⟨11, _⟩ => ⟨S1x128, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x128, .i32⟩
  | .local _ .vmem, ⟨17, _⟩ => ⟨S1x256x128, .i32⟩
  | .local _ .vmem, ⟨18, _⟩ => ⟨S1x256x128, .f32⟩
  | .local _ .vmem, ⟨19, _⟩ => ⟨S1x256x128, .f32⟩
  | _, _ => ⟨S8x4352x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutRefIdeal.lean ====
abbrev S8x4352x512 : Shape := ⟨3, ![8, 4352, 512]⟩
abbrev S8x4352x1024 : Shape := ⟨3, ![8, 4352, 1024]⟩
abbrev S8x2x6x1024 : Shape := ⟨4, ![8, 2, 6, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S8x2x1x1024 : Shape := ⟨4, ![8, 2, 1, 1024]⟩
abbrev S8x2x1024 : Shape := ⟨3, ![8, 2, 1024]⟩
abbrev S8x1x1024 : Shape := ⟨3, ![8, 1, 1024]⟩
abbrev S8x256x1024 : Shape := ⟨3, ![8, 256, 1024]⟩
abbrev S8x4096x1024 : Shape := ⟨3, ![8, 4096, 1024]⟩
abbrev S_ : Shape := ⟨0, ![]⟩
abbrev S8x4352 : Shape := ⟨2, ![8, 4352]⟩
abbrev S8x4352x1 : Shape := ⟨3, ![8, 4352, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8x4352x512, .bf16⟩
  | .hbm, ⟨1, _⟩ => ⟨S8x4352x512, .bf16⟩
  | .hbm, ⟨2, _⟩ => ⟨S8x4352x1024, .f32⟩
  | .hbm, ⟨3, _⟩ => ⟨S8x2x6x1024, .f32⟩
  | .hbm, ⟨4, _⟩ => ⟨S1024x1024, .f32⟩
  | .hbm, ⟨5, _⟩ => ⟨S1024, .f32⟩
  | .hbm, ⟨6, _⟩ => ⟨S1024x32, .f32⟩
  | .hbm, ⟨7, _⟩ => ⟨S32, .f32⟩
  | .hbm, ⟨8, _⟩ => ⟨S8x2x1x1024, .f32⟩
  | .hbm, ⟨9, _⟩ => ⟨S8x2x1024, .f32⟩
  | .hbm, ⟨10, _⟩ => ⟨S8x1x1024, .f32⟩
  | .hbm, ⟨11, _⟩ => ⟨S8x256x1024, .f32⟩
  | .hbm, ⟨12, _⟩ => ⟨S8x1x1024, .f32⟩
  | .hbm, ⟨13, _⟩ => ⟨S8x4096x1024, .f32⟩
  | .hbm, ⟨14, _⟩ => ⟨S8x4352x1024, .f32⟩
  | .hbm, ⟨15, _⟩ => ⟨S8x2x1x1024, .f32⟩
  | .hbm, ⟨16, _⟩ => ⟨S8x2x1024, .f32⟩
  | .hbm, ⟨17, _⟩ => ⟨S8x1x1024, .f32⟩
  | .hbm, ⟨18, _⟩ => ⟨S8x256x1024, .f32⟩
  | .hbm, ⟨19, _⟩ => ⟨S8x1x1024, .f32⟩
  | .hbm, ⟨20, _⟩ => ⟨S8x4096x1024, .f32⟩
  | .hbm, ⟨21, _⟩ => ⟨S8x4352x1024, .f32⟩
  | .hbm, ⟨22, _⟩ => ⟨S8x2x1x1024, .f32⟩
  | .hbm, ⟨23, _⟩ => ⟨S8x2x1024, .f32⟩
  | .hbm, ⟨24, _⟩ => ⟨S8x1x1024, .f32⟩
  | .hbm, ⟨25, _⟩ => ⟨S8x256x1024, .f32⟩
  | .hbm, ⟨26, _⟩ => ⟨S8x1x1024, .f32⟩
  | .hbm, ⟨27, _⟩ => ⟨S8x4096x1024, .f32⟩
  | .hbm, ⟨28, _⟩ => ⟨S8x4352x1024, .f32⟩
  | .hbm, ⟨29, _⟩ => ⟨S8x4352x1024, .bf16⟩
  | .hbm, ⟨30, _⟩ => ⟨S8x4352x1024, .f32⟩
  | .hbm, ⟨31, _⟩ => ⟨S8x4352x1024, .f32⟩
  | .hbm, ⟨32, _⟩ => ⟨S8x4352x1024, .f32⟩
  | .hbm, ⟨33, _⟩ => ⟨S8x4352x1024, .f32⟩
  | .hbm, ⟨34, _⟩ => ⟨S8x4352x1024, .f32⟩
  | .hbm, ⟨35, _⟩ => ⟨S_, .f32⟩
  | .hbm, ⟨36, _⟩ => ⟨S8x4352, .f32⟩
  | .hbm, ⟨37, _⟩ => ⟨S8x4352x1, .f32⟩
  | .hbm, ⟨38, _⟩ => ⟨S_, .f32⟩
  | .hbm, ⟨39, _⟩ => ⟨S8x4352x1, .f32⟩
  | .hbm, ⟨40, _⟩ => ⟨S8x4352x1, .f32⟩
  | .hbm, ⟨41, _⟩ => ⟨S_, .f32⟩
  | .hbm, ⟨42, _⟩ => ⟨S8x4352x1, .f32⟩
  | .hbm, ⟨43, _⟩ => ⟨S8x4352x1, .f32⟩
  | .hbm, ⟨44, _⟩ => ⟨S8x4352x1, .f32⟩
  | .hbm, ⟨45, _⟩ => ⟨S8x4352x1024, .f32⟩
  | .hbm, ⟨46, _⟩ => ⟨S8x4352x1024, .f32⟩
  | .hbm, ⟨47, _⟩ => ⟨S1x1x1024, .f32⟩
  | .hbm, ⟨48, _⟩ => ⟨S8x4352x1024, .f32⟩
  | .hbm, ⟨49, _⟩ => ⟨S8x4352x1024, .f32⟩
  | .hbm, ⟨50, _⟩ => ⟨S_, .f32⟩
  | .hbm, ⟨51, _⟩ => ⟨S8x4352x1024, .f32⟩
  | .hbm, ⟨52, _⟩ => ⟨S8x4352x1024, .f32⟩
  | .hbm, ⟨53, _⟩ => ⟨S8x4352x1024, .f32⟩
  | .hbm, ⟨54, _⟩ => ⟨S8x4352x1024, .f32⟩
  | _, _ => ⟨S8x4352x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_2 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Feat.lean ====
abbrev S8x4352x1024 : Shape := ⟨3, ![8, 4352, 1024]⟩
abbrev S8x2x6x1024 : Shape := ⟨4, ![8, 2, 6, 1024]⟩
abbrev S1024 : Shape := ⟨1, ![1024]⟩
abbrev S6x1024 : Shape := ⟨2, ![6, 1024]⟩
abbrev S1024x1024 : Shape := ⟨2, ![1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S1024x128 : Shape := ⟨2, ![1024, 128]⟩
abbrev S128x1024 : Shape := ⟨2, ![128, 1024]⟩
abbrev S16x64 : Shape := ⟨2, ![16, 64]⟩
abbrev S_ : Shape := ⟨0, ![]⟩
abbrev S128 : Shape := ⟨1, ![128]⟩
abbrev S1024x1 : Shape := ⟨2, ![1024, 1]⟩
abbrev S1x128 : Shape := ⟨2, ![1, 128]⟩
abbrev S1x1024x64 : Shape := ⟨3, ![1, 1024, 64]⟩
abbrev S1024x64 : Shape := ⟨2, ![1024, 64]⟩
abbrev S1x64x1024 : Shape := ⟨3, ![1, 64, 1024]⟩
abbrev S64x1024 : Shape := ⟨2, ![64, 1024]⟩
abbrev S1x128x1024 : Shape := ⟨3, ![1, 128, 1024]⟩
abbrev S2x128x1024 : Shape := ⟨3, ![2, 128, 1024]⟩
abbrev S1x1024 : Shape := ⟨2, ![1, 1024]⟩
abbrev S128x1 : Shape := ⟨2, ![128, 1]⟩
abbrev S2x8x4352x1024 : Shape := ⟨4, ![2, 8, 4352, 1024]⟩
abbrev S1x256x1024 : Shape := ⟨3, ![1, 256, 1024]⟩
abbrev S1x8x1024 : Shape := ⟨3, ![1, 8, 1024]⟩
abbrev S1x1x6x1024 : Shape := ⟨4, ![1, 1, 6, 1024]⟩
abbrev S2x1x256x1024 : Shape := ⟨4, ![2, 1, 256, 1024]⟩
abbrev S256x1024 : Shape := ⟨2, ![256, 1024]⟩
abbrev S256 : Shape := ⟨1, ![256]⟩
abbrev S256x1 : Shape := ⟨2, ![256, 1]⟩
abbrev S8x1024 : Shape := ⟨2, ![8, 1024]⟩
abbrev S8 : Shape := ⟨1, ![8]⟩
abbrev S8x1 : Shape := ⟨2, ![8, 1]⟩
abbrev S256x128 : Shape := ⟨2, ![256, 128]⟩
abbrev S1x1x256x1024 : Shape := ⟨4, ![1, 1, 256, 1024]⟩

abbrev nBuf : Space → Nat
  | .hbm => 107
  | .vmem => 42
  | .smem => 0
  | _ => 0

abbrev bufTy : (tb : Table) → Fin (tcTables nBuf tb) → BufTy
  | .hbm, ⟨0, _⟩ => ⟨S8x4352x1024, .f32⟩
  | .hbm, ⟨1, _⟩ => ⟨S8x2x6x1024, .f32⟩
  | .hbm, ⟨2, _⟩ => ⟨S1024, .f32⟩
  | .hbm, ⟨3, _⟩ => ⟨S6x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S2x1024, .f32⟩
  | .hbm, ⟨8, _⟩ => ⟨S2x1024x64, .f32⟩
  | .hbm, ⟨9, _⟩ => ⟨S2x64x1024, .f32⟩
  | .hbm, ⟨10, _⟩ => ⟨S2x1024, .f32⟩
  | .hbm, ⟨11, _⟩ => ⟨S2x1024x64, .f32⟩
  | .hbm, ⟨12, _⟩ => ⟨S2x64x1024, .f32⟩
  | .hbm, ⟨13, _⟩ => ⟨S1024x128, .f32⟩
  | .hbm, ⟨14, _⟩ => ⟨S128x1024, .f32⟩
  | .hbm, ⟨15, _⟩ => ⟨S1024, .f32⟩
  | .hbm, ⟨16, _⟩ => ⟨S1024, .f32⟩
  | .hbm, ⟨17, _⟩ => ⟨S16x64, .f32⟩
  | .hbm, ⟨18, _⟩ => ⟨S1024, .i32⟩
  | .hbm, ⟨19, _⟩ => ⟨S_, .i32⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S1024, .i32⟩
  | .hbm, ⟨28, _⟩ => ⟨S1024, .i32⟩
  | .hbm, ⟨29, _⟩ => ⟨S_, .i32⟩
  | .hbm, ⟨30, _⟩ => ⟨S1024, .i32⟩
  | .hbm, ⟨31, _⟩ => ⟨S1024, .i1⟩
  | .hbm, ⟨32, _⟩ => ⟨S1024, .i1⟩
  | .hbm, ⟨33, _⟩ => ⟨S_, .i32⟩
  | .hbm, ⟨34, _⟩ => ⟨S1024, .i32⟩
  | .hbm, ⟨35, _⟩ => ⟨S1024, .i32⟩
  | .hbm, ⟨36, _⟩ => ⟨S1024, .i32⟩
  | .hbm, ⟨37, _⟩ => ⟨S128, .i32⟩
  | .hbm, ⟨38, _⟩ => ⟨S1024x1, .i32⟩
  | .hbm, ⟨39, _⟩ => ⟨S1x128, .i32⟩
  | .hbm, ⟨40, _⟩ => ⟨S1024x128, .i32⟩
  | .hbm, ⟨41, _⟩ => ⟨S1024x128, .i32⟩
  | .hbm, ⟨42, _⟩ => ⟨S1024x128, .i1⟩
  | .hbm, ⟨43, _⟩ => ⟨S1x1024x64, .f32⟩
  | .hbm, ⟨44, _⟩ => ⟨S1024x64, .f32⟩
  | .hbm, ⟨45, _⟩ => ⟨S1x1024x64, .f32⟩
  | .hbm, ⟨46, _⟩ => ⟨S1024x64, .f32⟩
  | .hbm, ⟨47, _⟩ => ⟨S1024x128, .f32⟩
  | .hbm, ⟨48, _⟩ => ⟨S1x64x1024, .f32⟩
  | .hbm, ⟨49, _⟩ => ⟨S64x1024, .f32⟩
  | .hbm, ⟨50, _⟩ => ⟨S_, .i32⟩
  | .hbm, ⟨51, _⟩ => ⟨S_, .f32⟩
  | .hbm, ⟨52, _⟩ => ⟨S128x1024, .f32⟩
  | .hbm, ⟨53, _⟩ => ⟨S1x64x1024, .f32⟩
  | .hbm, ⟨54, _⟩ => ⟨S64x1024, .f32⟩
  | .hbm, ⟨55, _⟩ => ⟨S_, .i32⟩
  | .hbm, ⟨56, _⟩ => ⟨S_, .f32⟩
  | .hbm, ⟨57, _⟩ => ⟨S128x1024, .f32⟩
  | .hbm, ⟨58, _⟩ => ⟨S1x128x1024, .f32⟩
  | .hbm, ⟨59, _⟩ => ⟨S1x128x1024, .f32⟩
  | .hbm, ⟨60, _⟩ => ⟨S2x128x1024, .f32⟩
  | .hbm, ⟨61, _⟩ => ⟨S1024x128, .bf16⟩
  | .hbm, ⟨62, _⟩ => ⟨S2x128x1024, .bf16⟩
  | .hbm, ⟨63, _⟩ => ⟨S1x1024x64, .f32⟩
  | .hbm, ⟨64, _⟩ => ⟨S1024x64, .f32⟩
  | .hbm, ⟨65, _⟩ => ⟨S1x1024x64, .f32⟩
  | .hbm, ⟨66, _⟩ => ⟨S1024x64, .f32⟩
  | .hbm, ⟨67, _⟩ => ⟨S1024x128, .f32⟩
  | .hbm, ⟨68, _⟩ => ⟨S1x64x1024, .f32⟩
  | .hbm, ⟨69, _⟩ => ⟨S64x1024, .f32⟩
  | .hbm, ⟨70, _⟩ => ⟨S_, .i32⟩
  | .hbm, ⟨71, _⟩ => ⟨S_, .f32⟩
  | .hbm, ⟨72, _⟩ => ⟨S128x1024, .f32⟩
  | .hbm, ⟨73, _⟩ => ⟨S1x64x1024, .f32⟩
  | .hbm, ⟨74, _⟩ => ⟨S64x1024, .f32⟩
  | .hbm, ⟨75, _⟩ => ⟨S_, .i32⟩
  | .hbm, ⟨76, _⟩ => ⟨S_, .f32⟩
  | .hbm, ⟨77, _⟩ => ⟨S128x1024, .f32⟩
  | .hbm, ⟨78, _⟩ => ⟨S1x128x1024, .f32⟩
  | .hbm, ⟨79, _⟩ => ⟨S1x128x1024, .f32⟩
  | .hbm, ⟨80, _⟩ => ⟨S2x128x1024, .f32⟩
  | .hbm, ⟨81, _⟩ => ⟨S1024x128, .bf16⟩
  | .hbm, ⟨82, _⟩ => ⟨S2x128x1024, .bf16⟩
  | .hbm, ⟨83, _⟩ => ⟨S1024x1024, .bf16⟩
  | .hbm, ⟨84, _⟩ => ⟨S1024x1024, .bf16⟩
  | .hbm, ⟨85, _⟩ => ⟨S1024x1024, .bf16⟩
  | .hbm, ⟨86, _⟩ => ⟨S1024x128, .bf16⟩
  | .hbm, ⟨87, _⟩ => ⟨S128x1024, .bf16⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1024x128, .bf16⟩
  | .hbm, ⟨92, _⟩ => ⟨S128x1, .i32⟩
  | .hbm, ⟨93, _⟩ => ⟨S1x1024, .i32⟩
  | .hbm, ⟨94, _⟩ => ⟨S128x1024, .i32⟩
  | .hbm, ⟨95, _⟩ => ⟨S128x1024, .i32⟩
  | .hbm, ⟨96, _⟩ => ⟨S128x1024, .i1⟩
  | .hbm, ⟨97, _⟩ => ⟨S128x1024, .bf16⟩
  | .hbm, ⟨98, _⟩ => ⟨S1x1024, .f32⟩
  | .hbm, ⟨99, _⟩ => ⟨S8x4352x1024, .f32⟩
  | .hbm, ⟨100, _⟩ => ⟨S8x4352x1024, .f32⟩
  | .hbm, ⟨101, _⟩ => ⟨S8x4352x1024, .f32⟩
  | .hbm, ⟨102, _⟩ => ⟨S2x8x4352x1024, .f32⟩
  | .hbm, ⟨103, _⟩ => ⟨S2x8x4352x1024, .f32⟩
  | .hbm, ⟨104, _⟩ => ⟨S2x8x4352x1024, .f32⟩
  | .hbm, ⟨105, _⟩ => ⟨S8x4352x1024, .f32⟩
  | .hbm, ⟨106, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6x1024, .f32⟩
  | .local _ .vmem, ⟨7, _⟩ => ⟨S1x1x6x1024, .f32⟩
  | .local _ .vmem, ⟨8, _⟩ => ⟨S1x1024, .f32⟩
  | .local _ .vmem, ⟨9, _⟩ => ⟨S6x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S2x1024, .f32⟩
  | .local _ .vmem, ⟨14, _⟩ => ⟨S1024x128, .bf16⟩
  | .local _ .vmem, ⟨15, _⟩ => ⟨S2x128x1024, .bf16⟩
  | .local _ .vmem, ⟨16, _⟩ => ⟨S2x1024, .f32⟩
  | .local _ .vmem, ⟨17, _⟩ => ⟨S1024x128, .bf16⟩
  | .local _ .vmem, ⟨18, _⟩ => ⟨S2x128x1024, .bf16⟩
  | .local _ .vmem, ⟨19, _⟩ => ⟨S1024x128, .bf16⟩
  | .local _ .vmem, ⟨20, _⟩ => ⟨S128x1024, .bf16⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1024x128, .bf16⟩
  | .local _ .vmem, ⟨25, _⟩ => ⟨S128x1024, .bf16⟩
  | .local _ .vmem, ⟨26, _⟩ => ⟨S1x256x1024, .f32⟩
  | .local _ .vmem, ⟨27, _⟩ => ⟨S1x256x1024, .f32⟩
  | .local _ .vmem, ⟨28, _⟩ => ⟨S1x256x1024, .f32⟩
  | .local _ .vmem, ⟨29, _⟩ => ⟨S1x256x1024, .f32⟩
  | .local _ .vmem, ⟨30, _⟩ => ⟨S1x256x1024, .f32⟩
  | .local _ .vmem, ⟨31, _⟩ => ⟨S1x256x1024, .f32⟩
  | .local _ .vmem, ⟨32, _⟩ => ⟨S2x1x256x1024, .f32⟩
  | .local _ .vmem, ⟨33, _⟩ => ⟨S2x1x256x1024, .f32⟩
  | .local _ .vmem, ⟨34, _⟩ => ⟨S2x1x256x1024, .f32⟩
  | .local _ .vmem, ⟨35, _⟩ => ⟨S2x1x256x1024, .f32⟩
  | .local _ .vmem, ⟨36, _⟩ => ⟨S2x1x256x1024, .f32⟩
  | .local _ .vmem, ⟨37, _⟩ => ⟨S2x1x256x1024, .f32⟩
  | .local _ .vmem, ⟨38, _⟩ => ⟨S1x256x1024, .f32⟩
  | .local _ .vmem, ⟨39, _⟩ => ⟨S1x256x1024, .f32⟩
  | .local _ .vmem, ⟨40, _⟩ => ⟨S1x256x1024, .f32⟩
  | .local _ .vmem, ⟨41, _⟩ => ⟨S1x256x1024, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v1 : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_0 : Ref sig .tc := ⟨.hbm, 50, rfl⟩
abbrev main_call1_v0 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_c_1 : Ref sig .tc := ⟨.hbm, 55, rfl⟩
abbrev main_call2_v0 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_c_2 : Ref sig .tc := ⟨.hbm, 70, rfl⟩
abbrev main_call3_v0 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_3 : Ref sig .tc := ⟨.hbm, 75, rfl⟩
abbrev main_call4_v0 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56_0 : Ref sig .tc := ⟨.hbm, 99, rfl⟩
abbrev main_v56_1 : Ref sig .tc := ⟨.hbm, 100, rfl⟩
abbrev main_v56_2 : Ref sig .tc := ⟨.hbm, 101, rfl⟩
abbrev main_v56_3 : Ref sig .tc := ⟨.hbm, 102, rfl⟩
abbrev main_v56_4 : Ref sig .tc := ⟨.hbm, 103, rfl⟩
abbrev main_v56_5 : Ref sig .tc := ⟨.hbm, 104, rfl⟩
abbrev main_v56_6 : Ref sig .tc := ⟨.hbm, 105, rfl⟩
abbrev main_v56_7 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_stg28_0 : Ref sig .tc := ⟨.vmem, 38, rfl⟩
abbrev cc0_stg28_1 : Ref sig .tc := ⟨.vmem, 39, rfl⟩
abbrev cc0_stg29_0 : Ref sig .tc := ⟨.vmem, 40, rfl⟩
abbrev cc0_stg29_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37
abbrev cc0_sem28_0 : DmaSem sig := 38
abbrev cc0_sem28_1 : DmaSem sig := 39
abbrev cc0_sem29_0 : DmaSem sig := 40
abbrev cc0_sem29_1 : DmaSem sig := 41

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S2x128x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1024x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 2 → Memref sig .tc .vmem S1x256x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S2x1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S2x1x256x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S2x1x256x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x256x1024 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x256x1024 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]
-- ==== FeatRefIdeal.lean ====
abbrev S8x4352x1024 : Shape := ⟨3, ![8, 4352, 1024]⟩
abbrev S8x2x6x1024 : Shape := ⟨4, ![8, 2, 6, 1024]⟩
abbrev S1024 : Shape := ⟨1, ![1024]⟩
abbrev S6x1024 : Shape := ⟨2, ![6, 1024]⟩
abbrev S1024x1024 : Shape := ⟨2, ![1024, 1024]⟩
abbrev S2x1024 : Shape := ⟨2, ![2, 1024]⟩
abbrev S2x1024x64 : Shape := ⟨3, ![2, 1024, 64]⟩
abbrev S2x64x1024 : Shape := ⟨3, ![2, 64, 1024]⟩
abbrev S1024x128 : Shape := ⟨2, ![1024, 128]⟩
abbrev S128x1024 : Shape := ⟨2, ![128, 1024]⟩
abbrev S16x64 : Shape := ⟨2, ![16, 64]⟩
abbrev S8x256x1024 : Shape := ⟨3, ![8, 256, 1024]⟩
abbrev S8x1x6x1024 : Shape := ⟨4, ![8, 1, 6, 1024]⟩
abbrev S8x6x1024 : Shape := ⟨3, ![8, 6, 1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x1x1024 : Shape := ⟨3, ![8, 1, 1024]⟩
abbrev S8x1024 : Shape := ⟨2, ![8, 1024]⟩
abbrev S8x255x1024 : Shape := ⟨3, ![8, 255, 1024]⟩
abbrev S1x1024 : Shape := ⟨2, ![1, 1024]⟩
abbrev S8x256x128 : Shape := ⟨3, ![8, 256, 128]⟩
abbrev S8x4096x1024 : Shape := ⟨3, ![8, 4096, 1024]⟩
abbrev S8x4096 : Shape := ⟨2, ![8, 4096]⟩
abbrev S8x4096x1 : Shape := ⟨3, ![8, 4096, 1]⟩
abbrev S8x4095x1024 : Shape := ⟨3, ![8, 4095, 1024]⟩
abbrev S8x4096x128 : Shape := ⟨3, ![8, 4096, 128]⟩

abbrev nBuf : Space → Nat
  | .hbm => 207
  | .vmem => 0
  | .smem => 0
  | _ => 0

abbrev hbmTy0_0 (i : Nat) : BufTy := match i % 128 with
  | 0 => ⟨S8x4352x1024, .f32⟩
  | 1 => ⟨S8x2x6x1024, .f32⟩
  | 2 => ⟨S1024, .f32⟩
  | 3 => ⟨S6x1024, .f32⟩
  | 4 => ⟨S1024x1024, .f32⟩
  | 5 => ⟨S1024x1024, .f32⟩
  | 6 => ⟨S1024x1024, .f32⟩
  | 7 => ⟨S2x1024, .f32⟩
  | 8 => ⟨S2x1024x64, .f32⟩
  | 9 => ⟨S2x64x1024, .f32⟩
  | 10 => ⟨S2x1024, .f32⟩
  | 11 => ⟨S2x1024x64, .f32⟩
  | 12 => ⟨S2x64x1024, .f32⟩
  | 13 => ⟨S1024x128, .f32⟩
  | 14 => ⟨S128x1024, .f32⟩
  | 15 => ⟨S1024, .f32⟩
  | 16 => ⟨S1024, .f32⟩
  | 17 => ⟨S16x64, .f32⟩
  | 18 => ⟨S8x256x1024, .f32⟩
  | 19 => ⟨S8x1x6x1024, .f32⟩
  | 20 => ⟨S8x6x1024, .f32⟩
  | 21 => ⟨S8x256x1024, .f32⟩
  | 22 => ⟨S_, .f32⟩
  | 23 => ⟨S8x256, .f32⟩
  | 24 => ⟨S8x256x1, .f32⟩
  | 25 => ⟨S_, .f32⟩
  | 26 => ⟨S8x256x1, .f32⟩
  | 27 => ⟨S8x256x1, .f32⟩
  | 28 => ⟨S_, .f32⟩
  | 29 => ⟨S8x256x1, .f32⟩
  | 30 => ⟨S8x256x1, .f32⟩
  | 31 => ⟨S8x256x1, .f32⟩
  | 32 => ⟨S8x256x1024, .f32⟩
  | 33 => ⟨S8x256x1024, .f32⟩
  | 34 => ⟨S1x1x1024, .f32⟩
  | 35 => ⟨S8x256x1024, .f32⟩
  | 36 => ⟨S8x256x1024, .f32⟩
  | 37 => ⟨S8x1x1024, .f32⟩
  | 38 => ⟨S8x1024, .f32⟩
  | 39 => ⟨S8x1x1024, .f32⟩
  | 40 => ⟨S8x1x1024, .f32⟩
  | 41 => ⟨S8x1024, .f32⟩
  | 42 => ⟨S8x1x1024, .f32⟩
  | 43 => ⟨S_, .f32⟩
  | 44 => ⟨S8x1x1024, .f32⟩
  | 45 => ⟨S8x1x1024, .f32⟩
  | 46 => ⟨S8x256x1024, .f32⟩
  | 47 => ⟨S8x256x1024, .f32⟩
  | 48 => ⟨S8x256x1024, .f32⟩
  | 49 => ⟨S8x256x1024, .f32⟩
  | 50 => ⟨S8x255x1024, .f32⟩
  | 51 => ⟨S_, .i32⟩
  | 52 => ⟨S_, .f32⟩
  | 53 => ⟨S8x256x1024, .f32⟩
  | 54 => ⟨S8x255x1024, .f32⟩
  | 55 => ⟨S_, .i32⟩
  | 56 => ⟨S_, .f32⟩
  | 57 => ⟨S8x256x1024, .f32⟩
  | 58 => ⟨S8x256x1024, .f32⟩
  | 59 => ⟨S_, .f32⟩
  | 60 => ⟨S8x256x1024, .f32⟩
  | 61 => ⟨S8x256x1024, .f32⟩
  | 62 => ⟨S8x256x1024, .f32⟩
  | 63 => ⟨S1x1024, .f32⟩
  | 64 => ⟨S1024, .f32⟩
  | 65 => ⟨S1x1x1024, .f32⟩
  | 66 => ⟨S8x256x1024, .f32⟩
  | 67 => ⟨S8x256x1024, .f32⟩
  | 68 => ⟨S8x256x1024, .f32⟩
  | 69 => ⟨S1x1024, .f32⟩
  | 70 => ⟨S1024, .f32⟩
  | 71 => ⟨S1x1x1024, .f32⟩
  | 72 => ⟨S8x256x1024, .f32⟩
  | 73 => ⟨S8x256x1024, .f32⟩
  | 74 => ⟨S8x256x1024, .f32⟩
  | 75 => ⟨S1x1024, .f32⟩
  | 76 => ⟨S1024, .f32⟩
  | 77 => ⟨S1x1x1024, .f32⟩
  | 78 => ⟨S8x256x1024, .f32⟩
  | 79 => ⟨S8x256x1024, .f32⟩
  | 80 => ⟨S8x256x1024, .f32⟩
  | 81 => ⟨S1x1024, .f32⟩
  | 82 => ⟨S1024, .f32⟩
  | 83 => ⟨S1x1x1024, .f32⟩
  | 84 => ⟨S8x256x1024, .f32⟩
  | 85 => ⟨S8x256x1024, .f32⟩
  | 86 => ⟨S8x256x1024, .f32⟩
  | 87 => ⟨S1x1024, .f32⟩
  | 88 => ⟨S1024, .f32⟩
  | 89 => ⟨S1x1x1024, .f32⟩
  | 90 => ⟨S8x256x1024, .f32⟩
  | 91 => ⟨S8x256x1024, .f32⟩
  | 92 => ⟨S8x256x1024, .f32⟩
  | 93 => ⟨S1x1024, .f32⟩
  | 94 => ⟨S1024, .f32⟩
  | 95 => ⟨S1x1x1024, .f32⟩
  | 96 => ⟨S8x256x1024, .f32⟩
  | 97 => ⟨S8x256x1024, .f32⟩
  | 98 => ⟨S8x256x1024, .f32⟩
  | 99 => ⟨S8x256x1024, .f32⟩
  | 100 => ⟨S8x256x1024, .f32⟩
  | 101 => ⟨S8x256x128, .f32⟩
  | 102 => ⟨S8x256x128, .f32⟩
  | 103 => ⟨S8x256x128, .f32⟩
  | 104 => ⟨S_, .f32⟩
  | 105 => ⟨S8x256x128, .f32⟩
  | 106 => ⟨S8x256x128, .f32⟩
  | 107 => ⟨S_, .f32⟩
  | 108 => ⟨S8x256x128, .f32⟩
  | 109 => ⟨S8x256x128, .f32⟩
  | 110 => ⟨S8x256x1024, .f32⟩
  | 111 => ⟨S8x4096x1024, .f32⟩
  | 112 => ⟨S8x1x6x1024, .f32⟩
  | 113 => ⟨S8x6x1024, .f32⟩
  | 114 => ⟨S8x4096x1024, .f32⟩
  | 115 => ⟨S_, .f32⟩
  | 116 => ⟨S8x4096, .f32⟩
  | 117 => ⟨S8x4096x1, .f32⟩
  | 118 => ⟨S_, .f32⟩
  | 119 => ⟨S8x4096x1, .f32⟩
  | 120 => ⟨S8x4096x1, .f32⟩
  | 121 => ⟨S_, .f32⟩
  | 122 => ⟨S8x4096x1, .f32⟩
  | 123 => ⟨S8x4096x1, .f32⟩
  | 124 => ⟨S8x4096x1, .f32⟩
  | 125 => ⟨S8x4096x1024, .f32⟩
  | 126 => ⟨S8x4096x1024, .f32⟩
  | 127 => ⟨S1x1x1024, .f32⟩
  | _ => ⟨S8x4352x1024, .f32⟩

abbrev hbmTy0_1 (i : Nat) : BufTy := match i % 128 with
  | 0 => ⟨S8x4096x1024, .f32⟩
  | 1 => ⟨S8x4096x1024, .f32⟩
  | 2 => ⟨S8x1x1024, .f32⟩
  | 3 => ⟨S8x1024, .f32⟩
  | 4 => ⟨S8x1x1024, .f32⟩
  | 5 => ⟨S8x1x1024, .f32⟩
  | 6 => ⟨S8x1024, .f32⟩
  | 7 => ⟨S8x1x1024, .f32⟩
  | 8 => ⟨S_, .f32⟩
  | 9 => ⟨S8x1x1024, .f32⟩
  | 10 => ⟨S8x1x1024, .f32⟩
  | 11 => ⟨S8x4096x1024, .f32⟩
  | 12 => ⟨S8x4096x1024, .f32⟩
  | 13 => ⟨S8x4096x1024, .f32⟩
  | 14 => ⟨S8x4096x1024, .f32⟩
  | 15 => ⟨S8x4095x1024, .f32⟩
  | 16 => ⟨S_, .i32⟩
  | 17 => ⟨S_, .f32⟩
  | 18 => ⟨S8x4096x1024, .f32⟩
  | 19 => ⟨S8x4095x1024, .f32⟩
  | 20 => ⟨S_, .i32⟩
  | 21 => ⟨S_, .f32⟩
  | 22 => ⟨S8x4096x1024, .f32⟩
  | 23 => ⟨S8x4096x1024, .f32⟩
  | 24 => ⟨S_, .f32⟩
  | 25 => ⟨S8x4096x1024, .f32⟩
  | 26 => ⟨S8x4096x1024, .f32⟩
  | 27 => ⟨S8x4096x1024, .f32⟩
  | 28 => ⟨S1x1024, .f32⟩
  | 29 => ⟨S1024, .f32⟩
  | 30 => ⟨S1x1x1024, .f32⟩
  | 31 => ⟨S8x4096x1024, .f32⟩
  | 32 => ⟨S8x4096x1024, .f32⟩
  | 33 => ⟨S8x4096x1024, .f32⟩
  | 34 => ⟨S1x1024, .f32⟩
  | 35 => ⟨S1024, .f32⟩
  | 36 => ⟨S1x1x1024, .f32⟩
  | 37 => ⟨S8x4096x1024, .f32⟩
  | 38 => ⟨S8x4096x1024, .f32⟩
  | 39 => ⟨S8x4096x1024, .f32⟩
  | 40 => ⟨S1x1024, .f32⟩
  | 41 => ⟨S1024, .f32⟩
  | 42 => ⟨S1x1x1024, .f32⟩
  | 43 => ⟨S8x4096x1024, .f32⟩
  | 44 => ⟨S8x4096x1024, .f32⟩
  | 45 => ⟨S8x4096x1024, .f32⟩
  | 46 => ⟨S1x1024, .f32⟩
  | 47 => ⟨S1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1024, .f32⟩
  | 53 => ⟨S1024, .f32⟩
  | 54 => ⟨S1x1x1024, .f32⟩
  | 55 => ⟨S8x4096x1024, .f32⟩
  | 56 => ⟨S8x4096x1024, .f32⟩
  | 57 => ⟨S8x4096x1024, .f32⟩
  | 58 => ⟨S1x1024, .f32⟩
  | 59 => ⟨S1024, .f32⟩
  | 60 => ⟨S1x1x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S8x4096x1024, .f32⟩
  | 66 => ⟨S8x4096x128, .f32⟩
  | 67 => ⟨S8x4096x128, .f32⟩
  | 68 => ⟨S8x4096x128, .f32⟩
  | 69 => ⟨S_, .f32⟩
  | 70 => ⟨S8x4096x128, .f32⟩
  | 71 => ⟨S8x4096x128, .f32⟩
  | 72 => ⟨S_, .f32⟩
  | 73 => ⟨S8x4096x128, .f32⟩
  | 74 => ⟨S8x4096x128, .f32⟩
  | 75 => ⟨S8x4096x1024, .f32⟩
  | 76 => ⟨S8x4352x1024, .f32⟩
  | 77 => ⟨S8x4352x1024, .f32⟩
  | 78 => ⟨S8x4352x1024, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_v5 : Ref sig .tc := ⟨.hbm, 24, rfl⟩
abbrev main_cst_0 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c : Ref sig .tc := ⟨.hbm, 51, rfl⟩
abbrev main_call0_v0 : Ref sig .tc := ⟨.hbm, 52, rfl⟩
abbrev main_v29 : Ref sig .tc := ⟨.hbm, 53, rfl⟩
abbrev main_v30 : Ref sig .tc := ⟨.hbm, 54, rfl⟩
abbrev main_c_3 : Ref sig .tc := ⟨.hbm, 55, rfl⟩
abbrev main_call1_v0 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_5 : Ref sig .tc := ⟨.hbm, 104, rfl⟩
abbrev main_v77 : Ref sig .tc := ⟨.hbm, 105, rfl⟩
abbrev main_v78 : Ref sig .tc := ⟨.hbm, 106, rfl⟩
abbrev main_cst_6 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_7 : Ref sig .tc := ⟨.hbm, 115, rfl⟩
abbrev main_v86 : Ref sig .tc := ⟨.hbm, 116, rfl⟩
abbrev main_v87 : Ref sig .tc := ⟨.hbm, 117, rfl⟩
abbrev main_cst_8 : Ref sig .tc := ⟨.hbm, 118, rfl⟩
abbrev main_v88 : Ref sig .tc := ⟨.hbm, 119, rfl⟩
abbrev main_v89 : Ref sig .tc := ⟨.hbm, 120, rfl⟩
abbrev main_cst_9 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_10 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_c_11 : Ref sig .tc := ⟨.hbm, 144, rfl⟩
abbrev main_call2_v0 : Ref sig .tc := ⟨.hbm, 145, rfl⟩
abbrev main_v111 : Ref sig .tc := ⟨.hbm, 146, rfl⟩
abbrev main_v112 : Ref sig .tc := ⟨.hbm, 147, rfl⟩
abbrev main_c_12 : Ref sig .tc := ⟨.hbm, 148, rfl⟩
abbrev main_call3_v0 : Ref sig .tc := ⟨.hbm, 149, rfl⟩
abbrev main_v113 : Ref sig .tc := ⟨.hbm, 150, rfl⟩
abbrev main_v114 : Ref sig .tc := ⟨.hbm, 151, rfl⟩
abbrev main_cst_13 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_cst_14 : Ref sig .tc := ⟨.hbm, 197, rfl⟩
abbrev main_v159 : Ref sig .tc := ⟨.hbm, 198, rfl⟩
abbrev main_v160 : Ref sig .tc := ⟨.hbm, 199, rfl⟩
abbrev main_cst_15 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩

abbrev nD : Nat := 1
abbrev τ : Topo := Topo.v7x

variable {F : FTy → Type} [FloatOps F]
-- ==== Proof.Softmax.lean ====
/- One row of softmax attention over the extended reals. The kernel multiplies the queries by
   1 / (√d · log 2), subtracts the row's maximum, takes powers of two and divides once, after the sum with the
   values. The reference multiplies the scores by 1 / √d, subtracts the maximum, takes `exp` and divides every
   weight. With real scores the two rows are equal, whatever the values are. -/
module

public import Idealize.ShloMosaic.PureOps.Ideal.Laws

@[expose] public section

noncomputable section

namespace Cert.Softmax

open Idealize.ShloMosaic

variable {ι : Type} [Fintype ι]

/-- The kernel's row: powers of two of the scores `s` under their maximum, summed with the values `v`, times the
    reciprocal of the powers' sum. -/
def kernelRow (s v : ι → EReal) : EReal :=
  (∑ j, Ideal.exp2 (s j - (Finset.univ : Finset ι).fold max ⊥ s) * v j)
    * Ideal.div 1 (∑ j, Ideal.exp2 (s j - (Finset.univ : Finset ι).fold max ⊥ s))

/-- The reference's row: each exponential of a score under the maximum divided by the exponentials' sum, the weights
    summed with the values. -/
def referenceRow (s v : ι → EReal) : EReal :=
  ∑ j, v j * Ideal.div (Ideal.exp (s j - max ⊥ ((Finset.univ : Finset ι).fold max ⊥ s)))
    (0 + ∑ j, Ideal.exp (s j - max ⊥ ((Finset.univ : Finset ι).fold max ⊥ s)))

/-- The fold of `max` from −∞ is the value at an index no other exceeds. -/
theorem fold_max_eq (f : ι → EReal) (j₀ : ι) (h : ∀ j, f j ≤ f j₀) :
    (Finset.univ : Finset ι).fold max ⊥ f = f j₀ :=
  le_antisymm ((Finset.fold_max_le (f j₀)).2 ⟨bot_le, fun j _ => h j⟩)
    ((Finset.le_fold_max (f j₀)).2 (.inr ⟨j₀, Finset.mem_univ _, le_refl _⟩))

/-- A sum of reals, read as extended reals, is the extended sum. -/
theorem coe_sum {κ : Type} (t : Finset κ) (f : κ → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- A nonnegative real factor goes into a sum of extended reals. -/
theorem sum_mul_coe {κ : Type} (t : Finset κ) (f : κ → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha, ← ih]
    exact EReal.right_distrib_of_nonneg_of_ne_top (EReal.coe_nonneg.2 hc) (EReal.coe_ne_top c) _ _

/-- A power of two of a number over `log 2` is the exponential. -/
theorem rpow_two_div_log (x : ℝ) : Real.rpow 2 (x / Real.log 2) = Real.exp x := by
  have h2 : Real.log 2 ≠ 0 := (Real.log_pos one_lt_two).ne'
  show (2 : ℝ) ^ (x / Real.log 2) = Real.exp x
  rw [Real.rpow_def_of_pos two_pos, mul_div_cancel₀ _ h2]

/-- With real scores `r` (the kernel's divided by `log 2`) the kernel's row is the reference's. -/
theorem kernelRow_eq_referenceRow [Nonempty ι] (r : ι → ℝ) (v : ι → EReal) :
    kernelRow (fun j => ((r j / Real.log 2 : ℝ) : EReal)) v = referenceRow (fun j => (r j : EReal)) v := by
  obtain ⟨j₀, hj₀⟩ := Finite.exists_max r
  have hlog : 0 < Real.log 2 := Real.log_pos one_lt_two
  have hk : (Finset.univ : Finset ι).fold max ⊥ (fun j => ((r j / Real.log 2 : ℝ) : EReal))
      = ((r j₀ / Real.log 2 : ℝ) : EReal) :=
    fold_max_eq (fun j => ((r j / Real.log 2 : ℝ) : EReal)) j₀ fun j => EReal.coe_le_coe_iff.2 (div_le_div_of_nonneg_right (hj₀ j) hlog.le)
  have hr : (Finset.univ : Finset ι).fold max ⊥ (fun j => (r j : EReal)) = (r j₀ : EReal) :=
    fold_max_eq (fun j => (r j : EReal)) j₀ fun j => EReal.coe_le_coe_iff.2 (hj₀ j)
  have pk : ∀ j, Ideal.exp2 (((r j / Real.log 2 : ℝ) : EReal) - ((r j₀ / Real.log 2 : ℝ) : EReal))
      = ((Real.exp (r j - r j₀) : ℝ) : EReal) := fun j => by
    rw [← EReal.coe_sub, ← sub_div, Ideal.exp2_coe, rpow_two_div_log]
  have pr : ∀ j, Ideal.exp ((r j : EReal) - (r j₀ : EReal)) = ((Real.exp (r j - r j₀) : ℝ) : EReal) := fun j => by
    rw [← EReal.coe_sub, Ideal.exp_coe]
  have hpos : 0 < ∑ j, Real.exp (r j - r j₀) := Finset.sum_pos (fun j _ => Real.exp_pos _) Finset.univ_nonempty
  unfold kernelRow referenceRow
  rw [hk, hr, max_eq_right bot_le]
  simp only [pk, pr]
  rw [zero_add, ← coe_sum, Ideal.div_coe hpos.ne', one_mul, sum_mul_coe _ _ _ (one_div_nonneg.2 hpos.le)]
  refine Finset.sum_congr rfl fun j _ => ?_
  rw [Ideal.div_coe hpos.ne', mul_comm _ (v j), mul_assoc]

/-- A product of a real factor over both extended reals known to be reals: the sum of products of reals is a real. -/
theorem sum_mul_real {κ : Type} [Fintype κ] (q k : κ → ℝ) :
    (∑ d, (q d : EReal) * (k d : EReal)) = ((∑ d, q d * k d : ℝ) : EReal) := by
  rw [coe_sum]
  exact Finset.sum_congr rfl fun d _ => (EReal.coe_mul _ _).symm

/-- An extended real that is neither infinity is a real. -/
theorem exists_real {x : EReal} (h : max x (-x) < ⊤) : ∃ r : ℝ, x = (r : EReal) := by
  induction x with
  | bot => exact absurd h (by simp)
  | top => exact absurd h (by simp)
  | coe r => exact ⟨r, rfl⟩

/-- The whole equation at one row: the queries `q` and keys `k` real, the kernel's scores the products of the scaled
    queries with the keys, the reference's the products of the keys with the queries, scaled afterwards. -/
theorem attention_row [Nonempty ι] {κ : Type} [Fintype κ] (q : κ → EReal) (k : ι → κ → EReal) (v : ι → EReal)
    (hq : ∀ d, ∃ r : ℝ, q d = (r : EReal)) (hk : ∀ j d, ∃ r : ℝ, k j d = (r : EReal)) (w : ℝ) :
    kernelRow (fun j => ∑ d, q d * (((w / Real.log 2 : ℝ)) : EReal) * k j d) v
      = referenceRow (fun j => (∑ d, k j d * q d) * (w : EReal)) v := by
  choose q' hq' using hq
  choose k' hk' using hk
  have e1 : (fun j => ∑ d, q d * (((w / Real.log 2 : ℝ)) : EReal) * k j d)
      = fun j => (((∑ d, k' j d * q' d) * w / Real.log 2 : ℝ) : EReal) := funext fun j => by
    simp only [hq', hk', ← EReal.coe_mul]
    rw [← coe_sum]
    congr 1
    rw [Finset.sum_mul, Finset.sum_div]
    exact Finset.sum_congr rfl fun d _ => by ring
  have e2 : (fun j => (∑ d, k j d * q d) * (w : EReal)) = fun j => (((∑ d, k' j d * q' d) * w : ℝ) : EReal) :=
    funext fun j => by simp only [hq', hk']; rw [sum_mul_real, EReal.coe_mul]
  rw [e1, e2]
  exact kernelRow_eq_referenceRow _ v

/-- The number the host multiplies the queries by: `1 / (√n · log 2)`. -/
theorem scale_kernel (n : ℝ) (hn : 0 < n) :
    Ideal.div ((1 : ℝ) : EReal) (Ideal.sqrt (n : EReal) * Ideal.log ((2 : ℝ) : EReal))
      = (((1 / Real.sqrt n) / Real.log 2 : ℝ) : EReal) := by
  have hs : 0 < Real.sqrt n := Real.sqrt_pos.2 hn
  have hl : 0 < Real.log 2 := Real.log_pos one_lt_two
  rw [Ideal.sqrt_coe, if_neg (not_lt.2 hn.le), Ideal.log_coe, if_neg (not_le.2 two_pos), ← EReal.coe_mul,
    Ideal.div_coe (mul_pos hs hl).ne', ← EReal.coe_mul, one_mul, div_div]

/-- The number the reference multiplies the scores by: `1 / √n`. -/
theorem scale_reference (n : ℝ) (hn : 0 < n) :
    Ideal.div ((1 : ℝ) : EReal) (Ideal.sqrt (n : EReal)) = ((1 / Real.sqrt n : ℝ) : EReal) := by
  have hs : 0 < Real.sqrt n := Real.sqrt_pos.2 hn
  rw [Ideal.sqrt_coe, if_neg (not_lt.2 hn.le), Ideal.div_coe hs.ne', ← EReal.coe_mul, one_mul]

/-- Zeros appended to a contraction change nothing: the terms off the image of an injection are zero. -/
theorem sum_of_lanes {κ κ' : Type} [Fintype κ] [Fintype κ'] (σ : κ → κ') (hσ : Function.Injective σ) (f : κ' → EReal)
    (h0 : ∀ d, d ∉ Set.range σ → f d = 0) : (∑ d, f d) = ∑ d, f (σ d) :=
  (Fintype.sum_of_injective σ hσ (fun d => f (σ d)) f h0 fun _ => rfl).symm

end Cert.Softmax
-- ==== Proof.Tile.lean ====
/- The attention kernel's tile over the ideal values: 256 queries of `D` lanes against `n` keys and values of 128
   lanes, read at an entry. One definition for both programs and both numbers of keys. -/
module

public import Idealize.ShloMosaic.Lib.MatmulPlain
public import Idealize.ShloMosaic.Lib.ValueIdx
public import Idealize.ShloMosaic.Lib.Pipeline.Value
public import proofs.«01_k».proof.Proof.Softmax

@[expose] public section

set_option maxRecDepth 16384

noncomputable section

namespace Cert.Tile

open Idealize.ShloMosaic Idealize.ShloMosaic.ValueIdx
open Cert.Softmax

variable {n D : Nat}

/-- The maximum's starting value is −∞. -/
theorem ofBits_neg_infinity : Ideal.ofBits .f32 0xFF800000#32 = ⊥ := by
  simp [Ideal.ofBits, Ideal.ieee, -EReal.coe_mul]

/-- The `f32` word `3F800000` is one. -/
theorem ofBits_one : Ideal.ofBits .f32 0x3F800000#32 = ((1 : ℝ) : EReal) := by
  simp [Ideal.ofBits, Ideal.ieee, -EReal.coe_mul]; norm_num

/-- The `f32` word `40000000` is two. -/
theorem ofBits_two : Ideal.ofBits .f32 0x40000000#32 = ((2 : ℝ) : EReal) := by
  simp [Ideal.ofBits, Ideal.ieee, -EReal.coe_mul]; norm_num

/-- The `f32` word `43000000` is 128. -/
theorem ofBits_128 : Ideal.ofBits .f32 0x43000000#32 = ((128 : ℝ) : EReal) := by
  simp [Ideal.ofBits, Ideal.ieee, -EReal.coe_mul]; norm_num

/-- The `f32` word `43400000` is 192. -/
theorem ofBits_192 : Ideal.ofBits .f32 0x43400000#32 = ((192 : ℝ) : EReal) := by
  simp [Ideal.ofBits, Ideal.ieee, -EReal.coe_mul]; norm_num

/-- The scores of a tile: queries times transposed keys. -/
def scores (q : FVec Ideal ⟨2, ![256, D]⟩ .bf16) (k : FVec Ideal ⟨2, ![n, D]⟩ .bf16) : FVec Ideal ⟨2, ![256, n]⟩ .f32 :=
  matmul (DotDims.transposedRhs 256 D n) none q k (constant ⟨2, ![256, n]⟩ .f32 0x00000000#32)

/-- The powers of two of the scores under each row's maximum. -/
def powers (hm : (⟨2, ![256, n]⟩ : Shape).Reduces [1] ⟨1, ![256]⟩) (hc : (⟨1, ![256]⟩ : Shape).ShapeCasts ⟨2, ![256, 1]⟩)
    (hb : (⟨2, ![256, 1]⟩ : Shape).Broadcasts ⟨2, ![256, n]⟩) (s : FVec Ideal ⟨2, ![256, n]⟩ .f32) : FVec Ideal ⟨2, ![256, n]⟩ .f32 :=
  exp2 (subf s (broadcastTo ⟨2, ![256, n]⟩
    (shapeCast ⟨2, ![256, 1]⟩ (multiReduction .maximumf [1] ⟨1, ![256]⟩ s 0xFF800000#32 hm (.inl rfl) rfl) hc) hb))

/-- The weighted values, times the reciprocal of the powers' sum. -/
def weighted (hm : (⟨2, ![256, n]⟩ : Shape).Reduces [1] ⟨1, ![256]⟩) (hc : (⟨1, ![256]⟩ : Shape).ShapeCasts ⟨2, ![256, 1]⟩)
    (hv : (⟨2, ![256, 1]⟩ : Shape).Broadcasts ⟨2, ![256, 128]⟩) (hbits : FTy.bits .bf16 < FTy.bits .f32)
    (p : FVec Ideal ⟨2, ![256, n]⟩ .f32) (v : FVec Ideal ⟨2, ![n, 128]⟩ .bf16) : FVec Ideal ⟨2, ![256, 128]⟩ .bf16 :=
  truncf .bf16 (mulf (matmul (DotDims.plain 256 n 128) none (truncf .bf16 p hbits) v (constant ⟨2, ![256, 128]⟩ .f32 0x00000000#32))
    (broadcastTo ⟨2, ![256, 128]⟩ (divf (broadcast ⟨2, ![256, 1]⟩ (Scalar.ofBits .f32 0x3F800000#32))
      (shapeCast ⟨2, ![256, 1]⟩ (multiReduction .add [1] ⟨1, ![256]⟩ p 0x00000000#32 hm (.inl rfl) rfl) hc)) hv)) hbits

/-- A column of one entry per row, cast from a vector and read at a row. -/
theorem column_apply (hc : (⟨1, ![256]⟩ : Shape).ShapeCasts ⟨2, ![256, 1]⟩) (x : FVec Ideal ⟨1, ![256]⟩ .f32) (r : Fin 256) :
    shapeCast ⟨2, ![256, 1]⟩ x hc (ix2 r 0) = x (ix1 r) :=
  shapeCast_apply x hc (ix2 r 0) (ix1 r) (by
    rw [Shape.rowMajor_val_one, Shape.rowMajor_val_two]; show r.val = r.val * 1 + 0; omega)

/-- A column repeated along a row's entries. -/
theorem repeat_apply {N : Nat} (hN : N ≠ 1) (hb : (⟨2, ![256, 1]⟩ : Shape).Broadcasts ⟨2, ![256, N]⟩) (x : FVec Ideal ⟨2, ![256, 1]⟩ .f32)
    (r : Fin 256) (j : Fin N) : broadcastTo ⟨2, ![256, N]⟩ x hb (ix2 r j) = x (ix2 r 0) :=
  broadcastTo_apply x hb (ix2 r j) (ix2 r 0) (fun a => match a with
    | ⟨0, _⟩ => by show r.val = if (256 : Nat) = 1 then 0 else r.val; rw [if_neg (by decide)]
    | ⟨1, _⟩ => by show 0 = if (1 : Nat) = 1 then 0 else j.val; rw [if_pos rfl])

/-- A score is the sum of products over the lanes. -/
theorem scores_apply (q : FVec Ideal ⟨2, ![256, D]⟩ .bf16) (k : FVec Ideal ⟨2, ![n, D]⟩ .bf16) (r : Fin 256) (j : Fin n) :
    scores q k (ix2 r j) = ∑ d : Fin D, q (ix2 r d) * k (ix2 j d) := by
  unfold scores
  refine (Ideal.matmul_transposedRhs_apply none q k _ r j).trans ?_
  show Ideal.ofBits .f32 0x00000000#32 + _ = _
  rw [Ideal.ofBits_zero_f32, zero_add]

/-- A power of two of a score under its row's maximum. -/
theorem powers_apply (hn : n ≠ 1) (hm : (⟨2, ![256, n]⟩ : Shape).Reduces [1] ⟨1, ![256]⟩) (hc : (⟨1, ![256]⟩ : Shape).ShapeCasts ⟨2, ![256, 1]⟩)
    (hb : (⟨2, ![256, 1]⟩ : Shape).Broadcasts ⟨2, ![256, n]⟩) (s : FVec Ideal ⟨2, ![256, n]⟩ .f32) (r : Fin 256) (j : Fin n) :
    powers hm hc hb s (ix2 r j)
      = Ideal.exp2 (s (ix2 r j) - (Finset.univ : Finset (Fin n)).fold max ⊥ (fun i => s (ix2 r i))) := by
  have e : broadcastTo ⟨2, ![256, n]⟩
      (shapeCast ⟨2, ![256, 1]⟩ (multiReduction .maximumf [1] ⟨1, ![256]⟩ s 0xFF800000#32 hm (.inl rfl) rfl) hc) hb (ix2 r j)
      = (Finset.univ : Finset (Fin n)).fold max ⊥ (fun i => s (ix2 r i)) := by
    rw [repeat_apply hn, column_apply]
    refine (Ideal.multiReduction_maximumf_single s 0xFF800000#32 hm (.inl rfl) rfl (ix1 r)).trans ?_
    show (Finset.univ : Finset (Fin n)).fold max (Ideal.ofBits .f32 0xFF800000#32) _ = _
    rw [ofBits_neg_infinity]
    refine congrArg (fun f => (Finset.univ : Finset (Fin n)).fold max ⊥ f) (funext fun i => congrArg s (funext fun a => Fin.ext ?_))
    match a with
    | ⟨0, _⟩ => rfl
    | ⟨1, _⟩ => rfl
  exact congrArg (fun x => Ideal.exp2 (s (ix2 r j) - x)) e

/-- An entry of the weighted values. -/
theorem weighted_apply (hm : (⟨2, ![256, n]⟩ : Shape).Reduces [1] ⟨1, ![256]⟩) (hc : (⟨1, ![256]⟩ : Shape).ShapeCasts ⟨2, ![256, 1]⟩)
    (hv : (⟨2, ![256, 1]⟩ : Shape).Broadcasts ⟨2, ![256, 128]⟩) (hbits : FTy.bits .bf16 < FTy.bits .f32)
    (p : FVec Ideal ⟨2, ![256, n]⟩ .f32) (v : FVec Ideal ⟨2, ![n, 128]⟩ .bf16) (r : Fin 256) (l : Fin 128) :
    weighted hm hc hv hbits p v (ix2 r l)
      = (∑ j : Fin n, p (ix2 r j) * v (ix2 j l)) * Ideal.div 1 (∑ j : Fin n, p (ix2 r j)) := by
  have e1 : matmul (DotDims.plain 256 n 128) none (truncf .bf16 p hbits) v (constant ⟨2, ![256, 128]⟩ .f32 0x00000000#32) (ix2 r l)
      = ∑ j : Fin n, p (ix2 r j) * v (ix2 j l) := by
    refine (Ideal.matmul_plain_apply none (truncf .bf16 p hbits) v _ r l).trans ?_
    show Ideal.ofBits .f32 0x00000000#32 + _ = _
    rw [Ideal.ofBits_zero_f32, zero_add]
    rfl
  have e2 : shapeCast ⟨2, ![256, 1]⟩ (multiReduction .add [1] ⟨1, ![256]⟩ p 0x00000000#32 hm (.inl rfl) rfl) hc (ix2 r 0)
      = ∑ j : Fin n, p (ix2 r j) := by
    rw [column_apply]
    refine (Ideal.multiReduction_add_single p 0x00000000#32 hm (.inl rfl) rfl (ix1 r)).trans ?_
    refine Finset.sum_congr rfl fun i _ => congrArg p (funext fun a => Fin.ext ?_)
    match a with
    | ⟨0, _⟩ => rfl
    | ⟨1, _⟩ => rfl
  have e3 : broadcastTo ⟨2, ![256, 128]⟩ (divf (broadcast ⟨2, ![256, 1]⟩ (Scalar.ofBits .f32 0x3F800000#32))
      (shapeCast ⟨2, ![256, 1]⟩ (multiReduction .add [1] ⟨1, ![256]⟩ p 0x00000000#32 hm (.inl rfl) rfl) hc)) hv (ix2 r l)
      = Ideal.div 1 (∑ j : Fin n, p (ix2 r j)) := by
    rw [repeat_apply (by decide)]
    show Ideal.div (Ideal.ofBits .f32 0x3F800000#32) _ = _
    rw [e2, ofBits_one]; rfl
  exact congrArg₂ (fun a b : EReal => a * b) e1 e3

/-- The tile at a row and a value lane is the kernel's softmax row of the scores. -/
theorem tile_apply (hn : n ≠ 1) (hm : (⟨2, ![256, n]⟩ : Shape).Reduces [1] ⟨1, ![256]⟩) (hc : (⟨1, ![256]⟩ : Shape).ShapeCasts ⟨2, ![256, 1]⟩)
    (hb : (⟨2, ![256, 1]⟩ : Shape).Broadcasts ⟨2, ![256, n]⟩) (hv : (⟨2, ![256, 1]⟩ : Shape).Broadcasts ⟨2, ![256, 128]⟩)
    (hbits : FTy.bits .bf16 < FTy.bits .f32) (q : FVec Ideal ⟨2, ![256, D]⟩ .bf16) (k : FVec Ideal ⟨2, ![n, D]⟩ .bf16)
    (v : FVec Ideal ⟨2, ![n, 128]⟩ .bf16) (r : Fin 256) (l : Fin 128) :
    weighted hm hc hv hbits (powers hm hc hb (scores q k)) v (ix2 r l)
      = kernelRow (fun j : Fin n => ∑ d : Fin D, q (ix2 r d) * k (ix2 j d)) (fun j => v (ix2 j l)) := by
  rw [weighted_apply]
  simp only [powers_apply hn, scores_apply]
  rfl

/-- Dropping two leading unit axes keeps the last two coordinates. -/
theorem drop2_apply {a b : Nat} {φ : FTy} (x : FVec Ideal ⟨4, ![1, 1, a, b]⟩ φ) (h : (⟨4, ![1, 1, a, b]⟩ : Shape).ShapeCasts ⟨2, ![a, b]⟩)
    (i : Fin a) (j : Fin b) : shapeCast ⟨2, ![a, b]⟩ x h (ix2 i j) = x (ix4 0 0 i j) :=
  shapeCast_apply x h (ix2 i j) (ix4 0 0 i j) (by rw [Shape.rowMajor_val_two, Shape.rowMajor_val_four]; show ((0 * 1 + 0) * a + i.val) * b + j.val = i.val * b + j.val; simp)

/-- Adding a leading unit axis keeps the coordinates. -/
theorem add1_apply {a b : Nat} {φ : FTy} (x : FVec Ideal ⟨2, ![a, b]⟩ φ) (h : (⟨2, ![a, b]⟩ : Shape).ShapeCasts ⟨3, ![1, a, b]⟩)
    (i : Fin a) (j : Fin b) : shapeCast ⟨3, ![1, a, b]⟩ x h (ix3 0 i j) = x (ix2 i j) :=
  shapeCast_apply x h (ix3 0 i j) (ix2 i j) (by rw [Shape.rowMajor_val_two, Shape.rowMajor_val_three]; show i.val * b + j.val = (0 * a + i.val) * b + j.val; simp)

end Cert.Tile
-- ==== Proof.Attend.lean ====
/- What the attention call computes of its three arrays, head-major: the queries of the first 256 tokens against the
   first 256 keys, every other query against all 4352. -/
module

public import proofs.«01_k».proof.Proof.Tile

@[expose] public section

noncomputable section

namespace Cert.Attend

open Idealize.ShloMosaic Idealize.ShloMosaic.ValueIdx
open Cert.Softmax

/-- A context token among all tokens. -/
abbrev ctx (j : Fin 256) : Fin 4352 := ⟨j.val, by have := j.isLt; omega⟩

/-- The attention output at a sequence, a head, a token and a value lane; `g` is the head's key-value head. -/
def attend {D H : Nat} (g : Fin 4 → Fin H) (Q : FVec Ideal ⟨4, ![8, 4, 4352, D]⟩ .bf16) (K : FVec Ideal ⟨4, ![8, H, 4352, D]⟩ .bf16)
    (V : FVec Ideal ⟨4, ![8, H, 4352, 128]⟩ .bf16) (b : Fin 8) (h : Fin 4) (n : Fin 4352) (l : Fin 128) : EReal :=
  if n.val < 256 then
    kernelRow (fun j : Fin 256 => ∑ d : Fin D, Q (ix4 b h n d) * K (ix4 b (g h) (ctx j) d)) (fun j => V (ix4 b (g h) (ctx j) l))
  else
    kernelRow (fun j : Fin 4352 => ∑ d : Fin D, Q (ix4 b h n d) * K (ix4 b (g h) j d)) (fun j => V (ix4 b (g h) j l))

/-- The head of a column of the result. -/
abbrev head (e : Fin 512) : Fin 4 := ⟨e.val / 128, by have := e.isLt; omega⟩
/-- The value lane of a column of the result. -/
abbrev lane (e : Fin 512) : Fin 128 := ⟨e.val % 128, Nat.mod_lt _ (by decide)⟩

/-- The result array: token-major, the heads side by side. -/
def attended {D H : Nat} (g : Fin 4 → Fin H) (Q : FVec Ideal ⟨4, ![8, 4, 4352, D]⟩ .bf16) (K : FVec Ideal ⟨4, ![8, H, 4352, D]⟩ .bf16)
    (V : FVec Ideal ⟨4, ![8, H, 4352, 128]⟩ .bf16) : FVec Ideal ⟨3, ![8, 4352, 512]⟩ .bf16 :=
  fun i => attend g Q K V (i 0) (head (i 2)) (i 1) (lane (i 2))

end Cert.Attend
-- ==== Proof.MlaKernel.lean ====
/- The latent attention kernel read as arrays: what a grid point leaves in its staging buffer, and so what the
   result array ends holding, in terms of the three arrays the host's operations hand the call. -/
module

public import proofs.«01_k».proof.Proof.Gen.MlaIdeal.Value
public import proofs.«01_k».proof.Proof.Attend

@[expose] public section

set_option maxRecDepth 16384

noncomputable section

namespace Cert.Proof.MlaKernel

open Cert.MlaIdeal Cert.MlaIdeal.Gen Cert.MlaIdeal.Value
open Idealize.ShloMosaic Idealize.ShloMosaic.TcCoe Idealize.ShloMosaic.ValueIdx Idealize.SL.Sem
open Idealize.ShloMosaic.Pipeline (Dat)
open Cert.Softmax Cert.Attend Cert.Tile

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point of a context tile stores the tile's payload over the block's queries and the first 256 keys and values. -/
theorem outA_eq (c : Dev nD) (i : grid0.Coords) (arg3 : Memref sig .tc .vmem S1x1x256x256 .bf16) (harg3 : arg3.IsWhole)
    (arg4 : Memref sig .tc .vmem S1x1x4352x256 .bf16) (harg4 : arg4.IsWhole) (arg5 : Memref sig .tc .vmem S1x1x4352x128 .bf16)
    (harg5 : arg5.IsWhole) (arg6 : Memref sig .tc .vmem S1x256x128 .bf16) (harg6 : arg6.IsWhole) (hc0 : cond0_0 i) (hc1 : ¬cond0_1 i)
    (x0 : Vec Ideal S1x1x256x256 .bf16) (x1 : Vec Ideal S1x1x4352x256 .bf16) (x2 : Vec Ideal S1x1x4352x128 .bf16) :
    out0_A_3 (F := Ideal) c i arg3 harg3 arg4 harg4 arg5 harg5 arg6 harg6 hc0 hc1 x0 x1 x2
      = k0_pay2 x0
          (View.ld x1 (Rect.unit (s := S1x1x4352x256) ![0, 0, 0, 0] S1x1x256x256.size inb_S1x1x4352x256_S1x1x256x256_0_0_0_0))
          (View.ld x2 (Rect.unit (s := S1x1x4352x128) ![0, 0, 0, 0] S1x1x256x128.size inb_S1x1x4352x128_S1x1x256x128_0_0_0_0)) := by
  unfold out0_A_3
  rw [View.read_writes_junk_eq_canon]
  show View.canon ([⟨Rect.unit (s := S1x256x128) ![0, 0, 0] S1x256x128.size inb_S1x256x128_S1x256x128_0_0_0,
      k0_pay2
        (View.readAt (Elt Ideal) arg3.view (Rect.unit (s := S1x1x256x256) ![0, 0, 0, 0] S1x1x256x256.size inb_S1x1x256x256_S1x1x256x256_0_0_0_0).toLoadRect (harg3.unread x0))
        (View.readAt (Elt Ideal) arg4.view (Rect.unit (s := S1x1x4352x256) ![0, 0, 0, 0] S1x1x256x256.size inb_S1x1x4352x256_S1x1x256x256_0_0_0_0).toLoadRect (harg4.unread x1))
        (View.readAt (Elt Ideal) arg5.view (Rect.unit (s := S1x1x4352x128) ![0, 0, 0, 0] S1x1x256x128.size inb_S1x1x4352x128_S1x1x256x128_0_0_0_0).toLoadRect (harg5.unread x2))⟩] :
      List (View.Piece (Elt Ideal) S1x256x128 .bf16)) = _
  rw [View.canon_unit_zero hz3, View.readAt_eq_ld, View.readAt_eq_ld, View.readAt_eq_ld, harg3.read_unread, harg4.read_unread,
    harg5.read_unread, View.ld_unit_zero hz4]

/-- A point of any other tile stores the tile's payload over the block's queries and all keys and values. -/
theorem outB_eq (c : Dev nD) (i : grid0.Coords) (arg3 : Memref sig .tc .vmem S1x1x256x256 .bf16) (harg3 : arg3.IsWhole)
    (arg4 : Memref sig .tc .vmem S1x1x4352x256 .bf16) (harg4 : arg4.IsWhole) (arg5 : Memref sig .tc .vmem S1x1x4352x128 .bf16)
    (harg5 : arg5.IsWhole) (arg6 : Memref sig .tc .vmem S1x256x128 .bf16) (harg6 : arg6.IsWhole) (hc0 : ¬cond0_0 i) (hc1 : cond0_1 i)
    (x0 : Vec Ideal S1x1x256x256 .bf16) (x1 : Vec Ideal S1x1x4352x256 .bf16) (x2 : Vec Ideal S1x1x4352x128 .bf16) :
    out0_B_3 (F := Ideal) c i arg3 harg3 arg4 harg4 arg5 harg5 arg6 harg6 hc0 hc1 x0 x1 x2 = k0_pay3 x0 x1 x2 := by
  unfold out0_B_3
  rw [View.read_writes_junk_eq_canon]
  show View.canon ([⟨Rect.unit (s := S1x256x128) ![0, 0, 0] S1x256x128.size inb_S1x256x128_S1x256x128_0_0_0,
      k0_pay3
        (View.readAt (Elt Ideal) arg3.view (Rect.unit (s := S1x1x256x256) ![0, 0, 0, 0] S1x1x256x256.size inb_S1x1x256x256_S1x1x256x256_0_0_0_0).toLoadRect (harg3.unread x0))
        (View.readAt (Elt Ideal) arg4.view (Rect.unit (s := S1x1x4352x256) ![0, 0, 0, 0] S1x1x4352x256.size inb_S1x1x4352x256_S1x1x4352x256_0_0_0_0).toLoadRect (harg4.unread x1))
        (View.readAt (Elt Ideal) arg5.view (Rect.unit (s := S1x1x4352x128) ![0, 0, 0, 0] S1x1x4352x128.size inb_S1x1x4352x128_S1x1x4352x128_0_0_0_0).toLoadRect (harg5.unread x2))⟩] :
      List (View.Piece (Elt Ideal) S1x256x128 .bf16)) = _
  rw [View.canon_unit_zero hz3, View.readAt_eq_ld, View.readAt_eq_ld, View.readAt_eq_ld, harg3.read_unread, harg4.read_unread,
    harg5.read_unread, View.ld_unit_zero hz4, View.ld_unit_zero (S := S1x1x4352x256) hz4, View.ld_unit_zero (S := S1x1x4352x128) hz4]

/-- The context payload at a row and a lane. -/
theorem pay2_apply (q : Vec Ideal S1x1x256x256 .bf16) (k : Vec Ideal S1x1x256x256 .bf16) (v : Vec Ideal S1x1x256x128 .bf16)
    (r : Fin 256) (l : Fin 128) :
    k0_pay2 (F := Ideal) q k v (ix3 0 r l)
      = kernelRow (fun j : Fin 256 => ∑ d : Fin 256, q (ix4 0 0 r d) * k (ix4 0 0 j d)) (fun j => v (ix4 0 0 j l)) := by
  have e : k0_pay2 (F := Ideal) q k v = shapeCast S1x256x128
      (weighted reduces_S256x256_S256 shapeCasts_S256_S256x1 broadcasts_S256x1_S256x128 bitsLt_bf16_f32
        (powers reduces_S256x256_S256 shapeCasts_S256_S256x1 broadcasts_S256x1_S256x256
          (scores (shapeCast S256x256 q shapeCasts_S1x1x256x256_S256x256) (shapeCast S256x256 k shapeCasts_S1x1x256x256_S256x256)))
        (shapeCast S256x128 v shapeCasts_S1x1x256x128_S256x128)) shapeCasts_S256x128_S1x256x128 := rfl
  rw [e]
  refine (add1_apply _ _ r l).trans ?_
  rw [tile_apply (by decide)]
  refine congrArg₂ kernelRow (funext fun j => Finset.sum_congr rfl fun d _ => ?_) (funext fun j => drop2_apply _ _ _ _)
  exact congrArg₂ (fun a b : EReal => a * b) (drop2_apply _ _ _ _) (drop2_apply _ _ _ _)

/-- The full payload at a row and a lane. -/
theorem pay3_apply (q : Vec Ideal S1x1x256x256 .bf16) (k : Vec Ideal S1x1x4352x256 .bf16) (v : Vec Ideal S1x1x4352x128 .bf16)
    (r : Fin 256) (l : Fin 128) :
    k0_pay3 (F := Ideal) q k v (ix3 0 r l)
      = kernelRow (fun j : Fin 4352 => ∑ d : Fin 256, q (ix4 0 0 r d) * k (ix4 0 0 j d)) (fun j => v (ix4 0 0 j l)) := by
  have e : k0_pay3 (F := Ideal) q k v = shapeCast S1x256x128
      (weighted reduces_S256x4352_S256 shapeCasts_S256_S256x1 broadcasts_S256x1_S256x128 bitsLt_bf16_f32
        (powers reduces_S256x4352_S256 shapeCasts_S256_S256x1 broadcasts_S256x1_S256x4352
          (scores (shapeCast S256x256 q shapeCasts_S1x1x256x256_S256x256) (shapeCast S4352x256 k shapeCasts_S1x1x4352x256_S4352x256)))
        (shapeCast S4352x128 v shapeCasts_S1x1x4352x128_S4352x128)) shapeCasts_S256x128_S1x256x128 := rfl
  rw [e]
  refine (add1_apply _ _ r l).trans ?_
  rw [tile_apply (by decide)]
  refine congrArg₂ kernelRow (funext fun j => Finset.sum_congr rfl fun d _ => ?_) (funext fun j => drop2_apply _ _ _ _)
  exact congrArg₂ (fun a b : EReal => a * b) (drop2_apply _ _ _ _) (drop2_apply _ _ _ _)

/-- The key-value head of a head: its own. -/
abbrev kvHead (h : Fin 4) : Fin 4 := h

/-- The block each window stages at a point: sequence, head (or key-value head) and tile of the point's position. -/
theorem index0 : ∀ t : Fin cfg0.N, win0_0.index t (0 : Fin 4) = t.val / 68 ∧ win0_0.index t (1 : Fin 4) = t.val / 17 % 4
    ∧ win0_0.index t (2 : Fin 4) = t.val % 17 ∧ win0_0.index t (3 : Fin 4) = 0 := (by decide +kernel : ∀ t : Fin grid0.N, _)
theorem index1 : ∀ t : Fin cfg0.N, win0_1.index t (0 : Fin 4) = t.val / 68 ∧ win0_1.index t (1 : Fin 4) = t.val / 17 % 4
    ∧ win0_1.index t (2 : Fin 4) = 0 ∧ win0_1.index t (3 : Fin 4) = 0 := (by decide +kernel : ∀ t : Fin grid0.N, _)
theorem index2 : ∀ t : Fin cfg0.N, win0_2.index t (0 : Fin 4) = t.val / 68 ∧ win0_2.index t (1 : Fin 4) = t.val / 17 % 4
    ∧ win0_2.index t (2 : Fin 4) = 0 ∧ win0_2.index t (3 : Fin 4) = 0 := (by decide +kernel : ∀ t : Fin grid0.N, _)
theorem index3 : ∀ t : Fin cfg0.N, win0_3.index t (0 : Fin 3) = t.val / 68 ∧ win0_3.index t (1 : Fin 3) = t.val % 17
    ∧ win0_3.index t (2 : Fin 3) = t.val / 17 % 4 := (by decide +kernel : ∀ t : Fin grid0.N, _)

/-- A point's sequence, head and tile. -/
abbrev seqOf (t : Fin cfg0.N) : Fin 8 := ⟨t.val / 68, by have := lt_of_lt_of_eq t.isLt (show cfg0.N = 544 from N_0); omega⟩
abbrev headOf (t : Fin cfg0.N) : Fin 4 := ⟨t.val / 17 % 4, Nat.mod_lt _ (by decide)⟩
abbrev tokenOf (t : Fin cfg0.N) (r : Fin 256) : Fin 4352 :=
  ⟨t.val % 17 * 256 + r.val, by have := r.isLt; have := Nat.mod_lt t.val (show 17 > 0 by decide); omega⟩

variable (m : (ℓ : Loc nD τ sig) → Buf (Elt Ideal) ℓ)

/-- The query block at a point. -/
theorem iblk0_apply (c : Dev nD) (t : Fin cfg0.N) (r : Fin 256) (d : Fin 256) :
    (iblk m c 0 t : Vec Ideal S1x1x256x256 .bf16) (ix4 0 0 r d)
      = (V m c main_v18 : Vec Ideal S8x4x4352x256 .bf16) (ix4 (seqOf t) (headOf t) (tokenOf t r) d) := by
  obtain ⟨e0, e1, e2, e3⟩ := index0 t
  show V m c main_v18 (((cfg0.win 0).blk t).view.emb (ix4 0 0 r d)) = _
  refine congrArg (V m c main_v18) (funext fun a => Fin.ext ?_)
  match a with
  | ⟨0, _⟩ => show win0_0.index t (0 : Fin 4) * 1 + 1 * 0 = t.val / 68; omega
  | ⟨1, _⟩ => show win0_0.index t (1 : Fin 4) * 1 + 1 * 0 = t.val / 17 % 4; omega
  | ⟨2, _⟩ => show win0_0.index t (2 : Fin 4) * 256 + 1 * r.val = t.val % 17 * 256 + r.val; omega
  | ⟨3, _⟩ => show win0_0.index t (3 : Fin 4) * 256 + 1 * d.val = d.val; omega

/-- The key block at a point. -/
theorem iblk1_apply (c : Dev nD) (t : Fin cfg0.N) (j : Fin 4352) (d : Fin 256) :
    (iblk m c 1 t : Vec Ideal S1x1x4352x256 .bf16) (ix4 0 0 j d)
      = (V m c main_v29 : Vec Ideal S8x4x4352x256 .bf16) (ix4 (seqOf t) (kvHead (headOf t)) j d) := by
  obtain ⟨e0, e1, e2, e3⟩ := index1 t
  show V m c main_v29 (((cfg0.win 1).blk t).view.emb (ix4 0 0 j d)) = _
  refine congrArg (V m c main_v29) (funext fun a => Fin.ext ?_)
  match a with
  | ⟨0, _⟩ => show win0_1.index t (0 : Fin 4) * 1 + 1 * 0 = t.val / 68; omega
  | ⟨1, _⟩ => show win0_1.index t (1 : Fin 4) * 1 + 1 * 0 = t.val / 17 % 4; omega
  | ⟨2, _⟩ => show win0_1.index t (2 : Fin 4) * 4352 + 1 * j.val = j.val; omega
  | ⟨3, _⟩ => show win0_1.index t (3 : Fin 4) * 256 + 1 * d.val = d.val; omega

/-- The value block at a point. -/
theorem iblk2_apply (c : Dev nD) (t : Fin cfg0.N) (j : Fin 4352) (l : Fin 128) :
    (iblk m c 2 t : Vec Ideal S1x1x4352x128 .bf16) (ix4 0 0 j l)
      = (V m c main_v32 : Vec Ideal S8x4x4352x128 .bf16) (ix4 (seqOf t) (kvHead (headOf t)) j l) := by
  obtain ⟨e0, e1, e2, e3⟩ := index2 t
  show V m c main_v32 (((cfg0.win 2).blk t).view.emb (ix4 0 0 j l)) = _
  refine congrArg (V m c main_v32) (funext fun a => Fin.ext ?_)
  match a with
  | ⟨0, _⟩ => show win0_2.index t (0 : Fin 4) * 1 + 1 * 0 = t.val / 68; omega
  | ⟨1, _⟩ => show win0_2.index t (1 : Fin 4) * 1 + 1 * 0 = t.val / 17 % 4; omega
  | ⟨2, _⟩ => show win0_2.index t (2 : Fin 4) * 4352 + 1 * j.val = j.val; omega
  | ⟨3, _⟩ => show win0_2.index t (3 : Fin 4) * 128 + 1 * l.val = l.val; omega

/-- A key row of the first 256 read through the context rectangle is that row of the block. -/
theorem ctxKeys_apply (x : Vec Ideal S1x1x4352x256 .bf16) (j : Fin 256) (d : Fin 256) :
    View.ld x (Rect.unit (s := S1x1x4352x256) ![0, 0, 0, 0] S1x1x256x256.size inb_S1x1x4352x256_S1x1x256x256_0_0_0_0) (ix4 0 0 j d)
      = x (ix4 0 0 (ctx j) d) := by
  refine congrArg x (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega

/-- A value row of the first 256 read through the context rectangle is that row of the block. -/
theorem ctxValues_apply (x : Vec Ideal S1x1x4352x128 .bf16) (j : Fin 256) (d : Fin 128) :
    View.ld x (Rect.unit (s := S1x1x4352x128) ![0, 0, 0, 0] S1x1x256x128.size inb_S1x1x4352x128_S1x1x256x128_0_0_0_0) (ix4 0 0 j d)
      = x (ix4 0 0 (ctx j) d) := by
  refine congrArg x (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega

/-- The result: the attention of the three arrays as the call finds them. -/
abbrev result (c : Dev nD) : Vec Ideal S8x4352x512 .bf16 :=
  attended (D := 256) kvHead (V m c main_v18) (V m c main_v29) (V m c main_v32)

/-- The result read through a point's block. -/
theorem resultBlock_apply (c : Dev nD) (t : Fin cfg0.N) (r : Fin 256) (l : Fin 128) :
    ((cfg0.win 3).blk t).view.read (Elt Ideal) (result m c) (ix3 0 r l)
      = attend (D := 256) kvHead (V m c main_v18) (V m c main_v29) (V m c main_v32) (seqOf t) (headOf t) (tokenOf t r) l := by
  obtain ⟨e0, e1, e2⟩ := index3 t
  have e : ((cfg0.win 3).blk t).view.emb (ix3 0 r l)
      = (ix3 (seqOf t) (tokenOf t r) ⟨t.val / 17 % 4 * 128 + l.val, by have := l.isLt; have := Nat.mod_lt (t.val / 17) (show 4 > 0 by decide); omega⟩ : S8x4352x512.Idx) := by
    funext a; apply Fin.ext
    match a with
    | ⟨0, _⟩ => show win0_3.index t (0 : Fin 3) * 1 + 1 * 0 = t.val / 68; omega
    | ⟨1, _⟩ => show win0_3.index t (1 : Fin 3) * 256 + 1 * r.val = t.val % 17 * 256 + r.val; omega
    | ⟨2, _⟩ => show win0_3.index t (2 : Fin 3) * 128 + 1 * l.val = t.val / 17 % 4 * 128 + l.val; omega
  show result m c (((cfg0.win 3).blk t).view.emb (ix3 0 r l)) = _
  rw [e]
  have hh : head ⟨t.val / 17 % 4 * 128 + l.val, by have := l.isLt; have := Nat.mod_lt (t.val / 17) (show 4 > 0 by decide); omega⟩ = headOf t :=
    Fin.ext (by have := l.isLt; show (t.val / 17 % 4 * 128 + l.val) / 128 = t.val / 17 % 4; omega)
  have hl : lane ⟨t.val / 17 % 4 * 128 + l.val, by have := l.isLt; have := Nat.mod_lt (t.val / 17) (show 4 > 0 by decide); omega⟩ = l :=
    Fin.ext (by have := l.isLt; show (t.val / 17 % 4 * 128 + l.val) % 128 = l.val; omega)
  show attend (D := 256) kvHead _ _ _ (seqOf t) (head ⟨t.val / 17 % 4 * 128 + l.val, _⟩) (tokenOf t r) (lane ⟨t.val / 17 % 4 * 128 + l.val, _⟩) = _
  rw [hh, hl]

/-- What a point writes back is its block of the result. -/
theorem flushed_eq (c : Dev nD) (t : Fin cfg0.N) :
    (dats m 0 c).flushed 3 t = ((cfg0.win 3).blk t).view.read (Elt Ideal) (result m c) := by
  funext y
  obtain ⟨r, l, rfl⟩ : ∃ (r : Fin 256) (l : Fin 128), y = (ix3 0 r l : S1x256x128.Idx) :=
    ⟨y 1, y 2, funext fun a => match a with
      | ⟨0, _⟩ => Fin.ext (by have := (y 0).isLt; show (y 0).val = 0; exact Nat.lt_one_iff.1 this)
      | ⟨1, _⟩ => rfl
      | ⟨2, _⟩ => rfl⟩
  refine Eq.trans ?_ (resultBlock_apply m c t r l).symm
  by_cases h0 : t.val % 17 = 0
  · rw [flushed3_A m c t h0 (by omega), outA_eq]
    refine (pay2_apply _ _ _ r l).trans ?_
    unfold attend
    rw [if_pos (show (tokenOf t r).val < 256 by have := r.isLt; show t.val % 17 * 256 + r.val < 256; omega)]
    refine congrArg₂ kernelRow (funext fun j => Finset.sum_congr rfl fun d _ => ?_)
      (funext fun j => (ctxValues_apply _ j l).trans (iblk2_apply m c t (ctx j) l))
    exact congrArg₂ (fun a b : EReal => a * b) (iblk0_apply m c t r d) ((ctxKeys_apply _ j d).trans (iblk1_apply m c t (ctx j) d))
  · rw [flushed3_B m c t h0 (by omega), outB_eq]
    refine (pay3_apply _ _ _ r l).trans ?_
    unfold attend
    rw [if_neg (show ¬(tokenOf t r).val < 256 by show ¬(t.val % 17 * 256 + r.val < 256); omega)]
    refine congrArg₂ kernelRow (funext fun j => Finset.sum_congr rfl fun d _ => ?_) (funext fun j => iblk2_apply m c t j l)
    exact congrArg₂ (fun a b : EReal => a * b) (iblk0_apply m c t r d) (iblk1_apply m c t j d)

/-- The point of a sequence, a head and a tile, and its three coordinates back. -/
theorem point_split {b q p : Nat} (hq : q < 4) (hp : p < 17) :
    ((b * 4 + q) * 17 + p) / 68 = b ∧ ((b * 4 + q) * 17 + p) % 17 = p ∧ ((b * 4 + q) * 17 + p) / 17 % 4 = q := by omega

/-- Every index of the result array is in a point's block. -/
theorem covered (i : S8x4352x512.Idx) :
    ∃ t : Fin cfg0.N, (cfg0.win 3).flush t = true ∧ i ∈ ((cfg0.win 3).blk t).view.set := by
  have h0 : (i 0 : Nat) < 8 := (i 0).isLt
  have h1 : (i 1 : Nat) < 4352 := (i 1).isLt
  have h2 : (i 2 : Nat) < 512 := (i 2).isLt
  obtain ⟨T, hT⟩ : ∃ T, T = ((i 0).val * 4 + (i 2).val / 128) * 17 + (i 1).val / 256 := ⟨_, rfl⟩
  obtain ⟨d0, d1, d2⟩ := point_split (b := (i 0).val) (q := (i 2).val / 128) (p := (i 1).val / 256) (by omega) (by omega)
  rw [← hT] at d0 d1 d2
  have hlt : T < cfg0.N := lt_of_lt_of_eq (by omega : T < 544) (show cfg0.N = 544 from N_0).symm
  refine ⟨⟨T, hlt⟩, flush0_3 _, ?_⟩
  obtain ⟨e0, e1, e2⟩ := index3 ⟨T, hlt⟩
  dsimp only at e0 e1 e2
  have hi : ((cfg0.win 3).blk ⟨T, hlt⟩).view.emb
      (ix3 0 ⟨(i 1).val % 256, Nat.mod_lt _ (by decide)⟩ ⟨(i 2).val % 128, Nat.mod_lt _ (by decide)⟩ : S1x256x128.Idx) = i := by
    funext a; apply Fin.ext
    match a with
    | ⟨0, _⟩ => show win0_3.index ⟨T, hlt⟩ (0 : Fin 3) * 1 + 1 * 0 = (i 0).val; rw [e0, d0]; omega
    | ⟨1, _⟩ => show win0_3.index ⟨T, hlt⟩ (1 : Fin 3) * 256 + 1 * ((i 1).val % 256) = (i 1).val; rw [e1, d1]; omega
    | ⟨2, _⟩ => show win0_3.index ⟨T, hlt⟩ (2 : Fin 3) * 128 + 1 * ((i 2).val % 128) = (i 2).val; rw [e2, d2]; omega
  have h := ((cfg0.win 3).blk ⟨T, hlt⟩).view.emb_mem_set
    (ix3 0 ⟨(i 1).val % 256, Nat.mod_lt _ (by decide)⟩ ⟨(i 2).val % 128, Nat.mod_lt _ (by decide)⟩ : S1x256x128.Idx)
  rwa [hi] at h

/-- So the result array ends holding the attention of the three arrays. -/
theorem final (c : Dev nD) : (dats m 0 c).arrAt 3 cfg0.N = result m c :=
  (dats m 0 c).arrAt_eq_of_cover 3 (result m c) (fun t _ => flushed_eq m c t) covered

end Cert.Proof.MlaKernel
-- ==== Proof.Tokens.lean ====
/- The context tokens and the latent tokens side by side: a concatenation along the token axis read at a token. -/
module

public import proofs.«01_k».proof.Proof.Attend

@[expose] public section

noncomputable section

namespace Cert.Tokens

open Idealize.ShloMosaic Idealize.ShloMosaic.ValueIdx

variable {α : Type}

/-- A latent token's number among the latent tokens. -/
abbrev latent (n : Fin 4352) (_h : ¬ n.val < 256) : Fin 4096 := ⟨n.val - 256, by have := n.isLt; omega⟩

/-- The entry at a token: of the 256 context tokens first, then of the 4096 latent ones. -/
def tok (x : Fin 256 → α) (y : Fin 4096 → α) (n : Fin 4352) : α :=
  if h : n.val < 256 then x ⟨n.val, h⟩ else y (latent n h)

theorem tok_of_lt (x : Fin 256 → α) (y : Fin 4096 → α) (n : Fin 4352) (h : n.val < 256) : tok x y n = x ⟨n.val, h⟩ := dif_pos h
theorem tok_of_ge (x : Fin 256 → α) (y : Fin 4096 → α) (n : Fin 4352) (h : ¬ n.val < 256) : tok x y n = y (latent n h) := dif_neg h

/-- What holds of every entry of both parts holds at every token. -/
theorem tok_forall {P : α → Prop} {x : Fin 256 → α} {y : Fin 4096 → α} (hx : ∀ j, P (x j)) (hy : ∀ j, P (y j)) (n : Fin 4352) :
    P (tok x y n) := by
  unfold tok; split
  · exact hx _
  · exact hy _

/-- A rank-four join along the token axis, at an index. -/
theorem join4 {H D : Nat} (x : (⟨4, ![8, 256, H, D]⟩ : Shape).Idx → α) (y : (⟨4, ![8, 4096, H, D]⟩ : Shape).Idx → α)
    (h : Shape.Concatenates [⟨4, ![8, 256, H, D]⟩, ⟨4, ![8, 4096, H, D]⟩] ⟨4, ![8, 4352, H, D]⟩ 1)
    (b : Fin 8) (n : Fin 4352) (g : Fin H) (d : Fin D) :
    concatenate ⟨4, ![8, 4352, H, D]⟩ 1 [⟨⟨4, ![8, 256, H, D]⟩, x⟩, ⟨⟨4, ![8, 4096, H, D]⟩, y⟩] h (ix4 b n g d)
      = tok (fun j => x (ix4 b j g d)) (fun j => y (ix4 b j g d)) n := by
  by_cases hn : n.val < 256
  · rw [tok_of_lt _ _ _ hn]
    exact concatenate_pair_apply_left 1 x y h _ rfl (ix4 b ⟨n.val, hn⟩ g d) (fun a => by fin_cases a <;> rfl)
  · rw [tok_of_ge _ _ _ hn]
    refine concatenate_pair_apply_right 1 x y h _ rfl rfl (ix4 b (latent n hn) g d) (fun a ha => ?_) ?_
    · fin_cases a
      · rfl
      · exact absurd rfl ha
      · rfl
      · rfl
    · show n.val - 256 + 256 = n.val
      omega

/-- A rank-five join along the token axis, at an index. -/
theorem join5 {G R D : Nat} (x : (⟨5, ![8, 256, G, R, D]⟩ : Shape).Idx → α) (y : (⟨5, ![8, 4096, G, R, D]⟩ : Shape).Idx → α)
    (h : Shape.Concatenates [⟨5, ![8, 256, G, R, D]⟩, ⟨5, ![8, 4096, G, R, D]⟩] ⟨5, ![8, 4352, G, R, D]⟩ 1)
    (b : Fin 8) (n : Fin 4352) (g : Fin G) (r : Fin R) (d : Fin D) :
    concatenate ⟨5, ![8, 4352, G, R, D]⟩ 1 [⟨⟨5, ![8, 256, G, R, D]⟩, x⟩, ⟨⟨5, ![8, 4096, G, R, D]⟩, y⟩] h (ix5 b n g r d)
      = tok (fun j => x (ix5 b j g r d)) (fun j => y (ix5 b j g r d)) n := by
  by_cases hn : n.val < 256
  · rw [tok_of_lt _ _ _ hn]
    exact concatenate_pair_apply_left 1 x y h _ rfl (ix5 b ⟨n.val, hn⟩ g r d) (fun a => by fin_cases a <;> rfl)
  · rw [tok_of_ge _ _ _ hn]
    refine concatenate_pair_apply_right 1 x y h _ rfl rfl (ix5 b (latent n hn) g r d) (fun a ha => ?_) ?_
    · fin_cases a
      · rfl
      · exact absurd rfl ha
      · rfl
      · rfl
      · rfl
    · show n.val - 256 + 256 = n.val
      omega

end Cert.Tokens
-- ==== Proof.Lanes.lean ====
/- The lanes of a latent-attention query or key: its 128 lanes without position first, its four quarters of 16 rotated
   lanes set among zeros after them, 256 lanes in all. -/
module

public import proofs.«01_k».proof.Proof.Gen.MlaIdeal
public import proofs.«01_k».proof.Proof.Tokens
public import Idealize.ShloMosaic.Lib.Pointwise.SelectCore

@[expose] public section

set_option maxRecDepth 16384

noncomputable section

namespace Cert.Lanes

open Cert.MlaIdeal Cert.MlaIdeal.Gen
open Idealize.ShloMosaic hiding ix4
open Idealize.ShloMosaic.ValueIdx

/-- The lane among the 256 that holds lane `d` of the 192. -/
def lane (d : Fin 192) : Fin 256 :=
  if d.val < 144 then ⟨d.val, by have := d.isLt; omega⟩
  else if d.val < 160 then ⟨d.val + 48, by have := d.isLt; omega⟩
  else if d.val < 176 then ⟨d.val - 16, by have := d.isLt; omega⟩
  else ⟨d.val + 32, by have := d.isLt; omega⟩

theorem lane_injective : Function.Injective lane := by
  intro a b h
  have h' := congrArg Fin.val h
  unfold lane at h'
  refine Fin.ext ?_
  split at h' <;> split at h' <;> (try split at h') <;> (try split at h') <;> (try split at h') <;> (try split at h') <;> simp at h' <;> omega

/-- The rotated lanes, of a query or key array. -/
def rotated (X : FVec Ideal S8x4x4352x192 .f32) : FVec Ideal S8x4x4352x64 .f32 :=
  extractStridedSlice S8x4x4352x64 ![0, 0, 0, 128] X slices_S8x4x4352x192_S8x4x4352x64_0_0_0_128

/-- A stretch of 32 zero lanes. -/
def pad : FVec Ideal S8x4x4352x32 .f32 := broadcastInDim S8x4x4352x32 ![] bcast_S_S8x4x4352x32 (constant S_ .f32 0x00000000#32)

/-- The array with its lanes set out. -/
def spread (X : FVec Ideal S8x4x4352x192 .f32) : FVec Ideal S8x4x4352x256 .f32 :=
  concatenate S8x4x4352x256 3
    [⟨S8x4x4352x128, extractStridedSlice S8x4x4352x128 ![0, 0, 0, 0] X slices_S8x4x4352x192_S8x4x4352x128_0_0_0_0⟩,
      ⟨S8x4x4352x16, extractStridedSlice S8x4x4352x16 ![0, 0, 0, 0] (rotated X) slices_S8x4x4352x64_S8x4x4352x16_0_0_0_0⟩,
      ⟨S8x4x4352x16, extractStridedSlice S8x4x4352x16 ![0, 0, 0, 32] (rotated X) slices_S8x4x4352x64_S8x4x4352x16_0_0_0_32⟩,
      ⟨S8x4x4352x32, pad⟩,
      ⟨S8x4x4352x16, extractStridedSlice S8x4x4352x16 ![0, 0, 0, 16] (rotated X) slices_S8x4x4352x64_S8x4x4352x16_0_0_0_16⟩,
      ⟨S8x4x4352x16, extractStridedSlice S8x4x4352x16 ![0, 0, 0, 48] (rotated X) slices_S8x4x4352x64_S8x4x4352x16_0_0_0_48⟩,
      ⟨S8x4x4352x32, pad⟩]
    concatenates_S8x4x4352x128_S8x4x4352x16_S8x4x4352x16_S8x4x4352x32_S8x4x4352x16_S8x4x4352x16_S8x4x4352x32_S8x4x4352x256_d3

/-- The zero lanes are zero. -/
theorem pad_apply (i : S8x4x4352x32.Idx) : pad i = 0 := Ideal.ofBits_zero_f32

/-- A quarter of the rotated lanes, read from the array: `o` its place among the rotated lanes. -/
theorem quarter_apply (X : FVec Ideal S8x4x4352x192 .f32) (o : Nat) (hs : S8x4x4352x64.Slices ![0, 0, 0, o] S8x4x4352x16)
    (b : Fin 8) (h : Fin 4) (n : Fin 4352) (d : Fin 192) (j : S8x4x4352x16.Idx) (h0 : (j 0).val = b.val) (h1 : (j 1).val = h.val)
    (h2 : (j 2).val = n.val) (h3 : 128 + (o + (j 3).val) = d.val) :
    extractStridedSlice S8x4x4352x16 ![0, 0, 0, o] (rotated X) hs j = X (ix4 b h n d) := by
  have hd := d.isLt
  refine (extractStridedSlice_apply _ _ hs j (ix4 b h n (⟨d.val - 128, by omega⟩ : Fin 64)) (fun a => ?_)).trans ?_
  · match a with
    | ⟨0, _⟩ => show b.val = 0 + (j 0).val; omega
    | ⟨1, _⟩ => show h.val = 0 + (j 1).val; omega
    | ⟨2, _⟩ => show n.val = 0 + (j 2).val; omega
    | ⟨3, _⟩ => show d.val - 128 = o + (j 3).val; omega
  · refine extractStridedSlice_apply _ _ _ _ (ix4 b h n d) (fun a => ?_)
    match a with
    | ⟨0, _⟩ => show b.val = 0 + b.val; omega
    | ⟨1, _⟩ => show h.val = 0 + h.val; omega
    | ⟨2, _⟩ => show n.val = 0 + n.val; omega
    | ⟨3, _⟩ => show d.val = 128 + (d.val - 128); omega

/-- Every one of the 256 lanes holds one of the 192, or is none of them and is zero. -/
theorem spread_cases (X : FVec Ideal S8x4x4352x192 .f32) (b : Fin 8) (h : Fin 4) (n : Fin 4352) (e : Fin 256) :
    (∃ d, lane d = e ∧ spread X (ix4 b h n e) = X (ix4 b h n d)) ∨ ((∀ d, lane d ≠ e) ∧ spread X (ix4 b h n e) = (0 : EReal)) := by
  have he := e.isLt
  unfold spread
  rw [concatenate_cons_apply]
  simp only [concatenateAt_cons, concatenateAt_singleton]
  split
  · next c =>
    have c' : e.val < 128 := c
    refine .inl ⟨⟨e.val, by omega⟩, ?_, ?_⟩
    · refine Fin.ext ?_; unfold lane; split_ifs <;> simp at * <;> omega
    · refine extractStridedSlice_apply _ _ _ _ (ix4 b h n _) (fun a => ?_)
      match a with
      | ⟨0, _⟩ => show b.val = 0 + b.val; omega
      | ⟨1, _⟩ => show h.val = 0 + h.val; omega
      | ⟨2, _⟩ => show n.val = 0 + n.val; omega
      | ⟨3, _⟩ => show e.val = 0 + e.val; omega
  next c0 =>
  have c0' : ¬ e.val < 128 := c0
  split
  · next c =>
    have c' : e.val - 128 < 16 := c
    refine .inl ⟨⟨e.val, by omega⟩, ?_, quarter_apply X 0 _ b h n _ _ rfl rfl rfl ?_⟩
    · refine Fin.ext ?_; unfold lane; split_ifs <;> simp at * <;> omega
    · show 128 + (0 + (e.val - 128)) = e.val; omega
  next c1 =>
  have c1' : ¬ e.val - 128 < 16 := c1
  split
  · next c =>
    have c' : e.val - 128 - 16 < 16 := c
    refine .inl ⟨⟨e.val + 16, by omega⟩, ?_, quarter_apply X 32 _ b h n _ _ rfl rfl rfl ?_⟩
    · refine Fin.ext ?_; unfold lane; split_ifs <;> simp at * <;> omega
    · show 128 + (32 + (e.val - 128 - 16)) = e.val + 16; omega
  next c2 =>
  have c2' : ¬ e.val - 128 - 16 < 16 := c2
  split
  · next c =>
    have c' : e.val - 128 - 16 - 16 < 32 := c
    refine .inr ⟨fun d hd => ?_, pad_apply _⟩
    have hd' := congrArg Fin.val hd; have := d.isLt
    unfold lane at hd'; split_ifs at hd' <;> simp at hd' <;> omega
  next c3 =>
  have c3' : ¬ e.val - 128 - 16 - 16 < 32 := c3
  split
  · next c =>
    have c' : e.val - 128 - 16 - 16 - 32 < 16 := c
    refine .inl ⟨⟨e.val - 48, by omega⟩, ?_, quarter_apply X 16 _ b h n _ _ rfl rfl rfl ?_⟩
    · refine Fin.ext ?_; unfold lane; split_ifs <;> simp at * <;> omega
    · show 128 + (16 + (e.val - 128 - 16 - 16 - 32)) = e.val - 48; omega
  next c4 =>
  have c4' : ¬ e.val - 128 - 16 - 16 - 32 < 16 := c4
  split
  · next c =>
    have c' : e.val - 128 - 16 - 16 - 32 - 16 < 16 := c
    refine .inl ⟨⟨e.val - 32, by omega⟩, ?_, quarter_apply X 48 _ b h n _ _ rfl rfl rfl ?_⟩
    · refine Fin.ext ?_; unfold lane; split_ifs <;> simp at * <;> omega
    · show 128 + (48 + (e.val - 128 - 16 - 16 - 32 - 16)) = e.val - 32; omega
  next c5 =>
  have c5' : ¬ e.val - 128 - 16 - 16 - 32 - 16 < 16 := c5
  refine .inr ⟨fun d hd => ?_, pad_apply _⟩
  have hd' := congrArg Fin.val hd; have := d.isLt
  unfold lane at hd'; split_ifs at hd' <;> simp at hd' <;> omega

/-- The lane of lane `d` holds it. -/
theorem spread_lane (X : FVec Ideal S8x4x4352x192 .f32) (b : Fin 8) (h : Fin 4) (n : Fin 4352) (d : Fin 192) :
    spread X (ix4 b h n (lane d)) = X (ix4 b h n d) := by
  rcases spread_cases X b h n (lane d) with ⟨d', e, hx⟩ | ⟨e, _⟩
  · rw [hx, lane_injective e]
  · exact absurd rfl (e d)

/-- Every other lane is zero. -/
theorem spread_zero (X : FVec Ideal S8x4x4352x192 .f32) (b : Fin 8) (h : Fin 4) (n : Fin 4352) (e : Fin 256)
    (he : e ∉ Set.range lane) : spread X (ix4 b h n e) = (0 : EReal) := by
  rcases spread_cases X b h n e with ⟨d', e', _⟩ | ⟨_, hx⟩
  · exact absurd ⟨d', e'⟩ he
  · exact hx

end Cert.Lanes
-- ==== Proof.MlaArrays.lean ====
/- The three arrays the host's operations hand the latent-attention call, read at an index from the arguments. -/
module

public import proofs.«01_k».proof.Proof.MlaKernel
public import proofs.«01_k».proof.Proof.Lanes

@[expose] public section

set_option maxRecDepth 16384

noncomputable section

namespace Cert.Proof.MlaArrays

open Cert.MlaIdeal Cert.MlaIdeal.Gen
open Idealize.ShloMosaic hiding ix4 ix5
open Idealize.ShloMosaic.TcCoe Idealize.ShloMosaic.ValueIdx Idealize.SL.Sem
open Cert.Softmax Cert.Tile Cert.Tokens Cert.Lanes Cert.Proof.MlaKernel

variable (m : (ℓ : Loc nD τ sig) → Buf (Elt Ideal) ℓ) (c : Dev nD)

/-- The factor the host multiplies the queries by. -/
def factor : FVec Ideal S_ .f32 :=
  Host.divf (constant S_ .f32 0x3F800000#32)
    (mulf (Host.sqrt (constant S_ .f32 0x43400000#32)) (Host.log (constant S_ .f32 0x40000000#32)))

/-- The queries: both token stretches joined, the heads in front. -/
def joinedQ (x0 : FVec Ideal S8x4096x4x1x192 .f32) (x3 : FVec Ideal S8x256x4x1x192 .f32) : FVec Ideal S8x4x4352x192 .f32 :=
  transpose S8x4x4352x192 [0, 2, 1, 3]
    (concatenate S8x4352x4x192 1
      [⟨S8x256x4x192, shapeCast S8x256x4x192 x3 shapeCasts_S8x256x4x1x192_S8x256x4x192⟩,
        ⟨S8x4096x4x192, shapeCast S8x4096x4x192 x0 shapeCasts_S8x4096x4x1x192_S8x4096x4x192⟩]
      concatenates_S8x256x4x192_S8x4096x4x192_S8x4352x4x192_d1)
    transposes_S8x4352x4x192_S8x4x4352x192_0_2_1_3

/-- The queries with their lanes set out, times the factor. -/
def queriesOf (x0 : FVec Ideal S8x4096x4x1x192 .f32) (x3 : FVec Ideal S8x256x4x1x192 .f32) : FVec Ideal S8x4x4352x256 .f32 :=
  mulf (spread (joinedQ x0 x3)) (broadcastInDim S8x4x4352x256 ![] bcast_S_S8x4x4352x256 factor)

/-- The keys: both token stretches joined, the heads in front. -/
def joinedK (x : FVec Ideal S8x4096x4x192 .f32) (xc : FVec Ideal S8x256x4x192 .f32) : FVec Ideal S8x4x4352x192 .f32 :=
  transpose S8x4x4352x192 [0, 2, 1, 3]
    (concatenate S8x4352x4x192 1 [⟨S8x256x4x192, xc⟩, ⟨S8x4096x4x192, x⟩] concatenates_S8x256x4x192_S8x4096x4x192_S8x4352x4x192_d1)
    transposes_S8x4352x4x192_S8x4x4352x192_0_2_1_3

/-- The values: both token stretches joined, the heads in front. -/
def joinedV (x : FVec Ideal S8x4096x4x128 .f32) (xc : FVec Ideal S8x256x4x128 .f32) : FVec Ideal S8x4x4352x128 .f32 :=
  transpose S8x4x4352x128 [0, 2, 1, 3]
    (concatenate S8x4352x4x128 1 [⟨S8x256x4x128, xc⟩, ⟨S8x4096x4x128, x⟩] concatenates_S8x256x4x128_S8x4096x4x128_S8x4352x4x128_d1)
    transposes_S8x4352x4x128_S8x4x4352x128_0_2_1_3

theorem array_q : V m c main_v18
    = truncf (F := Ideal) .bf16 (queriesOf (m ((c : Thread nD τ).loc main_arg0)) (m ((c : Thread nD τ).loc main_arg3))) bitsLt_bf16_f32 := by
  unfold V
  after_results
  rfl
theorem array_k : V m c main_v29
    = truncf (F := Ideal) .bf16 (spread (joinedK (m ((c : Thread nD τ).loc main_arg1)) (m ((c : Thread nD τ).loc main_arg4)))) bitsLt_bf16_f32 := by
  unfold V
  after_results
  rfl
theorem array_v : V m c main_v32
    = truncf (F := Ideal) .bf16 (joinedV (m ((c : Thread nD τ).loc main_arg2)) (m ((c : Thread nD τ).loc main_arg5))) bitsLt_bf16_f32 := by
  unfold V
  after_results
  rfl

/-- The factor is 1 / (√192 · log 2). -/
theorem factor_apply (i : S_.Idx) : factor i = (((1 / Real.sqrt 192) / Real.log 2 : ℝ) : EReal) := by
  show Ideal.div (Ideal.ofBits .f32 0x3F800000#32) (Ideal.sqrt (Ideal.ofBits .f32 0x43400000#32) * Ideal.log (Ideal.ofBits .f32 0x40000000#32)) = _
  rw [ofBits_one, ofBits_two, ofBits_192]
  exact scale_kernel 192 (by norm_num)

/-- A lane of a query of the call before the lanes are set out: the argument's. -/
theorem joinedQ_apply (x0 : FVec Ideal S8x4096x4x1x192 .f32) (x3 : FVec Ideal S8x256x4x1x192 .f32)
    (b : Fin 8) (h : Fin 4) (n : Fin 4352) (d : Fin 192) :
    joinedQ x0 x3 (ix4 b h n d) = tok (fun j => x3 (ix5 b j h (0 : Fin 1) d)) (fun j => x0 (ix5 b j h (0 : Fin 1) d)) n := by
  refine (transpose_apply _ _ _ _ (ix4 b n h d) (fun a => by fin_cases a <;> rfl)).trans ?_
  refine (join4 _ _ _ b n h d).trans ?_
  refine congrArg₂ (fun (x : Fin 256 → EReal) y => tok x y n) (funext fun j => ?_) (funext fun j => ?_)
  · refine shapeCast_apply x3 _ (ix4 b j h d) (ix5 b j h (0 : Fin 1) d) ?_
    rewrite [Shape.rowMajor_val_five, Shape.rowMajor_val_four]
    show (((b.val * 256 + j.val) * 4 + h.val) * 1 + 0) * 192 + d.val = ((b.val * 256 + j.val) * 4 + h.val) * 192 + d.val
    omega
  · refine shapeCast_apply x0 _ (ix4 b j h d) (ix5 b j h (0 : Fin 1) d) ?_
    rewrite [Shape.rowMajor_val_five, Shape.rowMajor_val_four]
    show (((b.val * 4096 + j.val) * 4 + h.val) * 1 + 0) * 192 + d.val = ((b.val * 4096 + j.val) * 4 + h.val) * 192 + d.val
    omega

/-- A lane of a key of the call before the lanes are set out: the argument's. -/
theorem joinedK_apply (x : FVec Ideal S8x4096x4x192 .f32) (xc : FVec Ideal S8x256x4x192 .f32)
    (b : Fin 8) (g : Fin 4) (n : Fin 4352) (d : Fin 192) :
    joinedK x xc (ix4 b g n d) = tok (fun j => xc (ix4 b j g d)) (fun j => x (ix4 b j g d)) n :=
  (transpose_apply _ _ _ _ (ix4 b n g d) (fun a => by fin_cases a <;> rfl)).trans (join4 _ _ _ b n g d)

/-- A value of the call: the argument's. -/
theorem joinedV_apply (x : FVec Ideal S8x4096x4x128 .f32) (xc : FVec Ideal S8x256x4x128 .f32)
    (b : Fin 8) (g : Fin 4) (n : Fin 4352) (d : Fin 128) :
    joinedV x xc (ix4 b g n d) = tok (fun j => xc (ix4 b j g d)) (fun j => x (ix4 b j g d)) n :=
  (transpose_apply _ _ _ _ (ix4 b n g d) (fun a => by fin_cases a <;> rfl)).trans (join4 _ _ _ b n g d)

/-- A query of the call: the lane set out, times the factor. -/
theorem queries_apply (x0 : FVec Ideal S8x4096x4x1x192 .f32) (x3 : FVec Ideal S8x256x4x1x192 .f32) (i : S8x4x4352x256.Idx) :
    queriesOf x0 x3 i = (spread (joinedQ x0 x3) i : EReal) * (((1 / Real.sqrt 192) / Real.log 2 : ℝ) : EReal) :=
  congrArg (fun a : EReal => (spread (joinedQ x0 x3) i : EReal) * a) (factor_apply _)

/-- A score: the lanes that hold nothing add zero. -/
theorem score_apply (x0 : FVec Ideal S8x4096x4x1x192 .f32) (x1 : FVec Ideal S8x4096x4x192 .f32)
    (x3 : FVec Ideal S8x256x4x1x192 .f32) (x4 : FVec Ideal S8x256x4x192 .f32) (b : Fin 8) (h : Fin 4) (n j : Fin 4352) :
    (∑ d : Fin 256, queriesOf x0 x3 (ix4 b h n d) * spread (joinedK x1 x4) (ix4 b h j d) : EReal)
      = ∑ d : Fin 192, (tok (fun j => x3 (ix5 b j h (0 : Fin 1) d)) (fun j => x0 (ix5 b j h (0 : Fin 1) d)) n : EReal)
          * (((1 / Real.sqrt 192) / Real.log 2 : ℝ) : EReal) * (tok (fun j => x4 (ix4 b j h d)) (fun j => x1 (ix4 b j h d)) j : EReal) := by
  refine (sum_of_lanes lane lane_injective _ (fun e he => ?_)).trans (Finset.sum_congr rfl fun d _ => ?_)
  · exact (congrArg (fun a : EReal => queriesOf x0 x3 (ix4 b h n e) * a) (spread_zero (joinedK x1 x4) b h j e he)).trans (mul_zero _)
  · refine congrArg₂ (fun a b : EReal => a * b) ?_ ((spread_lane (joinedK x1 x4) b h j d).trans (joinedK_apply x1 x4 b h j d))
    refine (queries_apply x0 x3 _).trans (congrArg (fun a : EReal => a * _) ?_)
    exact (spread_lane (joinedQ x0 x3) b h n d).trans (joinedQ_apply x0 x3 b h n d)

end Cert.Proof.MlaArrays
-- ==== Proof.MlaReference.lean ====
/- The latent-attention reference read at an index: every element of its result is a `referenceRow` of the arguments. -/
module

public import proofs.«01_k».proof.Proof.Gen.MlaRefIdeal.Read
public import proofs.«01_k».proof.Proof.Tokens

@[expose] public section

set_option maxRecDepth 16384

noncomputable section

namespace Cert.Proof.MlaReference

open Cert.MlaRefIdeal Cert.MlaRefIdeal.Gen Cert.MlaRefIdeal.Read
open Idealize.ShloMosaic Idealize.ShloMosaic.TcCoe Idealize.ShloMosaic.ValueIdx Idealize.SL.Sem
open Cert.Softmax Cert.Tile Cert.Tokens Cert.Attend

variable (x0 : (⟨S8x4096x4x1x192, .f32⟩ : BufTy).Contents (Elt Ideal)) (x1 : (⟨S8x4096x4x192, .f32⟩ : BufTy).Contents (Elt Ideal))
  (x2 : (⟨S8x4096x4x128, .f32⟩ : BufTy).Contents (Elt Ideal)) (x3 : (⟨S8x256x4x1x192, .f32⟩ : BufTy).Contents (Elt Ideal))
  (x4 : (⟨S8x256x4x192, .f32⟩ : BufTy).Contents (Elt Ideal)) (x5 : (⟨S8x256x4x128, .f32⟩ : BufTy).Contents (Elt Ideal))

/-- The scale is 1 / √192. -/
theorem scale_apply (i : S_.Idx) : val_main_v1 (F := Ideal) i = ((1 / Real.sqrt 192 : ℝ) : EReal) := by
  show Ideal.div (Ideal.ofBits .f32 0x3F800000#32) (Ideal.sqrt (Ideal.ofBits .f32 0x43400000#32)) = _
  rw [ofBits_one, ofBits_192]
  exact scale_reference 192 (by norm_num)

/-! ## The context tokens -/

/-- A scaled score of a context query with a context key. -/
theorem ctx_score (b : Fin 8) (g : Fin 4) (r : Fin 1) (n j : Fin 256) :
    val_main_v5 (F := Ideal) x3 x4 (ix5 b g r n j)
      = (∑ d : Fin 192, x4 (ix4 b j g d) * x3 (ix5 b n g r d) : EReal) * ((1 / Real.sqrt 192 : ℝ) : EReal) := by
  rw [val_main_v5_apply, val_main_v3_apply, val_main_v2_apply, val_main_v4_apply]
  exact congrArg₂ (fun a b : EReal => a * b)
    (Finset.sum_congr rfl fun d _ => congrArg₂ (fun a b : EReal => a * b)
      (congrArg x4 (funext fun a => by fin_cases a <;> first | rfl | exact Subsingleton.elim (α := Fin 1) _ _)) (congrArg x3 (funext fun a => by fin_cases a <;> rfl)))
    (scale_apply _)

/-- A context row's maximum. -/
theorem ctx_max (b : Fin 8) (g : Fin 4) (r : Fin 1) (n : Fin 256) :
    val_main_v8 (F := Ideal) x3 x4 (ix4 b g r n)
      = max ⊥ ((Finset.univ : Finset (Fin 256)).fold max ⊥ fun j => val_main_v5 (F := Ideal) x3 x4 (ix5 b g r n j)) := by
  rw [val_main_v8_apply, val_main_v7_apply]
  refine congrArg₂ (fun a b : EReal => max a b) ofBits_neg_infinity ?_
  unfold val_main_v6
  refine (Host.reduce_eq_fold_single (max : EReal → EReal → EReal) _ _ _ (by decide) _ _).trans ?_
  refine congrArg₂ (fun a f => (Finset.univ : Finset (Fin 256)).fold (max : EReal → EReal → EReal) a f) ofBits_neg_infinity (funext fun j => ?_)
  exact congrArg (val_main_v5 (F := Ideal) x3 x4) (funext fun a => by fin_cases a <;> first | rfl | exact Subsingleton.elim (α := Fin 1) _ _)

/-- A context row's exponential. -/
theorem ctx_exp (b : Fin 8) (g : Fin 4) (r : Fin 1) (n j : Fin 256) :
    val_main_v12 (F := Ideal) x3 x4 (ix5 b g r n j)
      = Ideal.exp (val_main_v5 (F := Ideal) x3 x4 (ix5 b g r n j)
        - max ⊥ ((Finset.univ : Finset (Fin 256)).fold max ⊥ fun j => val_main_v5 (F := Ideal) x3 x4 (ix5 b g r n j))) := by
  rw [val_main_v12_apply, val_main_v11_apply, val_main_v10_apply, val_main_v9_apply, ← ctx_max]
  refine congrArg (fun a => Ideal.exp (val_main_v5 (F := Ideal) x3 x4 (ix5 b g r n j) - val_main_v8 (F := Ideal) x3 x4 a)) ?_
  exact funext fun a => by fin_cases a <;> first | rfl | exact Subsingleton.elim (α := Fin 1) _ _

/-- A context row's weight. -/
theorem ctx_weight (b : Fin 8) (g : Fin 4) (r : Fin 1) (n j : Fin 256) :
    val_main_v16 (F := Ideal) x3 x4 (ix5 b g r n j)
      = Ideal.div (val_main_v12 (F := Ideal) x3 x4 (ix5 b g r n j)) (0 + ∑ j : Fin 256, val_main_v12 (F := Ideal) x3 x4 (ix5 b g r n j)) := by
  rw [val_main_v16_apply, val_main_v15_apply, val_main_v14_apply, val_main_v13_apply]
  refine congrArg₂ (fun a s : EReal => Ideal.div (val_main_v12 (F := Ideal) x3 x4 (ix5 b g r n j)) (a + s)) Ideal.ofBits_zero_f32
    (Finset.sum_congr rfl fun k _ => ?_)
  exact congrArg (val_main_v12 (F := Ideal) x3 x4) (funext fun a => by fin_cases a <;> first | rfl | exact Subsingleton.elim (α := Fin 1) _ _)

/-- A context token's output. -/
theorem ctx_row (b : Fin 8) (n : Fin 256) (g : Fin 4) (r : Fin 1) (l : Fin 128) :
    val_main_v18 (F := Ideal) x3 x4 x5 (ix5 b n g r l)
      = referenceRow
          (fun j : Fin 256 => (∑ d : Fin 192, x4 (ix4 b j g d) * x3 (ix5 b n g r d) : EReal) * ((1 / Real.sqrt 192 : ℝ) : EReal))
          (fun j => x5 (ix4 b j g l)) := by
  rw [val_main_v18_apply, val_main_v17_apply]
  unfold referenceRow
  refine Finset.sum_congr rfl fun j _ => congrArg₂ (fun a b : EReal => a * b) (congrArg x5 (funext fun a => by fin_cases a <;> first | rfl | exact Subsingleton.elim (α := Fin 1) _ _)) ?_
  refine (congrArg (val_main_v16 (F := Ideal) x3 x4) (show _ = ix5 b g r n j from funext fun a => by fin_cases a <;> first | rfl | exact Subsingleton.elim (α := Fin 1) _ _)).trans ?_
  rw [ctx_weight]
  simp only [ctx_exp, ctx_score]

/-! ## The latent tokens -/

/-- The keys of all tokens. -/
theorem keys_apply (b : Fin 8) (j : Fin 4352) (g : Fin 4) (d : Fin 192) :
    val_main_v19 (F := Ideal) x1 x4 (ix4 b j g d) = tok (fun j => x4 (ix4 b j g d)) (fun j => x1 (ix4 b j g d)) j := by
  unfold val_main_v19
  exact join4 x4 x1 _ b j g d
/-- The values of all tokens. -/
theorem values_apply (b : Fin 8) (j : Fin 4352) (g : Fin 4) (d : Fin 128) :
    val_main_v20 (F := Ideal) x2 x5 (ix4 b j g d) = tok (fun j => x5 (ix4 b j g d)) (fun j => x2 (ix4 b j g d)) j := by
  unfold val_main_v20
  exact join4 x5 x2 _ b j g d

/-- A scaled score of a latent query with any key. -/
theorem lat_score (b : Fin 8) (g : Fin 4) (r : Fin 1) (n : Fin 4096) (j : Fin 4352) :
    val_main_v24 (F := Ideal) x0 x1 x4 (ix5 b g r n j)
      = (∑ d : Fin 192, tok (fun j => x4 (ix4 b j g d)) (fun j => x1 (ix4 b j g d)) j * x0 (ix5 b n g r d) : EReal)
        * ((1 / Real.sqrt 192 : ℝ) : EReal) := by
  rw [val_main_v24_apply, val_main_v22_apply, val_main_v21_apply, val_main_v23_apply]
  exact congrArg₂ (fun a b : EReal => a * b)
    (Finset.sum_congr rfl fun d _ => congrArg₂ (fun a b : EReal => a * b)
      ((congrArg (val_main_v19 (F := Ideal) x1 x4) (funext fun a => by fin_cases a <;> first | rfl | exact Subsingleton.elim (α := Fin 1) _ _)).trans (keys_apply x1 x4 b j g d))
      (congrArg x0 (funext fun a => by fin_cases a <;> first | rfl | exact Subsingleton.elim (α := Fin 1) _ _)))
    (scale_apply _)

/-- A latent row's maximum. -/
theorem lat_max (b : Fin 8) (g : Fin 4) (r : Fin 1) (n : Fin 4096) :
    val_main_v27 (F := Ideal) x0 x1 x4 (ix4 b g r n)
      = max ⊥ ((Finset.univ : Finset (Fin 4352)).fold max ⊥ fun j => val_main_v24 (F := Ideal) x0 x1 x4 (ix5 b g r n j)) := by
  rw [val_main_v27_apply, val_main_v26_apply]
  refine congrArg₂ (fun a b : EReal => max a b) ofBits_neg_infinity ?_
  unfold val_main_v25
  refine (Host.reduce_eq_fold_single (max : EReal → EReal → EReal) _ _ _ (by decide) _ _).trans ?_
  refine congrArg₂ (fun a f => (Finset.univ : Finset (Fin 4352)).fold (max : EReal → EReal → EReal) a f) ofBits_neg_infinity (funext fun j => ?_)
  exact congrArg (val_main_v24 (F := Ideal) x0 x1 x4) (funext fun a => by fin_cases a <;> first | rfl | exact Subsingleton.elim (α := Fin 1) _ _)

/-- A latent row's exponential. -/
theorem lat_exp (b : Fin 8) (g : Fin 4) (r : Fin 1) (n : Fin 4096) (j : Fin 4352) :
    val_main_v31 (F := Ideal) x0 x1 x4 (ix5 b g r n j)
      = Ideal.exp (val_main_v24 (F := Ideal) x0 x1 x4 (ix5 b g r n j)
        - max ⊥ ((Finset.univ : Finset (Fin 4352)).fold max ⊥ fun j => val_main_v24 (F := Ideal) x0 x1 x4 (ix5 b g r n j))) := by
  rw [val_main_v31_apply, val_main_v30_apply, val_main_v29_apply, val_main_v28_apply, ← lat_max]
  refine congrArg (fun a => Ideal.exp (val_main_v24 (F := Ideal) x0 x1 x4 (ix5 b g r n j) - val_main_v27 (F := Ideal) x0 x1 x4 a)) ?_
  exact funext fun a => by fin_cases a <;> first | rfl | exact Subsingleton.elim (α := Fin 1) _ _

/-- A latent row's weight. -/
theorem lat_weight (b : Fin 8) (g : Fin 4) (r : Fin 1) (n : Fin 4096) (j : Fin 4352) :
    val_main_v35 (F := Ideal) x0 x1 x4 (ix5 b g r n j)
      = Ideal.div (val_main_v31 (F := Ideal) x0 x1 x4 (ix5 b g r n j))
          (0 + ∑ j : Fin 4352, val_main_v31 (F := Ideal) x0 x1 x4 (ix5 b g r n j)) := by
  rw [val_main_v35_apply, val_main_v34_apply, val_main_v33_apply, val_main_v32_apply]
  refine congrArg₂ (fun a s : EReal => Ideal.div (val_main_v31 (F := Ideal) x0 x1 x4 (ix5 b g r n j)) (a + s)) Ideal.ofBits_zero_f32
    (Finset.sum_congr rfl fun k _ => ?_)
  exact congrArg (val_main_v31 (F := Ideal) x0 x1 x4) (funext fun a => by fin_cases a <;> first | rfl | exact Subsingleton.elim (α := Fin 1) _ _)

/-- A latent token's output. -/
theorem lat_row (b : Fin 8) (n : Fin 4096) (g : Fin 4) (r : Fin 1) (l : Fin 128) :
    val_main_v37 (F := Ideal) x0 x1 x2 x4 x5 (ix5 b n g r l)
      = referenceRow
          (fun j : Fin 4352 => (∑ d : Fin 192, tok (fun j => x4 (ix4 b j g d)) (fun j => x1 (ix4 b j g d)) j * x0 (ix5 b n g r d) : EReal)
            * ((1 / Real.sqrt 192 : ℝ) : EReal))
          (fun j => tok (fun j => x5 (ix4 b j g l)) (fun j => x2 (ix4 b j g l)) j) := by
  rw [val_main_v37_apply, val_main_v36_apply]
  unfold referenceRow
  refine Finset.sum_congr rfl fun j _ => congrArg₂ (fun a b : EReal => a * b)
    ((congrArg (val_main_v20 (F := Ideal) x2 x5) (funext fun a => by fin_cases a <;> first | rfl | exact Subsingleton.elim (α := Fin 1) _ _)).trans (values_apply x2 x5 b j g l)) ?_
  refine (congrArg (val_main_v35 (F := Ideal) x0 x1 x4) (show _ = ix5 b g r n j from funext fun a => by fin_cases a <;> first | rfl | exact Subsingleton.elim (α := Fin 1) _ _)).trans ?_
  rw [lat_weight]
  simp only [lat_exp, lat_score]

/-! ## The result -/

/-- The result's columns split into group, place in the group and value lane. -/
theorem result_apply (b : Fin 8) (n : Fin 4352) (e : Fin 512) (g : Fin 4) (r : Fin 1) (hg : g.val = e.val / 128) :
    val_main_v40 (F := Ideal) x0 x1 x2 x3 x4 x5 (ix3 b n e)
      = tok (fun n => val_main_v18 (F := Ideal) x3 x4 x5 (ix5 b n g r (lane e)))
          (fun n => val_main_v37 (F := Ideal) x0 x1 x2 x4 x5 (ix5 b n g r (lane e))) n := by
  rw [val_main_v40_apply, val_main_v39_apply]
  have hi : idx_main_v39 (ix3 b n e) = ix5 b n g r (lane e) := by
    have hb := b.isLt; have hn := n.isLt; have he := e.isLt
    refine funext fun a => Fin.ext ?_
    match a with
    | ⟨0, _⟩ => show ((b.val * 4352 + n.val) * 512 + e.val) / 2228224 = b.val; omega
    | ⟨1, _⟩ => show ((b.val * 4352 + n.val) * 512 + e.val) / 512 % 4352 = n.val; omega
    | ⟨2, _⟩ => show ((b.val * 4352 + n.val) * 512 + e.val) / 128 % 4 = g.val; omega
    | ⟨3, _⟩ => show 0 = r.val; have := r.isLt; omega
    | ⟨4, _⟩ => show ((b.val * 4352 + n.val) * 512 + e.val) % 128 = e.val % 128; omega
  rw [hi]
  unfold val_main_v38
  exact join5 _ _ _ b n g r (lane e)

end Cert.Proof.MlaReference
-- ==== Proof.Rows.lean ====
/- An attention output of the kernel's arrays as a reference row. -/
module

public import proofs.«01_k».proof.Proof.Tokens

@[expose] public section

noncomputable section

namespace Cert.Rows

open Idealize.ShloMosaic Idealize.ShloMosaic.ValueIdx
open Cert.Softmax Cert.Attend Cert.Tokens

variable {D H : Nat} {κ : Type} [Fintype κ] (g : Fin 4 → Fin H) (Q : FVec Ideal ⟨4, ![8, 4, 4352, D]⟩ .bf16)
  (K : FVec Ideal ⟨4, ![8, H, 4352, D]⟩ .bf16) (V : FVec Ideal ⟨4, ![8, H, 4352, 128]⟩ .bf16)
  (b : Fin 8) (h : Fin 4) (n : Fin 4352) (l : Fin 128) (w : ℝ) (q : κ → EReal) (k : Fin 4352 → κ → EReal) (v : Fin 4352 → EReal)

/-- A context token: with scores that are sums of real queries, times w / log 2, and real keys, the output is the reference's row
    over the 256 context keys. -/
theorem attend_ctx (hn : n.val < 256) (hq : ∀ d, ∃ r : ℝ, q d = r) (hk : ∀ j d, ∃ r : ℝ, k j d = r)
    (hs : ∀ j, (∑ d : Fin D, Q (ix4 b h n d) * K (ix4 b (g h) j d) : EReal) = ∑ d, q d * ((w / Real.log 2 : ℝ) : EReal) * k j d)
    (hv : ∀ j, V (ix4 b (g h) j l) = v j) :
    attend g Q K V b h n l = referenceRow (fun j : Fin 256 => (∑ d, k (ctx j) d * q d) * (w : EReal)) (fun j => v (ctx j)) := by
  unfold attend
  rw [if_pos hn]
  refine (congrArg₂ kernelRow (funext fun j => hs (ctx j)) (funext fun j => hv (ctx j))).trans ?_
  exact attention_row q (fun j => k (ctx j)) _ hq (fun j => hk (ctx j)) w

/-- Any other token: the same over all 4352 keys. -/
theorem attend_latent (hn : ¬ n.val < 256) (hq : ∀ d, ∃ r : ℝ, q d = r) (hk : ∀ j d, ∃ r : ℝ, k j d = r)
    (hs : ∀ j, (∑ d : Fin D, Q (ix4 b h n d) * K (ix4 b (g h) j d) : EReal) = ∑ d, q d * ((w / Real.log 2 : ℝ) : EReal) * k j d)
    (hv : ∀ j, V (ix4 b (g h) j l) = v j) :
    attend g Q K V b h n l = referenceRow (fun j : Fin 4352 => (∑ d, k j d * q d) * (w : EReal)) v := by
  unfold attend
  rw [if_neg hn]
  refine (congrArg₂ kernelRow (funext hs) (funext hv)).trans ?_
  exact attention_row q k _ hq hk w

end Cert.Rows
-- ==== Proof.MlaValue.lean ====
/- Latent attention: with real queries and keys the kernel's array is the reference's. -/
module

public import proofs.«01_k».proof.Proof.MlaArrays
public import proofs.«01_k».proof.Proof.MlaReference
public import proofs.«01_k».proof.Proof.Rows

@[expose] public section

set_option maxRecDepth 16384

noncomputable section

namespace Cert.Proof.MlaValue

open Idealize.ShloMosaic hiding ix3 ix4 ix5
open Idealize.ShloMosaic.ValueIdx
open Cert.Softmax Cert.Attend Cert.Tokens Cert.Rows Cert.Proof.MlaKernel Cert.Proof.MlaArrays Cert.Proof.MlaReference
open Cert.MlaRefIdeal Cert.MlaRefIdeal.Read

variable (x0 : FVec Ideal S8x4096x4x1x192 .f32) (x1 : FVec Ideal S8x4096x4x192 .f32) (x2 : FVec Ideal S8x4096x4x128 .f32)
  (x3 : FVec Ideal S8x256x4x1x192 .f32) (x4 : FVec Ideal S8x256x4x192 .f32) (x5 : FVec Ideal S8x256x4x128 .f32)

/-- The attention of the host's three arrays equals the reference's result at every index. -/
theorem attended_apply (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) (b : Fin 8) (n : Fin 4352) (e : Fin 512) :
    attend (D := 256) kvHead (queriesOf x0 x3) (Lanes.spread (joinedK x1 x4)) (joinedV x2 x5) b (head e) n (lane e)
      = val_main_v40 (F := Ideal) x0 x1 x2 x3 x4 x5 (ix3 b n e) := by
  have he := e.isLt
  set g := kvHead (head e) with hg
  rw [result_apply x0 x1 x2 x3 x4 x5 b n e g 0 rfl]
  have hq : ∀ d : Fin 192, ∃ s : ℝ, (tok (fun j => x3 (ix5 b j g (0 : Fin 1) d)) (fun j => x0 (ix5 b j g (0 : Fin 1) d)) n : EReal) = s :=
    fun d => tok_forall (P := fun a : EReal => ∃ s : ℝ, a = s) (fun j => h3 _) (fun j => h0 _) n
  have hk : ∀ (j : Fin 4352) (d : Fin 192), ∃ s : ℝ, (tok (fun j => x4 (ix4 b j g d)) (fun j => x1 (ix4 b j g d)) j : EReal) = s :=
    fun j d => tok_forall (P := fun a : EReal => ∃ s : ℝ, a = s) (fun j => h4 _) (fun j => h1 _) j
  have hs : ∀ j : Fin 4352, (∑ d : Fin 256, queriesOf x0 x3 (ix4 b (head e) n d) * Lanes.spread (joinedK x1 x4) (ix4 b g j d) : EReal)
      = ∑ d : Fin 192, (tok (fun j => x3 (ix5 b j g (0 : Fin 1) d)) (fun j => x0 (ix5 b j g (0 : Fin 1) d)) n : EReal)
          * (((1 / Real.sqrt 192) / Real.log 2 : ℝ) : EReal) * (tok (fun j => x4 (ix4 b j g d)) (fun j => x1 (ix4 b j g d)) j : EReal) :=
    fun j => score_apply x0 x1 x3 x4 b (head e) n j
  have hv : ∀ j : Fin 4352, joinedV x2 x5 (ix4 b g j (lane e)) = (tok (fun j => x5 (ix4 b j g (lane e))) (fun j => x2 (ix4 b j g (lane e))) j : EReal) :=
    fun j => joinedV_apply x2 x5 b g j (lane e)
  by_cases hn : n.val < 256
  · rw [tok_of_lt _ _ _ hn, ctx_row]
    refine (attend_ctx kvHead _ _ _ b (head e) n (lane e) _ _ _ _ hn hq hk hs hv).trans ?_
    refine congrArg₂ referenceRow (funext fun j => ?_) (funext fun j => tok_of_lt _ _ (ctx j) j.isLt)
    refine congrArg (fun a : EReal => a * _) (Finset.sum_congr rfl fun d _ => ?_)
    exact congrArg₂ (fun a b : EReal => a * b) (tok_of_lt _ _ (ctx j) j.isLt) (tok_of_lt _ _ n hn)
  · rw [tok_of_ge _ _ _ hn, lat_row]
    refine (attend_latent kvHead _ _ _ b (head e) n (lane e) _ _ _ _ hn hq hk hs hv).trans ?_
    refine congrArg (fun s => referenceRow s _) (funext fun j => ?_)
    refine congrArg (fun a : EReal => a * _) (Finset.sum_congr rfl fun d _ => ?_)
    exact congrArg (fun a : EReal => _ * a) (tok_of_ge _ _ n hn)

end Cert.Proof.MlaValue
-- ==== Proof.Finite.lean ====
/- The preconditions read: queries and keys whose absolute values are below +∞ are reals. -/
module

public import proofs.«01_k».proof.Pre_mla_finite_qk
public import proofs.«01_k».proof.Pre_gqa_finite_qk
public import proofs.«01_k».proof.Proof.Softmax
public import Idealize.ShloMosaic.Lib.ReduceAll

@[expose] public section

set_option maxRecDepth 16384

noncomputable section

namespace Cert.Finite

open Idealize.ShloMosaic
open Cert.Softmax

/-- The `f32` word `7F800000` is +∞. -/
theorem ofBits_infinity : Ideal.ofBits .f32 0x7F800000#32 = ⊤ := by
  simp [Ideal.ofBits, Ideal.ieee, -EReal.coe_mul]

/-- An array whose elements are all below +∞ in absolute value, by the printed reduction, has real elements. -/
theorem real_of_all {s u : Shape} {axes : List (Fin s.rank)} [Subsingleton u.Idx] (x : FVec Ideal s .f32) (y : FVec Ideal s .f32)
    (hy : ∀ i, y i = (⊤ : EReal)) (init : u.Idx → BitVec 1) (h : s.ReducesTo axes u) (hu : 0 < u.numel) (j : u.Idx)
    (e : Host.reduce IntOp.andi (cmpf .olt (Host.absf x) y) init h hu j = 1#1) (i : s.Idx) : ∃ r : ℝ, x i = (r : EReal) := by
  have e1 : Ideal.cmp .olt (max (x i) (-(x i))) (y i) = 1#1 := Host.reduce_andi_all _ init h hu j e i
  rw [hy i] at e1
  refine exists_real ?_
  by_contra hlt
  rw [show Ideal.cmp .olt (max (x i) (-(x i))) ⊤ = 0#1 by simp only [Ideal.cmp]; simp [hlt]] at e1
  exact absurd e1 (by decide)

instance : Subsingleton Cert.Pre_gqa_finite_qk.S_.Idx := ⟨fun a b => funext fun i => i.elim0⟩
instance : Subsingleton Cert.Pre_mla_finite_qk.S_.Idx := ⟨fun a b => funext fun i => i.elim0⟩

/-- The grouped-query precondition: queries and keys of both stretches are real. -/
theorem gqa_real [Cert.Pre_gqa_finite_qk.Facts] (x0 : FVec Ideal Cert.Pre_gqa_finite_qk.S8x4096x2x2x128 .f32)
    (x1 x2 : FVec Ideal Cert.Pre_gqa_finite_qk.S8x4096x2x128 .f32) (x3 : FVec Ideal Cert.Pre_gqa_finite_qk.S8x256x2x2x128 .f32)
    (x4 x5 : FVec Ideal Cert.Pre_gqa_finite_qk.S8x256x2x128 .f32)
    (h : Cert.Pre_gqa_finite_qk.fn (F := Ideal) x0 x1 x2 x3 x4 x5 = fun _ => 1#1) :
    (∀ i, ∃ r : ℝ, x0 i = (r : EReal)) ∧ (∀ i, ∃ r : ℝ, x1 i = (r : EReal))
      ∧ (∀ i, ∃ r : ℝ, x3 i = (r : EReal)) ∧ (∀ i, ∃ r : ℝ, x4 i = (r : EReal)) := by
  have h1 := congrFun h (fun i => i.elim0)
  unfold Cert.Pre_gqa_finite_qk.fn Cert.Pre_gqa_finite_qk.fn_part1 at h1
  obtain ⟨h2, e4⟩ := IntOp.andi_eq_one.1 h1
  obtain ⟨h3, e3⟩ := IntOp.andi_eq_one.1 h2
  obtain ⟨e0, e1⟩ := IntOp.andi_eq_one.1 h3
  exact ⟨real_of_all _ _ (fun _ => ofBits_infinity) _ _ _ _ e0, real_of_all _ _ (fun _ => ofBits_infinity) _ _ _ _ e1,
    real_of_all _ _ (fun _ => ofBits_infinity) _ _ _ _ e3, real_of_all _ _ (fun _ => ofBits_infinity) _ _ _ _ e4⟩

/-- The latent-attention precondition: queries and keys of both stretches are real. -/
theorem mla_real [Cert.Pre_mla_finite_qk.Facts] (x0 : FVec Ideal Cert.Pre_mla_finite_qk.S8x4096x4x1x192 .f32)
    (x1 : FVec Ideal Cert.Pre_mla_finite_qk.S8x4096x4x192 .f32) (x2 : FVec Ideal Cert.Pre_mla_finite_qk.S8x4096x4x128 .f32)
    (x3 : FVec Ideal Cert.Pre_mla_finite_qk.S8x256x4x1x192 .f32)
    (x4 : FVec Ideal Cert.Pre_mla_finite_qk.S8x256x4x192 .f32) (x5 : FVec Ideal Cert.Pre_mla_finite_qk.S8x256x4x128 .f32)
    (h : Cert.Pre_mla_finite_qk.fn (F := Ideal) x0 x1 x2 x3 x4 x5 = fun _ => 1#1) :
    (∀ i, ∃ r : ℝ, x0 i = (r : EReal)) ∧ (∀ i, ∃ r : ℝ, x1 i = (r : EReal))
      ∧ (∀ i, ∃ r : ℝ, x3 i = (r : EReal)) ∧ (∀ i, ∃ r : ℝ, x4 i = (r : EReal)) := by
  have h1 := congrFun h (fun i => i.elim0)
  unfold Cert.Pre_mla_finite_qk.fn Cert.Pre_mla_finite_qk.fn_part1 at h1
  obtain ⟨h2, e4⟩ := IntOp.andi_eq_one.1 h1
  obtain ⟨h3, e3⟩ := IntOp.andi_eq_one.1 h2
  obtain ⟨e0, e1⟩ := IntOp.andi_eq_one.1 h3
  exact ⟨real_of_all _ _ (fun _ => ofBits_infinity) _ _ _ _ e0, real_of_all _ _ (fun _ => ofBits_infinity) _ _ _ _ e1,
    real_of_all _ _ (fun _ => ofBits_infinity) _ _ _ _ e3, real_of_all _ _ (fun _ => ofBits_infinity) _ _ _ _ e4⟩

end Cert.Finite
-- ==== Proof.MlaClaim.lean ====
/- Latent attention: the value claim from the runs and the equality of the arrays. -/
module

public import proofs.«01_k».proof.Defs
public import proofs.«01_k».proof.Proof.MlaValue
public import proofs.«01_k».proof.Proof.Finite
public import proofs.«01_k».proof.Proof.Gen.Pre_mla_finite_qk

@[expose] public section

set_option maxRecDepth 16384

noncomputable section

namespace Cert.Proof.MlaClaim

open Idealize.ShloMosaic hiding ix3 ix4 ix5
open Idealize.ShloMosaic.ValueIdx Idealize.ShloMosaic.TcCoe Idealize.SL.Sem
open Cert.Attend Cert.Proof.MlaKernel Cert.Proof.MlaArrays Cert.Proof.MlaValue

/-- What the kernel's result array ends holding is the reference's value of the arguments. -/
theorem result_eq (m : (ℓ : Loc Cert.MlaIdeal.nD Cert.MlaIdeal.τ Cert.MlaIdeal.sig) → Buf (Elt Ideal) ℓ) (c : Dev Cert.MlaIdeal.nD)
    (hp : Pre_MlaIdeal_mla_finite_qk m) :
    (result m c : FVec Ideal ⟨3, ![8, 4352, 512]⟩ .bf16) = Cert.MlaRefIdeal.Read.val_main_v40 (F := Ideal)
      (m ((c.tc : Thread Cert.MlaIdeal.nD Cert.MlaIdeal.τ).loc Cert.MlaIdeal.main_arg0))
      (m ((c.tc : Thread Cert.MlaIdeal.nD Cert.MlaIdeal.τ).loc Cert.MlaIdeal.main_arg1))
      (m ((c.tc : Thread Cert.MlaIdeal.nD Cert.MlaIdeal.τ).loc Cert.MlaIdeal.main_arg2))
      (m ((c.tc : Thread Cert.MlaIdeal.nD Cert.MlaIdeal.τ).loc Cert.MlaIdeal.main_arg3))
      (m ((c.tc : Thread Cert.MlaIdeal.nD Cert.MlaIdeal.τ).loc Cert.MlaIdeal.main_arg4))
      (m ((c.tc : Thread Cert.MlaIdeal.nD Cert.MlaIdeal.τ).loc Cert.MlaIdeal.main_arg5)) := by
  obtain ⟨h0, h1, h3, h4⟩ := Cert.Finite.mla_real _ _ _ _ _ _ (hp c)
  unfold result
  rw [array_q, array_k, array_v]
  funext i
  refine (attended_apply _ _ _ _ _ _ h0 h1 h3 h4 (i 0) (i 1) (i 2)).trans ?_
  exact congrArg _ (funext fun a => by fin_cases a <;> rfl)

/-- The idealized kernel and the idealized reference end with equal results. -/
theorem algebraic : algebraic_MlaIdeal_MlaRefIdeal_pre_mla_finite_qk := by
  intro m g m' g' hp ha
  refine ⟨fun c => result m c, ?_, ?_⟩
  · refine (θ_run _ _ _).mono (fun r h c => ?_) (Cert.MlaIdeal.Value.run_blocks m g)
    obtain ⟨hr, hargs⟩ := h c
    exact ⟨hr.trans (final m c), hargs⟩
  · refine (θ_run _ _ _).mono (fun r h c => ?_) (Cert.MlaRefIdeal.Value.run m' g')
    obtain ⟨hr, hargs⟩ := h c
    refine ⟨hr.trans ?_, hargs⟩
    obtain ⟨e0, e1, e2, e3, e4, e5⟩ := ha c
    refine (Cert.MlaRefIdeal.Read.val_main_v40_eq m' c).trans ?_
    rw [e0, e1, e2, e3, e4, e5]
    exact (result_eq m c hp).symm

end Cert.Proof.MlaClaim
-- ==== Proof.GqaKernel.lean ====
/- The grouped-query attention kernel read as arrays: what a grid point leaves in its staging buffer, and so what the
   result array ends holding, in terms of the three arrays the host's operations hand the call. -/
module

public import proofs.«01_k».proof.Proof.Gen.GqaIdeal.Value
public import proofs.«01_k».proof.Proof.Attend

@[expose] public section

set_option maxRecDepth 16384

noncomputable section

namespace Cert.Proof.GqaKernel

open Cert.GqaIdeal Cert.GqaIdeal.Gen Cert.GqaIdeal.Value
open Idealize.ShloMosaic Idealize.ShloMosaic.TcCoe Idealize.ShloMosaic.ValueIdx Idealize.SL.Sem
open Idealize.ShloMosaic.Pipeline (Dat)
open Cert.Softmax Cert.Attend Cert.Tile

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A point of a context tile stores the tile's payload over the block's queries and the first 256 keys and values. -/
theorem outA_eq (c : Dev nD) (i : grid0.Coords) (arg3 : Memref sig .tc .vmem S1x1x256x128 .bf16) (harg3 : arg3.IsWhole)
    (arg4 : Memref sig .tc .vmem S1x1x4352x128 .bf16) (harg4 : arg4.IsWhole) (arg5 : Memref sig .tc .vmem S1x1x4352x128 .bf16)
    (harg5 : arg5.IsWhole) (arg6 : Memref sig .tc .vmem S1x256x128 .bf16) (harg6 : arg6.IsWhole) (hc0 : cond0_0 i) (hc1 : ¬cond0_1 i)
    (x0 : Vec Ideal S1x1x256x128 .bf16) (x1 : Vec Ideal S1x1x4352x128 .bf16) (x2 : Vec Ideal S1x1x4352x128 .bf16) :
    out0_A_3 (F := Ideal) c i arg3 harg3 arg4 harg4 arg5 harg5 arg6 harg6 hc0 hc1 x0 x1 x2
      = k0_pay2 x0
          (View.ld x1 (Rect.unit (s := S1x1x4352x128) ![0, 0, 0, 0] S1x1x256x128.size inb_S1x1x4352x128_S1x1x256x128_0_0_0_0))
          (View.ld x2 (Rect.unit (s := S1x1x4352x128) ![0, 0, 0, 0] S1x1x256x128.size inb_S1x1x4352x128_S1x1x256x128_0_0_0_0)) := by
  unfold out0_A_3
  rw [View.read_writes_junk_eq_canon]
  show View.canon ([⟨Rect.unit (s := S1x256x128) ![0, 0, 0] S1x256x128.size inb_S1x256x128_S1x256x128_0_0_0,
      k0_pay2
        (View.readAt (Elt Ideal) arg3.view (Rect.unit (s := S1x1x256x128) ![0, 0, 0, 0] S1x1x256x128.size inb_S1x1x256x128_S1x1x256x128_0_0_0_0).toLoadRect (harg3.unread x0))
        (View.readAt (Elt Ideal) arg4.view (Rect.unit (s := S1x1x4352x128) ![0, 0, 0, 0] S1x1x256x128.size inb_S1x1x4352x128_S1x1x256x128_0_0_0_0).toLoadRect (harg4.unread x1))
        (View.readAt (Elt Ideal) arg5.view (Rect.unit (s := S1x1x4352x128) ![0, 0, 0, 0] S1x1x256x128.size inb_S1x1x4352x128_S1x1x256x128_0_0_0_0).toLoadRect (harg5.unread x2))⟩] :
      List (View.Piece (Elt Ideal) S1x256x128 .bf16)) = _
  rw [View.canon_unit_zero hz3, View.readAt_eq_ld, View.readAt_eq_ld, View.readAt_eq_ld, harg3.read_unread, harg4.read_unread,
    harg5.read_unread, View.ld_unit_zero hz4]

/-- A point of any other tile stores the tile's payload over the block's queries and all keys and values. -/
theorem outB_eq (c : Dev nD) (i : grid0.Coords) (arg3 : Memref sig .tc .vmem S1x1x256x128 .bf16) (harg3 : arg3.IsWhole)
    (arg4 : Memref sig .tc .vmem S1x1x4352x128 .bf16) (harg4 : arg4.IsWhole) (arg5 : Memref sig .tc .vmem S1x1x4352x128 .bf16)
    (harg5 : arg5.IsWhole) (arg6 : Memref sig .tc .vmem S1x256x128 .bf16) (harg6 : arg6.IsWhole) (hc0 : ¬cond0_0 i) (hc1 : cond0_1 i)
    (x0 : Vec Ideal S1x1x256x128 .bf16) (x1 : Vec Ideal S1x1x4352x128 .bf16) (x2 : Vec Ideal S1x1x4352x128 .bf16) :
    out0_B_3 (F := Ideal) c i arg3 harg3 arg4 harg4 arg5 harg5 arg6 harg6 hc0 hc1 x0 x1 x2 = k0_pay3 x0 x1 x2 := by
  unfold out0_B_3
  rw [View.read_writes_junk_eq_canon]
  show View.canon ([⟨Rect.unit (s := S1x256x128) ![0, 0, 0] S1x256x128.size inb_S1x256x128_S1x256x128_0_0_0,
      k0_pay3
        (View.readAt (Elt Ideal) arg3.view (Rect.unit (s := S1x1x256x128) ![0, 0, 0, 0] S1x1x256x128.size inb_S1x1x256x128_S1x1x256x128_0_0_0_0).toLoadRect (harg3.unread x0))
        (View.readAt (Elt Ideal) arg4.view (Rect.unit (s := S1x1x4352x128) ![0, 0, 0, 0] S1x1x4352x128.size inb_S1x1x4352x128_S1x1x4352x128_0_0_0_0).toLoadRect (harg4.unread x1))
        (View.readAt (Elt Ideal) arg5.view (Rect.unit (s := S1x1x4352x128) ![0, 0, 0, 0] S1x1x4352x128.size inb_S1x1x4352x128_S1x1x4352x128_0_0_0_0).toLoadRect (harg5.unread x2))⟩] :
      List (View.Piece (Elt Ideal) S1x256x128 .bf16)) = _
  rw [View.canon_unit_zero hz3, View.readAt_eq_ld, View.readAt_eq_ld, View.readAt_eq_ld, harg3.read_unread, harg4.read_unread,
    harg5.read_unread, View.ld_unit_zero hz4, View.ld_unit_zero (S := S1x1x4352x128) hz4, View.ld_unit_zero (S := S1x1x4352x128) hz4]

/-- The context payload at a row and a lane. -/
theorem pay2_apply (q : Vec Ideal S1x1x256x128 .bf16) (k : Vec Ideal S1x1x256x128 .bf16) (v : Vec Ideal S1x1x256x128 .bf16)
    (r : Fin 256) (l : Fin 128) :
    k0_pay2 (F := Ideal) q k v (ix3 0 r l)
      = kernelRow (fun j : Fin 256 => ∑ d : Fin 128, q (ix4 0 0 r d) * k (ix4 0 0 j d)) (fun j => v (ix4 0 0 j l)) := by
  have e : k0_pay2 (F := Ideal) q k v = shapeCast S1x256x128
      (weighted reduces_S256x256_S256 shapeCasts_S256_S256x1 broadcasts_S256x1_S256x128 bitsLt_bf16_f32
        (powers reduces_S256x256_S256 shapeCasts_S256_S256x1 broadcasts_S256x1_S256x256
          (scores (shapeCast S256x128 q shapeCasts_S1x1x256x128_S256x128) (shapeCast S256x128 k shapeCasts_S1x1x256x128_S256x128)))
        (shapeCast S256x128 v shapeCasts_S1x1x256x128_S256x128)) shapeCasts_S256x128_S1x256x128 := rfl
  rw [e]
  refine (add1_apply _ _ r l).trans ?_
  rw [tile_apply (by decide)]
  refine congrArg₂ kernelRow (funext fun j => Finset.sum_congr rfl fun d _ => ?_) (funext fun j => drop2_apply _ _ _ _)
  exact congrArg₂ (fun a b : EReal => a * b) (drop2_apply _ _ _ _) (drop2_apply _ _ _ _)

/-- The full payload at a row and a lane. -/
theorem pay3_apply (q : Vec Ideal S1x1x256x128 .bf16) (k : Vec Ideal S1x1x4352x128 .bf16) (v : Vec Ideal S1x1x4352x128 .bf16)
    (r : Fin 256) (l : Fin 128) :
    k0_pay3 (F := Ideal) q k v (ix3 0 r l)
      = kernelRow (fun j : Fin 4352 => ∑ d : Fin 128, q (ix4 0 0 r d) * k (ix4 0 0 j d)) (fun j => v (ix4 0 0 j l)) := by
  have e : k0_pay3 (F := Ideal) q k v = shapeCast S1x256x128
      (weighted reduces_S256x4352_S256 shapeCasts_S256_S256x1 broadcasts_S256x1_S256x128 bitsLt_bf16_f32
        (powers reduces_S256x4352_S256 shapeCasts_S256_S256x1 broadcasts_S256x1_S256x4352
          (scores (shapeCast S256x128 q shapeCasts_S1x1x256x128_S256x128) (shapeCast S4352x128 k shapeCasts_S1x1x4352x128_S4352x128)))
        (shapeCast S4352x128 v shapeCasts_S1x1x4352x128_S4352x128)) shapeCasts_S256x128_S1x256x128 := rfl
  rw [e]
  refine (add1_apply _ _ r l).trans ?_
  rw [tile_apply (by decide)]
  refine congrArg₂ kernelRow (funext fun j => Finset.sum_congr rfl fun d _ => ?_) (funext fun j => drop2_apply _ _ _ _)
  exact congrArg₂ (fun a b : EReal => a * b) (drop2_apply _ _ _ _) (drop2_apply _ _ _ _)

/-- The key-value head of a head: two heads share one. -/
abbrev kvHead (h : Fin 4) : Fin 2 := ⟨h.val / 2, by have := h.isLt; omega⟩

/-- The block each window stages at a point: sequence, head (or key-value head) and tile of the point's position. -/
theorem index0 : ∀ t : Fin cfg0.N, win0_0.index t (0 : Fin 4) = t.val / 68 ∧ win0_0.index t (1 : Fin 4) = t.val / 17 % 4
    ∧ win0_0.index t (2 : Fin 4) = t.val % 17 ∧ win0_0.index t (3 : Fin 4) = 0 := (by decide +kernel : ∀ t : Fin grid0.N, _)
theorem index1 : ∀ t : Fin cfg0.N, win0_1.index t (0 : Fin 4) = t.val / 68 ∧ win0_1.index t (1 : Fin 4) = t.val / 17 % 4 / 2
    ∧ win0_1.index t (2 : Fin 4) = 0 ∧ win0_1.index t (3 : Fin 4) = 0 := (by decide +kernel : ∀ t : Fin grid0.N, _)
theorem index2 : ∀ t : Fin cfg0.N, win0_2.index t (0 : Fin 4) = t.val / 68 ∧ win0_2.index t (1 : Fin 4) = t.val / 17 % 4 / 2
    ∧ win0_2.index t (2 : Fin 4) = 0 ∧ win0_2.index t (3 : Fin 4) = 0 := (by decide +kernel : ∀ t : Fin grid0.N, _)
theorem index3 : ∀ t : Fin cfg0.N, win0_3.index t (0 : Fin 3) = t.val / 68 ∧ win0_3.index t (1 : Fin 3) = t.val % 17
    ∧ win0_3.index t (2 : Fin 3) = t.val / 17 % 4 := (by decide +kernel : ∀ t : Fin grid0.N, _)

/-- A point's sequence, head and tile. -/
abbrev seqOf (t : Fin cfg0.N) : Fin 8 := ⟨t.val / 68, by have := lt_of_lt_of_eq t.isLt (show cfg0.N = 544 from N_0); omega⟩
abbrev headOf (t : Fin cfg0.N) : Fin 4 := ⟨t.val / 17 % 4, Nat.mod_lt _ (by decide)⟩
abbrev tokenOf (t : Fin cfg0.N) (r : Fin 256) : Fin 4352 :=
  ⟨t.val % 17 * 256 + r.val, by have := r.isLt; have := Nat.mod_lt t.val (show 17 > 0 by decide); omega⟩

variable (m : (ℓ : Loc nD τ sig) → Buf (Elt Ideal) ℓ)

/-- The query block at a point. -/
theorem iblk0_apply (c : Dev nD) (t : Fin cfg0.N) (r : Fin 256) (d : Fin 128) :
    (iblk m c 0 t : Vec Ideal S1x1x256x128 .bf16) (ix4 0 0 r d)
      = (V m c main_v10 : Vec Ideal S8x4x4352x128 .bf16) (ix4 (seqOf t) (headOf t) (tokenOf t r) d) := by
  obtain ⟨e0, e1, e2, e3⟩ := index0 t
  show V m c main_v10 (((cfg0.win 0).blk t).view.emb (ix4 0 0 r d)) = _
  refine congrArg (V m c main_v10) (funext fun a => Fin.ext ?_)
  match a with
  | ⟨0, _⟩ => show win0_0.index t (0 : Fin 4) * 1 + 1 * 0 = t.val / 68; omega
  | ⟨1, _⟩ => show win0_0.index t (1 : Fin 4) * 1 + 1 * 0 = t.val / 17 % 4; omega
  | ⟨2, _⟩ => show win0_0.index t (2 : Fin 4) * 256 + 1 * r.val = t.val % 17 * 256 + r.val; omega
  | ⟨3, _⟩ => show win0_0.index t (3 : Fin 4) * 128 + 1 * d.val = d.val; omega

/-- The key block at a point. -/
theorem iblk1_apply (c : Dev nD) (t : Fin cfg0.N) (j : Fin 4352) (d : Fin 128) :
    (iblk m c 1 t : Vec Ideal S1x1x4352x128 .bf16) (ix4 0 0 j d)
      = (V m c main_v13 : Vec Ideal S8x2x4352x128 .bf16) (ix4 (seqOf t) (kvHead (headOf t)) j d) := by
  obtain ⟨e0, e1, e2, e3⟩ := index1 t
  show V m c main_v13 (((cfg0.win 1).blk t).view.emb (ix4 0 0 j d)) = _
  refine congrArg (V m c main_v13) (funext fun a => Fin.ext ?_)
  match a with
  | ⟨0, _⟩ => show win0_1.index t (0 : Fin 4) * 1 + 1 * 0 = t.val / 68; omega
  | ⟨1, _⟩ => show win0_1.index t (1 : Fin 4) * 1 + 1 * 0 = t.val / 17 % 4 / 2; omega
  | ⟨2, _⟩ => show win0_1.index t (2 : Fin 4) * 4352 + 1 * j.val = j.val; omega
  | ⟨3, _⟩ => show win0_1.index t (3 : Fin 4) * 128 + 1 * d.val = d.val; omega

/-- The value block at a point. -/
theorem iblk2_apply (c : Dev nD) (t : Fin cfg0.N) (j : Fin 4352) (l : Fin 128) :
    (iblk m c 2 t : Vec Ideal S1x1x4352x128 .bf16) (ix4 0 0 j l)
      = (V m c main_v16 : Vec Ideal S8x2x4352x128 .bf16) (ix4 (seqOf t) (kvHead (headOf t)) j l) := by
  obtain ⟨e0, e1, e2, e3⟩ := index2 t
  show V m c main_v16 (((cfg0.win 2).blk t).view.emb (ix4 0 0 j l)) = _
  refine congrArg (V m c main_v16) (funext fun a => Fin.ext ?_)
  match a with
  | ⟨0, _⟩ => show win0_2.index t (0 : Fin 4) * 1 + 1 * 0 = t.val / 68; omega
  | ⟨1, _⟩ => show win0_2.index t (1 : Fin 4) * 1 + 1 * 0 = t.val / 17 % 4 / 2; omega
  | ⟨2, _⟩ => show win0_2.index t (2 : Fin 4) * 4352 + 1 * j.val = j.val; omega
  | ⟨3, _⟩ => show win0_2.index t (3 : Fin 4) * 128 + 1 * l.val = l.val; omega

/-- A key row of the first 256 read through the context rectangle is that row of the block. -/
theorem ctxRows_apply (x : Vec Ideal S1x1x4352x128 .bf16) (j : Fin 256) (d : Fin 128) :
    View.ld x (Rect.unit (s := S1x1x4352x128) ![0, 0, 0, 0] S1x1x256x128.size inb_S1x1x4352x128_S1x1x256x128_0_0_0_0) (ix4 0 0 j d)
      = x (ix4 0 0 (ctx j) d) := by
  refine congrArg x (funext fun a => Fin.ext ?_)
  match a with
  | ⟨0, _⟩ => rfl
  | ⟨1, _⟩ => rfl
  | ⟨2, _⟩ => show 0 + 1 * j.val = j.val; omega
  | ⟨3, _⟩ => show 0 + 1 * d.val = d.val; omega

/-- The result: the attention of the three arrays as the call finds them. -/
abbrev result (c : Dev nD) : Vec Ideal S8x4352x512 .bf16 :=
  attended (D := 128) kvHead (V m c main_v10) (V m c main_v13) (V m c main_v16)

/-- The result read through a point's block. -/
theorem resultBlock_apply (c : Dev nD) (t : Fin cfg0.N) (r : Fin 256) (l : Fin 128) :
    ((cfg0.win 3).blk t).view.read (Elt Ideal) (result m c) (ix3 0 r l)
      = attend (D := 128) kvHead (V m c main_v10) (V m c main_v13) (V m c main_v16) (seqOf t) (headOf t) (tokenOf t r) l := by
  obtain ⟨e0, e1, e2⟩ := index3 t
  have e : ((cfg0.win 3).blk t).view.emb (ix3 0 r l)
      = (ix3 (seqOf t) (tokenOf t r) ⟨t.val / 17 % 4 * 128 + l.val, by have := l.isLt; have := Nat.mod_lt (t.val / 17) (show 4 > 0 by decide); omega⟩ : S8x4352x512.Idx) := by
    funext a; apply Fin.ext
    match a with
    | ⟨0, _⟩ => show win0_3.index t (0 : Fin 3) * 1 + 1 * 0 = t.val / 68; omega
    | ⟨1, _⟩ => show win0_3.index t (1 : Fin 3) * 256 + 1 * r.val = t.val % 17 * 256 + r.val; omega
    | ⟨2, _⟩ => show win0_3.index t (2 : Fin 3) * 128 + 1 * l.val = t.val / 17 % 4 * 128 + l.val; omega
  show result m c (((cfg0.win 3).blk t).view.emb (ix3 0 r l)) = _
  rw [e]
  have hh : head ⟨t.val / 17 % 4 * 128 + l.val, by have := l.isLt; have := Nat.mod_lt (t.val / 17) (show 4 > 0 by decide); omega⟩ = headOf t :=
    Fin.ext (by have := l.isLt; show (t.val / 17 % 4 * 128 + l.val) / 128 = t.val / 17 % 4; omega)
  have hl : lane ⟨t.val / 17 % 4 * 128 + l.val, by have := l.isLt; have := Nat.mod_lt (t.val / 17) (show 4 > 0 by decide); omega⟩ = l :=
    Fin.ext (by have := l.isLt; show (t.val / 17 % 4 * 128 + l.val) % 128 = l.val; omega)
  show attend (D := 128) kvHead _ _ _ (seqOf t) (head ⟨t.val / 17 % 4 * 128 + l.val, _⟩) (tokenOf t r) (lane ⟨t.val / 17 % 4 * 128 + l.val, _⟩) = _
  rw [hh, hl]

/-- What a point writes back is its block of the result. -/
theorem flushed_eq (c : Dev nD) (t : Fin cfg0.N) :
    (dats m 0 c).flushed 3 t = ((cfg0.win 3).blk t).view.read (Elt Ideal) (result m c) := by
  funext y
  obtain ⟨r, l, rfl⟩ : ∃ (r : Fin 256) (l : Fin 128), y = (ix3 0 r l : S1x256x128.Idx) :=
    ⟨y 1, y 2, funext fun a => match a with
      | ⟨0, _⟩ => Fin.ext (by have := (y 0).isLt; show (y 0).val = 0; exact Nat.lt_one_iff.1 this)
      | ⟨1, _⟩ => rfl
      | ⟨2, _⟩ => rfl⟩
  refine Eq.trans ?_ (resultBlock_apply m c t r l).symm
  by_cases h0 : t.val % 17 = 0
  · rw [flushed3_A m c t h0 (by omega), outA_eq]
    refine (pay2_apply _ _ _ r l).trans ?_
    unfold attend
    rw [if_pos (show (tokenOf t r).val < 256 by have := r.isLt; show t.val % 17 * 256 + r.val < 256; omega)]
    refine congrArg₂ kernelRow (funext fun j => Finset.sum_congr rfl fun d _ => ?_)
      (funext fun j => (ctxRows_apply _ j l).trans (iblk2_apply m c t (ctx j) l))
    exact congrArg₂ (fun a b : EReal => a * b) (iblk0_apply m c t r d) ((ctxRows_apply _ j d).trans (iblk1_apply m c t (ctx j) d))
  · rw [flushed3_B m c t h0 (by omega), outB_eq]
    refine (pay3_apply _ _ _ r l).trans ?_
    unfold attend
    rw [if_neg (show ¬(tokenOf t r).val < 256 by show ¬(t.val % 17 * 256 + r.val < 256); omega)]
    refine congrArg₂ kernelRow (funext fun j => Finset.sum_congr rfl fun d _ => ?_) (funext fun j => iblk2_apply m c t j l)
    exact congrArg₂ (fun a b : EReal => a * b) (iblk0_apply m c t r d) (iblk1_apply m c t j d)

/-- The point of a sequence, a head and a tile, and its three coordinates back. -/
theorem point_split {b q p : Nat} (hq : q < 4) (hp : p < 17) :
    ((b * 4 + q) * 17 + p) / 68 = b ∧ ((b * 4 + q) * 17 + p) % 17 = p ∧ ((b * 4 + q) * 17 + p) / 17 % 4 = q := by omega

/-- Every index of the result array is in a point's block. -/
theorem covered (i : S8x4352x512.Idx) :
    ∃ t : Fin cfg0.N, (cfg0.win 3).flush t = true ∧ i ∈ ((cfg0.win 3).blk t).view.set := by
  have h0 : (i 0 : Nat) < 8 := (i 0).isLt
  have h1 : (i 1 : Nat) < 4352 := (i 1).isLt
  have h2 : (i 2 : Nat) < 512 := (i 2).isLt
  obtain ⟨T, hT⟩ : ∃ T, T = ((i 0).val * 4 + (i 2).val / 128) * 17 + (i 1).val / 256 := ⟨_, rfl⟩
  obtain ⟨d0, d1, d2⟩ := point_split (b := (i 0).val) (q := (i 2).val / 128) (p := (i 1).val / 256) (by omega) (by omega)
  rw [← hT] at d0 d1 d2
  have hlt : T < cfg0.N := lt_of_lt_of_eq (by omega : T < 544) (show cfg0.N = 544 from N_0).symm
  refine ⟨⟨T, hlt⟩, flush0_3 _, ?_⟩
  obtain ⟨e0, e1, e2⟩ := index3 ⟨T, hlt⟩
  dsimp only at e0 e1 e2
  have hi : ((cfg0.win 3).blk ⟨T, hlt⟩).view.emb
      (ix3 0 ⟨(i 1).val % 256, Nat.mod_lt _ (by decide)⟩ ⟨(i 2).val % 128, Nat.mod_lt _ (by decide)⟩ : S1x256x128.Idx) = i := by
    funext a; apply Fin.ext
    match a with
    | ⟨0, _⟩ => show win0_3.index ⟨T, hlt⟩ (0 : Fin 3) * 1 + 1 * 0 = (i 0).val; rw [e0, d0]; omega
    | ⟨1, _⟩ => show win0_3.index ⟨T, hlt⟩ (1 : Fin 3) * 256 + 1 * ((i 1).val % 256) = (i 1).val; rw [e1, d1]; omega
    | ⟨2, _⟩ => show win0_3.index ⟨T, hlt⟩ (2 : Fin 3) * 128 + 1 * ((i 2).val % 128) = (i 2).val; rw [e2, d2]; omega
  have h := ((cfg0.win 3).blk ⟨T, hlt⟩).view.emb_mem_set
    (ix3 0 ⟨(i 1).val % 256, Nat.mod_lt _ (by decide)⟩ ⟨(i 2).val % 128, Nat.mod_lt _ (by decide)⟩ : S1x256x128.Idx)
  rwa [hi] at h

/-- So the result array ends holding the attention of the three arrays. -/
theorem final (c : Dev nD) : (dats m 0 c).arrAt 3 cfg0.N = result m c :=
  (dats m 0 c).arrAt_eq_of_cover 3 (result m c) (fun t _ => flushed_eq m c t) covered

end Cert.Proof.GqaKernel
-- ==== Proof.GqaArrays.lean ====
/- The three arrays the host's operations hand the grouped-query attention call, read at an index from the arguments. -/
module

public import proofs.«01_k».proof.Proof.GqaKernel
public import proofs.«01_k».proof.Proof.Tokens

@[expose] public section

set_option maxRecDepth 16384

noncomputable section

namespace Cert.Proof.GqaArrays

open Cert.GqaIdeal Cert.GqaIdeal.Gen
open Idealize.ShloMosaic Idealize.ShloMosaic.TcCoe Idealize.ShloMosaic.ValueIdx Idealize.SL.Sem
open Cert.Softmax Cert.Tile Cert.Tokens Cert.Proof.GqaKernel

variable (m : (ℓ : Loc nD τ sig) → Buf (Elt Ideal) ℓ) (c : Dev nD)

/-- The factor the host multiplies the queries by. -/
def factor : FVec Ideal S_ .f32 :=
  Host.divf (constant S_ .f32 0x3F800000#32)
    (mulf (Host.sqrt (constant S_ .f32 0x43000000#32)) (Host.log (constant S_ .f32 0x40000000#32)))

/-- The queries: both token stretches joined, the heads in front, times the factor. -/
def queriesOf (x0 : FVec Ideal S8x4096x2x2x128 .f32) (x3 : FVec Ideal S8x256x2x2x128 .f32) :
    FVec Ideal S8x4x4352x128 .f32 :=
  mulf
    (transpose S8x4x4352x128 [0, 2, 1, 3]
      (concatenate S8x4352x4x128 1
        [⟨S8x256x4x128, shapeCast S8x256x4x128 x3 shapeCasts_S8x256x2x2x128_S8x256x4x128⟩,
          ⟨S8x4096x4x128, shapeCast S8x4096x4x128 x0 shapeCasts_S8x4096x2x2x128_S8x4096x4x128⟩]
        concatenates_S8x256x4x128_S8x4096x4x128_S8x4352x4x128_d1)
      transposes_S8x4352x4x128_S8x4x4352x128_0_2_1_3)
    (broadcastInDim S8x4x4352x128 ![] bcast_S_S8x4x4352x128 factor)

/-- Keys or values: both token stretches joined, the key-value heads in front. -/
def joinedOf (x : FVec Ideal S8x4096x2x128 .f32) (xc : FVec Ideal S8x256x2x128 .f32) :
    FVec Ideal S8x2x4352x128 .f32 :=
  transpose S8x2x4352x128 [0, 2, 1, 3]
    (concatenate S8x4352x2x128 1 [⟨S8x256x2x128, xc⟩, ⟨S8x4096x2x128, x⟩] concatenates_S8x256x2x128_S8x4096x2x128_S8x4352x2x128_d1)
    transposes_S8x4352x2x128_S8x2x4352x128_0_2_1_3

theorem array_q : V m c main_v10
    = truncf (F := Ideal) .bf16 (queriesOf (m ((c : Thread nD τ).loc main_arg0)) (m ((c : Thread nD τ).loc main_arg3))) bitsLt_bf16_f32 := by
  unfold V
  after_results
  rfl
theorem array_k : V m c main_v13
    = truncf (F := Ideal) .bf16 (joinedOf (m ((c : Thread nD τ).loc main_arg1)) (m ((c : Thread nD τ).loc main_arg4))) bitsLt_bf16_f32 := by
  unfold V
  after_results
  rfl
theorem array_v : V m c main_v16
    = truncf (F := Ideal) .bf16 (joinedOf (m ((c : Thread nD τ).loc main_arg2)) (m ((c : Thread nD τ).loc main_arg5))) bitsLt_bf16_f32 := by
  unfold V
  after_results
  rfl

/-- The factor is 1 / (√128 · log 2). -/
theorem factor_apply (i : S_.Idx) : factor i = (((1 / Real.sqrt 128) / Real.log 2 : ℝ) : EReal) := by
  show Ideal.div (Ideal.ofBits .f32 0x3F800000#32) (Ideal.sqrt (Ideal.ofBits .f32 0x43000000#32) * Ideal.log (Ideal.ofBits .f32 0x40000000#32)) = _
  rw [ofBits_one, ofBits_two, ofBits_128]
  exact scale_kernel 128 (by norm_num)

/-- A head's place within its group. -/
abbrev rep (h : Fin 4) : Fin 2 := ⟨h.val % 2, Nat.mod_lt _ (by decide)⟩

/-- A query of the call: the argument's query of the head's group and place, times the factor. -/
theorem queries_apply (x0 : FVec Ideal S8x4096x2x2x128 .f32) (x3 : FVec Ideal S8x256x2x2x128 .f32)
    (b : Fin 8) (h : Fin 4) (n : Fin 4352) (d : Fin 128) :
    queriesOf x0 x3 (ix4 b h n d)
      = (tok (fun j => x3 (ix5 b j (kvHead h) (rep h) d)) (fun j => x0 (ix5 b j (kvHead h) (rep h) d)) n : EReal)
        * (((1 / Real.sqrt 128) / Real.log 2 : ℝ) : EReal) := by
  have e1 : transpose S8x4x4352x128 [0, 2, 1, 3]
      (concatenate S8x4352x4x128 1
        [⟨S8x256x4x128, shapeCast S8x256x4x128 x3 shapeCasts_S8x256x2x2x128_S8x256x4x128⟩,
          ⟨S8x4096x4x128, shapeCast S8x4096x4x128 x0 shapeCasts_S8x4096x2x2x128_S8x4096x4x128⟩]
        concatenates_S8x256x4x128_S8x4096x4x128_S8x4352x4x128_d1)
      transposes_S8x4352x4x128_S8x4x4352x128_0_2_1_3 (ix4 b h n d)
      = (tok (fun j => x3 (ix5 b j (kvHead h) (rep h) d)) (fun j => x0 (ix5 b j (kvHead h) (rep h) d)) n : EReal) := by
    refine (transpose_apply _ _ _ _ (ix4 b n h d) (fun a => by fin_cases a <;> rfl)).trans ?_
    refine (join4 _ _ _ b n h d).trans ?_
    refine congrArg₂ (fun (x : Fin 256 → EReal) y => tok x y n) (funext fun j => ?_) (funext fun j => ?_)
    · refine shapeCast_apply x3 _ (ix4 b j h d) (ix5 b j (kvHead h) (rep h) d) ?_
      rewrite [Shape.rowMajor_val_five, Shape.rowMajor_val_four]
      show (((b.val * 256 + j.val) * 2 + h.val / 2) * 2 + h.val % 2) * 128 + d.val = ((b.val * 256 + j.val) * 4 + h.val) * 128 + d.val
      omega
    · refine shapeCast_apply x0 _ (ix4 b j h d) (ix5 b j (kvHead h) (rep h) d) ?_
      rewrite [Shape.rowMajor_val_five, Shape.rowMajor_val_four]
      show (((b.val * 4096 + j.val) * 2 + h.val / 2) * 2 + h.val % 2) * 128 + d.val = ((b.val * 4096 + j.val) * 4 + h.val) * 128 + d.val
      omega
  have e2 : broadcastInDim S8x4x4352x128 ![] bcast_S_S8x4x4352x128 factor (ix4 b h n d) = (((1 / Real.sqrt 128) / Real.log 2 : ℝ) : EReal) :=
    factor_apply _
  exact congrArg₂ (fun a b : EReal => a * b) e1 e2

/-- A key or a value of the call: the argument's. -/
theorem joined_apply (x : FVec Ideal S8x4096x2x128 .f32) (xc : FVec Ideal S8x256x2x128 .f32)
    (b : Fin 8) (g : Fin 2) (n : Fin 4352) (d : Fin 128) :
    joinedOf x xc (ix4 b g n d) = tok (fun j => xc (ix4 b j g d)) (fun j => x (ix4 b j g d)) n :=
  (transpose_apply _ _ _ _ (ix4 b n g d) (fun a => by fin_cases a <;> rfl)).trans (join4 _ _ _ b n g d)

end Cert.Proof.GqaArrays
-- ==== Proof.GqaReference.lean ====
/- The grouped-query reference read at an index: every element of its result is a `referenceRow` of the arguments. -/
module

public import proofs.«01_k».proof.Proof.Gen.GqaRefIdeal.Read
public import proofs.«01_k».proof.Proof.Tokens

@[expose] public section

set_option maxRecDepth 16384

noncomputable section

namespace Cert.Proof.GqaReference

open Cert.GqaRefIdeal Cert.GqaRefIdeal.Gen Cert.GqaRefIdeal.Read
open Idealize.ShloMosaic Idealize.ShloMosaic.TcCoe Idealize.ShloMosaic.ValueIdx Idealize.SL.Sem
open Cert.Softmax Cert.Tile Cert.Tokens Cert.Attend

variable (x0 : (⟨S8x4096x2x2x128, .f32⟩ : BufTy).Contents (Elt Ideal)) (x1 x2 : (⟨S8x4096x2x128, .f32⟩ : BufTy).Contents (Elt Ideal))
  (x3 : (⟨S8x256x2x2x128, .f32⟩ : BufTy).Contents (Elt Ideal)) (x4 x5 : (⟨S8x256x2x128, .f32⟩ : BufTy).Contents (Elt Ideal))

/-- The scale is 1 / √128. -/
theorem scale_apply (i : S_.Idx) : val_main_v1 (F := Ideal) i = ((1 / Real.sqrt 128 : ℝ) : EReal) := by
  show Ideal.div (Ideal.ofBits .f32 0x3F800000#32) (Ideal.sqrt (Ideal.ofBits .f32 0x43000000#32)) = _
  rw [ofBits_one, ofBits_128]
  exact scale_reference 128 (by norm_num)

/-! ## The context tokens -/

/-- A scaled score of a context query with a context key. -/
theorem ctx_score (b : Fin 8) (g r : Fin 2) (n j : Fin 256) :
    val_main_v5 (F := Ideal) x3 x4 (ix5 b g r n j)
      = (∑ d : Fin 128, x4 (ix4 b j g d) * x3 (ix5 b n g r d) : EReal) * ((1 / Real.sqrt 128 : ℝ) : EReal) := by
  rw [val_main_v5_apply, val_main_v3_apply, val_main_v2_apply, val_main_v4_apply]
  exact congrArg₂ (fun a b : EReal => a * b)
    (Finset.sum_congr rfl fun d _ => congrArg₂ (fun a b : EReal => a * b)
      (congrArg x4 (funext fun a => by fin_cases a <;> rfl)) (congrArg x3 (funext fun a => by fin_cases a <;> rfl)))
    (scale_apply _)

/-- A context row's maximum. -/
theorem ctx_max (b : Fin 8) (g r : Fin 2) (n : Fin 256) :
    val_main_v8 (F := Ideal) x3 x4 (ix4 b g r n)
      = max ⊥ ((Finset.univ : Finset (Fin 256)).fold max ⊥ fun j => val_main_v5 (F := Ideal) x3 x4 (ix5 b g r n j)) := by
  rw [val_main_v8_apply, val_main_v7_apply]
  refine congrArg₂ (fun a b : EReal => max a b) ofBits_neg_infinity ?_
  unfold val_main_v6
  refine (Host.reduce_eq_fold_single (max : EReal → EReal → EReal) _ _ _ (by decide) _ _).trans ?_
  refine congrArg₂ (fun a f => (Finset.univ : Finset (Fin 256)).fold (max : EReal → EReal → EReal) a f) ofBits_neg_infinity (funext fun j => ?_)
  exact congrArg (val_main_v5 (F := Ideal) x3 x4) (funext fun a => by fin_cases a <;> rfl)

/-- A context row's exponential. -/
theorem ctx_exp (b : Fin 8) (g r : Fin 2) (n j : Fin 256) :
    val_main_v12 (F := Ideal) x3 x4 (ix5 b g r n j)
      = Ideal.exp (val_main_v5 (F := Ideal) x3 x4 (ix5 b g r n j)
        - max ⊥ ((Finset.univ : Finset (Fin 256)).fold max ⊥ fun j => val_main_v5 (F := Ideal) x3 x4 (ix5 b g r n j))) := by
  rw [val_main_v12_apply, val_main_v11_apply, val_main_v10_apply, val_main_v9_apply, ← ctx_max]
  refine congrArg (fun a => Ideal.exp (val_main_v5 (F := Ideal) x3 x4 (ix5 b g r n j) - val_main_v8 (F := Ideal) x3 x4 a)) ?_
  exact funext fun a => by fin_cases a <;> rfl

/-- A context row's weight. -/
theorem ctx_weight (b : Fin 8) (g r : Fin 2) (n j : Fin 256) :
    val_main_v16 (F := Ideal) x3 x4 (ix5 b g r n j)
      = Ideal.div (val_main_v12 (F := Ideal) x3 x4 (ix5 b g r n j)) (0 + ∑ j : Fin 256, val_main_v12 (F := Ideal) x3 x4 (ix5 b g r n j)) := by
  rw [val_main_v16_apply, val_main_v15_apply, val_main_v14_apply, val_main_v13_apply]
  refine congrArg₂ (fun a s : EReal => Ideal.div (val_main_v12 (F := Ideal) x3 x4 (ix5 b g r n j)) (a + s)) Ideal.ofBits_zero_f32
    (Finset.sum_congr rfl fun k _ => ?_)
  exact congrArg (val_main_v12 (F := Ideal) x3 x4) (funext fun a => by fin_cases a <;> rfl)

/-- A context token's output. -/
theorem ctx_row (b : Fin 8) (n : Fin 256) (g r : Fin 2) (l : Fin 128) :
    val_main_v18 (F := Ideal) x3 x4 x5 (ix5 b n g r l)
      = referenceRow
          (fun j : Fin 256 => (∑ d : Fin 128, x4 (ix4 b j g d) * x3 (ix5 b n g r d) : EReal) * ((1 / Real.sqrt 128 : ℝ) : EReal))
          (fun j => x5 (ix4 b j g l)) := by
  rw [val_main_v18_apply, val_main_v17_apply]
  unfold referenceRow
  refine Finset.sum_congr rfl fun j _ => congrArg₂ (fun a b : EReal => a * b) (congrArg x5 (funext fun a => by fin_cases a <;> rfl)) ?_
  refine (congrArg (val_main_v16 (F := Ideal) x3 x4) (show _ = ix5 b g r n j from funext fun a => by fin_cases a <;> rfl)).trans ?_
  rw [ctx_weight]
  simp only [ctx_exp, ctx_score]

/-! ## The latent tokens -/

/-- The keys of all tokens. -/
theorem keys_apply (b : Fin 8) (j : Fin 4352) (g : Fin 2) (d : Fin 128) :
    val_main_v19 (F := Ideal) x1 x4 (ix4 b j g d) = tok (fun j => x4 (ix4 b j g d)) (fun j => x1 (ix4 b j g d)) j := by
  unfold val_main_v19
  exact join4 x4 x1 _ b j g d
/-- The values of all tokens. -/
theorem values_apply (b : Fin 8) (j : Fin 4352) (g : Fin 2) (d : Fin 128) :
    val_main_v20 (F := Ideal) x2 x5 (ix4 b j g d) = tok (fun j => x5 (ix4 b j g d)) (fun j => x2 (ix4 b j g d)) j := by
  unfold val_main_v20
  exact join4 x5 x2 _ b j g d

/-- A scaled score of a latent query with any key. -/
theorem lat_score (b : Fin 8) (g r : Fin 2) (n : Fin 4096) (j : Fin 4352) :
    val_main_v24 (F := Ideal) x0 x1 x4 (ix5 b g r n j)
      = (∑ d : Fin 128, tok (fun j => x4 (ix4 b j g d)) (fun j => x1 (ix4 b j g d)) j * x0 (ix5 b n g r d) : EReal)
        * ((1 / Real.sqrt 128 : ℝ) : EReal) := by
  rw [val_main_v24_apply, val_main_v22_apply, val_main_v21_apply, val_main_v23_apply]
  exact congrArg₂ (fun a b : EReal => a * b)
    (Finset.sum_congr rfl fun d _ => congrArg₂ (fun a b : EReal => a * b)
      ((congrArg (val_main_v19 (F := Ideal) x1 x4) (funext fun a => by fin_cases a <;> rfl)).trans (keys_apply x1 x4 b j g d))
      (congrArg x0 (funext fun a => by fin_cases a <;> rfl)))
    (scale_apply _)

/-- A latent row's maximum. -/
theorem lat_max (b : Fin 8) (g r : Fin 2) (n : Fin 4096) :
    val_main_v27 (F := Ideal) x0 x1 x4 (ix4 b g r n)
      = max ⊥ ((Finset.univ : Finset (Fin 4352)).fold max ⊥ fun j => val_main_v24 (F := Ideal) x0 x1 x4 (ix5 b g r n j)) := by
  rw [val_main_v27_apply, val_main_v26_apply]
  refine congrArg₂ (fun a b : EReal => max a b) ofBits_neg_infinity ?_
  unfold val_main_v25
  refine (Host.reduce_eq_fold_single (max : EReal → EReal → EReal) _ _ _ (by decide) _ _).trans ?_
  refine congrArg₂ (fun a f => (Finset.univ : Finset (Fin 4352)).fold (max : EReal → EReal → EReal) a f) ofBits_neg_infinity (funext fun j => ?_)
  exact congrArg (val_main_v24 (F := Ideal) x0 x1 x4) (funext fun a => by fin_cases a <;> rfl)

/-- A latent row's exponential. -/
theorem lat_exp (b : Fin 8) (g r : Fin 2) (n : Fin 4096) (j : Fin 4352) :
    val_main_v31 (F := Ideal) x0 x1 x4 (ix5 b g r n j)
      = Ideal.exp (val_main_v24 (F := Ideal) x0 x1 x4 (ix5 b g r n j)
        - max ⊥ ((Finset.univ : Finset (Fin 4352)).fold max ⊥ fun j => val_main_v24 (F := Ideal) x0 x1 x4 (ix5 b g r n j))) := by
  rw [val_main_v31_apply, val_main_v30_apply, val_main_v29_apply, val_main_v28_apply, ← lat_max]
  refine congrArg (fun a => Ideal.exp (val_main_v24 (F := Ideal) x0 x1 x4 (ix5 b g r n j) - val_main_v27 (F := Ideal) x0 x1 x4 a)) ?_
  exact funext fun a => by fin_cases a <;> rfl

/-- A latent row's weight. -/
theorem lat_weight (b : Fin 8) (g r : Fin 2) (n : Fin 4096) (j : Fin 4352) :
    val_main_v35 (F := Ideal) x0 x1 x4 (ix5 b g r n j)
      = Ideal.div (val_main_v31 (F := Ideal) x0 x1 x4 (ix5 b g r n j))
          (0 + ∑ j : Fin 4352, val_main_v31 (F := Ideal) x0 x1 x4 (ix5 b g r n j)) := by
  rw [val_main_v35_apply, val_main_v34_apply, val_main_v33_apply, val_main_v32_apply]
  refine congrArg₂ (fun a s : EReal => Ideal.div (val_main_v31 (F := Ideal) x0 x1 x4 (ix5 b g r n j)) (a + s)) Ideal.ofBits_zero_f32
    (Finset.sum_congr rfl fun k _ => ?_)
  exact congrArg (val_main_v31 (F := Ideal) x0 x1 x4) (funext fun a => by fin_cases a <;> rfl)

/-- A latent token's output. -/
theorem lat_row (b : Fin 8) (n : Fin 4096) (g r : Fin 2) (l : Fin 128) :
    val_main_v37 (F := Ideal) x0 x1 x2 x4 x5 (ix5 b n g r l)
      = referenceRow
          (fun j : Fin 4352 => (∑ d : Fin 128, tok (fun j => x4 (ix4 b j g d)) (fun j => x1 (ix4 b j g d)) j * x0 (ix5 b n g r d) : EReal)
            * ((1 / Real.sqrt 128 : ℝ) : EReal))
          (fun j => tok (fun j => x5 (ix4 b j g l)) (fun j => x2 (ix4 b j g l)) j) := by
  rw [val_main_v37_apply, val_main_v36_apply]
  unfold referenceRow
  refine Finset.sum_congr rfl fun j _ => congrArg₂ (fun a b : EReal => a * b)
    ((congrArg (val_main_v20 (F := Ideal) x2 x5) (funext fun a => by fin_cases a <;> rfl)).trans (values_apply x2 x5 b j g l)) ?_
  refine (congrArg (val_main_v35 (F := Ideal) x0 x1 x4) (show _ = ix5 b g r n j from funext fun a => by fin_cases a <;> rfl)).trans ?_
  rw [lat_weight]
  simp only [lat_exp, lat_score]

/-! ## The result -/

/-- The result's columns split into group, place in the group and value lane. -/
theorem result_apply (b : Fin 8) (n : Fin 4352) (e : Fin 512) (g r : Fin 2) (hg : g.val = e.val / 256) (hr : r.val = e.val / 128 % 2) :
    val_main_v40 (F := Ideal) x0 x1 x2 x3 x4 x5 (ix3 b n e)
      = tok (fun n => val_main_v18 (F := Ideal) x3 x4 x5 (ix5 b n g r (lane e)))
          (fun n => val_main_v37 (F := Ideal) x0 x1 x2 x4 x5 (ix5 b n g r (lane e))) n := by
  rw [val_main_v40_apply, val_main_v39_apply]
  have hi : idx_main_v39 (ix3 b n e) = ix5 b n g r (lane e) := by
    have hb := b.isLt; have hn := n.isLt; have he := e.isLt
    refine funext fun a => Fin.ext ?_
    match a with
    | ⟨0, _⟩ => show ((b.val * 4352 + n.val) * 512 + e.val) / 2228224 = b.val; omega
    | ⟨1, _⟩ => show ((b.val * 4352 + n.val) * 512 + e.val) / 512 % 4352 = n.val; omega
    | ⟨2, _⟩ => show ((b.val * 4352 + n.val) * 512 + e.val) / 256 % 2 = g.val; omega
    | ⟨3, _⟩ => show ((b.val * 4352 + n.val) * 512 + e.val) / 128 % 2 = r.val; omega
    | ⟨4, _⟩ => show ((b.val * 4352 + n.val) * 512 + e.val) % 128 = e.val % 128; omega
  rw [hi]
  unfold val_main_v38
  exact join5 _ _ _ b n g r (lane e)

end Cert.Proof.GqaReference
-- ==== Proof.GqaValue.lean ====
/- Grouped-query attention: with real queries and keys the kernel's array is the reference's. -/
module

public import proofs.«01_k».proof.Proof.GqaArrays
public import proofs.«01_k».proof.Proof.GqaReference
public import proofs.«01_k».proof.Proof.Rows

@[expose] public section

set_option maxRecDepth 16384

noncomputable section

namespace Cert.Proof.GqaValue

open Idealize.ShloMosaic Idealize.ShloMosaic.ValueIdx
open Cert.Softmax Cert.Attend Cert.Tokens Cert.Rows Cert.Proof.GqaKernel Cert.Proof.GqaArrays Cert.Proof.GqaReference
open Cert.GqaRefIdeal Cert.GqaRefIdeal.Read

variable (x0 : FVec Ideal S8x4096x2x2x128 .f32) (x1 x2 : FVec Ideal S8x4096x2x128 .f32)
  (x3 : FVec Ideal S8x256x2x2x128 .f32) (x4 x5 : FVec Ideal S8x256x2x128 .f32)

/-- The attention of the host's three arrays equals the reference's result at every index. -/
theorem attended_apply (h0 : ∀ i, ∃ r : ℝ, x0 i = (r : EReal)) (h1 : ∀ i, ∃ r : ℝ, x1 i = (r : EReal))
    (h3 : ∀ i, ∃ r : ℝ, x3 i = (r : EReal)) (h4 : ∀ i, ∃ r : ℝ, x4 i = (r : EReal)) (b : Fin 8) (n : Fin 4352) (e : Fin 512) :
    attend (D := 128) kvHead (queriesOf x0 x3) (joinedOf x1 x4) (joinedOf x2 x5) b (head e) n (lane e)
      = val_main_v40 (F := Ideal) x0 x1 x2 x3 x4 x5 (ix3 b n e) := by
  have he := e.isLt
  set g := kvHead (head e) with hg
  set r := rep (head e) with hr
  rw [result_apply x0 x1 x2 x3 x4 x5 b n e g r (by rw [hg]; show e.val / 128 / 2 = e.val / 256; omega) rfl]
  have hq : ∀ d : Fin 128, ∃ s : ℝ, (tok (fun j => x3 (ix5 b j g r d)) (fun j => x0 (ix5 b j g r d)) n : EReal) = s :=
    fun d => tok_forall (P := fun a : EReal => ∃ s : ℝ, a = s) (fun j => h3 _) (fun j => h0 _) n
  have hk : ∀ (j : Fin 4352) (d : Fin 128), ∃ s : ℝ, (tok (fun j => x4 (ix4 b j g d)) (fun j => x1 (ix4 b j g d)) j : EReal) = s :=
    fun j d => tok_forall (P := fun a : EReal => ∃ s : ℝ, a = s) (fun j => h4 _) (fun j => h1 _) j
  have hs : ∀ j : Fin 4352, (∑ d : Fin 128, queriesOf x0 x3 (ix4 b (head e) n d) * joinedOf x1 x4 (ix4 b g j d) : EReal)
      = ∑ d : Fin 128, (tok (fun j => x3 (ix5 b j g r d)) (fun j => x0 (ix5 b j g r d)) n : EReal)
          * (((1 / Real.sqrt 128) / Real.log 2 : ℝ) : EReal) * (tok (fun j => x4 (ix4 b j g d)) (fun j => x1 (ix4 b j g d)) j : EReal) :=
    fun j => Finset.sum_congr rfl fun d _ => congrArg₂ (fun a b : EReal => a * b) (queries_apply x0 x3 b (head e) n d) (joined_apply x1 x4 b g j d)
  have hv : ∀ j : Fin 4352, joinedOf x2 x5 (ix4 b g j (lane e)) = (tok (fun j => x5 (ix4 b j g (lane e))) (fun j => x2 (ix4 b j g (lane e))) j : EReal) :=
    fun j => joined_apply x2 x5 b g j (lane e)
  by_cases hn : n.val < 256
  · rw [tok_of_lt _ _ _ hn, ctx_row]
    refine (attend_ctx kvHead _ _ _ b (head e) n (lane e) _ _ _ _ hn hq hk hs hv).trans ?_
    refine congrArg₂ referenceRow (funext fun j => ?_) (funext fun j => tok_of_lt _ _ (ctx j) j.isLt)
    refine congrArg (fun a : EReal => a * _) (Finset.sum_congr rfl fun d _ => ?_)
    exact congrArg₂ (fun a b : EReal => a * b) (tok_of_lt _ _ (ctx j) j.isLt) (tok_of_lt _ _ n hn)
  · rw [tok_of_ge _ _ _ hn, lat_row]
    refine (attend_latent kvHead _ _ _ b (head e) n (lane e) _ _ _ _ hn hq hk hs hv).trans ?_
    refine congrArg (fun s => referenceRow s _) (funext fun j => ?_)
    refine congrArg (fun a : EReal => a * _) (Finset.sum_congr rfl fun d _ => ?_)
    exact congrArg (fun a : EReal => _ * a) (tok_of_ge _ _ n hn)

end Cert.Proof.GqaValue
-- ==== Proof.GqaClaim.lean ====
/- Grouped-query attention: the value claim from the runs and the equality of the arrays. -/
module

public import proofs.«01_k».proof.Defs
public import proofs.«01_k».proof.Proof.GqaValue
public import proofs.«01_k».proof.Proof.Finite
public import proofs.«01_k».proof.Proof.Gen.Pre_gqa_finite_qk

@[expose] public section

set_option maxRecDepth 16384

noncomputable section

namespace Cert.Proof.GqaClaim

open Idealize.ShloMosaic Idealize.ShloMosaic.ValueIdx Idealize.ShloMosaic.TcCoe Idealize.SL.Sem
open Cert.Attend Cert.Proof.GqaKernel Cert.Proof.GqaArrays Cert.Proof.GqaValue

/-- What the kernel's result array ends holding is the reference's value of the arguments. -/
theorem result_eq (m : (ℓ : Loc Cert.GqaIdeal.nD Cert.GqaIdeal.τ Cert.GqaIdeal.sig) → Buf (Elt Ideal) ℓ) (c : Dev Cert.GqaIdeal.nD)
    (hp : Pre_GqaIdeal_gqa_finite_qk m) :
    (result m c : FVec Ideal ⟨3, ![8, 4352, 512]⟩ .bf16) = Cert.GqaRefIdeal.Read.val_main_v40 (F := Ideal)
      (m ((c.tc : Thread Cert.GqaIdeal.nD Cert.GqaIdeal.τ).loc Cert.GqaIdeal.main_arg0))
      (m ((c.tc : Thread Cert.GqaIdeal.nD Cert.GqaIdeal.τ).loc Cert.GqaIdeal.main_arg1))
      (m ((c.tc : Thread Cert.GqaIdeal.nD Cert.GqaIdeal.τ).loc Cert.GqaIdeal.main_arg2))
      (m ((c.tc : Thread Cert.GqaIdeal.nD Cert.GqaIdeal.τ).loc Cert.GqaIdeal.main_arg3))
      (m ((c.tc : Thread Cert.GqaIdeal.nD Cert.GqaIdeal.τ).loc Cert.GqaIdeal.main_arg4))
      (m ((c.tc : Thread Cert.GqaIdeal.nD Cert.GqaIdeal.τ).loc Cert.GqaIdeal.main_arg5)) := by
  obtain ⟨h0, h1, h3, h4⟩ := Cert.Finite.gqa_real _ _ _ _ _ _ (hp c)
  unfold result
  rw [array_q, array_k, array_v]
  funext i
  refine (attended_apply _ _ _ _ _ _ h0 h1 h3 h4 (i 0) (i 1) (i 2)).trans ?_
  exact congrArg _ (funext fun a => by fin_cases a <;> rfl)

/-- The idealized kernel and the idealized reference end with equal results. -/
theorem algebraic : algebraic_GqaIdeal_GqaRefIdeal_pre_gqa_finite_qk := by
  intro m g m' g' hp ha
  refine ⟨fun c => result m c, ?_, ?_⟩
  · refine (θ_run _ _ _).mono (fun r h c => ?_) (Cert.GqaIdeal.Value.run_blocks m g)
    obtain ⟨hr, hargs⟩ := h c
    exact ⟨hr.trans (final m c), hargs⟩
  · refine (θ_run _ _ _).mono (fun r h c => ?_) (Cert.GqaRefIdeal.Value.run m' g')
    obtain ⟨hr, hargs⟩ := h c
    refine ⟨hr.trans ?_, hargs⟩
    obtain ⟨e0, e1, e2, e3, e4, e5⟩ := ha c
    refine (Cert.GqaRefIdeal.Read.val_main_v40_eq m' c).trans ?_
    rw [e0, e1, e2, e3, e4, e5]
    exact (result_eq m c hp).symm

end Cert.Proof.GqaClaim
-- ==== Proof.MoeBody.lean ====
/- The mixture-of-experts kernel's body at one grid point, run on both of its paths: a point of a tile in use, and a
   point past the tiles in use. -/
module

public import proofs.«01_k».proof.Proof.Gen.MoeIdeal.Skeleton
public import proofs.«01_k».proof.Proof.Gen.MoeIdeal.Launch
public import Idealize.ShloMosaic.Lib.Exec
public import Idealize.ShloMosaic.Lib.Affine
public import Idealize.ShloMosaic.Lib.Tactic
public import Idealize.ShloMosaic.Lib.Pipeline.Value
public import Idealize.ShloMosaic.Lib.Pipeline.FrameBody
public import Idealize.ShloMosaic.Lib.ValueIdx
public import Idealize.ShloMosaic.Lib.VecWindow

@[expose] public section

set_option maxRecDepth 16384
set_option Elab.async false

noncomputable section

namespace Cert.Proof.MoeBody

open Cert.MoeIdeal Cert.MoeIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables the kernel is handed: the expert of each tile, and the number of tiles in use. -/
abbrev tab0 : Memref sig .tc .smem S304 .i32 := Memref.whole main_arg0
abbrev tab1 : Memref sig .tc .smem S1 .i32 := Memref.whole main_arg1

/-- The number of tiles in use, as the body reads it from the second table. -/
abbrev used (T1 : Buf (Elt F) (tab1.view.loc ((0 : Dev nD) : Thread nD τ))) : BitVec 32 :=
  View.readAt (Elt F) tab1.view (Rect.unit (s := S1) ![0] S1.size inb_S1_S1_0).toLoadRect T1
    (Shape.Idx.first (numel1_S1.symm ▸ Nat.one_pos))

/-- Row `s` of every group of eight rows: the kernel's strided load. -/
def rows (s : Fin 8) (x : S4096x128.Idx → Elt F .f32) : Vec F S512x128 .f32 := fun j =>
  x (ix2 ⟨s.val + 8 * (j 0).val, by have := (j 0).isLt; have := s.isLt; show _ < 4096; simp at *; omega⟩ (j 1))

/-- The tile computed at a point in use, 512 rows by 1024 columns, from the point's five blocks. -/
def tile (x0 : S4096x128.Idx → Elt F .f32) (x1 : Vec F S1x1024x2048 .bf16) (x2 : Vec F S1x1x2048 .f32)
    (x3 : Vec F S1x1024x1024 .bf16) (x4 : Vec F S1x1x1024 .f32) : FVec F S512x1024 .f32 :=
  k0_pay7
    (k0_pay3 (rows 0 x0) (rows 1 x0) (rows 2 x0) (rows 3 x0) (rows 4 x0) (rows 5 x0) (rows 6 x0) (rows 7 x0) x1 x2)
    (k0_pay4 (rows 0 x0) (rows 1 x0) (rows 2 x0) (rows 3 x0) (rows 4 x0) (rows 5 x0) (rows 6 x0) (rows 7 x0) x1 x2)
    (k0_pay5 (rows 0 x0) (rows 1 x0) (rows 2 x0) (rows 3 x0) (rows 4 x0) (rows 5 x0) (rows 6 x0) (rows 7 x0) x1 x2)
    k0_pay6 x3 x4

/-- The eight strided pieces a body in use stores, last first. -/
def strips (a b d e : FVec F S512x1024 .f32) (x3 : Vec F S1x1024x1024 .bf16) (x4 : Vec F S1x1x1024 .f32) :
    List (View.Piece (Elt F) S4096x128 .f32) :=
  [⟨⟨⟨![7, 0], S512x128.size, ![8, 1], inb_S4096x128_S512x128_7_0_s_8_1⟩, spos_8_1⟩, k0_pay15 a b d e x3 x4⟩,
      ⟨⟨⟨![6, 0], S512x128.size, ![8, 1], inb_S4096x128_S512x128_6_0_s_8_1⟩, spos_8_1⟩, k0_pay14 a b d e x3 x4⟩,
      ⟨⟨⟨![5, 0], S512x128.size, ![8, 1], inb_S4096x128_S512x128_5_0_s_8_1⟩, spos_8_1⟩, k0_pay13 a b d e x3 x4⟩,
      ⟨⟨⟨![4, 0], S512x128.size, ![8, 1], inb_S4096x128_S512x128_4_0_s_8_1⟩, spos_8_1⟩, k0_pay12 a b d e x3 x4⟩,
      ⟨⟨⟨![3, 0], S512x128.size, ![8, 1], inb_S4096x128_S512x128_3_0_s_8_1⟩, spos_8_1⟩, k0_pay11 a b d e x3 x4⟩,
      ⟨⟨⟨![2, 0], S512x128.size, ![8, 1], inb_S4096x128_S512x128_2_0_s_8_1⟩, spos_8_1⟩, k0_pay10 a b d e x3 x4⟩,
      ⟨⟨⟨![1, 0], S512x128.size, ![8, 1], inb_S4096x128_S512x128_1_0_s_8_1⟩, spos_8_1⟩, k0_pay9 a b d e x3 x4⟩,
      ⟨⟨⟨![0, 0], S512x128.size, ![8, 1], inb_S4096x128_S512x128_0_0_s_8_1⟩, spos_8_1⟩, k0_pay8 a b d e x3 x4⟩]

/-- The pieces from the values loaded: the eight strided rows of the input block and the expert's four arrays. -/
def stripsOf (r0 r1 r2 r3 r4 r5 r6 r7 : Vec F S512x128 .f32) (x1 : Vec F S1x1024x2048 .bf16) (x2 : Vec F S1x1x2048 .f32)
    (x3 : Vec F S1x1024x1024 .bf16) (x4 : Vec F S1x1x1024 .f32) : List (View.Piece (Elt F) S4096x128 .f32) :=
  strips (k0_pay3 r0 r1 r2 r3 r4 r5 r6 r7 x1 x2) (k0_pay4 r0 r1 r2 r3 r4 r5 r6 r7 x1 x2)
    (k0_pay5 r0 r1 r2 r3 r4 r5 r6 r7 x1 x2) k0_pay6 x3 x4

/-- The staging buffer's layout of a tile of 512 rows by 1024 columns. -/
def packed (z : FVec F S512x1024 .f32) : S4096x128.Idx → Elt F .f32 := fun y =>
  z (ix2 ⟨(y 0).val / 8, by have h : (y 0).val < 4096 := (y 0).isLt; omega⟩
    ⟨128 * ((y 0).val % 8) + (y 1).val, by have h : (y 1).val < 128 := (y 1).isLt; omega⟩)

/-- Column slice `s` of a tile, at the strided rows it is stored at, is the packed tile there. -/
theorem slice_packed (s : Fin 8) (z : FVec F S512x1024 .f32) (h : S512x1024.Slices ![0, 128 * s.val] S512x128)
    (inb : ∀ a, S512x128.size a = 0 ∨ (![s.val, 0] : Fin 2 → Nat) a + (![8, 1] : Fin 2 → Nat) a * (S512x128.size a - 1) < S4096x128.size a)
    (x : S512x128.Idx) :
    extractStridedSlice S512x128 ![0, 128 * s.val] z h x
      = packed z ((⟨![s.val, 0], S512x128.size, ![8, 1], inb⟩ : LoadRect S4096x128).idx x) := by
  have hs := s.isLt
  have h0 : (x 0).val < 512 := (x 0).isLt
  have h1 : (x 1).val < 128 := (x 1).isLt
  unfold packed
  refine extractStridedSlice_apply _ _ _ _ _ fun a => ?_
  fin_cases a
  · show (s.val + 8 * (x 0).val) / 8 = 0 + (x 0).val
    omega
  · show 128 * ((s.val + 8 * (x 0).val) % 8) + (0 + 1 * (x 1).val) = 128 * s.val + (x 1).val
    omega

/-- Every place of the staging buffer is in one of the eight strided pieces, the one of its row modulo eight. -/
theorem mem_strip (s : Fin 8) (y : S4096x128.Idx) (hy : (y 0).val % 8 = s.val)
    (inb : ∀ a, S512x128.size a = 0 ∨ (![s.val, 0] : Fin 2 → Nat) a + (![8, 1] : Fin 2 → Nat) a * (S512x128.size a - 1) < S4096x128.size a) :
    y ∈ (⟨![s.val, 0], S512x128.size, ![8, 1], inb⟩ : LoadRect S4096x128).set := by
  have h0 : (y 0).val < 4096 := (y 0).isLt
  have h1 : (y 1).val < 128 := (y 1).isLt
  refine (LoadRect.mem_set _).mpr fun a => ?_
  fin_cases a
  · refine ⟨(y 0).val / 8, ?_, ?_⟩
    · show (y 0).val / 8 < 512
      omega
    · show (y 0).val = s.val + 8 * ((y 0).val / 8)
      omega
  · refine ⟨(y 1).val, h1, ?_⟩
    show (y 1).val = 0 + 1 * (y 1).val
    omega

/-- Read back, the eight pieces are the packed tile, whatever the buffer held. -/
theorem read_strips (v : View sig .tc .vmem S4096x128 .f32) (f : v.ty.Contents (Elt F)) (a b d e : FVec F S512x1024 .f32)
    (x3 : Vec F S1x1024x1024 .bf16) (x4 : Vec F S1x1x1024 .f32) :
    v.read (Elt F) (v.writes (Elt F) f (strips a b d e x3 x4)) = packed (k0_pay7 a b d e x3 x4) := by
  funext y
  refine View.read_writes_apply_of_pieces v f (packed (k0_pay7 a b d e x3 x4)) _ ?_ y ?_
  · intro p hp
    unfold strips at hp
    simp only [List.mem_cons, List.not_mem_nil, or_false] at hp
    rcases hp with rfl | rfl | rfl | rfl | rfl | rfl | rfl | rfl
    · exact slice_packed 7 (k0_pay7 a b d e x3 x4) slices_S512x1024_o0_896_S512x128 inb_S4096x128_S512x128_7_0_s_8_1
    · exact slice_packed 6 (k0_pay7 a b d e x3 x4) slices_S512x1024_o0_768_S512x128 inb_S4096x128_S512x128_6_0_s_8_1
    · exact slice_packed 5 (k0_pay7 a b d e x3 x4) slices_S512x1024_o0_640_S512x128 inb_S4096x128_S512x128_5_0_s_8_1
    · exact slice_packed 4 (k0_pay7 a b d e x3 x4) slices_S512x1024_o0_512_S512x128 inb_S4096x128_S512x128_4_0_s_8_1
    · exact slice_packed 3 (k0_pay7 a b d e x3 x4) slices_S512x1024_o0_384_S512x128 inb_S4096x128_S512x128_3_0_s_8_1
    · exact slice_packed 2 (k0_pay7 a b d e x3 x4) slices_S512x1024_o0_256_S512x128 inb_S4096x128_S512x128_2_0_s_8_1
    · exact slice_packed 1 (k0_pay7 a b d e x3 x4) slices_S512x1024_o0_128_S512x128 inb_S4096x128_S512x128_1_0_s_8_1
    · exact slice_packed 0 (k0_pay7 a b d e x3 x4) slices_S512x1024_o0_0_S512x128 inb_S4096x128_S512x128_0_0_s_8_1
  · have hlt : (y 0).val % 8 < 8 := Nat.mod_lt _ (by decide)
    unfold strips
    generalize hr : (y 0).val % 8 = r at hlt
    interval_cases r
    · exact ⟨_, List.mem_cons_of_mem _ (List.mem_cons_of_mem _ (List.mem_cons_of_mem _ (List.mem_cons_of_mem _ (List.mem_cons_of_mem _
        (List.mem_cons_of_mem _ (List.mem_cons_of_mem _ List.mem_cons_self)))))), mem_strip 0 y hr inb_S4096x128_S512x128_0_0_s_8_1⟩
    · exact ⟨_, List.mem_cons_of_mem _ (List.mem_cons_of_mem _ (List.mem_cons_of_mem _ (List.mem_cons_of_mem _ (List.mem_cons_of_mem _
        (List.mem_cons_of_mem _ List.mem_cons_self))))), mem_strip 1 y hr inb_S4096x128_S512x128_1_0_s_8_1⟩
    · exact ⟨_, List.mem_cons_of_mem _ (List.mem_cons_of_mem _ (List.mem_cons_of_mem _ (List.mem_cons_of_mem _ (List.mem_cons_of_mem _
        List.mem_cons_self)))), mem_strip 2 y hr inb_S4096x128_S512x128_2_0_s_8_1⟩
    · exact ⟨_, List.mem_cons_of_mem _ (List.mem_cons_of_mem _ (List.mem_cons_of_mem _ (List.mem_cons_of_mem _
        List.mem_cons_self))), mem_strip 3 y hr inb_S4096x128_S512x128_3_0_s_8_1⟩
    · exact ⟨_, List.mem_cons_of_mem _ (List.mem_cons_of_mem _ (List.mem_cons_of_mem _ List.mem_cons_self)), mem_strip 4 y hr inb_S4096x128_S512x128_4_0_s_8_1⟩
    · exact ⟨_, List.mem_cons_of_mem _ (List.mem_cons_of_mem _ List.mem_cons_self), mem_strip 5 y hr inb_S4096x128_S512x128_5_0_s_8_1⟩
    · exact ⟨_, List.mem_cons_of_mem _ List.mem_cons_self, mem_strip 6 y hr inb_S4096x128_S512x128_6_0_s_8_1⟩
    · exact ⟨_, List.mem_cons_self, mem_strip 7 y hr inb_S4096x128_S512x128_7_0_s_8_1⟩

section Runs

variable (c : Dev nD) (i : grid0.Coords)
  (arg3 : Memref sig .tc .vmem S4096x128 .f32) (harg3 : arg3.IsWhole)
  (arg4 : Memref sig .tc .vmem S1x1024x2048 .bf16) (harg4 : arg4.IsWhole)
  (arg5 : Memref sig .tc .vmem S1x1x2048 .f32) (harg5 : arg5.IsWhole)
  (arg6 : Memref sig .tc .vmem S1x1024x1024 .bf16) (harg6 : arg6.IsWhole)
  (arg7 : Memref sig .tc .vmem S1x1x1024 .f32) (harg7 : arg7.IsWhole)
  (arg8 : Memref sig .tc .vmem S4096x128 .f32) (harg8 : arg8.IsWhole)
  (T0 : S304.Idx → Elt F .i32) (T1 : S1.Idx → Elt F .i32)
  (x0 : S4096x128.Idx → Elt F .f32) (x1 : S1x1024x2048.Idx → Elt F .bf16) (x2 : S1x1x2048.Idx → Elt F .f32)
  (x3 : S1x1024x1024.Idx → Elt F .bf16) (x4 : S1x1x1024.Idx → Elt F .f32)

/-- What the body holds besides the output's staging buffer: the five input blocks and the two tables. -/
abbrev held : sProp 𝕄 :=
  iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tab0.view.loc (c : Thread nD τ) ↦{fullShare.right} T0)
    ∗ (tab1.view.loc (c : Thread nD τ) ↦{fullShare.right} T1))

set_option backward.proofsInPublic true in
set_option maxHeartbeats 8000000 in
/-- A tile in use: the body runs, leaving in the output's staging buffer the listed strided pieces. -/
noncomputable def runUsed (h1 : k0_cond1 i (used (F := F) T1) = 1#1) (h2 : ¬k0_cond2 i (used (F := F) T1) = 1#1) :
    { L : List (View.Piece (Elt F) S4096x128 .f32) //
      ∀ K : PUnit → sProp 𝕄,
        iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tab0.view.loc (c : Thread nD τ) ↦{fullShare.right} T0)
    ∗ (tab1.view.loc (c : Thread nD τ) ↦{fullShare.right} T1)
          ∗ (∃ d, owns (c : Thread nD τ) arg8 fullShare d)
          ∗ (iprop(held c arg3 arg4 arg5 arg6 arg7 T0 T1 x0 x1 x2 x3 x4
              ∗ (∃ f, arg8.view.loc (c : Thread nD τ) ↦[arg8.view.set]{fullShare} arg8.view.writes (Elt F) f L)) -∗ K ⟨⟩))
          ⊢ wp frame (wpE (defs₀ (F := F)) Variants.none c none) Set.univ
              (cc0_moe_ffn i tab0 (Memref.isWhole_whole _) tab1 (Memref.isWhole_whole _) arg3 harg3 arg4 harg4 arg5 harg5 arg6 harg6
                arg7 harg7 arg8 harg8) K } :=
  ⟨_, fun K => by
    unfold owns
    rw [cc0_moe_ffn_eq_skeleton]; unfold cc0_moe_ffn_skel
    iintro ⟨H0, H1, H2, H3, H4, HT0, HT1, ⟨%d5, %f5, -, HO5⟩, Hk⟩
    have hT0 : tab0.IsWhole := Memref.isWhole_whole _
    have hT1 : tab1.IsWhole := Memref.isWhole_whole _
    sl_exec! (disch := first | (guard_target = k0_cond1 _ _ = _; exact h1) | (guard_target = ¬(k0_cond2 _ _ = _); exact h2))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    iexists _; iexact HO5⟩

set_option backward.proofsInPublic true in
set_option maxHeartbeats 8000000 in
/-- A tile past the tiles in use: the body runs, leaving zeros over the whole of the output's staging buffer. -/
noncomputable def runPast (h1 : ¬k0_cond1 i (used (F := F) T1) = 1#1) (h2 : k0_cond2 i (used (F := F) T1) = 1#1) :
    { L : List (View.Piece (Elt F) S4096x128 .f32) //
      ∀ K : PUnit → sProp 𝕄,
        iprop((arg3.view.loc (c : Thread nD τ) ↦[arg3.view.set]{fullShare} arg3.view.rep x0)
    ∗ (arg4.view.loc (c : Thread nD τ) ↦[arg4.view.set]{fullShare} arg4.view.rep x1)
    ∗ (arg5.view.loc (c : Thread nD τ) ↦[arg5.view.set]{fullShare} arg5.view.rep x2)
    ∗ (arg6.view.loc (c : Thread nD τ) ↦[arg6.view.set]{fullShare} arg6.view.rep x3)
    ∗ (arg7.view.loc (c : Thread nD τ) ↦[arg7.view.set]{fullShare} arg7.view.rep x4)
    ∗ (tab0.view.loc (c : Thread nD τ) ↦{fullShare.right} T0)
    ∗ (tab1.view.loc (c : Thread nD τ) ↦{fullShare.right} T1)
          ∗ (∃ d, owns (c : Thread nD τ) arg8 fullShare d)
          ∗ (iprop(held c arg3 arg4 arg5 arg6 arg7 T0 T1 x0 x1 x2 x3 x4
              ∗ (∃ f, arg8.view.loc (c : Thread nD τ) ↦[arg8.view.set]{fullShare} arg8.view.writes (Elt F) f L)) -∗ K ⟨⟩))
          ⊢ wp frame (wpE (defs₀ (F := F)) Variants.none c none) Set.univ
              (cc0_moe_ffn i tab0 (Memref.isWhole_whole _) tab1 (Memref.isWhole_whole _) arg3 harg3 arg4 harg4 arg5 harg5 arg6 harg6
                arg7 harg7 arg8 harg8) K } :=
  ⟨_, fun K => by
    unfold owns
    rw [cc0_moe_ffn_eq_skeleton]; unfold cc0_moe_ffn_skel
    iintro ⟨H0, H1, H2, H3, H4, HT0, HT1, ⟨%d5, %f5, -, HO5⟩, Hk⟩
    have hT0 : tab0.IsWhole := Memref.isWhole_whole _
    have hT1 : tab1.IsWhole := Memref.isWhole_whole _
    sl_exec! (disch := first | (guard_target = k0_cond2 _ _ = _; exact h2) | (guard_target = ¬(k0_cond1 _ _ = _); exact h1))
    sl_step
    iapply Hk
    isplitl [H0 H1 H2 H3 H4 HT0 HT1]
    · isplitl [H0]; · iexact H0
      isplitl [H1]; · iexact H1
      isplitl [H2]; · iexact H2
      isplitl [H3]; · iexact H3
      isplitl [H4]; · iexact H4
      isplitl [HT0]; · iexact HT0
      iexact HT1
    iexists _; iexact HO5⟩

/-- The strided load of row `s` of every eight reads `rows s`. -/
theorem load_strip (v : View sig .tc .vmem S4096x128 .f32) (s : Fin 8)
    (inb : ∀ a, S512x128.size a = 0 ∨ (![s.val, 0] : Fin 2 → Nat) a + (![8, 1] : Fin 2 → Nat) a * (S512x128.size a - 1) < S4096x128.size a) :
    View.readAt (Elt F) v (⟨![s.val, 0], S512x128.size, ![8, 1], inb⟩ : LoadRect S4096x128) (v.rep x0) = rows s x0 := by
  funext j
  rw [View.readAt_apply, View.read_rep]
  unfold rows
  exact congrArg x0 (funext fun a => Fin.ext (by fin_cases a <;> simp [ix2]))

theorem hz3 : (![0, 0, 0] : Fin 3 → Nat) = fun _ => 0 := funext fun a => by fin_cases a <;> rfl

/-- What a tile in use stores: the eight column slices of `tile`. -/
theorem pieces (h1 : k0_cond1 i (used (F := F) T1) = 1#1) (h2 : ¬k0_cond2 i (used (F := F) T1) = 1#1) :
    (runUsed c i arg3 harg3 arg4 harg4 arg5 harg5 arg6 harg6 arg7 harg7 arg8 harg8 T0 T1 x0 x1 x2 x3 x4 h1 h2).1
      = stripsOf (rows 0 x0) (rows 1 x0) (rows 2 x0) (rows 3 x0) (rows 4 x0) (rows 5 x0) (rows 6 x0) (rows 7 x0) x1 x2 x3 x4 := by
  have e0 : View.readAt (Elt F) arg3.view (⟨![0, 0], S512x128.size, ![8, 1], inb_S4096x128_S512x128_0_0_s_8_1⟩ : LoadRect S4096x128) (arg3.view.rep x0) = rows 0 x0 :=
    load_strip x0 arg3.view 0 inb_S4096x128_S512x128_0_0_s_8_1
  have e1 : View.readAt (Elt F) arg3.view (⟨![1, 0], S512x128.size, ![8, 1], inb_S4096x128_S512x128_1_0_s_8_1⟩ : LoadRect S4096x128) (arg3.view.rep x0) = rows 1 x0 :=
    load_strip x0 arg3.view 1 inb_S4096x128_S512x128_1_0_s_8_1
  have e2 : View.readAt (Elt F) arg3.view (⟨![2, 0], S512x128.size, ![8, 1], inb_S4096x128_S512x128_2_0_s_8_1⟩ : LoadRect S4096x128) (arg3.view.rep x0) = rows 2 x0 :=
    load_strip x0 arg3.view 2 inb_S4096x128_S512x128_2_0_s_8_1
  have e3 : View.readAt (Elt F) arg3.view (⟨![3, 0], S512x128.size, ![8, 1], inb_S4096x128_S512x128_3_0_s_8_1⟩ : LoadRect S4096x128) (arg3.view.rep x0) = rows 3 x0 :=
    load_strip x0 arg3.view 3 inb_S4096x128_S512x128_3_0_s_8_1
  have e4 : View.readAt (Elt F) arg3.view (⟨![4, 0], S512x128.size, ![8, 1], inb_S4096x128_S512x128_4_0_s_8_1⟩ : LoadRect S4096x128) (arg3.view.rep x0) = rows 4 x0 :=
    load_strip x0 arg3.view 4 inb_S4096x128_S512x128_4_0_s_8_1
  have e5 : View.readAt (Elt F) arg3.view (⟨![5, 0], S512x128.size, ![8, 1], inb_S4096x128_S512x128_5_0_s_8_1⟩ : LoadRect S4096x128) (arg3.view.rep x0) = rows 5 x0 :=
    load_strip x0 arg3.view 5 inb_S4096x128_S512x128_5_0_s_8_1
  have e6 : View.readAt (Elt F) arg3.view (⟨![6, 0], S512x128.size, ![8, 1], inb_S4096x128_S512x128_6_0_s_8_1⟩ : LoadRect S4096x128) (arg3.view.rep x0) = rows 6 x0 :=
    load_strip x0 arg3.view 6 inb_S4096x128_S512x128_6_0_s_8_1
  have e7 : View.readAt (Elt F) arg3.view (⟨![7, 0], S512x128.size, ![8, 1], inb_S4096x128_S512x128_7_0_s_8_1⟩ : LoadRect S4096x128) (arg3.view.rep x0) = rows 7 x0 :=
    load_strip x0 arg3.view 7 inb_S4096x128_S512x128_7_0_s_8_1
  have f1 : View.readAt (Elt F) arg4.view (Rect.unit (s := S1x1024x2048) ![0, 0, 0] S1x1024x2048.size inb_S1x1024x2048_S1x1024x2048_0_0_0).toLoadRect (arg4.view.rep x1) = x1 := by
    rw [View.readAt_eq_ld, View.read_rep, View.ld_unit_zero hz3]
  have f2 : View.readAt (Elt F) arg5.view (Rect.unit (s := S1x1x2048) ![0, 0, 0] S1x1x2048.size inb_S1x1x2048_S1x1x2048_0_0_0).toLoadRect (arg5.view.rep x2) = x2 := by
    rw [View.readAt_eq_ld, View.read_rep, View.ld_unit_zero hz3]
  have f3 : View.readAt (Elt F) arg6.view (Rect.unit (s := S1x1024x1024) ![0, 0, 0] S1x1024x1024.size inb_S1x1024x1024_S1x1024x1024_0_0_0).toLoadRect (arg6.view.rep x3) = x3 := by
    rw [View.readAt_eq_ld, View.read_rep, View.ld_unit_zero hz3]
  have f4 : View.readAt (Elt F) arg7.view (Rect.unit (s := S1x1x1024) ![0, 0, 0] S1x1x1024.size inb_S1x1x1024_S1x1x1024_0_0_0).toLoadRect (arg7.view.rep x4) = x4 := by
    rw [View.readAt_eq_ld, View.read_rep, View.ld_unit_zero hz3]
  refine Eq.trans (b := stripsOf (View.readAt (Elt F) arg3.view (⟨![0, 0], S512x128.size, ![8, 1], inb_S4096x128_S512x128_0_0_s_8_1⟩ : LoadRect S4096x128) (arg3.view.rep x0))
    (View.readAt (Elt F) arg3.view (⟨![1, 0], S512x128.size, ![8, 1], inb_S4096x128_S512x128_1_0_s_8_1⟩ : LoadRect S4096x128) (arg3.view.rep x0))
    (View.readAt (Elt F) arg3.view (⟨![2, 0], S512x128.size, ![8, 1], inb_S4096x128_S512x128_2_0_s_8_1⟩ : LoadRect S4096x128) (arg3.view.rep x0))
    (View.readAt (Elt F) arg3.view (⟨![3, 0], S512x128.size, ![8, 1], inb_S4096x128_S512x128_3_0_s_8_1⟩ : LoadRect S4096x128) (arg3.view.rep x0))
    (View.readAt (Elt F) arg3.view (⟨![4, 0], S512x128.size, ![8, 1], inb_S4096x128_S512x128_4_0_s_8_1⟩ : LoadRect S4096x128) (arg3.view.rep x0))
    (View.readAt (Elt F) arg3.view (⟨![5, 0], S512x128.size, ![8, 1], inb_S4096x128_S512x128_5_0_s_8_1⟩ : LoadRect S4096x128) (arg3.view.rep x0))
    (View.readAt (Elt F) arg3.view (⟨![6, 0], S512x128.size, ![8, 1], inb_S4096x128_S512x128_6_0_s_8_1⟩ : LoadRect S4096x128) (arg3.view.rep x0))
    (View.readAt (Elt F) arg3.view (⟨![7, 0], S512x128.size, ![8, 1], inb_S4096x128_S512x128_7_0_s_8_1⟩ : LoadRect S4096x128) (arg3.view.rep x0))
    (View.readAt (Elt F) arg4.view (Rect.unit (s := S1x1024x2048) ![0, 0, 0] S1x1024x2048.size inb_S1x1024x2048_S1x1024x2048_0_0_0).toLoadRect (arg4.view.rep x1))
    (View.readAt (Elt F) arg5.view (Rect.unit (s := S1x1x2048) ![0, 0, 0] S1x1x2048.size inb_S1x1x2048_S1x1x2048_0_0_0).toLoadRect (arg5.view.rep x2))
    (View.readAt (Elt F) arg6.view (Rect.unit (s := S1x1024x1024) ![0, 0, 0] S1x1024x1024.size inb_S1x1024x1024_S1x1024x1024_0_0_0).toLoadRect (arg6.view.rep x3))
    (View.readAt (Elt F) arg7.view (Rect.unit (s := S1x1x1024) ![0, 0, 0] S1x1x1024.size inb_S1x1x1024_S1x1x1024_0_0_0).toLoadRect (arg7.view.rep x4))) rfl ?_
  rw [f1, f2, f3, f4, e0, e1, e2, e3, e4, e5, e6, e7]

/-- What a tile in use leaves in the staging buffer, read back: the computed tile, packed. -/
theorem read_used (v : View sig .tc .vmem S4096x128 .f32) (f : v.ty.Contents (Elt F))
    (h1 : k0_cond1 i (used (F := F) T1) = 1#1) (h2 : ¬k0_cond2 i (used (F := F) T1) = 1#1) :
    v.read (Elt F) (v.writes (Elt F) f
        (runUsed c i arg3 harg3 arg4 harg4 arg5 harg5 arg6 harg6 arg7 harg7 arg8 harg8 T0 T1 x0 x1 x2 x3 x4 h1 h2).1)
      = packed (tile x0 x1 x2 x3 x4) := by
  rw [pieces]
  exact read_strips v f _ _ _ _ _ _

/-- What a tile past the tiles in use leaves in the staging buffer, read back: zeros. -/
theorem read_past (v : View sig .tc .vmem S4096x128 .f32) (f : v.ty.Contents (Elt F))
    (h1 : ¬k0_cond1 i (used (F := F) T1) = 1#1) (h2 : k0_cond2 i (used (F := F) T1) = 1#1) :
    v.read (Elt F) (v.writes (Elt F) f
        (runPast c i arg3 harg3 arg4 harg4 arg5 harg5 arg6 harg6 arg7 harg7 arg8 harg8 T0 T1 x0 x1 x2 x3 x4 h1 h2).1)
      = k0_pay1 (F := F) := by
  refine Eq.trans (b := v.read (Elt F) (v.writes (Elt F) f
    [⟨Rect.unit (s := S4096x128) ![0, 0] S4096x128.size inb_S4096x128_S4096x128_0_0, k0_pay1 (F := F)⟩])) rfl ?_
  exact View.read_writes_full v f inb_S4096x128_S4096x128_0_0 _ _

end Runs

end Cert.Proof.MoeBody

end
-- ==== Proof.MoeTables.lean ====
/- The two tables the mixture-of-experts kernel is handed, under the precondition that they are in range: every tile's
   expert is below the number of experts, and at least one tile is in use. From it, every block the kernel names lies
   inside its array. -/
module

public import proofs.«01_k».proof.Proof.MoeBody
public import proofs.«01_k».proof.Proof.Gen.Pre_tables_in_range
public import Idealize.ShloMosaic.Lib.WordCmp
public import Idealize.ShloMosaic.Lib.ReduceAll
public import Idealize.ShloMosaic.Lib.PairWhole

@[expose] public section

set_option maxRecDepth 16384
set_option Elab.async false

noncomputable section

namespace Cert.Proof.MoeTables

open Cert.MoeIdeal Cert.MoeIdeal.Gen Idealize.ShloMosaic.ValueIdx
open Idealize.ShloMosaic Idealize.ShloMosaic.TcCoe Idealize.ShloMosaic.WordCmp

variable {F : FTy → Type} [FloatOps F]

/-- The tables are in range: each tile's expert is one of the 32, and the number of tiles in use is positive. -/
structure InRange (T0 : S304.Idx → BitVec 32) (T1 : S1.Idx → BitVec 32) : Prop where
  expert : ∀ j, (T0 j).toNat < 32
  positive : ∀ j, 1 ≤ (T1 j).toInt

instance : Subsingleton Cert.Pre_tables_in_range.S_.Idx := ⟨fun a b => funext fun i => i.elim0⟩

/-- A comparison's word is one exactly when the comparison holds. -/
theorem ofBool_one (P : Prop) [Decidable P] : BitVec.ofBool (decide P) = 1#1 ↔ P := by
  by_cases h : P <;> simp [h]

/-- A word that is at least zero and below thirty-two, as signed numbers, is below thirty-two. -/
theorem lt_of_signed (x : BitVec 32) (h0 : IntOp.cmpi .sge x 0#32 = 1#1) (h1 : IntOp.cmpi .slt x 32#32 = 1#1) :
    x.toNat < 32 := by
  rw [cmpi_sge_eq] at h0
  rw [cmpi_slt_eq] at h1
  have g0 : (0#32).toInt ≤ x.toInt := (ofBool_one _).1 h0
  have g1 : x.toInt < (32#32).toInt := (ofBool_one _).1 h1
  rw [show (0#32).toInt = 0 from rfl] at g0
  rw [show (32#32).toInt = 32 from rfl] at g1
  rw [BitVec.toInt_eq_toNat_cond] at g0 g1
  split at g0 <;> omega

/-- The precondition, decoded: the tables are in range. -/
theorem inRange [Cert.Pre_tables_in_range.Facts] (x0 : IVec Cert.Pre_tables_in_range.S304 32)
    (x1 : IVec Cert.Pre_tables_in_range.S1 32) (x2 : FVec F Cert.Pre_tables_in_range.S1245184x128 .f32)
    (x3 : FVec F Cert.Pre_tables_in_range.S32x1024x2048 .bf16) (x4 : FVec F Cert.Pre_tables_in_range.S32x1x2048 .f32)
    (x5 : FVec F Cert.Pre_tables_in_range.S32x1024x1024 .bf16) (x6 : FVec F Cert.Pre_tables_in_range.S32x1x1024 .f32)
    (h : Cert.Pre_tables_in_range.fn (F := F) x0 x1 x2 x3 x4 x5 x6 = fun _ => 1#1) : InRange x0 x1 := by
  have h1 := congrFun h (fun i => i.elim0)
  unfold Cert.Pre_tables_in_range.fn at h1
  obtain ⟨h2, e2⟩ := IntOp.andi_eq_one.1 h1
  obtain ⟨e0, e1⟩ := IntOp.andi_eq_one.1 h2
  refine ⟨fun j => lt_of_signed _ ?_ ?_, fun j => ?_⟩
  · exact Host.reduce_andi_all _ _ _ _ _ e0 j
  · exact Host.reduce_andi_all _ _ _ _ _ e1 j
  · have e3 : IntOp.cmpi .sge (x1 j) 1#32 = 1#1 := Host.reduce_andi_all _ _ _ _ _ e2 j
    rw [cmpi_sge_eq] at e3
    have g : (1#32).toInt ≤ (x1 j).toInt := (ofBool_one _).1 e3
    exact g

/-- The smaller, as signed numbers, of a grid coordinate and one less than a positive count is a grid coordinate. -/
theorem min_lt (t : Nat) (ht : t < 304) (n : BitVec 32) (hn : 1 ≤ n.toInt) :
    (Scalar.minsi (BitVec.ofNat 32 t) (Scalar.subi n 1#32)).toNat < 304 := by
  show (IntOp.minsi (BitVec.ofNat 32 t) (n - 1#32)).toNat < 304
  unfold IntOp.minsi
  rw [BitVec.toInt_eq_toNat_cond] at hn
  have h1 : (n - 1#32).toNat = n.toNat - 1 := by
    rw [BitVec.toNat_sub]
    have := n.isLt
    split at hn <;> simp <;> omega
  have h2 : (BitVec.ofNat 32 t).toNat = t := by simp; omega
  split
  · omega
  · rename_i hs
    rw [BitVec.slt_eq_decide, BitVec.toInt_eq_toNat_cond, BitVec.toInt_eq_toNat_cond, h1, h2] at hs
    have hs : ¬ _ < _ := fun h => hs (by simpa using h)
    split at hn <;> split at hs <;> split at hs <;> omega

/-- Below the count it is the coordinate. -/
theorem min_eq (t : Nat) (ht : t < 304) (n : BitVec 32) (hn : 1 ≤ n.toInt) (h : (t : Int) < n.toInt) :
    (Scalar.minsi (BitVec.ofNat 32 t) (Scalar.subi n 1#32)).toNat = t := by
  show (IntOp.minsi (BitVec.ofNat 32 t) (n - 1#32)).toNat = t
  unfold IntOp.minsi
  rw [BitVec.toInt_eq_toNat_cond] at hn h
  have h1 : (n - 1#32).toNat = n.toNat - 1 := by
    rw [BitVec.toNat_sub]
    have := n.isLt
    split at hn <;> simp <;> omega
  have h2 : (BitVec.ofNat 32 t).toNat = t := by simp; omega
  split
  · exact h2
  · rename_i hs
    rw [BitVec.slt_eq_decide, BitVec.toInt_eq_toNat_cond, BitVec.toInt_eq_toNat_cond, h1, h2] at hs
    have hs : ¬ _ < _ := fun h => hs (by simpa using h)
    split at hn <;> split at h <;> split at hs <;> split at hs <;> omega

/-- A condition word is one exactly when the comparison it widens is. -/
theorem widen_ne (b : BitVec 1) : Scalar.cmpi .ne (Scalar.extui b : BitVec 32) 0#32 = b := by
  revert b; decide

/-- The first condition: the point's tile is in use. -/
theorem cond1_iff (i : grid0.Coords) (n : BitVec 32) : k0_cond1 i n = 1#1 ↔ ((i 0).val : Int) < n.toInt := by
  unfold k0_cond1
  simp only [widen_ne]
  show IntOp.cmpi .slt _ _ = 1#1 ↔ _
  rw [cmpi_slt_eq]
  have h2 : (BitVec.ofNat 32 (i 0).val).toInt = ((i 0).val : Int) := by
    have : (i 0).val < 304 := (i 0).isLt
    rw [BitVec.toInt_eq_toNat_cond]; simp; omega
  rw [h2]
  by_cases h : ((i 0).val : Int) < n.toInt <;> simp [h]

/-- The second condition: the point's tile is past those in use. -/
theorem cond2_iff (i : grid0.Coords) (n : BitVec 32) : k0_cond2 i n = 1#1 ↔ n.toInt ≤ ((i 0).val : Int) := by
  unfold k0_cond2
  simp only [widen_ne]
  show IntOp.cmpi .sge _ _ = 1#1 ↔ _
  rw [cmpi_sge_eq]
  have h2 : (BitVec.ofNat 32 (i 0).val).toInt = ((i 0).val : Int) := by
    have : (i 0).val < 304 := (i 0).isLt
    rw [BitVec.toInt_eq_toNat_cond]; simp; omega
  rw [h2]
  by_cases h : n.toInt ≤ ((i 0).val : Int) <;> simp [h]

/-- The one index of the one-element table. -/
abbrev one : S1.Idx := ix1 (0 : Fin 1)

theorem idx_one (j : S1.Idx) : j = one := funext fun a => by
  fin_cases a; exact Subsingleton.elim (α := Fin 1) _ _

/-- The load of the count, at an index map. -/
theorem at_count (pf : pre0.Contents (Elt F)) :
    pf.at 1 (Rect.unit (s := S1) ![0] S1.size inb_S1_S1_0) numel1_S1 = (pf 1 : S1.Idx → BitVec 32) one :=
  congrArg (pf 1 : S1.Idx → BitVec 32) (idx_one _)

/-- The load of the point's expert, at an index map. -/
theorem at_expert (pf : pre0.Contents (Elt F)) (i : grid0.Coords) :
    pf.at 0 (Rect.unit (s := S304) ![(Scalar.indexCast (BitVec.ofNat 32 (i 0).val) : Index).toNat] S1.size (k0_off1_inb i))
      numel1_S1 = (pf 0 : S304.Idx → BitVec 32) (ix1 (i 0)) := by
  refine congrArg (pf 0 : S304.Idx → BitVec 32) (funext fun a => ?_)
  fin_cases a
  refine Fin.ext ?_
  have e := congrFun (k0_off1_eq i) 0
  show k0_off1 i 0 + 1 * 0 = _
  rw [e]
  rfl

/-- The block of rows a point reads. -/
theorem block_rows (pf : pre0.Contents (Elt F)) (i : grid0.Coords) :
    cc0_transform_0 inb_S1_S1_0 numel1_S1 pf i = ![(Scalar.minsi (BitVec.ofNat 32 (i 0).val)
      (Scalar.subi ((pf 1 : S1.Idx → BitVec 32) one) 1#32)).toNat, 0] := by
  exact congrArg (fun b : BitVec 32 => (![(Scalar.minsi (BitVec.ofNat 32 (i 0).val) (Scalar.subi b 1#32)).toNat, 0] : Fin 2 → Nat))
    (at_count pf)

/-- The block of first-layer weights a point reads: its expert's. -/
theorem block_w1 (pf : pre0.Contents (Elt F)) (i : grid0.Coords) :
    cc0_transform_1 k0_off1_inb numel1_S1 pf i = ![((pf 0 : S304.Idx → BitVec 32) (ix1 (i 0))).toNat, 0, 0] := by
  exact congrArg (fun b : BitVec 32 => (![b.toNat, 0, 0] : Fin 3 → Nat)) (at_expert pf i)

/-- The block of first-layer biases a point reads: its expert's. -/
theorem block_b1 (pf : pre0.Contents (Elt F)) (i : grid0.Coords) :
    cc0_transform_2 k0_off1_inb numel1_S1 pf i = ![((pf 0 : S304.Idx → BitVec 32) (ix1 (i 0))).toNat, 0, 0] := by
  exact congrArg (fun b : BitVec 32 => (![b.toNat, 0, 0] : Fin 3 → Nat)) (at_expert pf i)

/-- The block of second-layer weights a point reads: its expert's. -/
theorem block_w2 (pf : pre0.Contents (Elt F)) (i : grid0.Coords) :
    cc0_transform_3 k0_off1_inb numel1_S1 pf i = ![((pf 0 : S304.Idx → BitVec 32) (ix1 (i 0))).toNat, 0, 0] := by
  exact congrArg (fun b : BitVec 32 => (![b.toNat, 0, 0] : Fin 3 → Nat)) (at_expert pf i)

/-- The block of second-layer biases a point reads: its expert's. -/
theorem block_b2 (pf : pre0.Contents (Elt F)) (i : grid0.Coords) :
    cc0_transform_4 k0_off1_inb numel1_S1 pf i = ![((pf 0 : S304.Idx → BitVec 32) (ix1 (i 0))).toNat, 0, 0] := by
  exact congrArg (fun b : BitVec 32 => (![b.toNat, 0, 0] : Fin 3 → Nat)) (at_expert pf i)

/-- Under tables in range every block the kernel names lies inside its array. -/
theorem blocks_inside (pf : pre0.Contents (Elt F)) (h : InRange (pf 0) (pf 1)) : ok0 pf := by
  have hrow : ∀ i : grid0.Coords, (Scalar.minsi (BitVec.ofNat 32 (i 0).val)
      (Scalar.subi ((pf 1 : S1.Idx → BitVec 32) one) 1#32)).toNat < 304 := fun i => min_lt _ (i 0).isLt _ (h.positive one)
  have hexp : ∀ i : grid0.Coords, ((pf 0 : S304.Idx → BitVec 32) (ix1 (i 0))).toNat < 32 := fun i => h.expert _
  refine ⟨fun i => ⟨fun a => ?_, .inl rfl⟩, fun i => ⟨fun a => ?_, .inr ?_⟩, fun i => ⟨fun a => ?_, .inl rfl⟩,
    fun i => ⟨fun a => ?_, .inr ?_⟩, fun i => ⟨fun a => ?_, .inl rfl⟩⟩
  · rw [block_rows]
    have := hrow i
    fin_cases a
    · show ((Scalar.minsi (BitVec.ofNat 32 (i 0).val) (Scalar.subi ((pf 1 : S1.Idx → BitVec 32) one) 1#32)).toNat + 1) * 4096 ≤ 1245184
      omega
    · show (0 + 1) * 128 ≤ 128; decide
  · rw [block_w1]
    have := hexp i
    fin_cases a
    · show (((pf 0 : S304.Idx → BitVec 32) (ix1 (i 0))).toNat + 1) * 1 ≤ 32
      omega
    · show (0 + 1) * 1024 ≤ 1024; decide
    · show (0 + 1) * 2048 ≤ 2048; decide
  · exact .inr ⟨by decide, rfl, by show cc0_transform_1 _ _ pf i 1 * 1024 = 0; rw [block_w1]; rfl, rfl⟩
  · rw [block_b1]
    have := hexp i
    fin_cases a
    · show (((pf 0 : S304.Idx → BitVec 32) (ix1 (i 0))).toNat + 1) * 1 ≤ 32
      omega
    · show (0 + 1) * 1 ≤ 1; decide
    · show (0 + 1) * 2048 ≤ 2048; decide
  · rw [block_w2]
    have := hexp i
    fin_cases a
    · show (((pf 0 : S304.Idx → BitVec 32) (ix1 (i 0))).toNat + 1) * 1 ≤ 32
      omega
    · show (0 + 1) * 1024 ≤ 1024; decide
    · show (0 + 1) * 1024 ≤ 1024; decide
  · exact .inr ⟨by decide, rfl, by show cc0_transform_3 _ _ pf i 1 * 1024 = 0; rw [block_w2]; rfl, rfl⟩
  · rw [block_b2]
    have := hexp i
    fin_cases a
    · show (((pf 0 : S304.Idx → BitVec 32) (ix1 (i 0))).toNat + 1) * 1 ≤ 32
      omega
    · show (0 + 1) * 1 ≤ 1; decide
    · show (0 + 1) * 1024 ≤ 1024; decide

end Cert.Proof.MoeTables

end
-- ==== Proof.MoeRun.lean ====
/- The mixture-of-experts kernel's launch, under tables in range: it runs to its end, leaves its operands and its tables as
   they were, every semaphore at zero, and its result at the blocks its points write back. -/
module

public import proofs.«01_k».proof.Proof.MoeTables
public import Idealize.ShloMosaic.Lib.Pipeline.Frame
public import Idealize.ShloMosaic.Lib.Pipeline.Quiescent
public import Idealize.ShloMosaic.Lib.Pipeline.Kit
public import Idealize.ShloMosaic.Lib.Pipeline.TableIdle
public import Idealize.ShloMosaic.Lib.Writes
public import Idealize.ShloMosaic.Adequacy
public import Idealize.ShloMosaic.Init

@[expose] public section

set_option maxRecDepth 16384
set_option Elab.async false

noncomputable section

namespace Cert.Proof.MoeRun

open Cert.MoeIdeal Cert.MoeIdeal.Gen Cert.Proof.MoeBody Cert.Proof.MoeTables
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (g : Dev nD → PrngReg)

/-- The two tables, as the launch memory holds them. -/
def pf : pre0.Contents (Elt F) := fun k => m (((0 : Dev nD) : Thread nD τ).loc (pre0.ref k))

/-- The launch memory's tables are in range. -/
def Ranged : Prop := InRange (pf m 0) (pf m 1)

variable (hr : Ranged m)

/-- The tables with the side condition they meet, and the pipeline at them. -/
def adm : (pcfg0 (F := F)).Adm := ⟨pf m, blocks_inside (pf m) hr⟩
abbrev cfgA : Cfg sig Λ₀ := cfg0 (F := F) (adm m hr)

/-- Point `t`'s coordinates. -/
abbrev crd (t : Fin (cfgA m hr).N) : (cfgA m hr).grid.Coords := (cfgA m hr).grid.coords t

/-- Each window's current staging buffer at point `t`, as the pipeline passes it to the body. -/
abbrev ms0 (t : Fin (cfgA m hr).N) : Memref sig .tc .vmem S4096x128 .f32 := spec0_0.stage ((cfgA m hr).slots t (0 : Fin 6))
abbrev ms1 (t : Fin (cfgA m hr).N) : Memref sig .tc .vmem S1x1024x2048 .bf16 := spec0_1.stage ((cfgA m hr).slots t (1 : Fin 6))
abbrev ms2 (t : Fin (cfgA m hr).N) : Memref sig .tc .vmem S1x1x2048 .f32 := spec0_2.stage ((cfgA m hr).slots t (2 : Fin 6))
abbrev ms3 (t : Fin (cfgA m hr).N) : Memref sig .tc .vmem S1x1024x1024 .bf16 := spec0_3.stage ((cfgA m hr).slots t (3 : Fin 6))
abbrev ms4 (t : Fin (cfgA m hr).N) : Memref sig .tc .vmem S1x1x1024 .f32 := spec0_4.stage ((cfgA m hr).slots t (4 : Fin 6))
abbrev ms5 (t : Fin (cfgA m hr).N) : Memref sig .tc .vmem S4096x128 .f32 := spec0_5.stage ((cfgA m hr).slots t (5 : Fin 6))
abbrev hs0 (t : Fin (cfgA m hr).N) : (ms0 m hr t).IsWhole := hstage0_0 (((cfgA m hr).slots t (0 : Fin 6)).cast nbuf0_0)
abbrev hs1 (t : Fin (cfgA m hr).N) : (ms1 m hr t).IsWhole := hstage0_1 (((cfgA m hr).slots t (1 : Fin 6)).cast nbuf0_1)
abbrev hs2 (t : Fin (cfgA m hr).N) : (ms2 m hr t).IsWhole := hstage0_2 (((cfgA m hr).slots t (2 : Fin 6)).cast nbuf0_2)
abbrev hs3 (t : Fin (cfgA m hr).N) : (ms3 m hr t).IsWhole := hstage0_3 (((cfgA m hr).slots t (3 : Fin 6)).cast nbuf0_3)
abbrev hs4 (t : Fin (cfgA m hr).N) : (ms4 m hr t).IsWhole := hstage0_4 (((cfgA m hr).slots t (4 : Fin 6)).cast nbuf0_4)
abbrev hs5 (t : Fin (cfgA m hr).N) : (ms5 m hr t).IsWhole := hstage0_5 (((cfgA m hr).slots t (5 : Fin 6)).cast nbuf0_5)

/-- Window `w`'s block at point `t`, read off its array at launch. -/
def iblk (c : Dev nD) (w : Fin (cfgA m hr).W) (t : Fin (cfgA m hr).N) :
    (((cfgA m hr).win w).xblock (crd m hr t)).Idx → Elt F ((cfgA m hr).win w).elt :=
  (((cfgA m hr).win w).blk t).view.read (Elt F) ((s₀ m g).mem (((cfgA m hr).win w).arr.view.loc (c : Thread nD τ)))

/-- The number of tiles in use, as the launch memory holds it. -/
abbrev nUsed : BitVec 32 := used (F := F) (pf m 1)

/-- What point `t` leaves in the result's staging buffer: the tile it computes, or zeros past the tiles in use. -/
def left (c : Dev nD) (t : Fin (cfgA m hr).N) : S4096x128.Idx → Elt F .f32 :=
  if k0_cond1 (crd m hr t) (nUsed m) = 1#1 then
    packed (tile (F := F) (iblk m g hr c (0 : Fin 6) t) (iblk m g hr c (1 : Fin 6) t) (iblk m g hr c (2 : Fin 6) t)
      (iblk m g hr c (3 : Fin 6) t) (iblk m g hr c (4 : Fin 6) t))
  else k0_pay1 (F := F)

/-- What holds between points: the kernel's own rest, and the body's halves of the two tables. -/
def Phi (c : Dev nD) : sProp 𝕄 :=
  iprop(Pipeline.ΦA spec0 c ∗ Pipeline.ΦT pre0 (pf m) c)

/-- The pipeline's proof data on core `c`. -/
def dats (_ : Fin 1) (c : Dev nD) : Dat τ (Elt F) Unit ℕ (UR sig nD τ) ℕ (cfgA m hr) c where
  A w := (s₀ m g).mem (((cfgA m hr).win w).arr.view.loc (c : Thread nD τ))
  after w t := match w with
    | ⟨0, _⟩ => iblk m g hr c (0 : Fin 6) t
    | ⟨1, _⟩ => iblk m g hr c (1 : Fin 6) t
    | ⟨2, _⟩ => iblk m g hr c (2 : Fin 6) t
    | ⟨3, _⟩ => iblk m g hr c (3 : Fin 6) t
    | ⟨4, _⟩ => iblk m g hr c (4 : Fin 6) t
    | ⟨5, _⟩ => left m g hr c t
  Φ _ := Phi m c
  q _ := fullShare
  owed _ := 0

theorem after_0 (c : Dev nD) (t : Fin (cfgA m hr).N) : (dats m g hr 0 c).after (0 : Fin 6) t = iblk m g hr c (0 : Fin 6) t := rfl
theorem after_1 (c : Dev nD) (t : Fin (cfgA m hr).N) : (dats m g hr 0 c).after (1 : Fin 6) t = iblk m g hr c (1 : Fin 6) t := rfl
theorem after_2 (c : Dev nD) (t : Fin (cfgA m hr).N) : (dats m g hr 0 c).after (2 : Fin 6) t = iblk m g hr c (2 : Fin 6) t := rfl
theorem after_3 (c : Dev nD) (t : Fin (cfgA m hr).N) : (dats m g hr 0 c).after (3 : Fin 6) t = iblk m g hr c (3 : Fin 6) t := rfl
theorem after_4 (c : Dev nD) (t : Fin (cfgA m hr).N) : (dats m g hr 0 c).after (4 : Fin 6) t = iblk m g hr c (4 : Fin 6) t := rfl
theorem after_5 (c : Dev nD) (t : Fin (cfgA m hr).N) : (dats m g hr 0 c).after (5 : Fin 6) t = left m g hr c t := rfl

/-- The input windows hold their blocks when the body runs, fetched there or kept. -/
theorem before_0 (c : Dev nD) (t : Fin (cfgA m hr).N) (d) : (dats m g hr 0 c).before (0 : Fin 6) t d = iblk m g hr c (0 : Fin 6) t :=
  ((dats m g hr 0 c).before_in_eq_fetched (0 : Fin 6) rfl (fun _ => rfl) (fun _ _ _ => rfl)
    (fun t => by rw [after_0]; unfold Dat.blockOf iblk; rfl) t d).trans (by unfold Dat.fetched Dat.blockOf iblk; rfl)
theorem before_1 (c : Dev nD) (t : Fin (cfgA m hr).N) (d) : (dats m g hr 0 c).before (1 : Fin 6) t d = iblk m g hr c (1 : Fin 6) t :=
  ((dats m g hr 0 c).before_in_eq_fetched (1 : Fin 6) rfl (fun _ => rfl) (fun _ _ _ => rfl)
    (fun t => by rw [after_1]; unfold Dat.blockOf iblk; rfl) t d).trans (by unfold Dat.fetched Dat.blockOf iblk; rfl)
theorem before_2 (c : Dev nD) (t : Fin (cfgA m hr).N) (d) : (dats m g hr 0 c).before (2 : Fin 6) t d = iblk m g hr c (2 : Fin 6) t :=
  ((dats m g hr 0 c).before_in_eq_fetched (2 : Fin 6) rfl (fun _ => rfl) (fun _ _ _ => rfl)
    (fun t => by rw [after_2]; unfold Dat.blockOf iblk; rfl) t d).trans (by unfold Dat.fetched Dat.blockOf iblk; rfl)
theorem before_3 (c : Dev nD) (t : Fin (cfgA m hr).N) (d) : (dats m g hr 0 c).before (3 : Fin 6) t d = iblk m g hr c (3 : Fin 6) t :=
  ((dats m g hr 0 c).before_in_eq_fetched (3 : Fin 6) rfl (fun _ => rfl) (fun _ _ _ => rfl)
    (fun t => by rw [after_3]; unfold Dat.blockOf iblk; rfl) t d).trans (by unfold Dat.fetched Dat.blockOf iblk; rfl)
theorem before_4 (c : Dev nD) (t : Fin (cfgA m hr).N) (d) : (dats m g hr 0 c).before (4 : Fin 6) t d = iblk m g hr c (4 : Fin 6) t :=
  ((dats m g hr 0 c).before_in_eq_fetched (4 : Fin 6) rfl (fun _ => rfl) (fun _ _ _ => rfl)
    (fun t => by rw [after_4]; unfold Dat.blockOf iblk; rfl) t d).trans (by unfold Dat.fetched Dat.blockOf iblk; rfl)

/-- The count the idle rule reads and the count the body reads are one word. -/
theorem count_eq : (pf m).atD 1 ![0] = nUsed m := by
  have h : ∀ a, (![0] : Fin 1 → Nat) a + 1 ≤ S1.size a := by decide
  exact (dif_pos h).trans (congrArg (pf m 1 : S1.Idx → BitVec 32) ((idx_one _).trans (idx_one _).symm))

/-- No point leaves the result's staging buffer alone. -/
theorem idle_5 (t : Fin (cfgA m hr).N) : (cfgA m hr).idle (5 : Fin 6) ((cfgA m hr).grid.coords t) = false := by
  show (!(k0_cond1 (crd m hr t) ((pf m).atD 1 ![0]) == 1#1) && !(k0_cond2 (crd m hr t) ((pf m).atD 1 ![0]) == 1#1)) = false
  by_cases h : k0_cond1 (crd m hr t) ((pf m).atD 1 ![0]) = 1#1
  · simp [h]
  · have h2 : k0_cond2 (crd m hr t) ((pf m).atD 1 ![0]) = 1#1 := (cond2_iff _ _).2 (not_lt.1 fun g => h ((cond1_iff _ _).2 g))
    simp [h2]

/-- The body's halves of the tables, one by one. -/
theorem tables_eq (c : Dev nD) : (Pipeline.ΦT pre0 (pf m) c : sProp 𝕄)
    = iprop((tab0.view.loc (c : Thread nD τ) ↦{fullShare.right} pf m 0) ∗ (tab1.view.loc (c : Thread nD τ) ↦{fullShare.right} pf m 1)) := by
  unfold Pipeline.ΦT Pipeline.prefHeld
  rw [show (Finset.univ : Finset (Fin 2)) = insert (0 : Fin 2) {(1 : Fin 2)} from by decide,
    bigSep_insert (by decide), bigSep_singleton]
  rfl

set_option maxHeartbeats 4000000 in
/-- The body at point `t`: from the blocks it leaves them and the result's staging buffer at what `left` says. -/
theorem body_at (c : Dev nD) (t : Fin (cfgA m hr).N) :
    iprop((dats m g hr 0 c).Φ t.castSucc ∗ (dats m g hr 0 c).owesAt () t.castSucc
        ∗ (∃ d, owns (c : Thread nD τ) (ms0 m hr t) fullShare ((dats m g hr 0 c).before (0 : Fin 6) t d))
        ∗ (∃ d, owns (c : Thread nD τ) (ms1 m hr t) fullShare ((dats m g hr 0 c).before (1 : Fin 6) t d))
        ∗ (∃ d, owns (c : Thread nD τ) (ms2 m hr t) fullShare ((dats m g hr 0 c).before (2 : Fin 6) t d))
        ∗ (∃ d, owns (c : Thread nD τ) (ms3 m hr t) fullShare ((dats m g hr 0 c).before (3 : Fin 6) t d))
        ∗ (∃ d, owns (c : Thread nD τ) (ms4 m hr t) fullShare ((dats m g hr 0 c).before (4 : Fin 6) t d))
        ∗ (∃ d, owns (c : Thread nD τ) (ms5 m hr t) fullShare ((dats m g hr 0 c).before (5 : Fin 6) t d)))
      ⊢ wp frame (wpE (defs₀ (F := F)) Variants.none c none) Set.univ
          (cc0_moe_ffn (crd m hr t) tab0 (Memref.isWhole_whole _) tab1 (Memref.isWhole_whole _) (ms0 m hr t) (hs0 m hr t)
            (ms1 m hr t) (hs1 m hr t) (ms2 m hr t) (hs2 m hr t) (ms3 m hr t) (hs3 m hr t) (ms4 m hr t) (hs4 m hr t)
            (ms5 m hr t) (hs5 m hr t)) fun _ =>
          iprop((dats m g hr 0 c).Φ t.succ ∗ (dats m g hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m g hr 0 c).before w t d))
                  | true => owns (c : Thread nD τ) (((cfgA m hr).win w).stage ((cfgA m hr).slots t w)) fullShare ((dats m g hr 0 c).after w t)
                | false => owns (c : Thread nD τ) (((cfgA m hr).win w).stage ((cfgA m hr).slots t w)) fullShare ((dats m g hr 0 c).after w t)) := by
  rw [bigSep_W0]
  rewrite [idle_5 m hr t]
  simp only [before_0, before_1, before_2, before_3, before_4, after_0, after_1, after_2, after_3, after_4, after_5]
  rewrite [show (dats m g hr 0 c).Φ t.succ = Phi m c from rfl, show (dats m g hr 0 c).Φ t.castSucc = Phi m c from rfl,
    show (dats m g hr 0 c).owesAt () t.succ = (dats m g hr 0 c).owesAt () t.castSucc from rfl]
  unfold Phi
  rw [tables_eq]
  by_cases h1 : k0_cond1 (crd m hr t) (nUsed m) = 1#1
  · have h2 : ¬k0_cond2 (crd m hr t) (nUsed m) = 1#1 := fun e =>
      absurd ((cond1_iff _ _).1 h1) (not_lt.2 ((cond2_iff _ _).1 e))
    unfold left
    rw [if_pos h1]
    iintro ⟨⟨HA, HT0, HT1⟩, Ho, ⟨%d0, H0⟩, ⟨%d1, H1⟩, ⟨%d2, H2⟩, ⟨%d3, H3⟩, ⟨%d4, H4⟩, ⟨%d5, H5⟩⟩
    iapply ((runUsed c (crd m hr t) (ms0 m hr t) (hs0 m hr t) (ms1 m hr t) (hs1 m hr t) (ms2 m hr t) (hs2 m hr t) (ms3 m hr t)
      (hs3 m hr t) (ms4 m hr t) (hs4 m hr t) (ms5 m hr t) (hs5 m hr t) (pf m 0) (pf m 1) (iblk m g hr c (0 : Fin 6) t)
      (iblk m g hr c (1 : Fin 6) t) (iblk m g hr c (2 : Fin 6) t) (iblk m g hr c (3 : Fin 6) t)
      (iblk m g hr c (4 : Fin 6) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨⟨H0, H1, H2, H3, H4, HT0, HT1⟩, ⟨%e5, H5⟩⟩
    isplitl [HA HT0 HT1]
    · isplitl [HA]
      · iexact HA
      isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      exact read_used c _ _ _ _ _ _ _ _ _ _ _ _ _ _ _ _ _ _ _ _ _ _ h1 h2
  · have h2 : k0_cond2 (crd m hr t) (nUsed m) = 1#1 := (cond2_iff _ _).2 (not_lt.1 fun e => h1 ((cond1_iff _ _).2 e))
    unfold left
    rw [if_neg h1]
    iintro ⟨⟨HA, HT0, HT1⟩, Ho, ⟨%d0, H0⟩, ⟨%d1, H1⟩, ⟨%d2, H2⟩, ⟨%d3, H3⟩, ⟨%d4, H4⟩, ⟨%d5, H5⟩⟩
    iapply ((runPast c (crd m hr t) (ms0 m hr t) (hs0 m hr t) (ms1 m hr t) (hs1 m hr t) (ms2 m hr t) (hs2 m hr t) (ms3 m hr t)
      (hs3 m hr t) (ms4 m hr t) (hs4 m hr t) (ms5 m hr t) (hs5 m hr t) (pf m 0) (pf m 1) (iblk m g hr c (0 : Fin 6) t)
      (iblk m g hr c (1 : Fin 6) t) (iblk m g hr c (2 : Fin 6) t) (iblk m g hr c (3 : Fin 6) t)
      (iblk m g hr c (4 : Fin 6) t) h1 h2).2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    iintro ⟨⟨H0, H1, H2, H3, H4, HT0, HT1⟩, ⟨%e5, H5⟩⟩
    isplitl [HA HT0 HT1]
    · isplitl [HA]
      · iexact HA
      isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    unfold owns; iexists _; isplitr; swap
    · iexact H5
    · ipureintro
      exact read_past c _ _ _ _ _ _ _ _ _ _ _ _ _ _ _ _ _ _ _ _ _ _ h1 h2

/-- The library's body obligation, at every point. -/
theorem body_obligation (c : Dev nD) :
    BodyObligation (dats m g hr 0 c) (defs₀ (F := F)) Variants.none () Set.univ := fun t => by
  rw [bigSep_W0]
  exact body_at m g hr c t

/-- The launch memory, as the pipeline's entry finds it. -/
abbrev V (c : Dev nD) (b : Ref sig .tc) : Buf (Elt F) ((c : Thread nD τ).loc b) := m ((c : Thread nD τ).loc b)

set_option maxHeartbeats 4000000 in
/-- The launch terminates, every window's array at what its points write back, every other buffer as it was, every semaphore
    counter at zero. -/
theorem run : θ_run (defs (F := F)) (onTc (τ := τ) (main (F := F))) (s₀ m g)
    (fun r => Pipeline.FramePost (Pipeline.pin (pcfgs (F := F)) fun _ => adm m hr) (dats m g hr) 0 (V m) r ∧ r.2.sem = fun _ => 0) :=
  Pipeline.θ_run_frameP (pcfgs (F := F)) (fun _ => adm m hr) (dats m g hr) 0 launch0 (defs₀ (F := F)) Variants.none m g main
    (fun c => (body_obligation m g hr c).loose)
    (fun c w => by unfold Dat.share; split <;> rfl) (fun _ _ => rfl) (V m)
    (Pipeline.hmainP_region (pcfgs (F := F)) 0 (defs₀ (F := F)) Variants.none m main fun c => by
      delta main; simp only [Prog.bind_lift, Prog.pure_eq_ret])
    (fun _ _ => rfl) (fun c k => by rw [Subsingleton.elim c 0]; rfl) (fun _ _ => rfl) (Q' := _)

/-- An operand a window reads ends as it was. -/
theorem operand_kept {r : PUnit × MemSt nD τ sig (Elt F)}
    (h : Pipeline.FramePost (Pipeline.pin (pcfgs (F := F)) fun _ => adm m hr) (dats m g hr) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  ⟨(h c).2 main_arg0 (show main_arg0 ∈ Pipeline.restRefs sig spec0 by decide),
    (h c).2 main_arg1 (show main_arg1 ∈ Pipeline.restRefs sig spec0 by decide),
    ((h c).1 (0 : Fin 6)).trans ((dats m g hr 0 c).arrAt_in (0 : Fin 6) rfl _),
    ((h c).1 (1 : Fin 6)).trans ((dats m g hr 0 c).arrAt_in (1 : Fin 6) rfl _),
    ((h c).1 (2 : Fin 6)).trans ((dats m g hr 0 c).arrAt_in (2 : Fin 6) rfl _),
    ((h c).1 (3 : Fin 6)).trans ((dats m g hr 0 c).arrAt_in (3 : Fin 6) rfl _),
    ((h c).1 (4 : Fin 6)).trans ((dats m g hr 0 c).arrAt_in (4 : Fin 6) rfl _)⟩

include hr in
/-- The frame: under tables in range the launch terminates, every argument array ends unchanged and every semaphore counter
    reads zero. -/
theorem frame : θ_run (defs (F := F)) (onTc (τ := τ) (main (F := F))) ⟨m, fun _ => 0, g⟩ (fun r => (∀ c : Dev nD,
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)) ∧ r.2.sem = fun _ => 0) :=
  (θ_run _ _ _).mono (fun r h => ⟨fun c => operand_kept m g hr h.1 c, h.2⟩) (run m g hr)

end Cert.Proof.MoeRun

end
-- ==== Proof.MoeFrame.lean ====
/- The mixture-of-experts kernel at its own floats keeps its arguments: its program and the idealized one's are one text. -/
module

public import proofs.«01_k».proof.Proof.MoeRun
public import proofs.«01_k».proof.Proof.Gen.Moe.Skeleton

@[expose] public section
set_option maxRecDepth 16384
noncomputable section
namespace Cert.Proof.MoeFrame
open Idealize.ShloMosaic Idealize.ShloMosaic.TcCoe Idealize.SL.Sem

variable {F : FTy → Type} [FloatOps F]

/-- The two programs' body tables are one: their texts are the same. -/
theorem bodies_eq : Cert.Moe.defs₀ (F := F) = Cert.MoeIdeal.defs₀ (F := F) := by
  funext p l a
  cases p with
  | tc =>
    obtain ⟨v, h⟩ := l
    cases v with
    | zero => obtain ⟨t, s⟩ := a; rfl
    | succ v => exact absurd h (by show ¬ v + 1 < 1; omega)
  | scScalar _ => rfl
  | scVector _ _ => rfl

/-- So the two programs' definitions are one. -/
theorem defs_eq : Cert.Moe.defs (F := F) = Cert.MoeIdeal.defs (F := F) :=
  congrArg (Pipeline.defs (Cert.MoeIdeal.pcfgs (F := F))) bodies_eq

/-- And so are their host programs. -/
theorem main_eq : Cert.Moe.main (F := F) = Cert.MoeIdeal.main (F := F) := rfl

/-- A run over a body table is a run over an equal one. -/
theorem transport {nD : ℕ} {τ : Topo} {sig : RefSig} {Val : EltTy → Type} {Λ : Labels} {d d' : Defs nD τ sig Val Λ} (e : d = d')
   {main main'} (e2 : main = main') {s : MemSt nD τ sig Val} {Q} (h : θ_run d (onTc (τ := τ) main) s Q) : θ_run d' (onTc (τ := τ) main') s Q := by
  subst e; subst e2; exact h

set_option maxHeartbeats 4000000 in
/-- The kernel's frame, under tables in range: the idealized kernel's, moved along the two equalities. -/
theorem frameP (m : (ℓ : Loc Cert.Moe.nD Cert.Moe.τ Cert.Moe.sig) → Buf (Elt F) ℓ) (g : Dev Cert.Moe.nD → PrngReg)
    (hr : MoeRun.Ranged (F := F) m) :
  θ_run (Cert.Moe.defs (F := F)) (onTc (τ := Cert.Moe.τ) (Cert.Moe.main (F := F))) ⟨m, fun _ => 0, g⟩ (fun r => (∀ c : Dev Cert.Moe.nD,
    r.2.mem ((c : Thread Cert.Moe.nD Cert.Moe.τ).loc Cert.Moe.main_arg0) = m ((c : Thread Cert.Moe.nD Cert.Moe.τ).loc Cert.Moe.main_arg0)
    ∧ r.2.mem ((c : Thread Cert.Moe.nD Cert.Moe.τ).loc Cert.Moe.main_arg1) = m ((c : Thread Cert.Moe.nD Cert.Moe.τ).loc Cert.Moe.main_arg1)
    ∧ r.2.mem ((c : Thread Cert.Moe.nD Cert.Moe.τ).loc Cert.Moe.main_arg2) = m ((c : Thread Cert.Moe.nD Cert.Moe.τ).loc Cert.Moe.main_arg2)
    ∧ r.2.mem ((c : Thread Cert.Moe.nD Cert.Moe.τ).loc Cert.Moe.main_arg3) = m ((c : Thread Cert.Moe.nD Cert.Moe.τ).loc Cert.Moe.main_arg3)
    ∧ r.2.mem ((c : Thread Cert.Moe.nD Cert.Moe.τ).loc Cert.Moe.main_arg4) = m ((c : Thread Cert.Moe.nD Cert.Moe.τ).loc Cert.Moe.main_arg4)
    ∧ r.2.mem ((c : Thread Cert.Moe.nD Cert.Moe.τ).loc Cert.Moe.main_arg5) = m ((c : Thread Cert.Moe.nD Cert.Moe.τ).loc Cert.Moe.main_arg5)
    ∧ r.2.mem ((c : Thread Cert.Moe.nD Cert.Moe.τ).loc Cert.Moe.main_arg6) = m ((c : Thread Cert.Moe.nD Cert.Moe.τ).loc Cert.Moe.main_arg6)) ∧ r.2.sem = fun _ => 0) :=
  transport (nD := Cert.MoeIdeal.nD) (τ := Cert.MoeIdeal.τ) (sig := Cert.MoeIdeal.sig) (defs_eq (F := F)).symm main_eq.symm
    (MoeRun.frame (F := F) m g hr)
end Cert.Proof.MoeFrame
end
-- ==== Proof.MoeRow.lean ====
/- One row of one expert's feed-forward layer, over the extended reals: what both the kernel and the reference hold. -/
module

public import Idealize.ShloMosaic.PureOps.Ideal.Laws
public import Idealize.ShloMosaic.Lib.ValueIdx

@[expose] public section

noncomputable section

namespace Cert.Proof.MoeRow

open Idealize.ShloMosaic Idealize.ShloMosaic.ValueIdx

/-- The gate value clamped from above at 7. -/
def clampGate (g : EReal) : EReal := min g (Ideal.ofBits .f32 0x40E00000#32)

/-- The linear value clamped to [-7, 7]. -/
def clampLinear (l : EReal) : EReal := min (Ideal.ofBits .f32 0x40E00000#32) (max (Ideal.ofBits .f32 0xC0E00000#32) l)

/-- The clamped gate times the logistic of 1.702 times it, times the clamped linear value plus one. -/
def swiglu (g l : EReal) : EReal :=
  clampGate g * Ideal.div (Ideal.ofBits .f32 0x3F800000#32)
      (Ideal.ofBits .f32 0x3F800000#32 + Ideal.exp (-(Ideal.ofBits .f32 0x3FD9DB23#32 * clampGate g)))
    * (clampLinear l + Ideal.ofBits .f32 0x3F800000#32)

/-- A column of the first layer: the row times the weight column, plus the bias. -/
def first (h : Fin 1024 → EReal) (w : Fin 1024 → Fin 2048 → EReal) (b : Fin 2048 → EReal) (k : Fin 2048) : EReal :=
  ∑ i : Fin 1024, h i * w i k + b k

/-- The gate's column and the linear's column of a hidden unit, the weights holding all gates before all linears. -/
abbrev gateCol (k : Fin 1024) : Fin 2048 := ⟨k.val, by have := k.isLt; omega⟩
abbrev linearCol (k : Fin 1024) : Fin 2048 := ⟨1024 + k.val, by have := k.isLt; omega⟩

/-- A row through one expert: first layer, activation, second layer. -/
def expertRow (h : Fin 1024 → EReal) (w1 : Fin 1024 → Fin 2048 → EReal) (b1 : Fin 2048 → EReal)
    (w2 : Fin 1024 → Fin 1024 → EReal) (b2 : Fin 1024 → EReal) (j : Fin 1024) : EReal :=
  ∑ k : Fin 1024, swiglu (first h w1 b1 (gateCol k)) (first h w1 b1 (linearCol k)) * w2 k j + b2 j

/-- The tokens' rows, held eight packed rows of 128 to a row of 1024. -/
abbrev token (x : (⟨2, ![1245184, 128]⟩ : Shape).Idx → EReal) (R : Fin 155648) (i : Fin 1024) : EReal :=
  x (ix2 (⟨i.val / 128 + 8 * R.val, by have := R.isLt; have := i.isLt; omega⟩ : Fin 1245184)
    (⟨i.val % 128, Nat.mod_lt _ (by decide)⟩ : Fin 128))

/-- The tile of 512 rows a row lies in. -/
abbrev tileOf (R : Fin 155648) : Fin 304 := ⟨R.val / 512, by have := R.isLt; omega⟩

/-- The layer's output at a row and a column: the row through its tile's expert, or zero past the tiles in use. -/
def output (e : Fin 304 → Fin 32) (n : BitVec 32) (x : (⟨2, ![1245184, 128]⟩ : Shape).Idx → EReal)
    (w1 : (⟨3, ![32, 1024, 2048]⟩ : Shape).Idx → EReal) (b1 : (⟨3, ![32, 1, 2048]⟩ : Shape).Idx → EReal)
    (w2 : (⟨3, ![32, 1024, 1024]⟩ : Shape).Idx → EReal) (b2 : (⟨3, ![32, 1, 1024]⟩ : Shape).Idx → EReal)
    (R : Fin 155648) (j : Fin 1024) : EReal :=
  if ((tileOf R).val : Int) < n.toInt then
    expertRow (token x R) (fun i k => w1 (ix3 (e (tileOf R)) i k)) (fun k => b1 (ix3 (e (tileOf R)) 0 k))
      (fun k j => w2 (ix3 (e (tileOf R)) k j)) (fun j => b2 (ix3 (e (tileOf R)) 0 j)) j
  else 0

/-- The row and the column a packed index stands for. -/
abbrev rowOf (y : (⟨2, ![1245184, 128]⟩ : Shape).Idx) : Fin 155648 :=
  ⟨(y 0).val / 8, by have h : (y 0).val < 1245184 := (y 0).isLt; omega⟩
abbrev colOf (y : (⟨2, ![1245184, 128]⟩ : Shape).Idx) : Fin 1024 :=
  ⟨128 * ((y 0).val % 8) + (y 1).val, by have h : (y 1).val < 128 := (y 1).isLt; omega⟩

end Cert.Proof.MoeRow
-- ==== Proof.MoeTile.lean ====
/- The mixture-of-experts kernel's tile, read at a row and a column: the row of the block through the expert's layer. -/
module

public import proofs.«01_k».proof.Proof.MoeBody
public import proofs.«01_k».proof.Proof.MoeRow
public import Idealize.ShloMosaic.Lib.MatmulPlain

@[expose] public section

set_option maxRecDepth 16384

noncomputable section

namespace Cert.Proof.MoeTile

open Cert.MoeIdeal Cert.MoeIdeal.Gen Cert.Proof.MoeBody Cert.Proof.MoeRow
open Idealize.ShloMosaic Idealize.ShloMosaic.ValueIdx

/-- Dropping one leading unit axis keeps the last two coordinates. -/
theorem drop1_apply {a b : Nat} {α : Type} (x : (⟨3, ![1, a, b]⟩ : Shape).Idx → α) (h : (⟨3, ![1, a, b]⟩ : Shape).ShapeCasts ⟨2, ![a, b]⟩)
    (i : Fin a) (j : Fin b) : shapeCast ⟨2, ![a, b]⟩ x h (ix2 i j) = x (ix3 0 i j) :=
  shapeCast_apply x h (ix2 i j) (ix3 0 i j) (by
    rw [Shape.rowMajor_val_two, Shape.rowMajor_val_three]; show (0 * a + i.val) * b + j.val = i.val * b + j.val; simp)

/-- A one-row array repeated down the rows. -/
theorem down_apply {n N : Nat} {α : Type} (hN : N ≠ 1) (x : (⟨2, ![1, N]⟩ : Shape).Idx → α)
    (h : (⟨2, ![1, N]⟩ : Shape).Broadcasts ⟨2, ![n, N]⟩) (i : Fin n) (j : Fin N) :
    broadcastTo ⟨2, ![n, N]⟩ x h (ix2 i j) = x (ix2 0 j) :=
  broadcastTo_apply x h (ix2 i j) (ix2 0 j) (fun a => match a with
    | ⟨0, _⟩ => by show 0 = if (1 : Nat) = 1 then 0 else _; rw [if_pos rfl]
    | ⟨1, _⟩ => by show j.val = if N = 1 then 0 else j.val; rw [if_neg hN])

/-- The row of a packed block: eight packed rows of 128 make one of 1024. -/
abbrev packedIdx (r : Fin 512) (i : Fin 1024) : S4096x128.Idx :=
  ix2 (⟨i.val / 128 + 8 * r.val, by have := r.isLt; have := i.isLt; omega⟩ : Fin 4096) (⟨i.val % 128, Nat.mod_lt _ (by decide)⟩ : Fin 128)

/-- The eight strided loads, laid side by side, are the block's rows unpacked. -/
theorem joined_apply (x0 : S4096x128.Idx → EReal)
    (h : Shape.Concatenates [S512x128, S512x128, S512x128, S512x128, S512x128, S512x128, S512x128, S512x128] S512x1024 1)
    (r : Fin 512) (i : Fin 1024) :
    concatenate S512x1024 1 [⟨S512x128, rows (F := Ideal) 0 x0⟩, ⟨S512x128, rows (F := Ideal) 1 x0⟩, ⟨S512x128, rows (F := Ideal) 2 x0⟩,
      ⟨S512x128, rows (F := Ideal) 3 x0⟩, ⟨S512x128, rows (F := Ideal) 4 x0⟩, ⟨S512x128, rows (F := Ideal) 5 x0⟩,
      ⟨S512x128, rows (F := Ideal) 6 x0⟩, ⟨S512x128, rows (F := Ideal) 7 x0⟩] h (ix2 r i) = x0 (packedIdx r i) := by
  have hi : i.val / 128 < 8 := by have := i.isLt; omega
  refine (concatenate_ofFn_apply (t := S512x1024) (s₁ := S512x128) 1 (N := 8) (fun s => rows (F := Ideal) s x0) h rfl 128 rfl (ix2 r i)
    ⟨i.val / 128, hi⟩ rfl (ix2 r ⟨i.val % 128, Nat.mod_lt _ (by decide)⟩) rfl (fun b hb => ?_)).trans ?_
  · match b with
    | ⟨0, _⟩ => rfl
    | ⟨1, _⟩ => exact absurd rfl hb
  · rfl

/-- The first layer of the tile at a row and a hidden column. -/
theorem pay2_apply (x0 : S4096x128.Idx → EReal) (x1 : FVec Ideal S1x1024x2048 .bf16) (x2 : FVec Ideal S1x1x2048 .f32)
    (r : Fin 512) (k : Fin 2048) :
    k0_pay2 (F := Ideal) (rows (F := Ideal) 0 x0) (rows (F := Ideal) 1 x0) (rows (F := Ideal) 2 x0) (rows (F := Ideal) 3 x0)
        (rows (F := Ideal) 4 x0) (rows (F := Ideal) 5 x0) (rows (F := Ideal) 6 x0) (rows (F := Ideal) 7 x0) x1 x2 (ix2 r k)
      = first (fun i => x0 (packedIdx r i)) (fun i k => x1 (ix3 0 i k)) (fun k => x2 (ix3 0 0 k)) k := by
  unfold k0_pay2 first
  refine congrArg₂ (fun a b : EReal => a + b) ?_ ((down_apply (by decide) _ _ r k).trans (drop1_apply x2 _ 0 k))
  refine (Ideal.matmul_plain_apply (M := 512) (K := 1024) (N := 2048) (φ₁ := .bf16) (φ₂ := .bf16) none _ _ _ r k).trans ?_
  refine (congrArg (fun a : EReal => a + _) Ideal.ofBits_zero_f32).trans ((zero_add _).trans (Finset.sum_congr rfl fun i _ => ?_))
  exact congrArg₂ (fun a b : EReal => a * b) (joined_apply x0 concatenates_S512x128_S512x128_S512x128_S512x128_S512x128_S512x128_S512x128_S512x128_S512x1024_d1 r i) (drop1_apply x1 _ i k)

variable (x0 : S4096x128.Idx → EReal) (x1 : FVec Ideal S1x1024x2048 .bf16) (x2 : FVec Ideal S1x1x2048 .f32)

/-- The row a block holds at `r`, and the first layer's column `k` on it. -/
abbrev hid (r : Fin 512) (k : Fin 2048) : EReal :=
  first (fun i => x0 (packedIdx r i)) (fun i k => x1 (ix3 0 i k)) (fun k => x2 (ix3 0 0 k)) k

/-- The clamped gate at a row and a hidden unit. -/
theorem pay3_apply (r : Fin 512) (k : Fin 1024) :
    k0_pay3 (F := Ideal) (rows (F := Ideal) 0 x0) (rows (F := Ideal) 1 x0) (rows (F := Ideal) 2 x0) (rows (F := Ideal) 3 x0)
        (rows (F := Ideal) 4 x0) (rows (F := Ideal) 5 x0) (rows (F := Ideal) 6 x0) (rows (F := Ideal) 7 x0) x1 x2 (ix2 r k)
      = clampGate (hid x0 x1 x2 r (gateCol k)) := by
  unfold k0_pay3 clampGate
  refine congrArg (fun a : EReal => min a _) ?_
  refine (extractStridedSlice_apply _ _ _ (ix2 r k) (ix2 r (gateCol k)) (fun a => ?_)).trans (pay2_apply x0 x1 x2 r (gateCol k))
  match a with
  | ⟨0, _⟩ => show r.val = 0 + r.val; omega
  | ⟨1, _⟩ => show k.val = 0 + k.val; omega

/-- The clamped linear at a row and a hidden unit. -/
theorem pay4_apply (r : Fin 512) (k : Fin 1024) :
    k0_pay4 (F := Ideal) (rows (F := Ideal) 0 x0) (rows (F := Ideal) 1 x0) (rows (F := Ideal) 2 x0) (rows (F := Ideal) 3 x0)
        (rows (F := Ideal) 4 x0) (rows (F := Ideal) 5 x0) (rows (F := Ideal) 6 x0) (rows (F := Ideal) 7 x0) x1 x2 (ix2 r k)
      = clampLinear (hid x0 x1 x2 r (linearCol k)) := by
  unfold k0_pay4 clampLinear
  refine congrArg (fun a : EReal => min _ (max _ a)) ?_
  refine (extractStridedSlice_apply _ _ _ (ix2 r k) (ix2 r (linearCol k)) (fun a => ?_)).trans (pay2_apply x0 x1 x2 r (linearCol k))
  match a with
  | ⟨0, _⟩ => show r.val = 0 + r.val; omega
  | ⟨1, _⟩ => show 1024 + k.val = 1024 + k.val; rfl

/-- The exponential of the scaled gate's opposite at a row and a hidden unit. -/
theorem pay5_apply (r : Fin 512) (k : Fin 1024) :
    k0_pay5 (F := Ideal) (rows (F := Ideal) 0 x0) (rows (F := Ideal) 1 x0) (rows (F := Ideal) 2 x0) (rows (F := Ideal) 3 x0)
        (rows (F := Ideal) 4 x0) (rows (F := Ideal) 5 x0) (rows (F := Ideal) 6 x0) (rows (F := Ideal) 7 x0) x1 x2 (ix2 r k)
      = Ideal.exp (-(Ideal.ofBits .f32 0x3FD9DB23#32 * clampGate (hid x0 x1 x2 r (gateCol k)))) := by
  unfold k0_pay5
  refine congrArg Ideal.exp ?_
  refine (congrArg₂ (fun a b : EReal => a - Ideal.ofBits .f32 0x3FD9DB23#32 * b) Ideal.ofBits_zero_f32 (pay3_apply x0 x1 x2 r k)).trans ?_
  exact zero_sub _

/-- The tile at a row and a column: the row through the expert whose blocks the point stages. -/
theorem tile_apply (x3 : FVec Ideal S1x1024x1024 .bf16) (x4 : FVec Ideal S1x1x1024 .f32) (r : Fin 512) (j : Fin 1024) :
    tile (F := Ideal) x0 x1 x2 x3 x4 (ix2 r j)
      = expertRow (fun i => x0 (packedIdx r i)) (fun i k => x1 (ix3 0 i k)) (fun k => x2 (ix3 0 0 k))
          (fun k j => x3 (ix3 0 k j)) (fun j => x4 (ix3 0 0 j)) j := by
  unfold tile k0_pay7 expertRow
  refine congrArg₂ (fun a b : EReal => a + b) ?_ ((down_apply (by decide) _ _ r j).trans (drop1_apply x4 _ 0 j))
  refine (Ideal.matmul_plain_apply (M := 512) (K := 1024) (N := 1024) (φ₁ := .bf16) (φ₂ := .bf16) none _ _ _ r j).trans ?_
  refine (congrArg (fun a : EReal => a + _) Ideal.ofBits_zero_f32).trans ((zero_add _).trans (Finset.sum_congr rfl fun k _ => ?_))
  refine congrArg₂ (fun a b : EReal => a * b) ?_ (drop1_apply x3 _ k j)
  unfold swiglu
  refine congrArg₂ (fun a b : EReal => a * b) (congrArg₂ (fun a b : EReal => a * b) (pay3_apply x0 x1 x2 r k) ?_)
    (congrArg (fun a : EReal => a + _) (pay4_apply x0 x1 x2 r k))
  exact congrArg (fun e : EReal => Ideal.div _ (_ + e)) (pay5_apply x0 x1 x2 r k)

end Cert.Proof.MoeTile
-- ==== Proof.MoeKernel.lean ====
/- The mixture-of-experts kernel read as arrays: what its result ends holding, in terms of the arrays and the tables it
   is handed, where the tables are in range. -/
module

public import proofs.«01_k».proof.Proof.MoeRun
public import proofs.«01_k».proof.Proof.MoeTile

@[expose] public section

set_option maxRecDepth 16384

noncomputable section

namespace Cert.Proof.MoeKernel

open Cert.MoeIdeal Cert.MoeIdeal.Gen Cert.Proof.MoeBody Cert.Proof.MoeTables Cert.Proof.MoeRun Cert.Proof.MoeRow Cert.Proof.MoeTile
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (g : Dev nD → PrngReg) (hr : Ranged (F := Ideal) m)

/-- The expert of each tile, off the first table. -/
abbrev expertOf (t : Fin 304) : Fin 32 := ⟨((pf (F := Ideal) m 0 : S304.Idx → BitVec 32) (ix1 t)).toNat, hr.expert _⟩

/-- The number of tiles in use, off the second table. -/
abbrev count : BitVec 32 := (pf (F := Ideal) m 1 : S1.Idx → BitVec 32) one

/-- A grid point is a tile. -/
theorem points : (cfgA (F := Ideal) m hr).N = 304 := N_0
abbrev tileAt (t : Fin (cfgA (F := Ideal) m hr).N) : Fin 304 := t.cast (points m hr)

/-- A point's only coordinate is its position. -/
theorem crd_zero (t : Fin (cfgA (F := Ideal) m hr).N) : (crd m hr t (0 : Fin 1)).val = t.val := by
  have h : t.val < 304 := (tileAt m hr t).isLt
  refine (Pipeline.Grid.coords_val (G := grid0) t (0 : Fin 1) (S := 1) (B := 304) (by decide) rfl).trans ?_
  omega

theorem crd_tile (t : Fin (cfgA (F := Ideal) m hr).N) : (crd m hr t (0 : Fin 1) : Fin 304) = tileAt m hr t :=
  Fin.ext (crd_zero m hr t)

/-- The block of tokens a point in use stages is its own. -/
theorem index0 (t : Fin (cfgA (F := Ideal) m hr).N) (hu : (t.val : Int) < (count m).toInt) :
    ((cfgA (F := Ideal) m hr).win (0 : Fin 6)).index t = ![t.val, 0] := by
  refine (block_rows (pf (F := Ideal) m) (crd m hr t)).trans ?_
  rw [crd_zero m hr t]
  exact congrArg (fun n : Nat => (![n, 0] : Fin 2 → Nat)) (min_eq t.val (tileAt m hr t).isLt (count m) (hr.positive one) hu)

theorem index1 (t : Fin (cfgA (F := Ideal) m hr).N) :
    ((cfgA (F := Ideal) m hr).win (1 : Fin 6)).index t = ![(expertOf m hr (tileAt m hr t)).val, 0, 0] :=
  (block_w1 (pf (F := Ideal) m) (crd m hr t)).trans
    (congrArg (fun e : Fin 304 => (![(expertOf m hr e).val, 0, 0] : Fin 3 → Nat)) (crd_tile m hr t))
theorem index2 (t : Fin (cfgA (F := Ideal) m hr).N) :
    ((cfgA (F := Ideal) m hr).win (2 : Fin 6)).index t = ![(expertOf m hr (tileAt m hr t)).val, 0, 0] :=
  (block_b1 (pf (F := Ideal) m) (crd m hr t)).trans
    (congrArg (fun e : Fin 304 => (![(expertOf m hr e).val, 0, 0] : Fin 3 → Nat)) (crd_tile m hr t))
theorem index3 (t : Fin (cfgA (F := Ideal) m hr).N) :
    ((cfgA (F := Ideal) m hr).win (3 : Fin 6)).index t = ![(expertOf m hr (tileAt m hr t)).val, 0, 0] :=
  (block_w2 (pf (F := Ideal) m) (crd m hr t)).trans
    (congrArg (fun e : Fin 304 => (![(expertOf m hr e).val, 0, 0] : Fin 3 → Nat)) (crd_tile m hr t))
theorem index4 (t : Fin (cfgA (F := Ideal) m hr).N) :
    ((cfgA (F := Ideal) m hr).win (4 : Fin 6)).index t = ![(expertOf m hr (tileAt m hr t)).val, 0, 0] :=
  (block_b2 (pf (F := Ideal) m) (crd m hr t)).trans
    (congrArg (fun e : Fin 304 => (![(expertOf m hr e).val, 0, 0] : Fin 3 → Nat)) (crd_tile m hr t))

/-- The block of the result a point writes back is its own. -/
theorem index5 (t : Fin (cfgA (F := Ideal) m hr).N) :
    ((cfgA (F := Ideal) m hr).win (5 : Fin 6)).index t = ![t.val, 0] := by
  have h : t.val < 304 := (tileAt m hr t).isLt
  show (![(BitVec.ofNat 32 (crd m hr t (0 : Fin 1)).val).toNat, 0] : Fin 2 → Nat) = _
  rw [crd_zero m hr t, BitVec.toNat_ofNat, Nat.mod_eq_of_lt (by omega)]

/-- The five arrays the kernel is handed, as core `c` holds them at launch. -/
abbrev tokens (c : Dev nD) : S1245184x128.Idx → EReal := m ((c : Thread nD τ).loc main_arg2)
abbrev w1 (c : Dev nD) : S32x1024x2048.Idx → EReal := m ((c : Thread nD τ).loc main_arg3)
abbrev b1 (c : Dev nD) : S32x1x2048.Idx → EReal := m ((c : Thread nD τ).loc main_arg4)
abbrev w2 (c : Dev nD) : S32x1024x1024.Idx → EReal := m ((c : Thread nD τ).loc main_arg5)
abbrev b2 (c : Dev nD) : S32x1x1024.Idx → EReal := m ((c : Thread nD τ).loc main_arg6)

/-- What the result array ends holding on core `c`: the layer's output, packed. -/
def result (c : Dev nD) : S1245184x128.Idx → EReal := fun y =>
  output (expertOf m hr) (count m) (tokens m c) (w1 m c) (b1 m c) (w2 m c) (b2 m c) (rowOf y) (colOf y)

/-- The row of the array that a block's row is. -/
abbrev globalRow (t : Fin (cfgA (F := Ideal) m hr).N) (r : Fin 512) : Fin 155648 :=
  ⟨t.val * 512 + r.val, by have h : t.val < 304 := (tileAt m hr t).isLt; have := r.isLt; omega⟩

theorem tile_globalRow (t : Fin (cfgA (F := Ideal) m hr).N) (r : Fin 512) : tileOf (globalRow m hr t r) = tileAt m hr t :=
  Fin.ext (by have := r.isLt; show (t.val * 512 + r.val) / 512 = t.val; omega)

/-- The five staged blocks of a point, read at an index. -/
theorem iblk0_apply (c : Dev nD) (t : Fin (cfgA (F := Ideal) m hr).N) (hu : (t.val : Int) < (count m).toInt) (r : Fin 512) (i : Fin 1024) :
    (iblk m g hr c (0 : Fin 6) t : S4096x128.Idx → EReal) (packedIdx r i) = token (tokens m c) (globalRow m hr t r) i := by
  have e := index0 m hr t hu
  show tokens m c ((((cfgA m hr).win (0 : Fin 6)).blk t).view.emb (packedIdx r i)) = _
  refine congrArg (tokens m c) (funext fun a => Fin.ext ?_)
  match a with
  | ⟨0, _⟩ =>
    show ((cfgA m hr).win (0 : Fin 6)).index t (0 : Fin 2) * 4096 + 1 * (i.val / 128 + 8 * r.val) = i.val / 128 + 8 * (t.val * 512 + r.val)
    rw [e]; show t.val * 4096 + _ = _; omega
  | ⟨1, _⟩ =>
    show ((cfgA m hr).win (0 : Fin 6)).index t (1 : Fin 2) * 128 + 1 * (i.val % 128) = i.val % 128
    rw [e]; show 0 * 128 + _ = _; omega
theorem iblk1_apply (c : Dev nD) (t : Fin (cfgA (F := Ideal) m hr).N) (i : Fin 1024) (k : Fin 2048) :
    (iblk m g hr c (1 : Fin 6) t : S1x1024x2048.Idx → EReal) (ix3 0 i k) = w1 m c (ix3 (expertOf m hr (tileAt m hr t)) i k) := by
  have e := index1 m hr t
  show w1 m c ((((cfgA m hr).win (1 : Fin 6)).blk t).view.emb (ix3 0 i k)) = _
  refine congrArg (w1 m c) (funext fun a => Fin.ext ?_)
  match a with
  | ⟨0, _⟩ => show ((cfgA m hr).win (1 : Fin 6)).index t (0 : Fin 3) * 1 + 1 * 0 = _; rw [e]; show (expertOf m hr (tileAt m hr t)).val * 1 + 1 * 0 = (expertOf m hr (tileAt m hr t)).val; omega
  | ⟨1, _⟩ => show ((cfgA m hr).win (1 : Fin 6)).index t (1 : Fin 3) * 1024 + 1 * i.val = i.val; rw [e]; show 0 * 1024 + _ = _; omega
  | ⟨2, _⟩ => show ((cfgA m hr).win (1 : Fin 6)).index t (2 : Fin 3) * 2048 + 1 * k.val = k.val; rw [e]; show 0 * 2048 + _ = _; omega
theorem iblk2_apply (c : Dev nD) (t : Fin (cfgA (F := Ideal) m hr).N) (k : Fin 2048) :
    (iblk m g hr c (2 : Fin 6) t : S1x1x2048.Idx → EReal) (ix3 0 0 k) = b1 m c (ix3 (expertOf m hr (tileAt m hr t)) 0 k) := by
  have e := index2 m hr t
  show b1 m c ((((cfgA m hr).win (2 : Fin 6)).blk t).view.emb (ix3 0 0 k)) = _
  refine congrArg (b1 m c) (funext fun a => Fin.ext ?_)
  match a with
  | ⟨0, _⟩ => show ((cfgA m hr).win (2 : Fin 6)).index t (0 : Fin 3) * 1 + 1 * 0 = _; rw [e]; show (expertOf m hr (tileAt m hr t)).val * 1 + 1 * 0 = (expertOf m hr (tileAt m hr t)).val; omega
  | ⟨1, _⟩ => show ((cfgA m hr).win (2 : Fin 6)).index t (1 : Fin 3) * 1 + 1 * 0 = 0; rw [e]; rfl
  | ⟨2, _⟩ => show ((cfgA m hr).win (2 : Fin 6)).index t (2 : Fin 3) * 2048 + 1 * k.val = k.val; rw [e]; show 0 * 2048 + _ = _; omega
theorem iblk3_apply (c : Dev nD) (t : Fin (cfgA (F := Ideal) m hr).N) (k : Fin 1024) (j : Fin 1024) :
    (iblk m g hr c (3 : Fin 6) t : S1x1024x1024.Idx → EReal) (ix3 0 k j) = w2 m c (ix3 (expertOf m hr (tileAt m hr t)) k j) := by
  have e := index3 m hr t
  show w2 m c ((((cfgA m hr).win (3 : Fin 6)).blk t).view.emb (ix3 0 k j)) = _
  refine congrArg (w2 m c) (funext fun a => Fin.ext ?_)
  match a with
  | ⟨0, _⟩ => show ((cfgA m hr).win (3 : Fin 6)).index t (0 : Fin 3) * 1 + 1 * 0 = _; rw [e]; show (expertOf m hr (tileAt m hr t)).val * 1 + 1 * 0 = (expertOf m hr (tileAt m hr t)).val; omega
  | ⟨1, _⟩ => show ((cfgA m hr).win (3 : Fin 6)).index t (1 : Fin 3) * 1024 + 1 * k.val = k.val; rw [e]; show 0 * 1024 + _ = _; omega
  | ⟨2, _⟩ => show ((cfgA m hr).win (3 : Fin 6)).index t (2 : Fin 3) * 1024 + 1 * j.val = j.val; rw [e]; show 0 * 1024 + _ = _; omega
theorem iblk4_apply (c : Dev nD) (t : Fin (cfgA (F := Ideal) m hr).N) (j : Fin 1024) :
    (iblk m g hr c (4 : Fin 6) t : S1x1x1024.Idx → EReal) (ix3 0 0 j) = b2 m c (ix3 (expertOf m hr (tileAt m hr t)) 0 j) := by
  have e := index4 m hr t
  show b2 m c ((((cfgA m hr).win (4 : Fin 6)).blk t).view.emb (ix3 0 0 j)) = _
  refine congrArg (b2 m c) (funext fun a => Fin.ext ?_)
  match a with
  | ⟨0, _⟩ => show ((cfgA m hr).win (4 : Fin 6)).index t (0 : Fin 3) * 1 + 1 * 0 = _; rw [e]; show (expertOf m hr (tileAt m hr t)).val * 1 + 1 * 0 = (expertOf m hr (tileAt m hr t)).val; omega
  | ⟨1, _⟩ => show ((cfgA m hr).win (4 : Fin 6)).index t (1 : Fin 3) * 1 + 1 * 0 = 0; rw [e]; rfl
  | ⟨2, _⟩ => show ((cfgA m hr).win (4 : Fin 6)).index t (2 : Fin 3) * 1024 + 1 * j.val = j.val; rw [e]; show 0 * 1024 + _ = _; omega

/-- The count the body reads is the second table's word. -/
theorem nUsed_eq : nUsed (F := Ideal) m = count m := congrArg (pf (F := Ideal) m 1 : S1.Idx → BitVec 32) (idx_one _)

/-- The row and the column of the array that an index of a point's block stands for. -/
abbrev blockRow (y : S4096x128.Idx) : Fin 512 := ⟨(y 0).val / 8, by have h : (y 0).val < 4096 := (y 0).isLt; omega⟩
abbrev blockCol (y : S4096x128.Idx) : Fin 1024 :=
  ⟨128 * ((y 0).val % 8) + (y 1).val, by have h : (y 1).val < 128 := (y 1).isLt; omega⟩

/-- What a point leaves in the result's staging buffer, at an index of the block. -/
theorem left_apply (c : Dev nD) (t : Fin (cfgA (F := Ideal) m hr).N) (y : S4096x128.Idx) :
    left m g hr c t y = output (expertOf m hr) (count m) (tokens m c) (w1 m c) (b1 m c) (w2 m c) (b2 m c)
      (globalRow m hr t (blockRow y)) (blockCol y) := by
  unfold left output
  rw [tile_globalRow m hr t (blockRow y), nUsed_eq m]
  have hc := (cond1_iff (crd m hr t) (count m)).trans (by rw [crd_zero m hr t])
  by_cases hu : (t.val : Int) < (count m).toInt
  · rw [if_pos (hc.2 hu), if_pos (show ((tileAt m hr t).val : Int) < (count m).toInt from hu)]
    refine (tile_apply _ _ _ _ _ (blockRow y) (blockCol y)).trans ?_
    congr 1
    · exact funext fun i => iblk0_apply m g hr c t hu (blockRow y) i
    · exact funext fun i => funext fun k => iblk1_apply m g hr c t i k
    · exact funext fun k => iblk2_apply m g hr c t k
    · exact funext fun k => funext fun j => iblk3_apply m g hr c t k j
    · exact funext fun j => iblk4_apply m g hr c t j
  · rw [if_neg (fun h => hu (hc.1 h)), if_neg (show ¬((tileAt m hr t).val : Int) < (count m).toInt from hu)]
    exact Ideal.ofBits_zero_f32

/-- The result at an index of a point's block. -/
theorem emb5 (t : Fin (cfgA (F := Ideal) m hr).N) (y : S4096x128.Idx) :
    ((((cfgA m hr).win (5 : Fin 6)).blk t).view.emb y (0 : Fin 2)).val = t.val * 4096 + (y 0).val
    ∧ ((((cfgA m hr).win (5 : Fin 6)).blk t).view.emb y (1 : Fin 2)).val = (y 1).val := by
  have e := index5 m hr t
  refine ⟨?_, ?_⟩
  · show ((cfgA m hr).win (5 : Fin 6)).index t (0 : Fin 2) * 4096 + 1 * (y 0).val = _; rw [e]; show t.val * 4096 + _ = _; omega
  · show ((cfgA m hr).win (5 : Fin 6)).index t (1 : Fin 2) * 128 + 1 * (y 1).val = _; rw [e]; show 0 * 128 + _ = _; omega

/-- What a point writes back is its block of the result. -/
theorem flushed_eq (c : Dev nD) (t : Fin (cfgA (F := Ideal) m hr).N) :
    (dats m g hr 0 c).flushed (5 : Fin 6) t = (((cfgA m hr).win (5 : Fin 6)).blk t).view.read (Elt Ideal) (result m hr c) := by
  funext y
  refine (left_apply m g hr c t y).trans ?_
  show _ = result m hr c ((((cfgA m hr).win (5 : Fin 6)).blk t).view.emb y)
  obtain ⟨h0, h1⟩ := emb5 m hr t y
  have hy : (y (0 : Fin 2)).val < 4096 := (y (0 : Fin 2)).isLt
  unfold result
  congr 1
  · exact Fin.ext (by show t.val * 512 + (y (0 : Fin 2)).val / 8 = _ / 8; rw [h0]; omega)
  · exact Fin.ext (by show 128 * ((y (0 : Fin 2)).val % 8) + (y (1 : Fin 2)).val = 128 * (_ % 8) + _; rw [h0, h1]; omega)

/-- Every point writes its block back. -/
theorem flush5 (t : Fin (cfgA (F := Ideal) m hr).N) : ((cfgA m hr).win (5 : Fin 6)).flush t = true :=
  (Pipeline.Window.flush_reads ((cfgA m hr).win (5 : Fin 6)) rfl (0 : Fin 1) (by show 1 < 304; decide)
    (show Pipeline.Grid.fixedAfter grid0 spec0_5.reads (0 : Fin 1) = true by decide)
    (Pipeline.Window.sep_of_coord cc0_transform_5 0 0 (fun _ => rfl) (by decide)) (P := 1) (m := 0)
    (show grid0.stride (0 : Fin 1) = 1 by decide) rfl t).mpr (Nat.mod_one _)

/-- Every index of the result lies in a point's block. -/
theorem covered (i : S1245184x128.Idx) :
    ∃ t : Fin (cfgA (F := Ideal) m hr).N, ((cfgA m hr).win (5 : Fin 6)).flush t = true ∧ i ∈ (((cfgA m hr).win (5 : Fin 6)).blk t).view.set := by
  have h0 : (i 0 : Nat) < 1245184 := (i 0).isLt
  have hlt : (i 0 : Nat) / 4096 < (cfgA (F := Ideal) m hr).N := lt_of_lt_of_eq (by omega : _ < 304) (points m hr).symm
  refine ⟨⟨(i 0 : Nat) / 4096, hlt⟩, flush5 m hr _, ?_⟩
  have hi : (((cfgA m hr).win (5 : Fin 6)).blk ⟨(i 0 : Nat) / 4096, hlt⟩).view.emb
      (ix2 ⟨(i 0).val % 4096, Nat.mod_lt _ (by decide)⟩ (i 1) : S4096x128.Idx) = i := by
    obtain ⟨e0, e1⟩ := emb5 m hr ⟨(i 0 : Nat) / 4096, hlt⟩ (ix2 ⟨(i 0).val % 4096, Nat.mod_lt _ (by decide)⟩ (i 1) : S4096x128.Idx)
    funext a; apply Fin.ext
    match a with
    | ⟨0, _⟩ => refine e0.trans ?_; show (i 0).val / 4096 * 4096 + (i 0).val % 4096 = (i 0).val; omega
    | ⟨1, _⟩ => exact e1
  have h := (((cfgA m hr).win (5 : Fin 6)).blk ⟨(i 0 : Nat) / 4096, hlt⟩).view.emb_mem_set
    (ix2 ⟨(i 0).val % 4096, Nat.mod_lt _ (by decide)⟩ (i 1) : S4096x128.Idx)
  rwa [hi] at h

/-- So the result array ends holding the layer's output. -/
theorem final (c : Dev nD) : (dats m g hr 0 c).arrAt (5 : Fin 6) (cfgA (F := Ideal) m hr).N = result m hr c :=
  (dats m g hr 0 c).arrAt_eq_of_cover (5 : Fin 6) (result m hr c) (fun t _ => flushed_eq m g hr c t) (covered m hr)

end Cert.Proof.MoeKernel
-- ==== Proof.MoeReference.lean ====
/- The reference of the mixture of experts, read at an index: every expert's layer on every row, weighed by gates that are
   one at the row's expert and zero elsewhere, is the row through its own expert. -/
module

public import proofs.«01_k».proof.Proof.Gen.MoeRefIdeal.Read
public import proofs.«01_k».proof.Proof.MoeTables
public import proofs.«01_k».proof.Proof.MoeRow

@[expose] public section

set_option maxRecDepth 16384

noncomputable section

namespace Cert.Proof.MoeReference

open Cert.MoeRefIdeal Cert.MoeRefIdeal.Read Cert.Proof.MoeRow
open Cert.Proof.MoeTables (InRange ofBool_one)
open Idealize.ShloMosaic Idealize.ShloMosaic.ValueIdx Idealize.ShloMosaic.WordCmp

variable (x0 : (⟨S304, .i32⟩ : BufTy).Contents (Elt Ideal)) (x1 : (⟨S1, .i32⟩ : BufTy).Contents (Elt Ideal))
  (x2 : (⟨S1245184x128, .f32⟩ : BufTy).Contents (Elt Ideal)) (x3 : (⟨S32x1024x2048, .bf16⟩ : BufTy).Contents (Elt Ideal))
  (x4 : (⟨S32x1x2048, .f32⟩ : BufTy).Contents (Elt Ideal)) (x5 : (⟨S32x1024x1024, .bf16⟩ : BufTy).Contents (Elt Ideal))
  (x6 : (⟨S32x1x1024, .f32⟩ : BufTy).Contents (Elt Ideal))

/-- The tokens, eight packed rows to a row. -/
theorem tokens_apply (R : Fin 155648) (i : Fin 1024) : val_main_v0 (F := Ideal) x2 (ix2 R i) = token x2 R i := by
  rw [val_main_v0_apply]
  refine congrArg x2 (funext fun a => Fin.ext ?_)
  have := i.isLt
  match a with
  | ⟨0, _⟩ => show (R.val * 1024 + i.val) / 128 = i.val / 128 + 8 * R.val; omega
  | ⟨1, _⟩ => show (R.val * 1024 + i.val) % 128 = i.val % 128; omega

/-- The interleaved first-layer weights: column `2 k + p` is column `1024 p + k` of the array. -/
theorem weights_apply (e : Fin 32) (i k : Fin 1024) (p : Fin 2) (c : Fin 2048) (hc : c.val = 2 * k.val + p.val) (d : Fin 2048)
    (hd : d.val = 1024 * p.val + k.val) : val_main_v4 (F := Ideal) x3 (ix3 e i c) = x3 (ix3 e i d) := by
  have he := e.isLt; have hi := i.isLt; have hk := k.isLt; have hp := p.isLt
  have h4 : idx_main_v4 (ix3 e i c) = ix4 e i k p := funext fun a => Fin.ext (by
    match a with
    | ⟨0, _⟩ => show ((e.val * 1024 + i.val) * 2048 + c.val) / 2097152 = e.val; omega
    | ⟨1, _⟩ => show ((e.val * 1024 + i.val) * 2048 + c.val) / 2048 % 1024 = i.val; rw [show ((e.val * 1024 + i.val) * 2048 + c.val) / 2048 = e.val * 1024 + i.val by omega]; omega
    | ⟨2, _⟩ => show ((e.val * 1024 + i.val) * 2048 + c.val) / 2 % 1024 = k.val; rw [show ((e.val * 1024 + i.val) * 2048 + c.val) / 2 = (e.val * 1024 + i.val) * 1024 + k.val by omega]; omega
    | ⟨3, _⟩ => show ((e.val * 1024 + i.val) * 2048 + c.val) % 2 = p.val; omega)
  have h3 : idx_main_v3 (ix4 e i k p) = ix4 e i p k := funext fun a => by fin_cases a <;> rfl
  rw [val_main_v4_apply, h4, val_main_v3_apply, h3, val_main_v2_apply, val_main_v1_apply]
  refine congrArg x3 (funext fun a => Fin.ext ?_)
  match a with
  | ⟨0, _⟩ => show (((e.val * 1024 + i.val) * 2 + p.val) * 1024 + k.val) / 2097152 = e.val; omega
  | ⟨1, _⟩ => show (((e.val * 1024 + i.val) * 2 + p.val) * 1024 + k.val) / 2048 % 1024 = i.val; rw [show (((e.val * 1024 + i.val) * 2 + p.val) * 1024 + k.val) / 2048 = e.val * 1024 + i.val by omega]; omega
  | ⟨2, _⟩ => show (((e.val * 1024 + i.val) * 2 + p.val) * 1024 + k.val) % 2048 = d.val; omega

/-- The interleaved first-layer biases, likewise. -/
theorem biases_apply (e : Fin 32) (k : Fin 1024) (p : Fin 2) (c : Fin 2048) (hc : c.val = 2 * k.val + p.val) (d : Fin 2048)
    (hd : d.val = 1024 * p.val + k.val) : val_main_v7 (F := Ideal) x4 (ix3 e 0 c) = x4 (ix3 e 0 d) := by
  have he := e.isLt; have hk := k.isLt; have hp := p.isLt
  have h4 : idx_main_v7 (ix3 e 0 c) = ix4 e 0 k p := funext fun a => Fin.ext (by
    match a with
    | ⟨0, _⟩ => show ((e.val * 1 + 0) * 2048 + c.val) / 2048 = e.val; omega
    | ⟨1, _⟩ => rfl
    | ⟨2, _⟩ => show ((e.val * 1 + 0) * 2048 + c.val) / 2 % 1024 = k.val; rw [show ((e.val * 1 + 0) * 2048 + c.val) / 2 = e.val * 1024 + k.val by omega]; omega
    | ⟨3, _⟩ => show ((e.val * 1 + 0) * 2048 + c.val) % 2 = p.val; omega)
  have h3 : idx_main_v6 (ix4 e 0 k p) = ix4 e 0 p k := funext fun a => by fin_cases a <;> rfl
  rw [val_main_v7_apply, h4, val_main_v6_apply, h3, val_main_v5_apply]
  refine congrArg x4 (funext fun a => Fin.ext ?_)
  match a with
  | ⟨0, _⟩ => show (((e.val * 1 + 0) * 2 + p.val) * 1024 + k.val) / 2048 = e.val; omega
  | ⟨1, _⟩ => rfl
  | ⟨2, _⟩ => show (((e.val * 1 + 0) * 2 + p.val) * 1024 + k.val) % 2048 = d.val; omega

/-- The first layer of expert `e` on row `R`, at the interleaved column `2 k + p`. -/
theorem first_apply (e : Fin 32) (R : Fin 155648) (k : Fin 1024) (p : Fin 2) (c : Fin 2048) (hc : c.val = 2 * k.val + p.val)
    (d : Fin 2048) (hd : d.val = 1024 * p.val + k.val) :
    val_main_v20 (F := Ideal) x2 x3 x4 (ix3 e R c)
      = first (token x2 R) (fun i k => x3 (ix3 e i k)) (fun k => x4 (ix3 e 0 k)) d := by
  rw [val_main_v20_apply]
  unfold first
  refine congrArg₂ (fun a b : EReal => a + b) ?_ ?_
  · rw [val_main_v18_apply, val_main_v17_apply]
    refine Finset.sum_congr rfl fun i _ => (mul_comm (G := EReal) _ _).trans (congrArg₂ (fun a b : EReal => a * b) ?_ ?_)
    · exact (congrArg (val_main_v0 (F := Ideal) x2) (funext fun a => by fin_cases a <;> rfl)).trans (tokens_apply x2 R i)
    · exact (congrArg (val_main_v4 (F := Ideal) x3) (funext fun a => by fin_cases a <;> rfl)).trans (weights_apply x3 e i k p c hc d hd)
  · rw [val_main_v19_apply]
    exact (congrArg (val_main_v7 (F := Ideal) x4) (funext fun a => by fin_cases a <;> rfl)).trans (biases_apply x4 e k p c hc d hd)

/-- Expert `e`'s first layer on row `R`. -/
abbrev hid (e : Fin 32) (R : Fin 155648) (k : Fin 2048) : EReal :=
  first (token x2 R) (fun i k => x3 (ix3 e i k)) (fun k => x4 (ix3 e 0 k)) k

/-- The gates are the even columns. -/
theorem gate_apply (e : Fin 32) (R : Fin 155648) (k : Fin 1024) :
    val_main_v21 (F := Ideal) x2 x3 x4 (ix3 e R k) = hid x2 x3 x4 e R (gateCol k) := by
  have hk := k.isLt
  refine Eq.trans ?_ (first_apply x2 x3 x4 e R k 0 ⟨2 * k.val, by omega⟩ rfl (gateCol k) (by show k.val = 1024 * 0 + k.val; omega))
  unfold val_main_v21 Host.slice
  refine congrArg (val_main_v20 (F := Ideal) x2 x3 x4) (funext fun a => Fin.ext ?_)
  match a with
  | ⟨0, _⟩ => show 0 + 1 * e.val = e.val; omega
  | ⟨1, _⟩ => show 0 + 1 * R.val = R.val; omega
  | ⟨2, _⟩ => show 0 + 2 * k.val = 2 * k.val; omega

/-- The linears are the odd columns. -/
theorem linear_apply (e : Fin 32) (R : Fin 155648) (k : Fin 1024) :
    val_main_v22 (F := Ideal) x2 x3 x4 (ix3 e R k) = hid x2 x3 x4 e R (linearCol k) := by
  have hk := k.isLt
  refine Eq.trans ?_ (first_apply x2 x3 x4 e R k 1 ⟨2 * k.val + 1, by omega⟩ rfl (linearCol k) (by show 1024 + k.val = 1024 * 1 + k.val; omega))
  unfold val_main_v22 Host.slice
  refine congrArg (val_main_v20 (F := Ideal) x2 x3 x4) (funext fun a => Fin.ext ?_)
  match a with
  | ⟨0, _⟩ => show 0 + 1 * e.val = e.val; omega
  | ⟨1, _⟩ => show 0 + 1 * R.val = R.val; omega
  | ⟨2, _⟩ => show 1 + 2 * k.val = 2 * k.val + 1; omega

/-- The clamped gate. -/
theorem clampGate_apply (e : Fin 32) (R : Fin 155648) (k : Fin 1024) :
    val_main_v24 (F := Ideal) x2 x3 x4 (ix3 e R k) = clampGate (hid x2 x3 x4 e R (gateCol k)) := by
  rw [val_main_v24_apply, gate_apply, val_main_v23_apply]; rfl

/-- The clamped linear. -/
theorem clampLinear_apply (e : Fin 32) (R : Fin 155648) (k : Fin 1024) :
    val_main_v25 (F := Ideal) x2 x3 x4 (ix3 e R k) = clampLinear (hid x2 x3 x4 e R (linearCol k)) := by
  rw [val_main_v25_apply, val_main_call2_v2_apply, linear_apply, val_main_call2_v4_apply, val_main_call2_v1_apply]; rfl

/-- The activation. -/
theorem swiglu_apply (e : Fin 32) (R : Fin 155648) (k : Fin 1024) :
    val_main_v37 (F := Ideal) x2 x3 x4 (ix3 e R k)
      = swiglu (hid x2 x3 x4 e R (gateCol k)) (hid x2 x3 x4 e R (linearCol k)) := by
  rw [val_main_v37_apply, val_main_v34_apply, val_main_v33_apply, val_main_v31_apply, val_main_v29_apply, val_main_v28_apply,
    val_main_v27_apply, val_main_v36_apply, clampGate_apply, clampLinear_apply, val_main_v26_apply, val_main_v30_apply,
    val_main_v32_apply, val_main_v35_apply]
  rfl

/-- Expert `e`'s layer on row `R`. -/
theorem expert_apply (e : Fin 32) (R : Fin 155648) (j : Fin 1024) :
    val_main_v40 (F := Ideal) x2 x3 x4 x5 x6 (ix3 e R j)
      = expertRow (token x2 R) (fun i k => x3 (ix3 e i k)) (fun k => x4 (ix3 e 0 k)) (fun k j => x5 (ix3 e k j))
          (fun j => x6 (ix3 e 0 j)) j := by
  rw [val_main_v40_apply]
  unfold expertRow
  refine congrArg₂ (fun a b : EReal => a + b) ?_ ?_
  · rw [val_main_v38_apply]
    refine Finset.sum_congr rfl fun k _ => congrArg₂ (fun a b : EReal => a * b) ?_ ?_
    · exact (congrArg (val_main_v37 (F := Ideal) x2 x3 x4) (funext fun a => by fin_cases a <;> rfl)).trans (swiglu_apply x2 x3 x4 e R k)
    · rw [val_main_v8_apply]
      exact congrArg x5 (funext fun a => by fin_cases a <;> rfl)
  · rw [val_main_v39_apply]
    exact congrArg x6 (funext fun a => by fin_cases a <;> rfl)

/-- The table's entry a row's gates are made of: its tile's expert, or minus one past the tiles in use. -/
theorem code_apply (R : Fin 155648) :
    val_main_v15 (F := Ideal) x0 x1 (ix1 R)
      = if ((tileOf R).val : Int) < BitVec.toInt (x1 (ix1 0)) then x0 (ix1 (tileOf R)) else 4294967295#32 := by
  have h10 : val_main_v10 (F := Ideal) x1 (idx_main_v11 (ix1 (tileOf R))) = x1 (ix1 0) := by
    unfold val_main_v10
    exact shapeCast_apply x1 _ _ (ix1 0) (by rw [Shape.rowMajor_val_one]; rfl)
  have h9 : (BitVec.ofNat 32 (tileOf R).val).toInt = ((tileOf R).val : Int) := by
    have := (tileOf R).isLt
    rw [BitVec.toInt_eq_toNat_cond, BitVec.toNat_ofNat, Nat.mod_eq_of_lt (by omega), if_pos (by omega)]
  have hi : idx_main_v14 (idx_main_v15 (ix1 R)) = ix1 (tileOf R) := funext fun a => by fin_cases a; rfl
  rw [val_main_v15_apply, val_main_v14_apply, hi, val_main_v13_apply, val_main_v12_apply, val_main_v11_apply, h10,
    val_main_v9_apply, val_main_call0_v1_apply]
  show (if IntOp.cmpi .slt (BitVec.ofNat 32 (tileOf R).val) (x1 (ix1 0)) = 1#1 then x0 (ix1 (tileOf R)) else 4294967295#32) = _
  rw [cmpi_slt_eq]
  refine if_congr ((ofBool_one _).trans ?_) rfl rfl
  rw [h9]

/-- The expert of each tile, off a table in range. -/
abbrev expertOf (h : InRange x0 x1) (t : Fin 304) : Fin 32 := ⟨BitVec.toNat (x0 (ix1 t)), h.expert _⟩

/-- The gate of expert `k` on row `R`: one at the expert of a tile in use, zero elsewhere. -/
theorem weight_apply (h : InRange x0 x1) (R : Fin 155648) (k : Fin 32) :
    val_main_v16 (F := Ideal) x0 x1 (ix2 R k)
      = if ((tileOf R).val : Int) < BitVec.toInt (x1 (ix1 0)) ∧ k = expertOf x0 x1 h (tileOf R) then 1 else 0 := by
  have hi : idx_main_call1_v0 (idx_main_call1_v2 (ix2 R k)) = ix1 R := funext fun a => by fin_cases a; rfl
  rw [val_main_v16_apply, val_main_call1_v4_apply, val_main_call1_v2_apply, val_main_call1_v0_apply, hi, code_apply,
    val_main_call1_v3_apply, val_main_call1_v1_apply]
  show (((IntOp.cmpi .eq _ (BitVec.ofNat 32 k.val)).toNat : ℝ) : EReal) = _
  have hk := k.isLt
  have hE : (expertOf x0 x1 h (tileOf R)).val = BitVec.toNat (x0 (ix1 (tileOf R))) := rfl
  rw [cmpi_eq_eq]
  by_cases hu : ((tileOf R).val : Int) < BitVec.toInt (x1 (ix1 0))
  · rw [if_pos hu]
    by_cases he : k = expertOf x0 x1 h (tileOf R)
    · rw [if_pos ⟨hu, he⟩]
      have : x0 (ix1 (tileOf R)) = BitVec.ofNat 32 k.val := by
        rw [he]; apply BitVec.eq_of_toNat_eq; rw [BitVec.toNat_ofNat, hE, Nat.mod_eq_of_lt]; exact BitVec.isLt _
      simp [this]
    · rw [if_neg (fun hh => he hh.2)]
      have : ¬ x0 (ix1 (tileOf R)) = BitVec.ofNat 32 k.val := fun hh => he (Fin.ext (by
        rw [hE, hh, BitVec.toNat_ofNat, Nat.mod_eq_of_lt (by omega)]))
      simp [this]
  · rw [if_neg hu, if_neg (fun hh => hu hh.1)]
    have : ¬ (4294967295#32 : BitVec 32) = BitVec.ofNat 32 k.val := fun hh => by
      have := congrArg BitVec.toNat hh
      have h1 : (BitVec.ofNat 32 k.val).toNat = k.val := by rw [BitVec.toNat_ofNat]; omega
      have h2 : (4294967295#32 : BitVec 32).toNat = 4294967295 := rfl
      rw [h1, h2] at this
      omega
    simp [this]

/-- The reference's result at a packed index: the layer's output at the row and the column it stands for. -/
theorem result_apply (h : InRange x0 x1) (y : S1245184x128.Idx) :
    val_main_v42 (F := Ideal) x0 x1 x2 x3 x4 x5 x6 y
      = output (expertOf x0 x1 h) (x1 (ix1 0)) x2 x3 x4 x5 x6 (rowOf y) (colOf y) := by
  have h1 : (y 1).val < 128 := (y 1).isLt
  have hi : idx_main_v42 y = ix2 (rowOf y) (colOf y) := funext fun a => Fin.ext (by
    match a with
    | ⟨0, _⟩ => show ((y 0).val * 128 + (y 1).val) / 1024 = (y 0).val / 8; omega
    | ⟨1, _⟩ => show ((y 0).val * 128 + (y 1).val) % 1024 = 128 * ((y 0).val % 8) + (y 1).val; omega)
  rw [val_main_v42_apply, hi, val_main_v41_apply]
  generalize rowOf y = R
  generalize colOf y = j
  have hs : ∀ k : Fin 32, val_main_v16 (F := Ideal) x0 x1 (lidx_main_v41 (ix2 R j) k)
      * val_main_v40 (F := Ideal) x2 x3 x4 x5 x6 (ridx_main_v41 (ix2 R j) k)
      = if ((tileOf R).val : Int) < BitVec.toInt (x1 (ix1 0)) ∧ k = expertOf x0 x1 h (tileOf R) then
          expertRow (token x2 R) (fun i l => x3 (ix3 k i l)) (fun l => x4 (ix3 k 0 l)) (fun l j => x5 (ix3 k l j))
            (fun j => x6 (ix3 k 0 j)) j else (0 : EReal) := fun k => by
    have el : lidx_main_v41 (ix2 R j) k = ix2 R k := funext fun a => by fin_cases a <;> rfl
    have er : ridx_main_v41 (ix2 R j) k = ix3 k R j := funext fun a => by fin_cases a <;> rfl
    rw [el, er, weight_apply x0 x1 h R k, expert_apply x2 x3 x4 x5 x6 k R j]
    split
    · exact one_mul (M := EReal) _
    · exact zero_mul (M₀ := EReal) _
  refine (Finset.sum_congr rfl fun k _ => hs k).trans ?_
  unfold output
  by_cases hu : ((tileOf R).val : Int) < BitVec.toInt (x1 (ix1 0))
  · rw [if_pos hu]
    refine (Finset.sum_eq_single (expertOf x0 x1 h (tileOf R)) (fun k _ hk => if_neg fun hh => hk hh.2)
      (fun hn => absurd (Finset.mem_univ _) hn)).trans ?_
    exact if_pos ⟨hu, rfl⟩
  · rw [if_neg hu]
    exact Finset.sum_eq_zero fun k _ => if_neg fun hh => hu hh.1

end Cert.Proof.MoeReference
-- ==== Proof.MoeClaim.lean ====
/- The mixture of experts: the frames and the value claim, from the launch's run and the equality of the two outputs. -/
module

public import proofs.«01_k».proof.Defs
public import proofs.«01_k».proof.Proof.MoeFrame
public import proofs.«01_k».proof.Proof.MoeKernel
public import proofs.«01_k».proof.Proof.MoeReference
public import proofs.«01_k».proof.Proof.Gen.Moe
public import proofs.«01_k».proof.Proof.Gen.MoeIdeal
public import proofs.«01_k».proof.Proof.Gen.MoeRefIdeal.Run
public import proofs.«01_k».proof.Proof.Gen.Pre_tables_in_range

@[expose] public section

set_option maxRecDepth 16384

noncomputable section

namespace Cert.Proof.MoeClaim

open Idealize.ShloMosaic Idealize.ShloMosaic.ValueIdx Idealize.ShloMosaic.TcCoe Idealize.SL.Sem
open Cert.Proof.MoeRow Cert.Proof.MoeRun Cert.Proof.MoeKernel

/-- The precondition puts the idealized kernel's tables in range. -/
theorem ranged (m : (ℓ : Loc Cert.MoeIdeal.nD Cert.MoeIdeal.τ Cert.MoeIdeal.sig) → Buf (Elt Ideal) ℓ) (hp : Pre_MoeIdeal m) :
    Ranged (F := Ideal) m := MoeTables.inRange (F := Ideal) _ _ _ _ _ _ _ (hp 0)

/-- The precondition puts the kernel's tables in range. -/
theorem rangedBits (m : (ℓ : Loc Cert.Moe.nD Cert.Moe.τ Cert.Moe.sig) → Buf (Elt Bits) ℓ) (hp : Pre_Moe m) :
    Ranged (F := Bits) m := MoeTables.inRange (F := Bits) _ _ _ _ _ _ _ (hp 0)

/-- The kernel runs, keeps its arguments and leaves every semaphore at zero. -/
theorem frame : quiescent_Moe := fun m g hp => MoeFrame.frameP (F := Bits) m g (rangedBits m hp)

/-- So does the idealized kernel. -/
theorem frameIdeal : quiescent_MoeIdeal := fun m g hp => MoeRun.frame (F := Ideal) m g (ranged m hp)

/-- So does the reference. -/
theorem frameReference : quiescent_MoeRefIdeal := fun m g _ =>
  (θ_run _ _ _).mono (fun r h => ⟨fun c => (h c).2, sem_eq_zero_of_no_sems (by decide) r.2⟩) (Cert.MoeRefIdeal.Value.run m g)

/-- What the kernel's result array ends holding is the reference's value of the arguments. -/
theorem result_eq (m : (ℓ : Loc Cert.MoeIdeal.nD Cert.MoeIdeal.τ Cert.MoeIdeal.sig) → Buf (Elt Ideal) ℓ) (c : Dev Cert.MoeIdeal.nD)
    (hr : Ranged (F := Ideal) m) :
    result m hr c = Cert.MoeRefIdeal.Read.val_main_v42 (F := Ideal)
      (m ((c.tc : Thread Cert.MoeIdeal.nD Cert.MoeIdeal.τ).loc Cert.MoeIdeal.main_arg0))
      (m ((c.tc : Thread Cert.MoeIdeal.nD Cert.MoeIdeal.τ).loc Cert.MoeIdeal.main_arg1))
      (m ((c.tc : Thread Cert.MoeIdeal.nD Cert.MoeIdeal.τ).loc Cert.MoeIdeal.main_arg2))
      (m ((c.tc : Thread Cert.MoeIdeal.nD Cert.MoeIdeal.τ).loc Cert.MoeIdeal.main_arg3))
      (m ((c.tc : Thread Cert.MoeIdeal.nD Cert.MoeIdeal.τ).loc Cert.MoeIdeal.main_arg4))
      (m ((c.tc : Thread Cert.MoeIdeal.nD Cert.MoeIdeal.τ).loc Cert.MoeIdeal.main_arg5))
      (m ((c.tc : Thread Cert.MoeIdeal.nD Cert.MoeIdeal.τ).loc Cert.MoeIdeal.main_arg6)) := by
  obtain rfl : c = 0 := Subsingleton.elim (α := Fin 1) _ _
  funext y
  exact (MoeReference.result_apply _ _ _ _ _ _ _ hr y).symm

/-- The idealized kernel and the idealized reference end with equal results. -/
theorem algebraic : algebraic_MoeIdeal_MoeRefIdeal := by
  intro m g m' g' hp ha
  have hr := ranged m hp
  refine ⟨fun c => result m hr c, ?_, ?_⟩
  · refine (θ_run _ _ _).mono (fun r h c => ?_) (MoeRun.run (F := Ideal) m g hr)
    exact ⟨((h.1 c).1 (5 : Fin 6)).trans (final m g hr c), operand_kept m g hr h.1 c⟩
  · refine (θ_run _ _ _).mono (fun r h c => ?_) (Cert.MoeRefIdeal.Value.run m' g')
    obtain ⟨hv, hargs⟩ := h c
    refine ⟨hv.trans ?_, hargs⟩
    obtain ⟨e0, e1, e2, e3, e4, e5, e6⟩ := ha c
    refine (Cert.MoeRefIdeal.Read.val_main_v42_eq m' c).trans ?_
    rw [e0, e1, e2, e3, e4, e5, e6]
    exact (result_eq m c hr).symm

end Cert.Proof.MoeClaim
-- ==== Proof.AdaKernel.lean ====
/- The modulation kernel read as arrays: what a grid point leaves in its staging buffer, and so what the result
   array ends holding, in terms of the arguments. -/
module

public import proofs.«01_k».proof.Proof.Gen.AdaIdeal.Value
public import proofs.«01_k».proof.Proof.MoeTile
public import proofs.«01_k».proof.Proof.Tile

@[expose] public section

set_option maxRecDepth 16384

noncomputable section

namespace Cert.Proof.AdaKernel

open Cert.AdaIdeal Cert.AdaIdeal.Gen Cert.AdaIdeal.Value
open Idealize.ShloMosaic Idealize.ShloMosaic.TcCoe Idealize.ShloMosaic.ValueIdx Idealize.SL.Sem
open Idealize.ShloMosaic.Pipeline (Dat)
open Cert.Tile Cert.Proof.MoeTile

/-- A condition's component through the logistic gate: `c · (1 / (1 + exp (-c)))`. -/
def silu (c : EReal) : EReal :=
  c * Ideal.div (Ideal.ofBits .f32 0x3F800000#32) (Ideal.ofBits .f32 0x3F800000#32 + Ideal.exp (-c))

/-- A layer's modulation of a row: the gated condition through the layer's matrix, plus the layer's bias. -/
def modulate (cond : Fin 16 → Fin 1024 → EReal) (w : Fin 4 → Fin 1024 → Fin 6144 → EReal) (b : Fin 4 → Fin 6144 → EReal)
    (l : Fin 4) (r : Fin 16) (n : Fin 6144) : EReal :=
  (∑ d : Fin 1024, silu (cond r d) * w l d n) + b l n

theorem zero2 : (![0, 0] : Fin 2 → Nat) = fun _ => 0 := funext fun a => by fin_cases a <;> rfl
theorem zero3 : (![0, 0, 0] : Fin 3 → Nat) = fun _ => 0 := funext fun a => by fin_cases a <;> rfl

/-- What the body stores is its payload over the three blocks. -/
theorem out_eq (x0 : Vec Ideal S16x1024 .f32) (x1 : Vec Ideal S1x1024x1024 .f32) (x2 : Vec Ideal S1x1x1024 .f32) :
    out0_3 (F := Ideal) x0 x1 x2 = k0_pay1 (F := Ideal) x0 x1 x2 := by
  unfold out0_3
  rw [View.canon_unit_zero zero3, View.ld_unit_zero zero2, View.ld_unit_zero zero3, View.ld_unit_zero zero3]

/-- The payload at a row and a column of the block. -/
theorem pay_apply (x0 : FVec Ideal S16x1024 .f32) (x1 : FVec Ideal S1x1024x1024 .f32) (x2 : FVec Ideal S1x1x1024 .f32)
    (r : Fin 16) (j : Fin 1024) :
    k0_pay1 (F := Ideal) x0 x1 x2 (ix3 0 r j)
      = (∑ d : Fin 1024, silu (x0 (ix2 r d)) * x1 (ix3 0 d j)) + x2 (ix3 0 0 j) := by
  unfold k0_pay1
  refine (add1_apply _ _ r j).trans ?_
  refine congrArg₂ (fun a b : EReal => a + b) ?_ ((down_apply (by decide) _ _ r j).trans (drop1_apply x2 _ 0 j))
  refine (Ideal.matmul_plain_apply (M := 16) (K := 1024) (N := 1024) (φ₁ := .f32) (φ₂ := .f32) (some .fp32) _ _ _ r j).trans ?_
  refine (congrArg (fun a : EReal => a + _) Ideal.ofBits_zero_f32).trans ((zero_add _).trans (Finset.sum_congr rfl fun d _ => ?_))
  refine congrArg₂ (fun a b : EReal => a * b) ?_ (drop1_apply x1 _ d j)
  unfold silu
  refine congrArg (fun e : EReal => x0 (ix2 r d) * Ideal.div _ (_ + Ideal.exp e)) ?_
  exact (congrArg (fun a : EReal => a - x0 (ix2 r d)) Ideal.ofBits_zero_f32).trans (zero_sub _)

/-- The block each window stages at a point: the point's layer and column block. -/
theorem index0 : ∀ t : Fin cfg0.N, win0_0.index t (0 : Fin 2) = 0 ∧ win0_0.index t (1 : Fin 2) = 0 := (by decide +kernel : ∀ t : Fin grid0.N, _)
theorem index1 : ∀ t : Fin cfg0.N, win0_1.index t (0 : Fin 3) = t.val / 6 ∧ win0_1.index t (1 : Fin 3) = 0
    ∧ win0_1.index t (2 : Fin 3) = t.val % 6 := (by decide +kernel : ∀ t : Fin grid0.N, _)
theorem index2 : ∀ t : Fin cfg0.N, win0_2.index t (0 : Fin 3) = t.val / 6 ∧ win0_2.index t (1 : Fin 3) = 0
    ∧ win0_2.index t (2 : Fin 3) = t.val % 6 := (by decide +kernel : ∀ t : Fin grid0.N, _)
theorem index3 : ∀ t : Fin cfg0.N, win0_3.index t (0 : Fin 3) = t.val / 6 ∧ win0_3.index t (1 : Fin 3) = 0
    ∧ win0_3.index t (2 : Fin 3) = t.val % 6 := (by decide +kernel : ∀ t : Fin grid0.N, _)

/-- A point's layer, and its block's column in the whole array. -/
abbrev layerOf (t : Fin cfg0.N) : Fin 4 := ⟨t.val / 6, by have := lt_of_lt_of_eq t.isLt (show cfg0.N = 24 from N_0); omega⟩
abbrev colOf (t : Fin cfg0.N) (j : Fin 1024) : Fin 6144 :=
  ⟨t.val % 6 * 1024 + j.val, by have := j.isLt; have := Nat.mod_lt t.val (show 6 > 0 by decide); omega⟩

variable (m : (ℓ : Loc nD τ sig) → Buf (Elt Ideal) ℓ) (c : Dev nD)

/-- The bias the call is handed is the argument with a unit axis. -/
theorem array_bias : V m c main_v0 = shapeCast S4x1x6144 (m ((c : Thread nD τ).loc main_arg2)) shapeCasts_S4x6144_S4x1x6144 := by
  unfold V
  after_results
  rfl

/-- The bias of a layer and a column. -/
theorem bias_apply (l : Fin 4) (n : Fin 6144) :
    (V m c main_v0 : Vec Ideal S4x1x6144 .f32) (ix3 l 0 n) = (m ((c : Thread nD τ).loc main_arg2) : Vec Ideal S4x6144 .f32) (ix2 l n) := by
  rw [array_bias]
  exact shapeCast_apply _ _ (ix3 l 0 n) (ix2 l n) (by
    rw [Shape.rowMajor_val_two, Shape.rowMajor_val_three]; show l.val * 6144 + n.val = (l.val * 1 + 0) * 6144 + n.val; omega)

/-- The condition block at a point. -/
theorem iblk0_apply (t : Fin cfg0.N) (r : Fin 16) (d : Fin 1024) :
    (iblk m c 0 t : Vec Ideal S16x1024 .f32) (ix2 r d) = (V m c main_arg0 : Vec Ideal S16x1024 .f32) (ix2 r d) := by
  obtain ⟨e0, e1⟩ := index0 t
  show V m c main_arg0 (((cfg0.win 0).blk t).view.emb (ix2 r d)) = _
  refine congrArg (V m c main_arg0) (funext fun a => Fin.ext ?_)
  match a with
  | ⟨0, _⟩ => show win0_0.index t (0 : Fin 2) * 16 + 1 * r.val = r.val; omega
  | ⟨1, _⟩ => show win0_0.index t (1 : Fin 2) * 1024 + 1 * d.val = d.val; omega

/-- The matrix block at a point. -/
theorem iblk1_apply (t : Fin cfg0.N) (d j : Fin 1024) :
    (iblk m c 1 t : Vec Ideal S1x1024x1024 .f32) (ix3 0 d j)
      = (V m c main_arg1 : Vec Ideal S4x1024x6144 .f32) (ix3 (layerOf t) d (colOf t j)) := by
  obtain ⟨e0, e1, e2⟩ := index1 t
  show V m c main_arg1 (((cfg0.win 1).blk t).view.emb (ix3 0 d j)) = _
  refine congrArg (V m c main_arg1) (funext fun a => Fin.ext ?_)
  match a with
  | ⟨0, _⟩ => show win0_1.index t (0 : Fin 3) * 1 + 1 * 0 = t.val / 6; omega
  | ⟨1, _⟩ => show win0_1.index t (1 : Fin 3) * 1024 + 1 * d.val = d.val; omega
  | ⟨2, _⟩ => show win0_1.index t (2 : Fin 3) * 1024 + 1 * j.val = t.val % 6 * 1024 + j.val; omega

/-- The bias block at a point. -/
theorem iblk2_apply (t : Fin cfg0.N) (j : Fin 1024) :
    (iblk m c 2 t : Vec Ideal S1x1x1024 .f32) (ix3 0 0 j)
      = (V m c main_v0 : Vec Ideal S4x1x6144 .f32) (ix3 (layerOf t) 0 (colOf t j)) := by
  obtain ⟨e0, e1, e2⟩ := index2 t
  show V m c main_v0 (((cfg0.win 2).blk t).view.emb (ix3 0 0 j)) = _
  refine congrArg (V m c main_v0) (funext fun a => Fin.ext ?_)
  match a with
  | ⟨0, _⟩ => show win0_2.index t (0 : Fin 3) * 1 + 1 * 0 = t.val / 6; omega
  | ⟨1, _⟩ => show win0_2.index t (1 : Fin 3) * 1 + 1 * 0 = 0; omega
  | ⟨2, _⟩ => show win0_2.index t (2 : Fin 3) * 1024 + 1 * j.val = t.val % 6 * 1024 + j.val; omega

/-- The result: every layer's modulation of every row, of the arguments. -/
def result : Vec Ideal S4x16x6144 .f32 := fun i =>
  modulate (fun r d => (m ((c : Thread nD τ).loc main_arg0) : Vec Ideal S16x1024 .f32) (ix2 r d))
    (fun l d n => (m ((c : Thread nD τ).loc main_arg1) : Vec Ideal S4x1024x6144 .f32) (ix3 l d n))
    (fun l n => (m ((c : Thread nD τ).loc main_arg2) : Vec Ideal S4x6144 .f32) (ix2 l n)) (i 0) (i 1) (i 2)

/-- Where a point's output block lies in the result array. -/
theorem place (t : Fin cfg0.N) (r : Fin 16) (j : Fin 1024) :
    ((cfg0.win 3).blk t).view.emb (ix3 0 r j) = (ix3 (layerOf t) r (colOf t j) : S4x16x6144.Idx) := by
  obtain ⟨e0, e1, e2⟩ := index3 t
  funext a; apply Fin.ext
  match a with
  | ⟨0, _⟩ => show win0_3.index t (0 : Fin 3) * 1 + 1 * 0 = t.val / 6; omega
  | ⟨1, _⟩ => show win0_3.index t (1 : Fin 3) * 16 + 1 * r.val = r.val; omega
  | ⟨2, _⟩ => show win0_3.index t (2 : Fin 3) * 1024 + 1 * j.val = t.val % 6 * 1024 + j.val; omega

/-- What a point writes back is its block of the result. -/
theorem flushed_eq (t : Fin cfg0.N) :
    (dats m 0 c).flushed 3 t = ((cfg0.win 3).blk t).view.read (Elt Ideal) (result m c) := by
  funext y
  obtain ⟨r, j, rfl⟩ : ∃ (r : Fin 16) (j : Fin 1024), y = (ix3 0 r j : S1x16x1024.Idx) :=
    ⟨y 1, y 2, funext fun a => match a with
      | ⟨0, _⟩ => Fin.ext (by have := (y 0).isLt; show (y 0).val = 0; exact Nat.lt_one_iff.1 this)
      | ⟨1, _⟩ => rfl
      | ⟨2, _⟩ => rfl⟩
  have e : ((cfg0.win 3).blk t).view.read (Elt Ideal) (result m c) (ix3 0 r j) = result m c (ix3 (layerOf t) r (colOf t j)) :=
    congrArg (result m c) (place t r j)
  refine Eq.trans ?_ e.symm
  rw [flushed3 m c t, out_eq]
  refine (pay_apply _ _ _ r j).trans ?_
  show _ = modulate _ _ _ (layerOf t) r (colOf t j)
  unfold modulate
  refine congrArg₂ (fun a b : EReal => a + b) (Finset.sum_congr rfl fun d _ => ?_) ((iblk2_apply m c t j).trans (bias_apply m c _ _))
  refine congrArg₂ (fun a b : EReal => a * b) (congrArg silu ((iblk0_apply m c t r d).trans ?_)) ((iblk1_apply m c t d j).trans ?_)
  · rw [V_main_arg0]
  · rw [V_main_arg1]

/-- Every index of the result array is in a point's block. -/
theorem covered (i : S4x16x6144.Idx) :
    ∃ t : Fin cfg0.N, (cfg0.win 3).flush t = true ∧ i ∈ ((cfg0.win 3).blk t).view.set := by
  have h0 : (i 0 : Nat) < 4 := (i 0).isLt
  have h2 : (i 2 : Nat) < 6144 := (i 2).isLt
  obtain ⟨T, hT⟩ : ∃ T, T = (i 0).val * 6 + (i 2).val / 1024 := ⟨_, rfl⟩
  have hlt : T < cfg0.N := lt_of_lt_of_eq (by omega : T < 24) (show cfg0.N = 24 from N_0).symm
  refine ⟨⟨T, hlt⟩, flush0_3 _, ?_⟩
  have hi : ((cfg0.win 3).blk ⟨T, hlt⟩).view.emb (ix3 0 (i 1) ⟨(i 2).val % 1024, Nat.mod_lt _ (by decide)⟩ : S1x16x1024.Idx) = i := by
    refine (place ⟨T, hlt⟩ (i 1) ⟨(i 2).val % 1024, Nat.mod_lt _ (by decide)⟩).trans (funext fun a => Fin.ext ?_)
    match a with
    | ⟨0, _⟩ => show T / 6 = (i 0).val; omega
    | ⟨1, _⟩ => rfl
    | ⟨2, _⟩ => show T % 6 * 1024 + (i 2).val % 1024 = (i 2).val; omega
  have h := ((cfg0.win 3).blk ⟨T, hlt⟩).view.emb_mem_set (ix3 0 (i 1) ⟨(i 2).val % 1024, Nat.mod_lt _ (by decide)⟩ : S1x16x1024.Idx)
  rwa [hi] at h

/-- So the result array ends holding the modulations of the arguments. -/
theorem final : (dats m 0 c).arrAt 3 cfg0.N = result m c :=
  (dats m 0 c).arrAt_eq_of_cover 3 (result m c) (fun t _ => flushed_eq m c t) covered

end Cert.Proof.AdaKernel
-- ==== Proof.AdaClaim.lean ====
/- Modulation: the reference's value at an index, and the value claim from the runs and the equality of the arrays. -/
module

public import proofs.«01_k».proof.Defs
public import proofs.«01_k».proof.Proof.AdaKernel
public import proofs.«01_k».proof.Proof.Gen.AdaRefIdeal.Read

@[expose] public section

set_option maxRecDepth 16384

noncomputable section

namespace Cert.Proof.AdaClaim

open Idealize.ShloMosaic
open Idealize.ShloMosaic.ValueIdx Idealize.ShloMosaic.TcCoe Idealize.SL.Sem
open Cert.Proof.AdaKernel

/-- The reference's gate of a condition. -/
theorem silu_apply (x0 : FVec Ideal ⟨2, ![16, 1024]⟩ .f32) (i : (⟨2, ![16, 1024]⟩ : Shape).Idx) :
    Cert.AdaRefIdeal.Read.val_main_v0 (F := Ideal) x0 i = silu (x0 i) := rfl

/-- The reference at an index: the modulation of the index's layer, row and column. -/
theorem reference_apply (x0 : FVec Ideal ⟨2, ![16, 1024]⟩ .f32) (x1 : FVec Ideal ⟨3, ![4, 1024, 6144]⟩ .f32)
    (x2 : FVec Ideal ⟨2, ![4, 6144]⟩ .f32) (i : (⟨3, ![4, 16, 6144]⟩ : Shape).Idx) :
    Cert.AdaRefIdeal.Read.val_main_v5 (F := Ideal) x0 x1 x2 i
      = modulate (fun r d => x0 (ix2 r d)) (fun l d n => x1 (ix3 l d n)) (fun l n => x2 (ix2 l n)) (i 0) (i 1) (i 2) := by
  unfold modulate
  rw [Cert.AdaRefIdeal.Read.val_main_v5_apply]
  refine congrArg₂ (fun a b : EReal => a + b) ?_ ?_
  · rw [Cert.AdaRefIdeal.Read.val_main_v2_apply, Cert.AdaRefIdeal.Read.val_main_v1_apply]
    refine Finset.sum_congr rfl fun d _ => (mul_comm (G := EReal) _ _).trans (congrArg₂ (fun a b : EReal => a * b) ?_ ?_)
    · exact (silu_apply x0 _).trans (congrArg (fun j => silu (x0 j)) (funext fun a => by fin_cases a <;> rfl))
    · exact congrArg x1 (funext fun a => by fin_cases a <;> rfl)
  · rw [Cert.AdaRefIdeal.Read.val_main_v4_apply, Cert.AdaRefIdeal.Read.val_main_v3_apply]
    exact congrArg x2 (funext fun a => by fin_cases a <;> rfl)

/-- What the kernel's result array ends holding is the reference's value of the arguments. -/
theorem result_eq (m : (ℓ : Loc Cert.AdaIdeal.nD Cert.AdaIdeal.τ Cert.AdaIdeal.sig) → Buf (Elt Ideal) ℓ) (c : Dev Cert.AdaIdeal.nD) :
    (result m c : FVec Ideal ⟨3, ![4, 16, 6144]⟩ .f32) = Cert.AdaRefIdeal.Read.val_main_v5 (F := Ideal)
      (m ((c.tc : Thread Cert.AdaIdeal.nD Cert.AdaIdeal.τ).loc Cert.AdaIdeal.main_arg0))
      (m ((c.tc : Thread Cert.AdaIdeal.nD Cert.AdaIdeal.τ).loc Cert.AdaIdeal.main_arg1))
      (m ((c.tc : Thread Cert.AdaIdeal.nD Cert.AdaIdeal.τ).loc Cert.AdaIdeal.main_arg2)) :=
  funext fun i => (reference_apply _ _ _ i).symm

/-- The idealized kernel and the idealized reference end with equal results. -/
theorem algebraic : algebraic_AdaIdeal_AdaRefIdeal := by
  intro m g m' g' _ ha
  refine ⟨fun c => result m c, ?_, ?_⟩
  · refine (θ_run _ _ _).mono (fun r h c => ?_) (Cert.AdaIdeal.Value.run_blocks m g)
    obtain ⟨hr, hargs⟩ := h c
    exact ⟨hr.trans (final m c), hargs⟩
  · refine (θ_run _ _ _).mono (fun r h c => ?_) (Cert.AdaRefIdeal.Value.run m' g')
    obtain ⟨hr, hargs⟩ := h c
    refine ⟨hr.trans ?_, hargs⟩
    obtain ⟨e0, e1, e2⟩ := ha c
    refine (Cert.AdaRefIdeal.Read.val_main_v5_eq _ _ _).trans ?_
    rw [e0, e1, e2]
    exact (result_eq m c).symm

end Cert.Proof.AdaClaim
-- ==== Proof.HalvesTile.lean ====
/- The de-interleaving kernel's tile: a block of columns times the matrix that picks the even columns into the first half
   and the odd ones into the second. -/
module

public import proofs.«01_k».proof.Proof.Gen.HalvesIdeal.Value
public import Idealize.ShloMosaic.Lib.MatmulPlain
public import Idealize.ShloMosaic.Lib.Pipeline.ValueKit.Tiles
public import Idealize.ShloMosaic.Lib.WordCmp

@[expose] public section

set_option maxRecDepth 16384

noncomputable section

namespace Cert.Proof.HalvesTile

open Cert.HalvesIdeal Cert.HalvesIdeal.Gen
open Idealize.ShloMosaic Idealize.ShloMosaic.ValueIdx Idealize.ShloMosaic.WordCmp

/-- The column of a block that its column `j` is filled from. -/
def source (j : Fin 256) : Fin 256 :=
  if h : j.val < 128 then ⟨2 * j.val, by omega⟩ else ⟨2 * (j.val - 128) + 1, by have := j.isLt; omega⟩

/-- The matrix picks each column from its source. -/
def Picks (p : FVec Ideal S256x256 .bf16) : Prop :=
  ∀ i j : Fin 256, p (ix2 i j) = if i = source j then (1 : EReal) else 0

/-- A block of columns times the matrix. -/
def product (v : FVec Ideal S512x256 .f32) (p : FVec Ideal S256x256 .bf16) : FVec Ideal S512x256 .bf16 :=
  truncf .bf16 (matmul dot_S512x256_S256x256_S512x256_1_0_0_1_n_n none (truncf .bf16 v bitsLt_bf16_f32)
    (shapeCast S256x256 p shapeCasts_S256x256_S256x256) (constant S512x256 .f32 0x00000000#32)) bitsLt_bf16_f32

/-- The product's column `j` is the block's column it is filled from. -/
theorem product_apply (v : FVec Ideal S512x256 .f32) (p : FVec Ideal S256x256 .bf16) (hp : Picks p) (r : Fin 512) (j : Fin 256) :
    product v p (ix2 r j) = v (ix2 r (source j)) := by
  unfold product
  refine (Ideal.matmul_plain_apply (M := 512) (K := 256) (N := 256) (φ₁ := .bf16) (φ₂ := .bf16) none _ _ _ r j).trans ?_
  refine (congrArg (fun a : EReal => a + _) Ideal.ofBits_zero_f32).trans ((zero_add _).trans ?_)
  have hs : ∀ i : Fin 256, v (ix2 r i) * shapeCast S256x256 p shapeCasts_S256x256_S256x256 (ix2 i j)
      = if i = source j then v (ix2 r i) else (0 : EReal) := fun i => by
    rw [shapeCast_apply p shapeCasts_S256x256_S256x256 (ix2 i j) (ix2 i j) rfl, hp i j]
    split
    · exact mul_one (M := EReal) _
    · exact mul_zero (M₀ := EReal) _
  refine (Finset.sum_congr rfl fun i _ => hs i).trans ?_
  exact (Finset.sum_eq_single (source j) (fun i _ hi => if_neg hi) (fun hn => absurd (Finset.mem_univ _) hn)).trans (if_pos rfl)

/-- The column of the argument that a column of the result is filled from. -/
def origin (c : Fin 2048) : Fin 2048 :=
  if h : c.val < 1024 then ⟨2 * c.val, by omega⟩ else ⟨2 * (c.val - 1024) + 1, by have := c.isLt; omega⟩

/-- The block's 256 columns from `s` on. -/
abbrev columns (x0 : FVec Ideal S512x2048 .f32) (s : Nat)
    (inb : ∀ a, (![0, s] : Fin 2 → Nat) a + S512x256.size a ≤ S512x2048.size a) : FVec Ideal S512x256 .f32 :=
  View.ld (Val := Elt Ideal) (e' := .f32) x0 (Rect.unit (s := S512x2048) ![0, s] S512x256.size inb)

/-- The product of the block's columns from `s` on, at a local index whose source is the origin of the column it is stored at. -/
theorem stored_apply (x0 : FVec Ideal S512x2048 .f32) (p : FVec Ideal S256x256 .bf16) (hp : Picks p) (s : Nat)
    (inb : ∀ a, (![0, s] : Fin 2 → Nat) a + S512x256.size a ≤ S512x2048.size a) (r : Fin 512) (j : Fin 256) (c : Fin 2048)
    (h : (origin c).val = s + (source j).val) :
    product (columns x0 s inb) p (ix2 r j) = x0 (ix2 r (origin c)) := by
  refine (product_apply _ p hp r j).trans ?_
  refine View.ld_unit_apply_of (Val := Elt Ideal) (e := .f32) x0 ![0, s] S512x256.size inb (ix2 r (source j)) (ix2 r (origin c)) (fun a => ?_)
  match a with
  | ⟨0, _⟩ => show r.val = 0 + r.val; omega
  | ⟨1, _⟩ => exact h

/-- A first half stored at column `d` of the block of columns from `2 d` on. -/
theorem even_tile (x0 : FVec Ideal S512x2048 .f32) (p : FVec Ideal S256x256 .bf16) (hp : Picks p) (s d : Nat) (hs : s = 2 * d) (hd : d + 128 ≤ 1024)
    (inb : ∀ a, (![0, s] : Fin 2 → Nat) a + S512x256.size a ≤ S512x2048.size a) (r : Fin 512) (c : Fin 2048) :
    View.TileAt (Val := Elt Ideal) (S := S512x2048) (e := .bf16) (ix2 r c) ![0, d] S512x128.size
      (extractStridedSlice S512x128 ![0, 0] (product (columns x0 s inb) p) slices_S512x256_o0_0_S512x128)
      (x0 (ix2 r (origin c)) : EReal) := by
  intro x hx
  have h0 : r.val = 0 + (x 0).val := hx 0
  have h1 : c.val = d + (x 1).val := hx 1
  have hx1 : (x 1).val < 128 := (x 1).isLt
  refine (extractStridedSlice_apply _ _ _ x (ix2 r ⟨(x 1).val, by omega⟩) (fun a => ?_)).trans (stored_apply x0 p hp s inb r _ c ?_)
  · match a with
    | ⟨0, _⟩ => exact h0
    | ⟨1, _⟩ => show (x 1).val = 0 + (x 1).val; omega
  · unfold origin source
    rw [dif_pos (show c.val < 1024 by omega), dif_pos (show (x 1).val < 128 from hx1)]
    show 2 * c.val = s + 2 * (x 1).val
    omega

/-- A second half stored at column `d` of the block of columns from `2 (d - 1024)` on. -/
theorem odd_tile (x0 : FVec Ideal S512x2048 .f32) (p : FVec Ideal S256x256 .bf16) (hp : Picks p) (s d : Nat) (hs : s + 2048 = 2 * d)
    (inb : ∀ a, (![0, s] : Fin 2 → Nat) a + S512x256.size a ≤ S512x2048.size a) (r : Fin 512) (c : Fin 2048) :
    View.TileAt (Val := Elt Ideal) (S := S512x2048) (e := .bf16) (ix2 r c) ![0, d] S512x128.size
      (extractStridedSlice S512x128 ![0, 128] (product (columns x0 s inb) p) slices_S512x256_o0_128_S512x128)
      (x0 (ix2 r (origin c)) : EReal) := by
  intro x hx
  have h0 : r.val = 0 + (x 0).val := hx 0
  have h1 : c.val = d + (x 1).val := hx 1
  have hx1 : (x 1).val < 128 := (x 1).isLt
  refine (extractStridedSlice_apply _ _ _ x (ix2 r ⟨128 + (x 1).val, by omega⟩) (fun a => ?_)).trans (stored_apply x0 p hp s inb r _ c ?_)
  · match a with
    | ⟨0, _⟩ => exact h0
    | ⟨1, _⟩ => rfl
  · unfold origin source
    rw [dif_neg (show ¬c.val < 1024 by omega), dif_neg (show ¬128 + (x 1).val < 128 by omega)]
    show 2 * (c.val - 1024) + 1 = s + (2 * (128 + (x 1).val - 128) + 1)
    omega

theorem zero2 : (![0, 0] : Fin 2 → Nat) = fun _ => 0 := funext fun a => by fin_cases a <;> rfl

/-- What the body leaves at a row and a column: the block at the row and the column's origin. -/
theorem out_apply (x0 : FVec Ideal S512x2048 .f32) (p : FVec Ideal S256x256 .bf16) (hp : Picks p) (r : Fin 512) (c : Fin 2048) :
    out0_2 (F := Ideal) x0 p (ix2 r c) = (x0 (ix2 r (origin c)) : EReal) := by
  unfold out0_2
  rw [View.ld_unit_zero (S := S256x256) zero2]
  refine View.canon_eq_of_allAt _ _ _ (cover0_2 _ _ _ _ _ _ _ _ _ _ _ _ _ _ _ _ _) ?_
  refine View.allAt_cons_unit _ _ _ _ _ ?_ ?_
  · exact odd_tile x0 p hp 1792 1920 rfl _ r c
  refine View.allAt_cons_unit _ _ _ _ _ ?_ ?_
  · exact even_tile x0 p hp 1792 896 rfl (by decide) _ r c
  refine View.allAt_cons_unit _ _ _ _ _ ?_ ?_
  · exact odd_tile x0 p hp 1536 1792 rfl _ r c
  refine View.allAt_cons_unit _ _ _ _ _ ?_ ?_
  · exact even_tile x0 p hp 1536 768 rfl (by decide) _ r c
  refine View.allAt_cons_unit _ _ _ _ _ ?_ ?_
  · exact odd_tile x0 p hp 1280 1664 rfl _ r c
  refine View.allAt_cons_unit _ _ _ _ _ ?_ ?_
  · exact even_tile x0 p hp 1280 640 rfl (by decide) _ r c
  refine View.allAt_cons_unit _ _ _ _ _ ?_ ?_
  · exact odd_tile x0 p hp 1024 1536 rfl _ r c
  refine View.allAt_cons_unit _ _ _ _ _ ?_ ?_
  · exact even_tile x0 p hp 1024 512 rfl (by decide) _ r c
  refine View.allAt_cons_unit _ _ _ _ _ ?_ ?_
  · exact odd_tile x0 p hp 768 1408 rfl _ r c
  refine View.allAt_cons_unit _ _ _ _ _ ?_ ?_
  · exact even_tile x0 p hp 768 384 rfl (by decide) _ r c
  refine View.allAt_cons_unit _ _ _ _ _ ?_ ?_
  · exact odd_tile x0 p hp 512 1280 rfl _ r c
  refine View.allAt_cons_unit _ _ _ _ _ ?_ ?_
  · exact even_tile x0 p hp 512 256 rfl (by decide) _ r c
  refine View.allAt_cons_unit _ _ _ _ _ ?_ ?_
  · exact odd_tile x0 p hp 256 1152 rfl _ r c
  refine View.allAt_cons_unit _ _ _ _ _ ?_ ?_
  · exact even_tile x0 p hp 256 128 rfl (by decide) _ r c
  refine View.allAt_cons_unit _ _ _ _ _ ?_ ?_
  · exact odd_tile x0 p hp 0 1024 rfl _ r c
  refine View.allAt_cons_unit _ _ _ _ _ ?_ ?_
  · exact even_tile x0 p hp 0 0 rfl (by decide) _ r c
  exact View.allAt_nil _ _

end Cert.Proof.HalvesTile
-- ==== Proof.HalvesKernel.lean ====
/- The de-interleaving kernel read as arrays: the matrix the host's operations hand the call, what a grid point leaves in its
   staging buffer, and so what the result array ends holding. -/
module

public import proofs.«01_k».proof.Proof.HalvesTile

@[expose] public section

set_option maxRecDepth 16384

noncomputable section

namespace Cert.Proof.HalvesKernel

open Cert.HalvesIdeal Cert.HalvesIdeal.Gen Cert.HalvesIdeal.Value
open Idealize.ShloMosaic Idealize.ShloMosaic.TcCoe Idealize.ShloMosaic.ValueIdx Idealize.ShloMosaic.WordCmp Idealize.SL.Sem
open Idealize.ShloMosaic.Pipeline (Dat)
open Cert.Proof.HalvesTile

/-- The source column of each column, in words. -/
def sourceWords : IVec S256 32 :=
  select (cmpi .slt (iotaInDim S256 32 0) (broadcastInDim S256 ![] bcast_S_S256 (constantI S_ 32 128#32)))
    (muli (broadcastInDim S256 ![] bcast_S_S256 (constantI S_ 32 2#32)) (iotaInDim S256 32 0))
    (addi (muli (broadcastInDim S256 ![] bcast_S_S256 (constantI S_ 32 2#32))
        (subi (iotaInDim S256 32 0) (broadcastInDim S256 ![] bcast_S_S256 (constantI S_ 32 128#32))))
      (broadcastInDim S256 ![] bcast_S_S256 (constantI S_ 32 1#32)))

/-- The matrix of the call: a row's number against a column's source. -/
def picking : FVec Ideal S256x256 .bf16 :=
  uitofp .bf16 (cmpi .eq
    (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 sourceWords)))

/-- The source word of a column is its source. -/
theorem sourceWords_apply (j : Fin 256) : sourceWords (ix1 j) = BitVec.ofNat 32 (source j).val := by
  show (if IntOp.cmpi .slt (BitVec.ofNat 32 j.val) 128#32 = 1#1 then 2#32 * BitVec.ofNat 32 j.val
    else 2#32 * (BitVec.ofNat 32 j.val - 128#32) + 1#32) = _
  revert j
  decide +kernel

/-- The matrix of the call picks each column from its source. -/
theorem picking_picks : Picks picking := by
  intro i j
  have hi := i.isLt
  have hj := (source j).isLt
  have e1 : broadcastInDim S256x256 ![0, 1] bcast_S256x1_S256x256_0_1
      (broadcastInDim S256x1 ![0] bcast_S256_S256x1_0 (iotaInDim S256 32 0)) (ix2 i j) = BitVec.ofNat 32 i.val := by
    refine (broadcastInDim_apply _ _ _ (ix2 i j) (ix2 i 0 : S256x1.Idx) (fun a => ?_)).trans
      (broadcastInDim_apply _ _ _ (ix2 i 0 : S256x1.Idx) (ix1 i : S256.Idx) (fun a => ?_))
    · match a with
      | ⟨0, _⟩ => show i.val = if (256 : Nat) = 1 then 0 else i.val; rw [if_neg (by decide)]
      | ⟨1, _⟩ => show 0 = if (1 : Nat) = 1 then 0 else j.val; rw [if_pos rfl]
    · match a with
      | ⟨0, _⟩ => show i.val = if (256 : Nat) = 1 then 0 else i.val; rw [if_neg (by decide)]
  have e2 : broadcastInDim S256x256 ![0, 1] bcast_S1x256_S256x256_0_1
      (broadcastInDim S1x256 ![1] bcast_S256_S1x256_1 sourceWords) (ix2 i j) = BitVec.ofNat 32 (source j).val := by
    refine ((broadcastInDim_apply _ _ _ (ix2 i j) (ix2 0 j : S1x256.Idx) (fun a => ?_)).trans
      (broadcastInDim_apply _ _ _ (ix2 0 j : S1x256.Idx) (ix1 j : S256.Idx) (fun a => ?_))).trans (sourceWords_apply j)
    · match a with
      | ⟨0, _⟩ => show 0 = if (1 : Nat) = 1 then 0 else i.val; rw [if_pos rfl]
      | ⟨1, _⟩ => show j.val = if (256 : Nat) = 1 then 0 else j.val; rw [if_neg (by decide)]
    · match a with
      | ⟨0, _⟩ => show j.val = if (256 : Nat) = 1 then 0 else j.val; rw [if_neg (by decide)]
  show (((IntOp.cmpi .eq (broadcastInDim S256x256 ![0, 1] bcast_S256x1_S256x256_0_1
      (broadcastInDim S256x1 ![0] bcast_S256_S256x1_0 (iotaInDim S256 32 0)) (ix2 i j))
    (broadcastInDim S256x256 ![0, 1] bcast_S1x256_S256x256_0_1
      (broadcastInDim S1x256 ![1] bcast_S256_S1x256_1 sourceWords) (ix2 i j))).toNat : ℝ) : EReal) = _
  rw [e1, e2, cmpi_eq_eq]
  by_cases h : i = source j
  · rw [if_pos h, h]; simp
  · have hn : ¬BitVec.ofNat 32 i.val = BitVec.ofNat 32 (source j).val := fun hh =>
      h (Fin.ext ((ofNat_eq_ofNat_iff (by omega) (by omega)).1 hh))
    rw [if_neg h]; simp [hn]

/-- The block each window stages at a point: the point's rows, and the whole matrix. -/
theorem index0 : ∀ t : Fin cfg0.N, win0_0.index t (0 : Fin 2) = t.val ∧ win0_0.index t (1 : Fin 2) = 0 := (by decide +kernel : ∀ t : Fin grid0.N, _)
theorem index1 : ∀ t : Fin cfg0.N, win0_1.index t (0 : Fin 2) = 0 ∧ win0_1.index t (1 : Fin 2) = 0 := (by decide +kernel : ∀ t : Fin grid0.N, _)
theorem index2 : ∀ t : Fin cfg0.N, win0_2.index t (0 : Fin 2) = t.val ∧ win0_2.index t (1 : Fin 2) = 0 := (by decide +kernel : ∀ t : Fin grid0.N, _)

/-- A block's row in the whole array. -/
abbrev rowOf (t : Fin cfg0.N) (r : Fin 512) : Fin 131072 :=
  ⟨t.val * 512 + r.val, by have := r.isLt; have := lt_of_lt_of_eq t.isLt (show cfg0.N = 256 from N_0); omega⟩

variable (m : (ℓ : Loc nD τ sig) → Buf (Elt Ideal) ℓ) (c : Dev nD)

/-- The matrix the call is handed. -/
theorem array_matrix : V m c main_v17 = picking := by
  unfold V
  simp only [hostOps0, hostOps0_1, hostOps0_2, List.flatten_cons, List.flatten_nil, List.append_nil, List.cons_append, List.nil_append]
  after_results
  rfl

/-- The block of rows at a point. -/
theorem iblk0_apply (t : Fin cfg0.N) (r : Fin 512) (k : Fin 2048) :
    (iblk m c 0 t : Vec Ideal S512x2048 .f32) (ix2 r k) = (V m c main_arg0 : Vec Ideal S131072x2048 .f32) (ix2 (rowOf t r) k) := by
  obtain ⟨e0, e1⟩ := index0 t
  show V m c main_arg0 (((cfg0.win 0).blk t).view.emb (ix2 r k)) = _
  refine congrArg (V m c main_arg0) (funext fun a => Fin.ext ?_)
  match a with
  | ⟨0, _⟩ => show win0_0.index t (0 : Fin 2) * 512 + 1 * r.val = t.val * 512 + r.val; omega
  | ⟨1, _⟩ => show win0_0.index t (1 : Fin 2) * 2048 + 1 * k.val = k.val; omega

/-- The matrix block at a point picks each column from its source. -/
theorem iblk1_picks (t : Fin cfg0.N) : Picks (iblk m c 1 t : Vec Ideal S256x256 .bf16) := by
  intro i j
  obtain ⟨e0, e1⟩ := index1 t
  refine Eq.trans ?_ (picking_picks i j)
  show V m c main_v17 (((cfg0.win 1).blk t).view.emb (ix2 i j)) = _
  rw [array_matrix]
  refine congrArg picking (funext fun a => Fin.ext ?_)
  match a with
  | ⟨0, _⟩ => show win0_1.index t (0 : Fin 2) * 256 + 1 * i.val = i.val; omega
  | ⟨1, _⟩ => show win0_1.index t (1 : Fin 2) * 256 + 1 * j.val = j.val; omega

/-- The result: every row's even columns, then its odd ones. -/
def result : Vec Ideal S131072x2048 .bf16 := fun i =>
  (m ((c : Thread nD τ).loc main_arg0) : Vec Ideal S131072x2048 .f32) (ix2 (i 0) (origin (i 1)))

/-- Where a point's output block lies in the result array. -/
theorem place (t : Fin cfg0.N) (r : Fin 512) (k : Fin 2048) :
    ((cfg0.win 2).blk t).view.emb (ix2 r k) = (ix2 (rowOf t r) k : S131072x2048.Idx) := by
  obtain ⟨e0, e1⟩ := index2 t
  funext a; apply Fin.ext
  match a with
  | ⟨0, _⟩ => show win0_2.index t (0 : Fin 2) * 512 + 1 * r.val = t.val * 512 + r.val; omega
  | ⟨1, _⟩ => show win0_2.index t (1 : Fin 2) * 2048 + 1 * k.val = k.val; omega

/-- What a point writes back is its block of the result. -/
theorem flushed_eq (t : Fin cfg0.N) :
    (dats m 0 c).flushed 2 t = ((cfg0.win 2).blk t).view.read (Elt Ideal) (result m c) := by
  funext y
  obtain ⟨r, k, rfl⟩ : ∃ (r : Fin 512) (k : Fin 2048), y = (ix2 r k : S512x2048.Idx) :=
    ⟨y 0, y 1, funext fun a => match a with
      | ⟨0, _⟩ => rfl
      | ⟨1, _⟩ => rfl⟩
  have e : ((cfg0.win 2).blk t).view.read (Elt Ideal) (result m c) (ix2 r k) = result m c (ix2 (rowOf t r) k) :=
    congrArg (result m c) (place t r k)
  refine Eq.trans ?_ e.symm
  rw [flushed2 m c t]
  refine (out_apply _ _ (iblk1_picks m c t) r k).trans ((iblk0_apply m c t r (origin k)).trans ?_)
  rw [V_main_arg0]
  rfl

/-- Every index of the result array is in a point's block. -/
theorem covered (i : S131072x2048.Idx) :
    ∃ t : Fin cfg0.N, (cfg0.win 2).flush t = true ∧ i ∈ ((cfg0.win 2).blk t).view.set := by
  have h0 : (i 0 : Nat) < 131072 := (i 0).isLt
  have hlt : (i 0).val / 512 < cfg0.N := lt_of_lt_of_eq (by omega : (i 0).val / 512 < 256) (show cfg0.N = 256 from N_0).symm
  refine ⟨⟨(i 0).val / 512, hlt⟩, flush0_2 _, ?_⟩
  have hi : ((cfg0.win 2).blk ⟨(i 0).val / 512, hlt⟩).view.emb (ix2 ⟨(i 0).val % 512, Nat.mod_lt _ (by decide)⟩ (i 1) : S512x2048.Idx) = i := by
    refine (place ⟨(i 0).val / 512, hlt⟩ ⟨(i 0).val % 512, Nat.mod_lt _ (by decide)⟩ (i 1)).trans (funext fun a => Fin.ext ?_)
    match a with
    | ⟨0, _⟩ => show (i 0).val / 512 * 512 + (i 0).val % 512 = (i 0).val; omega
    | ⟨1, _⟩ => rfl
  have h := ((cfg0.win 2).blk ⟨(i 0).val / 512, hlt⟩).view.emb_mem_set (ix2 ⟨(i 0).val % 512, Nat.mod_lt _ (by decide)⟩ (i 1) : S512x2048.Idx)
  rwa [hi] at h

/-- So the result array ends holding the argument's even columns, then its odd ones. -/
theorem final : (dats m 0 c).arrAt 2 cfg0.N = result m c :=
  (dats m 0 c).arrAt_eq_of_cover 2 (result m c) (fun t _ => flushed_eq m c t) covered

end Cert.Proof.HalvesKernel
-- ==== Proof.HalvesClaim.lean ====
/- De-interleaving: the reference's value at an index, and the value claim from the runs and the equality of the arrays. -/
module

public import proofs.«01_k».proof.Defs
public import proofs.«01_k».proof.Proof.HalvesKernel
public import proofs.«01_k».proof.Proof.Gen.HalvesRefIdeal.Read

@[expose] public section

set_option maxRecDepth 16384

noncomputable section

namespace Cert.Proof.HalvesClaim

open Idealize.ShloMosaic
open Idealize.ShloMosaic.ValueIdx Idealize.ShloMosaic.TcCoe Idealize.SL.Sem
open Cert.Proof.HalvesTile Cert.Proof.HalvesKernel

/-- The reference at an index: the argument at the row and the column's origin. -/
theorem reference_apply (x0 : FVec Ideal ⟨2, ![131072, 2048]⟩ .f32) (r : Fin 131072) (k : Fin 2048) :
    Cert.HalvesRefIdeal.Read.val_main_v3 (F := Ideal) x0 (ix2 r k) = x0 (ix2 r (origin k)) := by
  show Cert.HalvesRefIdeal.Read.val_main_v2 (F := Ideal) x0 (ix2 r k) = _
  unfold Cert.HalvesRefIdeal.Read.val_main_v2 origin
  have hk := k.isLt
  by_cases h : k.val < 1024
  · rw [dif_pos h]
    refine (concatenate_pair_apply_left (t := Cert.HalvesRefIdeal.S131072x2048) (s₁ := Cert.HalvesRefIdeal.S131072x1024)
      (s₂ := Cert.HalvesRefIdeal.S131072x1024) 1 _ _ _ (ix2 r k) rfl (ix2 r ⟨k.val, h⟩) (fun a => match a with
        | ⟨0, _⟩ => rfl
        | ⟨1, _⟩ => rfl)).trans ?_
    unfold Cert.HalvesRefIdeal.Read.val_main_v0 Host.slice
    refine congrArg x0 (funext fun a => Fin.ext ?_)
    match a with
    | ⟨0, _⟩ => show 0 + 1 * r.val = r.val; omega
    | ⟨1, _⟩ => show 0 + 2 * k.val = 2 * k.val; omega
  · rw [dif_neg h]
    refine (concatenate_pair_apply_right (t := Cert.HalvesRefIdeal.S131072x2048) (s₁ := Cert.HalvesRefIdeal.S131072x1024)
      (s₂ := Cert.HalvesRefIdeal.S131072x1024) 1 _ _ _ (ix2 r k) rfl rfl (ix2 r ⟨k.val - 1024, by omega⟩) (fun a ha => ?_) ?_).trans ?_
    · match a with
      | ⟨0, _⟩ => rfl
      | ⟨1, _⟩ => exact absurd rfl ha
    · show k.val - 1024 + 1024 = k.val; omega
    · unfold Cert.HalvesRefIdeal.Read.val_main_v1 Host.slice
      refine congrArg x0 (funext fun a => Fin.ext ?_)
      match a with
      | ⟨0, _⟩ => show 0 + 1 * r.val = r.val; omega
      | ⟨1, _⟩ => show 1 + 2 * (k.val - 1024) = 2 * (k.val - 1024) + 1; omega

/-- What the kernel's result array ends holding is the reference's value of the argument. -/
theorem result_eq (m : (ℓ : Loc Cert.HalvesIdeal.nD Cert.HalvesIdeal.τ Cert.HalvesIdeal.sig) → Buf (Elt Ideal) ℓ) (c : Dev Cert.HalvesIdeal.nD) :
    (result m c : FVec Ideal ⟨2, ![131072, 2048]⟩ .bf16) = Cert.HalvesRefIdeal.Read.val_main_v3 (F := Ideal)
      (m ((c.tc : Thread Cert.HalvesIdeal.nD Cert.HalvesIdeal.τ).loc Cert.HalvesIdeal.main_arg0)) := by
  funext i
  refine Eq.trans ?_ (congrArg _ (show (ix2 (i 0) (i 1) : (⟨2, ![131072, 2048]⟩ : Shape).Idx) = i from funext fun a => by fin_cases a <;> rfl))
  exact (reference_apply _ (i 0) (i 1)).symm

/-- The idealized kernel and the idealized reference end with equal results. -/
theorem algebraic : algebraic_HalvesIdeal_HalvesRefIdeal := by
  intro m g m' g' _ ha
  refine ⟨fun c => result m c, ?_, ?_⟩
  · refine (θ_run _ _ _).mono (fun r h c => ?_) (Cert.HalvesIdeal.Value.run_blocks m g)
    obtain ⟨hr, hargs⟩ := h c
    exact ⟨hr.trans (final m c), hargs⟩
  · refine (θ_run _ _ _).mono (fun r h c => ?_) (Cert.HalvesRefIdeal.Value.run m' g')
    obtain ⟨hr, hargs⟩ := h c
    refine ⟨hr.trans ?_, hargs⟩
    refine (Cert.HalvesRefIdeal.Read.val_main_v3_eq _).trans ?_
    rw [ha c]
    exact (result_eq m c).symm

end Cert.Proof.HalvesClaim
-- ==== Proof.OutMath.lean ====
/- The output projection, the gated residual and the modulated norm of one token's row, as mathematics. -/
module

public import proofs.«01_k».proof.Proof.Tile

@[expose] public section

set_option maxRecDepth 16384

noncomputable section

namespace Cert.Proof.OutMath

open Idealize.ShloMosaic

/-- The first and the second half of 1024 places. -/
abbrev low (d : Fin 512) : Fin 1024 := ⟨d.val, by have := d.isLt; omega⟩
abbrev high (d : Fin 512) : Fin 1024 := ⟨512 + d.val, by have := d.isLt; omega⟩

/-- Two rows of 512 entries side by side. -/
def beside (f g : Fin 512 → EReal) (k : Fin 1024) : EReal :=
  if h : k.val < 512 then f ⟨k.val, h⟩ else g ⟨k.val - 512, by have := k.isLt; omega⟩

/-- A sum over the joined row is the sum over its two halves. -/
theorem sum_beside (f g : Fin 512 → EReal) (w : Fin 1024 → EReal) :
    ∑ k : Fin 1024, beside f g k * w k = (∑ d : Fin 512, f d * w (low d)) + ∑ d : Fin 512, g d * w (high d) := by
  refine (Fin.sum_univ_add (a := 512) (b := 512) fun k : Fin (512 + 512) => beside f g k * w k).trans ?_
  refine congrArg₂ (fun a b : EReal => a + b) (Finset.sum_congr rfl fun d _ => ?_) (Finset.sum_congr rfl fun d _ => ?_)
  · refine congrArg₂ (fun a b : EReal => a * b) ?_ rfl
    unfold beside
    rw [dif_pos (show (Fin.castAdd 512 d).val < 512 from d.isLt)]
    rfl
  · refine congrArg₂ (fun a b : EReal => a * b) ?_ rfl
    unfold beside
    rw [dif_neg (show ¬ (Fin.natAdd 512 d).val < 512 by show ¬ 512 + d.val < 512; omega)]
    exact congrArg g (Fin.ext (show 512 + d.val - 512 = d.val by omega))

/-- A row plus its gated projection: both mixers' rows through the two halves of the matrix. -/
def gatedRow (x gate : Fin 1024 → EReal) (f g : Fin 512 → EReal) (w : Fin 1024 → Fin 1024 → EReal) (j : Fin 1024) : EReal :=
  x j + gate j * ((∑ d : Fin 512, f d * w (low d) j) + ∑ d : Fin 512, g d * w (high d) j)

/-- A row over the root of its mean square, weighted, scaled and shifted. -/
def normed (y weight scale shift : Fin 1024 → EReal) (j : Fin 1024) : EReal :=
  y j * Ideal.rsqrt ((∑ i : Fin 1024, y i * y i) * Ideal.ofBits .f32 0x3A800000#32 + Ideal.ofBits .f32 0x358637BD#32) * weight j
    * (Ideal.ofBits .f32 0x3F800000#32 + scale j) + shift j

/-- The `f32` word `44800000` is 1024. -/
theorem ofBits_1024 : Ideal.ofBits .f32 0x44800000#32 = ((1024 : ℝ) : EReal) := by
  simp [Ideal.ofBits, Ideal.ieee, -EReal.coe_mul]; norm_num

/-- The `f32` word `3A800000` is a 1024th. -/
theorem ofBits_1024th : Ideal.ofBits .f32 0x3A800000#32 = ((1 / 1024 : ℝ) : EReal) := by
  simp [Ideal.ofBits, Ideal.ieee, -EReal.coe_mul]; norm_num

/-- A mean over 1024 entries, by division or by the reciprocal. -/
theorem mean_eq (s : EReal) : Ideal.div s (Ideal.ofBits .f32 0x44800000#32) = s * Ideal.ofBits .f32 0x3A800000#32 := by
  rw [ofBits_1024, ofBits_1024th, Ideal.div_coe (by norm_num)]

end Cert.Proof.OutMath
-- ==== Proof.OutTile.lean ====
/- The payloads of the output projection's body over its blocks, read at a row and a column. -/
module

public import proofs.«01_k».proof.Proof.Gen.OutIdeal.Frame
public import Idealize.ShloMosaic.Lib.Pipeline.ValueKit.Tiles
public import proofs.«01_k».proof.Proof.MoeTile
public import proofs.«01_k».proof.Proof.OutMath

@[expose] public section

set_option maxRecDepth 16384

noncomputable section

namespace Cert.Proof.OutTile

open Cert.OutIdeal Cert.OutIdeal.Gen
open Idealize.ShloMosaic Idealize.ShloMosaic.ValueIdx
open Cert.Tile Cert.Proof.MoeTile Cert.Proof.OutMath

/-- A row of the modulation block. -/
theorem row_apply (v : FVec Ideal S1x1x6x1024 .f32) (o : Nat) (r : Fin 6) (ho : r.val = o) (hs : (S6x1024 : Shape).Slices ![o, 0] S1x1024) (j : Fin 1024) :
    extractStridedSlice S1x1024 ![o, 0] (k0_pay1 (F := Ideal) v) hs (ix2 0 j) = v (ix4 0 0 r j) := by
  refine (extractStridedSlice_apply ![o, 0] (k0_pay1 (F := Ideal) v) hs (ix2 0 j) (ix2 r j) (fun a => match a with
    | ⟨0, _⟩ => by show r.val = o + 0; omega
    | ⟨1, _⟩ => by show j.val = 0 + j.val; omega)).trans ?_
  unfold k0_pay1
  exact drop2_apply v _ r j

/-- A product of a block of rows by half of the matrix, at an entry. -/
theorem product_apply (a : FVec Ideal S1x256x512 .bf16) (b : FVec Ideal S512x1024 .bf16) (r : Fin 256) (j : Fin 1024) :
    matmul dot_S256x512_S512x1024_S256x1024_1_0_0_1_n_n none (shapeCast S256x512 a shapeCasts_S1x256x512_S256x512)
        (shapeCast S512x1024 b shapeCasts_S512x1024_S512x1024) (constant S256x1024 .f32 0x00000000#32) (ix2 r j)
      = ∑ d : Fin 512, a (ix3 0 r d) * b (ix2 d j) := by
  refine (Ideal.matmul_plain_apply (M := 256) (K := 512) (N := 1024) (φ₁ := .bf16) (φ₂ := .bf16) none _ _ _ r j).trans ?_
  refine (congrArg (fun z : EReal => z + _) Ideal.ofBits_zero_f32).trans ((zero_add _).trans (Finset.sum_congr rfl fun d _ => ?_))
  refine congrArg₂ (fun p q : EReal => p * q) (drop1_apply a _ r d) ?_
  exact shapeCast_apply b _ (ix2 d j) (ix2 d j) rfl

/-- The first payload: the gated projection added to the row. -/
theorem pay2_apply (v0 : FVec Ideal S1x1x6x1024 .f32) (v2 : FVec Ideal S1x256x512 .bf16) (v4 : FVec Ideal S512x1024 .bf16)
    (v7 : FVec Ideal S1x256x512 .bf16) (v9 : FVec Ideal S512x1024 .bf16) (v13 : FVec Ideal S1x256x1024 .f32) (r : Fin 256) (j : Fin 1024) :
    k0_pay2 (F := Ideal) v0 v2 v4 v7 v9 v13 (ix2 r j)
      = v13 (ix3 0 r j) + v0 (ix4 0 0 2 j) * ((∑ d : Fin 512, v2 (ix3 0 r d) * v4 (ix2 d j)) + ∑ d : Fin 512, v7 (ix3 0 r d) * v9 (ix2 d j)) := by
  unfold k0_pay2
  refine congrArg₂ (fun a b : EReal => a + b) (drop1_apply v13 _ r j) ?_
  refine congrArg₂ (fun a b : EReal => a * b) ((down_apply (by decide) _ _ r j).trans (row_apply v0 2 2 rfl _ j)) ?_
  exact congrArg₂ (fun a b : EReal => a + b) (product_apply v2 v4 r j) (product_apply v7 v9 r j)

/-- The mean of a row's squares, as the body takes it. -/
theorem pay5_apply (v0 : FVec Ideal S1x1x6x1024 .f32) (v2 : FVec Ideal S1x256x512 .bf16) (v4 : FVec Ideal S512x1024 .bf16)
    (v7 : FVec Ideal S1x256x512 .bf16) (v9 : FVec Ideal S512x1024 .bf16) (v13 : FVec Ideal S1x256x1024 .f32) (r : Fin 256) :
    k0_pay5 (F := Ideal) v0 v2 v4 v7 v9 v13 (ix2 r 0)
      = (∑ i : Fin 1024, k0_pay2 (F := Ideal) v0 v2 v4 v7 v9 v13 (ix2 r i) * k0_pay2 (F := Ideal) v0 v2 v4 v7 v9 v13 (ix2 r i))
        * Ideal.ofBits .f32 0x3A800000#32 := by
  unfold k0_pay5
  generalize k0_pay2 (F := Ideal) v0 v2 v4 v7 v9 v13 = y
  refine congrArg (fun a : EReal => a * Ideal.ofBits .f32 0x3A800000#32) ((column_apply _ _ r).trans ?_)
  refine (Ideal.multiReduction_add_single (mulf y y) 0x00000000#32 _ (.inl rfl) rfl (ix1 r)).trans ?_
  refine Finset.sum_congr rfl fun i _ => ?_
  refine congrArg (fun i' : S256x1024.Idx => (y i' * y i' : EReal)) (funext fun a => Fin.ext ?_)
  match a with
  | ⟨0, _⟩ => rfl
  | ⟨1, _⟩ => rfl

/-- The second payload over a computed row: its modulated norm. -/
theorem pay7_apply (v : FVec Ideal S1x1x6x1024 .f32) (y : FVec Ideal S256x1024 .f32) (w : FVec Ideal S1x1024 .f32) (s e : FVec Ideal S256x1 .f32)
    (r : Fin 256) (j : Fin 1024) :
    k0_pay7 (F := Ideal) (k0_pay1 (F := Ideal) v) y w s e (ix2 r j)
      = y (ix2 r j) * Ideal.rsqrt (s (ix2 r 0) + e (ix2 r 0)) * w (ix2 0 j) * (Ideal.ofBits .f32 0x3F800000#32 + v (ix4 0 0 4 j))
        + v (ix4 0 0 3 j) := by
  unfold k0_pay7
  refine congrArg₂ (fun a b : EReal => a + b) ?_ ((down_apply (by decide) _ _ r j).trans (row_apply v 3 3 rfl _ j))
  refine congrArg₂ (fun a b : EReal => a * b) ?_ ((down_apply (by decide) _ _ r j).trans ?_)
  · refine congrArg₂ (fun a b : EReal => a * b) ?_ (down_apply (by decide) _ _ r j)
    exact congrArg (fun a : EReal => y (ix2 r j) * a) (repeat_apply (by decide) _ _ r j)
  · exact congrArg (fun a : EReal => Ideal.ofBits .f32 0x3F800000#32 + a) (row_apply v 4 4 rfl _ j)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

variable (x0 x1 : Vec Ideal S1x256x512 .bf16) (x2 : Vec Ideal S1x256x1024 .f32) (x3 : Vec Ideal S1x1x6x1024 .f32)
  (x4 : Vec Ideal S1024x1024 .bf16) (x5 : Vec Ideal S1x1024 .f32) (x6 : Vec Ideal S1024x128 .f32) (x7 : Vec Ideal S1x128 .f32)

/-- The first half of the matrix's rows, as loaded. -/
theorem low_apply (d : Fin 512) (j : Fin 1024) : View.ld x4 r0_2 (ix2 d j : S512x1024.Idx) = x4 (ix2 (low d) j) :=
  View.ld_unit_apply_of x4 ![0, 0] S512x1024.size inb_S1024x1024_S512x1024_0_0 (ix2 d j) (ix2 (low d) j) (fun a => match a with
    | ⟨0, _⟩ => by show d.val = 0 + d.val; omega
    | ⟨1, _⟩ => by show j.val = 0 + j.val; omega)

/-- The second half of the matrix's rows, as loaded. -/
theorem high_apply (d : Fin 512) (j : Fin 1024) : View.ld x4 r0_3 (ix2 d j : S512x1024.Idx) = x4 (ix2 (high d) j) :=
  View.ld_unit_apply_of x4 ![512, 0] S512x1024.size inb_S1024x1024_S512x1024_512_0 (ix2 d j) (ix2 (high d) j) (fun a => match a with
    | ⟨0, _⟩ => by show 512 + d.val = 512 + d.val; rfl
    | ⟨1, _⟩ => by show j.val = 0 + j.val; omega)

/-- The row the body computes from its blocks: the gated residual. -/
def row (r : Fin 256) : Fin 1024 → EReal :=
  gatedRow (fun j => x2 (ix3 0 r j)) (fun j => x3 (ix4 0 0 2 j)) (fun d => x0 (ix3 0 r d)) (fun d => x1 (ix3 0 r d)) (fun k j => x4 (ix2 k j))

/-- The computed block at a row and a column. -/
theorem block_apply (r : Fin 256) (j : Fin 1024) :
    k0_pay2 (F := Ideal) (View.ld x3 r0_0) (View.ld x0 r0_1) (View.ld x4 r0_2) (View.ld x1 r0_1) (View.ld x4 r0_3) (View.ld x2 r0_4) (ix2 r j)
      = row x0 x1 x2 x3 x4 r j := by
  rw [View.ld_unit_zero zero4, View.ld_unit_zero zero3, View.ld_unit_zero zero3, View.ld_unit_zero zero3]
  refine (pay2_apply x3 x0 _ x1 _ x2 r j).trans ?_
  unfold row gatedRow
  refine congrArg (fun a : EReal => x2 (ix3 0 r j) + x3 (ix4 0 0 2 j) * a) ?_
  refine congrArg₂ (fun a b : EReal => a + b) (Finset.sum_congr rfl fun d _ => ?_) (Finset.sum_congr rfl fun d _ => ?_)
  · exact congrArg (fun a : EReal => x0 (ix3 0 r d) * a) (low_apply x4 d j)
  · exact congrArg (fun a : EReal => x1 (ix3 0 r d) * a) (high_apply x4 d j)

/-- What the body leaves in the first result's buffer. -/
theorem out8_apply (r : Fin 256) (j : Fin 1024) :
    out0_8 (F := Ideal) x0 x1 x2 x3 x4 x5 x6 x7 (ix3 0 r j) = row x0 x1 x2 x3 x4 r j := by
  unfold out0_8
  rw [View.canon_unit_zero zero3]
  unfold k0_pay3
  exact (add1_apply _ _ r j).trans (block_apply x0 x1 x2 x3 x4 r j)

/-- What the body leaves in the second result's buffer. -/
theorem out9_apply (r : Fin 256) (j : Fin 1024) :
    out0_9 (F := Ideal) x0 x1 x2 x3 x4 x5 x6 x7 (ix3 0 r j)
      = normed (row x0 x1 x2 x3 x4 r) (fun j => x5 (ix2 0 j)) (fun j => x3 (ix4 0 0 4 j)) (fun j => x3 (ix4 0 0 3 j)) j := by
  unfold out0_9
  rw [View.canon_unit_zero zero3]
  unfold k0_pay8
  refine (add1_apply _ _ r j).trans ?_
  unfold k0_pay32 k0_pay33 k0_pay34 k0_pay35 k0_pay36
  refine (pay7_apply (View.ld x3 r0_0) _ _ _ _ r j).trans ?_
  rw [block_apply, pay5_apply]
  unfold normed
  have e5 : k0_pay4 (F := Ideal) (View.ld x5 r0_5) (ix2 0 j) = x5 (ix2 0 j) := by
    rw [View.ld_unit_zero zero2]
    unfold k0_pay4
    exact shapeCast_apply x5 _ (ix2 0 j) (ix2 0 j) rfl
  have e6 : k0_pay6 (F := Ideal) (ix2 r 0) = Ideal.ofBits .f32 0x358637BD#32 := rfl
  rw [e5, e6, View.ld_unit_zero zero4]
  simp only [← block_apply]
  rw [View.ld_unit_zero zero4]

end Cert.Proof.OutTile
-- ==== Proof.OutKernel.lean ====
/- The output projection read as arrays: what a grid point leaves in its staging buffers, and so what the two result
   arrays end holding, in terms of the arguments. -/
module

public import proofs.«01_k».proof.Proof.OutTile

@[expose] public section

set_option maxRecDepth 16384

noncomputable section

namespace Cert.Proof.OutKernel

open Cert.OutIdeal Cert.OutIdeal.Gen
open Idealize.ShloMosaic Idealize.ShloMosaic.TcCoe Idealize.ShloMosaic.ValueIdx Idealize.SL.Sem
open Idealize.ShloMosaic.Pipeline (Dat)
open Cert.Proof.OutMath Cert.Proof.OutTile

/-- The modulation a token takes: the context's for the first 256 tokens, the latent's for the others. -/
abbrev kind (n : Fin 4352) : Fin 2 := ⟨min (n.val / 256) 1, by omega⟩

/-- The block each window stages at a point: the point's batch and its block of tokens. -/
theorem index0 : ∀ t : Fin cfg0.N, win0_0.index t (0 : Fin 3) = t.val / 17 ∧ win0_0.index t (1 : Fin 3) = t.val % 17
    ∧ win0_0.index t (2 : Fin 3) = 0 := (by decide +kernel : ∀ t : Fin grid0.N, _)
theorem index1 : ∀ t : Fin cfg0.N, win0_1.index t (0 : Fin 3) = t.val / 17 ∧ win0_1.index t (1 : Fin 3) = t.val % 17
    ∧ win0_1.index t (2 : Fin 3) = 0 := (by decide +kernel : ∀ t : Fin grid0.N, _)
theorem index2 : ∀ t : Fin cfg0.N, win0_2.index t (0 : Fin 3) = t.val / 17 ∧ win0_2.index t (1 : Fin 3) = t.val % 17
    ∧ win0_2.index t (2 : Fin 3) = 0 := (by decide +kernel : ∀ t : Fin grid0.N, _)
theorem index3 : ∀ t : Fin cfg0.N, win0_3.index t (0 : Fin 4) = t.val / 17 ∧ win0_3.index t (1 : Fin 4) = min (t.val % 17) 1
    ∧ win0_3.index t (2 : Fin 4) = 0 ∧ win0_3.index t (3 : Fin 4) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index8 : ∀ t : Fin cfg0.N, win0_8.index t (0 : Fin 3) = t.val / 17 ∧ win0_8.index t (1 : Fin 3) = t.val % 17
    ∧ win0_8.index t (2 : Fin 3) = 0 := (by decide +kernel : ∀ t : Fin grid0.N, _)
theorem index9 : ∀ t : Fin cfg0.N, win0_9.index t (0 : Fin 3) = t.val / 17 ∧ win0_9.index t (1 : Fin 3) = t.val % 17
    ∧ win0_9.index t (2 : Fin 3) = 0 := (by decide +kernel : ∀ t : Fin grid0.N, _)

/-- A point's batch, and its block's token in the whole array. -/
abbrev batchOf (t : Fin cfg0.N) : Fin 8 := ⟨t.val / 17, by have := lt_of_lt_of_eq t.isLt (show cfg0.N = 136 from N_0); omega⟩
abbrev tokenOf (t : Fin cfg0.N) (r : Fin 256) : Fin 4352 :=
  ⟨t.val % 17 * 256 + r.val, by have := r.isLt; have := Nat.mod_lt t.val (show 17 > 0 by decide); omega⟩

variable (m : (ℓ : Loc nD τ sig) → Buf (Elt Ideal) ℓ) (c : Dev nD)

/-- The matrix the call is handed is the argument. -/
theorem array_matrix (k j : Fin 1024) :
    (V m c main_v3 : Vec Ideal S1024x1024 .bf16) (ix2 k j) = (m ((c : Thread nD τ).loc main_arg4) : Vec Ideal S1024x1024 .f32) (ix2 k j) := by
  have e : (V m c main_v3 : Vec Ideal S1024x1024 .bf16)
      = (truncf .bf16 (m ((c : Thread nD τ).loc main_arg4) : FVec Ideal S1024x1024 .f32) bitsLt_bf16_f32 : FVec Ideal S1024x1024 .bf16) := by
    unfold V
    simp only [hostOps0, hostOps0_1, hostOps0_2, hostOps0_3, hostOps0_4, List.flatten_cons, List.flatten_nil, List.append_nil, List.cons_append,
      List.nil_append]
    after_results
  rw [e]
  rfl

/-- The norm's weights the call is handed are the argument with a unit axis. -/
theorem array_weight (j : Fin 1024) :
    (V m c main_v4 : Vec Ideal S1x1024 .f32) (ix2 0 j) = (m ((c : Thread nD τ).loc main_arg5) : Vec Ideal S1024 .f32) (ix1 j) := by
  have e : (V m c main_v4 : Vec Ideal S1x1024 .f32)
      = (shapeCast S1x1024 (m ((c : Thread nD τ).loc main_arg5) : FVec Ideal S1024 .f32) shapeCasts_S1024_S1x1024 : FVec Ideal S1x1024 .f32) := by
    unfold V
    simp only [hostOps0, hostOps0_1, hostOps0_2, hostOps0_3, hostOps0_4, List.flatten_cons, List.flatten_nil, List.append_nil, List.cons_append,
      List.nil_append]
    after_results
    rfl
  rw [e]
  exact shapeCast_apply _ _ (ix2 0 j) (ix1 j) (by
    rw [Shape.rowMajor_val_one, Shape.rowMajor_val_two]; show j.val = 0 * 1024 + j.val; omega)

/-- The first mixer's block at a point. -/
theorem iblk0_apply (t : Fin cfg0.N) (r : Fin 256) (d : Fin 512) :
    (iblk m c 0 t : Vec Ideal S1x256x512 .bf16) (ix3 0 r d)
      = (m ((c : Thread nD τ).loc main_arg0) : Vec Ideal S8x4352x512 .bf16) (ix3 (batchOf t) (tokenOf t r) d) := by
  obtain ⟨e0, e1, e2⟩ := index0 t
  rw [← V_main_arg0 m c]
  show V m c main_arg0 (((cfg0.win 0).blk t).view.emb (ix3 0 r d)) = _
  refine congrArg (V m c main_arg0) (funext fun a => Fin.ext ?_)
  match a with
  | ⟨0, _⟩ => show win0_0.index t (0 : Fin 3) * 1 + 1 * 0 = t.val / 17; omega
  | ⟨1, _⟩ => show win0_0.index t (1 : Fin 3) * 256 + 1 * r.val = t.val % 17 * 256 + r.val; omega
  | ⟨2, _⟩ => show win0_0.index t (2 : Fin 3) * 512 + 1 * d.val = d.val; omega

/-- The second mixer's block at a point. -/
theorem iblk1_apply (t : Fin cfg0.N) (r : Fin 256) (d : Fin 512) :
    (iblk m c 1 t : Vec Ideal S1x256x512 .bf16) (ix3 0 r d)
      = (m ((c : Thread nD τ).loc main_arg1) : Vec Ideal S8x4352x512 .bf16) (ix3 (batchOf t) (tokenOf t r) d) := by
  obtain ⟨e0, e1, e2⟩ := index1 t
  rw [← V_main_arg1 m c]
  show V m c main_arg1 (((cfg0.win 1).blk t).view.emb (ix3 0 r d)) = _
  refine congrArg (V m c main_arg1) (funext fun a => Fin.ext ?_)
  match a with
  | ⟨0, _⟩ => show win0_1.index t (0 : Fin 3) * 1 + 1 * 0 = t.val / 17; omega
  | ⟨1, _⟩ => show win0_1.index t (1 : Fin 3) * 256 + 1 * r.val = t.val % 17 * 256 + r.val; omega
  | ⟨2, _⟩ => show win0_1.index t (2 : Fin 3) * 512 + 1 * d.val = d.val; omega

/-- The stream's block at a point. -/
theorem iblk2_apply (t : Fin cfg0.N) (r : Fin 256) (j : Fin 1024) :
    (iblk m c 2 t : Vec Ideal S1x256x1024 .f32) (ix3 0 r j)
      = (m ((c : Thread nD τ).loc main_arg2) : Vec Ideal S8x4352x1024 .f32) (ix3 (batchOf t) (tokenOf t r) j) := by
  obtain ⟨e0, e1, e2⟩ := index2 t
  rw [← V_main_arg2 m c]
  show V m c main_arg2 (((cfg0.win 2).blk t).view.emb (ix3 0 r j)) = _
  refine congrArg (V m c main_arg2) (funext fun a => Fin.ext ?_)
  match a with
  | ⟨0, _⟩ => show win0_2.index t (0 : Fin 3) * 1 + 1 * 0 = t.val / 17; omega
  | ⟨1, _⟩ => show win0_2.index t (1 : Fin 3) * 256 + 1 * r.val = t.val % 17 * 256 + r.val; omega
  | ⟨2, _⟩ => show win0_2.index t (2 : Fin 3) * 1024 + 1 * j.val = j.val; omega

/-- The modulation block at a point: of the batch, and of the kind of the block's tokens. -/
theorem iblk3_apply (t : Fin cfg0.N) (r : Fin 256) (s : Fin 6) (j : Fin 1024) :
    (iblk m c 3 t : Vec Ideal S1x1x6x1024 .f32) (ix4 0 0 s j)
      = (m ((c : Thread nD τ).loc main_arg3) : Vec Ideal S8x2x6x1024 .f32) (ix4 (batchOf t) (kind (tokenOf t r)) s j) := by
  obtain ⟨e0, e1, e2, e3⟩ := index3 t
  have hr := r.isLt
  rw [← V_main_arg3 m c]
  show V m c main_arg3 (((cfg0.win 3).blk t).view.emb (ix4 0 0 s j)) = _
  refine congrArg (V m c main_arg3) (funext fun a => Fin.ext ?_)
  match a with
  | ⟨0, _⟩ => show win0_3.index t (0 : Fin 4) * 1 + 1 * 0 = t.val / 17; omega
  | ⟨1, _⟩ => show win0_3.index t (1 : Fin 4) * 1 + 1 * 0 = min ((t.val % 17 * 256 + r.val) / 256) 1; omega
  | ⟨2, _⟩ => show win0_3.index t (2 : Fin 4) * 6 + 1 * s.val = s.val; omega
  | ⟨3, _⟩ => show win0_3.index t (3 : Fin 4) * 1024 + 1 * j.val = j.val; omega

/-- The matrix block at a point: the whole matrix. -/
theorem iblk4_apply (t : Fin cfg0.N) (k j : Fin 1024) :
    (iblk m c 4 t : Vec Ideal S1024x1024 .bf16) (ix2 k j)
      = (m ((c : Thread nD τ).loc main_arg4) : Vec Ideal S1024x1024 .f32) (ix2 k j) := by
  obtain ⟨e0, e1⟩ := index4 t
  rw [← array_matrix m c k j]
  show V m c main_v3 (((cfg0.win 4).blk t).view.emb (ix2 k j)) = _
  refine congrArg (V m c main_v3) (funext fun a => Fin.ext ?_)
  match a with
  | ⟨0, _⟩ => show win0_4.index t (0 : Fin 2) * 1024 + 1 * k.val = k.val; omega
  | ⟨1, _⟩ => show win0_4.index t (1 : Fin 2) * 1024 + 1 * j.val = j.val; omega

/-- The norm's weights at a point. -/
theorem iblk5_apply (t : Fin cfg0.N) (j : Fin 1024) :
    (iblk m c 5 t : Vec Ideal S1x1024 .f32) (ix2 0 j) = (m ((c : Thread nD τ).loc main_arg5) : Vec Ideal S1024 .f32) (ix1 j) := by
  obtain ⟨e0, e1⟩ := index5 t
  rw [← array_weight m c j]
  show V m c main_v4 (((cfg0.win 5).blk t).view.emb (ix2 0 j)) = _
  refine congrArg (V m c main_v4) (funext fun a => Fin.ext ?_)
  match a with
  | ⟨0, _⟩ => show win0_5.index t (0 : Fin 2) * 1 + 1 * 0 = 0; omega
  | ⟨1, _⟩ => show win0_5.index t (1 : Fin 2) * 1024 + 1 * j.val = j.val; omega

/-- A token's new stream row, of the arguments. -/
def streamRow (om og : FVec Ideal ⟨3, ![8, 4352, 512]⟩ .bf16) (x : FVec Ideal ⟨3, ![8, 4352, 1024]⟩ .f32) (mod : FVec Ideal ⟨4, ![8, 2, 6, 1024]⟩ .f32)
    (w : FVec Ideal ⟨2, ![1024, 1024]⟩ .f32) (b : Fin 8) (n : Fin 4352) : Fin 1024 → EReal :=
  gatedRow (fun j => x (ix3 b n j)) (fun j => mod (ix4 b (kind n) 2 j)) (fun d => om (ix3 b n d)) (fun d => og (ix3 b n d)) (fun k j => w (ix2 k j))

/-- A token's modulated norm of its new row, of the arguments. -/
def hiddenRow (om og : FVec Ideal ⟨3, ![8, 4352, 512]⟩ .bf16) (x : FVec Ideal ⟨3, ![8, 4352, 1024]⟩ .f32) (mod : FVec Ideal ⟨4, ![8, 2, 6, 1024]⟩ .f32)
    (w : FVec Ideal ⟨2, ![1024, 1024]⟩ .f32) (nf : FVec Ideal ⟨1, ![1024]⟩ .f32) (b : Fin 8) (n : Fin 4352) : Fin 1024 → EReal :=
  normed (streamRow om og x mod w b n) (fun j => nf (ix1 j)) (fun j => mod (ix4 b (kind n) 4 j)) (fun j => mod (ix4 b (kind n) 3 j))

/-- The first result: every token's new stream row. -/
def result8 : Vec Ideal S8x4352x1024 .f32 := fun i =>
  streamRow (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- The second result: every token's modulated norm. -/
def result9 : Vec Ideal S8x4352x1024 .f32 := fun i =>
  hiddenRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1) (i 2)

/-- The row the body computes at a point is the token's new row. -/
theorem row_eq (t : Fin cfg0.N) (r : Fin 256) :
    row (iblk m c 0 t) (iblk m c 1 t) (iblk m c 2 t) (iblk m c 3 t) (iblk m c 4 t) r
      = streamRow (m ((c : Thread nD τ).loc main_arg0)) (m ((c : Thread nD τ).loc main_arg1)) (m ((c : Thread nD τ).loc main_arg2))
          (m ((c : Thread nD τ).loc main_arg3)) (m ((c : Thread nD τ).loc main_arg4)) (batchOf t) (tokenOf t r) := by
  unfold row streamRow
  have h0 : (fun d : Fin 512 => (iblk m c 0 t : Vec Ideal S1x256x512 .bf16) (ix3 0 r d)) = _ := funext fun d => iblk0_apply m c t r d
  have h1 : (fun d : Fin 512 => (iblk m c 1 t : Vec Ideal S1x256x512 .bf16) (ix3 0 r d)) = _ := funext fun d => iblk1_apply m c t r d
  have h2 : (fun j : Fin 1024 => (iblk m c 2 t : Vec Ideal S1x256x1024 .f32) (ix3 0 r j)) = _ := funext fun j => iblk2_apply m c t r j
  have h3 : (fun j : Fin 1024 => (iblk m c 3 t : Vec Ideal S1x1x6x1024 .f32) (ix4 0 0 2 j)) = _ := funext fun j => iblk3_apply m c t r 2 j
  have h4 : (fun k j : Fin 1024 => (iblk m c 4 t : Vec Ideal S1024x1024 .bf16) (ix2 k j)) = _ := funext fun k => funext fun j => iblk4_apply m c t k j
  rw [h0, h1, h2, h3, h4]

/-- Where a point's block of the first result lies in its array. -/
theorem place8 (t : Fin cfg0.N) (r : Fin 256) (j : Fin 1024) :
    ((cfg0.win 8).blk t).view.emb (ix3 0 r j) = (ix3 (batchOf t) (tokenOf t r) j : S8x4352x1024.Idx) := by
  obtain ⟨e0, e1, e2⟩ := index8 t
  funext a; apply Fin.ext
  match a with
  | ⟨0, _⟩ => show win0_8.index t (0 : Fin 3) * 1 + 1 * 0 = t.val / 17; omega
  | ⟨1, _⟩ => show win0_8.index t (1 : Fin 3) * 256 + 1 * r.val = t.val % 17 * 256 + r.val; omega
  | ⟨2, _⟩ => show win0_8.index t (2 : Fin 3) * 1024 + 1 * j.val = j.val; omega

/-- Where a point's block of the second result lies in its array. -/
theorem place9 (t : Fin cfg0.N) (r : Fin 256) (j : Fin 1024) :
    ((cfg0.win 9).blk t).view.emb (ix3 0 r j) = (ix3 (batchOf t) (tokenOf t r) j : S8x4352x1024.Idx) := by
  obtain ⟨e0, e1, e2⟩ := index9 t
  funext a; apply Fin.ext
  match a with
  | ⟨0, _⟩ => show win0_9.index t (0 : Fin 3) * 1 + 1 * 0 = t.val / 17; omega
  | ⟨1, _⟩ => show win0_9.index t (1 : Fin 3) * 256 + 1 * r.val = t.val % 17 * 256 + r.val; omega
  | ⟨2, _⟩ => show win0_9.index t (2 : Fin 3) * 1024 + 1 * j.val = j.val; omega

/-- An index of a block by its row and its column. -/
theorem index_block (y : S1x256x1024.Idx) : ∃ (r : Fin 256) (j : Fin 1024), y = (ix3 0 r j : S1x256x1024.Idx) :=
  ⟨y 1, y 2, funext fun a => match a with
    | ⟨0, _⟩ => Fin.ext (by have := (y 0).isLt; show (y 0).val = 0; exact Nat.lt_one_iff.1 this)
    | ⟨1, _⟩ => rfl
    | ⟨2, _⟩ => rfl⟩

/-- What a point writes back of the first result is its block of it. -/
theorem flushed8_eq (t : Fin cfg0.N) :
    (dats m 0 c).flushed 8 t = ((cfg0.win 8).blk t).view.read (Elt Ideal) (result8 m c) := by
  funext y
  obtain ⟨r, j, rfl⟩ := index_block y
  have e : ((cfg0.win 8).blk t).view.read (Elt Ideal) (result8 m c) (ix3 0 r j) = result8 m c (ix3 (batchOf t) (tokenOf t r) j) :=
    congrArg (result8 m c) (place8 t r j)
  refine Eq.trans ?_ e.symm
  show (cfg0.win 8).cut (grid0.coords t) ((dats m 0 c).after 8 t) (ix3 0 r j) = _
  rw [after0_8]
  refine (out8_apply _ _ _ _ _ _ _ _ r j).trans ?_
  exact congrFun (row_eq m c t r) j

/-- What a point writes back of the second result is its block of it. -/
theorem flushed9_eq (t : Fin cfg0.N) :
    (dats m 0 c).flushed 9 t = ((cfg0.win 9).blk t).view.read (Elt Ideal) (result9 m c) := by
  funext y
  obtain ⟨r, j, rfl⟩ := index_block y
  have e : ((cfg0.win 9).blk t).view.read (Elt Ideal) (result9 m c) (ix3 0 r j) = result9 m c (ix3 (batchOf t) (tokenOf t r) j) :=
    congrArg (result9 m c) (place9 t r j)
  refine Eq.trans ?_ e.symm
  show (cfg0.win 9).cut (grid0.coords t) ((dats m 0 c).after 9 t) (ix3 0 r j) = _
  rw [after0_9]
  refine (out9_apply _ _ _ _ _ _ _ _ r j).trans ?_
  show _ = hiddenRow _ _ _ _ _ _ (batchOf t) (tokenOf t r) j
  unfold hiddenRow
  have h3 : (fun j : Fin 1024 => (iblk m c 3 t : Vec Ideal S1x1x6x1024 .f32) (ix4 0 0 3 j)) = _ := funext fun j => iblk3_apply m c t r 3 j
  have h4 : (fun j : Fin 1024 => (iblk m c 3 t : Vec Ideal S1x1x6x1024 .f32) (ix4 0 0 4 j)) = _ := funext fun j => iblk3_apply m c t r 4 j
  have h5 : (fun j : Fin 1024 => (iblk m c 5 t : Vec Ideal S1x1024 .f32) (ix2 0 j)) = _ := funext fun j => iblk5_apply m c t j
  rw [row_eq m c t r, h3, h4, h5]

/-- The point whose block a token lies in, and the token's place in it. -/
theorem point_of (i : S8x4352x1024.Idx) : ∃ (t : Fin cfg0.N) (r : Fin 256) (j : Fin 1024), (ix3 (batchOf t) (tokenOf t r) j : S8x4352x1024.Idx) = i := by
  have h0 : (i 0 : Nat) < 8 := (i 0).isLt
  have h1 : (i 1 : Nat) < 4352 := (i 1).isLt
  obtain ⟨T, hT⟩ : ∃ T, T = (i 0).val * 17 + (i 1).val / 256 := ⟨_, rfl⟩
  have hlt : T < cfg0.N := lt_of_lt_of_eq (by omega : T < 136) (show cfg0.N = 136 from N_0).symm
  refine ⟨⟨T, hlt⟩, ⟨(i 1).val % 256, Nat.mod_lt _ (by decide)⟩, i 2, funext fun a => Fin.ext ?_⟩
  match a with
  | ⟨0, _⟩ => show T / 17 = (i 0).val; omega
  | ⟨1, _⟩ => show T % 17 * 256 + (i 1).val % 256 = (i 1).val; omega
  | ⟨2, _⟩ => rfl

/-- Every index of the first result is in a point's block. -/
theorem covered8 (i : S8x4352x1024.Idx) : ∃ t : Fin cfg0.N, (cfg0.win 8).flush t = true ∧ i ∈ ((cfg0.win 8).blk t).view.set := by
  obtain ⟨t, r, j, e⟩ := point_of i
  refine ⟨t, flush0_8 _, ?_⟩
  have h := ((cfg0.win 8).blk t).view.emb_mem_set (ix3 0 r j : S1x256x1024.Idx)
  rwa [(place8 t r j).trans e] at h

/-- Every index of the second result is in a point's block. -/
theorem covered9 (i : S8x4352x1024.Idx) : ∃ t : Fin cfg0.N, (cfg0.win 9).flush t = true ∧ i ∈ ((cfg0.win 9).blk t).view.set := by
  obtain ⟨t, r, j, e⟩ := point_of i
  refine ⟨t, flush0_9 _, ?_⟩
  have h := ((cfg0.win 9).blk t).view.emb_mem_set (ix3 0 r j : S1x256x1024.Idx)
  rwa [(place9 t r j).trans e] at h

/-- So the first result's array ends holding the new rows of the arguments. -/
theorem final8 : (dats m 0 c).arrAt 8 cfg0.N = result8 m c :=
  (dats m 0 c).arrAt_eq_of_cover 8 (result8 m c) (fun t _ => flushed8_eq m c t) covered8

/-- And the second's the modulated norms of the arguments. -/
theorem final9 : (dats m 0 c).arrAt 9 cfg0.N = result9 m c :=
  (dats m 0 c).arrAt_eq_of_cover 9 (result9 m c) (fun t _ => flushed9_eq m c t) covered9

/-- The whole run: the two result arrays end holding the results of the arguments, and the arguments are unchanged. -/
theorem run_results (g : Dev nD → PrngReg) :
    θ_run (defs (F := Ideal)) (onTc (τ := τ) (main (F := Ideal))) ⟨m, fun _ => 0, g⟩ (fun r =>
      (∀ c : Dev nD, r.2.mem ((c : Thread nD τ).loc main_v5_0) = result8 m c ∧ r.2.mem ((c : Thread nD τ).loc main_v5_1) = result9 m c)
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  θ_run_and ((θ_run _ _ _).mono (fun _ h c => ⟨((h c).1 8).trans (final8 m c), ((h c).1 9).trans (final9 m c)⟩) (run_main m g))
    (unchanged m g)

end Cert.Proof.OutKernel
-- ==== Proof.OutReference.lean ====
/- The output projection's reference at an index: its two results as the mathematics of a token's row. -/
module

public import proofs.«01_k».proof.Proof.OutKernel
public import proofs.«01_k».proof.Proof.Gen.OutRefIdeal.Read

@[expose] public section

set_option maxRecDepth 16384

noncomputable section

namespace Cert.Proof.OutReference

open Idealize.ShloMosaic
open Idealize.ShloMosaic.ValueIdx Idealize.ShloMosaic.TcCoe
open Cert.Proof.OutMath Cert.Proof.OutKernel
open Cert.OutRefIdeal Cert.OutRefIdeal.Read

/-- Rows repeated over the context's tokens and over the latent's, joined: every token has its kind's row. -/
theorem tokens_apply (x : FVec Ideal S8x256x1024 .f32) (y : FVec Ideal S8x4096x1024 .f32) (z : Fin 8 → Fin 2 → Fin 1024 → EReal)
    (h : Shape.Concatenates [S8x256x1024, S8x4096x1024] S8x4352x1024 1)
    (hx : ∀ b n j, x (ix3 b n j) = z b 0 j) (hy : ∀ b n j, y (ix3 b n j) = z b 1 j) (b : Fin 8) (n : Fin 4352) (j : Fin 1024) :
    concatenate S8x4352x1024 1 [⟨S8x256x1024, x⟩, ⟨S8x4096x1024, y⟩] h (ix3 b n j) = z b (kind n) j := by
  have hlt := n.isLt
  by_cases hn : n.val < 256
  · refine (concatenate_pair_apply_left (t := S8x4352x1024) (s₁ := S8x256x1024) (s₂ := S8x4096x1024) 1 x y h (ix3 b n j) rfl
      (ix3 b ⟨n.val, hn⟩ j) (fun a => match a with
        | ⟨0, _⟩ => rfl
        | ⟨1, _⟩ => rfl
        | ⟨2, _⟩ => rfl)).trans ((hx b _ j).trans ?_)
    exact congrArg (fun k => z b k j) (Fin.ext (show 0 = min (n.val / 256) 1 by omega))
  · refine (concatenate_pair_apply_right (t := S8x4352x1024) (s₁ := S8x256x1024) (s₂ := S8x4096x1024) 1 x y h (ix3 b n j) rfl rfl
      (ix3 b ⟨n.val - 256, by omega⟩ j) (fun a ha => ?_) ?_).trans ((hy b _ j).trans ?_)
    · match a with
      | ⟨0, _⟩ => rfl
      | ⟨1, _⟩ => exact absurd rfl ha
      | ⟨2, _⟩ => rfl
    · show n.val - 256 + 256 = n.val; omega
    · exact congrArg (fun k => z b k j) (Fin.ext (show 1 = min (n.val / 256) 1 by omega))

variable (x0 x1 : FVec Ideal ⟨3, ![8, 4352, 512]⟩ .bf16) (x2 : FVec Ideal ⟨3, ![8, 4352, 1024]⟩ .f32) (x3 : FVec Ideal ⟨4, ![8, 2, 6, 1024]⟩ .f32)
  (x4 : FVec Ideal ⟨2, ![1024, 1024]⟩ .f32) (x5 : FVec Ideal ⟨1, ![1024]⟩ .f32)

/-- The gate of a token. -/
theorem gate_apply (b : Fin 8) (n : Fin 4352) (j : Fin 1024) : val_main_v6 (F := Ideal) x3 (ix3 b n j) = x3 (ix4 b (kind n) 2 j) := by
  unfold val_main_v6
  refine tokens_apply _ _ (fun b k j => x3 (ix4 b k 2 j)) _ (fun b n j => ?_) (fun b n j => ?_) b n j
  · rw [val_main_v3_apply, val_main_v2_apply, val_main_v1_apply, val_main_v0_apply]
    have hb := b.isLt
    have hj := j.isLt
    refine congrArg x3 (funext fun a => Fin.ext ?_)
    match a with
    | ⟨0, _⟩ => show ((b.val * 2 + 0) * 1024 + j.val) / 2048 = b.val; omega
    | ⟨1, _⟩ => show ((b.val * 2 + 0) * 1024 + j.val) / 1024 % 2 = 0; omega
    | ⟨2, _⟩ => rfl
    | ⟨3, _⟩ => show ((b.val * 2 + 0) * 1024 + j.val) % 1024 = j.val; omega
  · rw [val_main_v5_apply, val_main_v4_apply, val_main_v1_apply, val_main_v0_apply]
    have hb := b.isLt
    have hj := j.isLt
    refine congrArg x3 (funext fun a => Fin.ext ?_)
    match a with
    | ⟨0, _⟩ => show ((b.val * 2 + (1 + 0)) * 1024 + j.val) / 2048 = b.val; omega
    | ⟨1, _⟩ => show ((b.val * 2 + (1 + 0)) * 1024 + j.val) / 1024 % 2 = 1; omega
    | ⟨2, _⟩ => rfl
    | ⟨3, _⟩ => show ((b.val * 2 + (1 + 0)) * 1024 + j.val) % 1024 = j.val; omega

/-- The shift of a token. -/
theorem shift_apply (b : Fin 8) (n : Fin 4352) (j : Fin 1024) : val_main_v13 (F := Ideal) x3 (ix3 b n j) = x3 (ix4 b (kind n) 3 j) := by
  unfold val_main_v13
  refine tokens_apply _ _ (fun b k j => x3 (ix4 b k 3 j)) _ (fun b n j => ?_) (fun b n j => ?_) b n j
  · rw [val_main_v10_apply, val_main_v9_apply, val_main_v8_apply, val_main_v7_apply]
    have hb := b.isLt
    have hj := j.isLt
    refine congrArg x3 (funext fun a => Fin.ext ?_)
    match a with
    | ⟨0, _⟩ => show ((b.val * 2 + 0) * 1024 + j.val) / 2048 = b.val; omega
    | ⟨1, _⟩ => show ((b.val * 2 + 0) * 1024 + j.val) / 1024 % 2 = 0; omega
    | ⟨2, _⟩ => rfl
    | ⟨3, _⟩ => show ((b.val * 2 + 0) * 1024 + j.val) % 1024 = j.val; omega
  · rw [val_main_v12_apply, val_main_v11_apply, val_main_v8_apply, val_main_v7_apply]
    have hb := b.isLt
    have hj := j.isLt
    refine congrArg x3 (funext fun a => Fin.ext ?_)
    match a with
    | ⟨0, _⟩ => show ((b.val * 2 + (1 + 0)) * 1024 + j.val) / 2048 = b.val; omega
    | ⟨1, _⟩ => show ((b.val * 2 + (1 + 0)) * 1024 + j.val) / 1024 % 2 = 1; omega
    | ⟨2, _⟩ => rfl
    | ⟨3, _⟩ => show ((b.val * 2 + (1 + 0)) * 1024 + j.val) % 1024 = j.val; omega

/-- The scale of a token. -/
theorem scale_apply (b : Fin 8) (n : Fin 4352) (j : Fin 1024) : val_main_v20 (F := Ideal) x3 (ix3 b n j) = x3 (ix4 b (kind n) 4 j) := by
  unfold val_main_v20
  refine tokens_apply _ _ (fun b k j => x3 (ix4 b k 4 j)) _ (fun b n j => ?_) (fun b n j => ?_) b n j
  · rw [val_main_v17_apply, val_main_v16_apply, val_main_v15_apply, val_main_v14_apply]
    have hb := b.isLt
    have hj := j.isLt
    refine congrArg x3 (funext fun a => Fin.ext ?_)
    match a with
    | ⟨0, _⟩ => show ((b.val * 2 + 0) * 1024 + j.val) / 2048 = b.val; omega
    | ⟨1, _⟩ => show ((b.val * 2 + 0) * 1024 + j.val) / 1024 % 2 = 0; omega
    | ⟨2, _⟩ => rfl
    | ⟨3, _⟩ => show ((b.val * 2 + 0) * 1024 + j.val) % 1024 = j.val; omega
  · rw [val_main_v19_apply, val_main_v18_apply, val_main_v15_apply, val_main_v14_apply]
    have hb := b.isLt
    have hj := j.isLt
    refine congrArg x3 (funext fun a => Fin.ext ?_)
    match a with
    | ⟨0, _⟩ => show ((b.val * 2 + (1 + 0)) * 1024 + j.val) / 2048 = b.val; omega
    | ⟨1, _⟩ => show ((b.val * 2 + (1 + 0)) * 1024 + j.val) / 1024 % 2 = 1; omega
    | ⟨2, _⟩ => rfl
    | ⟨3, _⟩ => show ((b.val * 2 + (1 + 0)) * 1024 + j.val) % 1024 = j.val; omega

/-- The joined row of both mixers. -/
theorem joined_apply (b : Fin 8) (n : Fin 4352) (k : Fin 1024) :
    val_main_v22 (F := Ideal) x0 x1 (ix3 b n k) = beside (fun d => x0 (ix3 b n d)) (fun d => x1 (ix3 b n d)) k := by
  show val_main_v21 (F := Ideal) x0 x1 (ix3 b n k) = _
  unfold val_main_v21 beside
  have hk := k.isLt
  by_cases h : k.val < 512
  · rw [dif_pos h]
    exact concatenate_pair_apply_left (t := S8x4352x1024) (s₁ := S8x4352x512) (s₂ := S8x4352x512) 2 _ _ _ (ix3 b n k) rfl
      (ix3 b n ⟨k.val, h⟩) (fun a => match a with
        | ⟨0, _⟩ => rfl
        | ⟨1, _⟩ => rfl
        | ⟨2, _⟩ => rfl)
  · rw [dif_neg h]
    refine concatenate_pair_apply_right (t := S8x4352x1024) (s₁ := S8x4352x512) (s₂ := S8x4352x512) 2 _ _ _ (ix3 b n k) rfl rfl
      (ix3 b n ⟨k.val - 512, by omega⟩) (fun a ha => ?_) ?_
    · match a with
      | ⟨0, _⟩ => rfl
      | ⟨1, _⟩ => rfl
      | ⟨2, _⟩ => exact absurd rfl ha
    · show k.val - 512 + 512 = k.val; omega

/-- The reference's first result is the token's new stream row. -/
theorem stream_apply (b : Fin 8) (n : Fin 4352) (j : Fin 1024) :
    val_main_v25 (F := Ideal) x0 x1 x2 x3 x4 (ix3 b n j) = streamRow x0 x1 x2 x3 x4 b n j := by
  unfold streamRow gatedRow
  rw [val_main_v25_apply, val_main_v24_apply]
  refine congrArg₂ (fun p q : EReal => x2 (ix3 b n j) + p * q) (gate_apply x3 b n j) ?_
  rw [val_main_v23_apply]
  refine Eq.trans (Finset.sum_congr rfl fun k _ => ?_)
    (sum_beside (fun d => x0 (ix3 b n d)) (fun d => x1 (ix3 b n d)) (fun k => x4 (ix2 k j)))
  refine congrArg₂ (fun p q : EReal => p * q) ?_ ?_
  · refine Eq.trans (congrArg (val_main_v22 (F := Ideal) x0 x1) (funext fun a => ?_)) (joined_apply x0 x1 b n k)
    fin_cases a <;> rfl
  · exact congrArg x4 (funext fun a => by fin_cases a <;> rfl)

/-- The root the reference divides a token's row by. -/
theorem root_apply (b : Fin 8) (n : Fin 4352) (j : Fin 1024) :
    val_main_v34 (F := Ideal) x0 x1 x2 x3 x4 (ix3 b n j)
      = Ideal.rsqrt ((∑ i : Fin 1024, streamRow x0 x1 x2 x3 x4 b n i * streamRow x0 x1 x2 x3 x4 b n i) * Ideal.ofBits .f32 0x3A800000#32
          + Ideal.ofBits .f32 0x358637BD#32) := by
  rw [val_main_v34_apply, val_main_v33_apply, val_main_v32_apply, val_main_v31_apply, val_main_v30_apply, val_main_v29_apply,
    val_main_v28_apply, val_main_v27_apply]
  refine congrArg (fun a : EReal => Ideal.rsqrt (a + Ideal.ofBits .f32 0x358637BD#32)) ?_
  refine Eq.trans ?_ (mean_eq _)
  refine congrArg (fun a : EReal => Ideal.div a (Ideal.ofBits .f32 0x44800000#32)) ?_
  refine (congrArg (fun a : EReal => a + _) Ideal.ofBits_zero_f32).trans ((zero_add _).trans (Finset.sum_congr rfl fun i _ => ?_))
  rw [val_main_v26_apply, ← stream_apply]
  refine congrArg (fun i' : S8x4352x1024.Idx =>
    (val_main_v25 (F := Ideal) x0 x1 x2 x3 x4 i' * val_main_v25 (F := Ideal) x0 x1 x2 x3 x4 i' : EReal)) (funext fun a => ?_)
  fin_cases a <;> rfl

/-- The reference's second result is the token's modulated norm. -/
theorem hidden_apply (b : Fin 8) (n : Fin 4352) (j : Fin 1024) :
    val_main_v42 (F := Ideal) x0 x1 x2 x3 x4 x5 (ix3 b n j) = hiddenRow x0 x1 x2 x3 x4 x5 b n j := by
  unfold hiddenRow normed
  rw [val_main_v42_apply, val_main_v41_apply, val_main_v40_apply, val_main_v39_apply, val_main_v38_apply, val_main_v35_apply,
    val_main_v37_apply, val_main_v36_apply, shift_apply, scale_apply, root_apply, stream_apply]
  have e5 : x5 (idx_main_v36 (idx_main_v37 (ix3 b n j))) = x5 (ix1 j) := congrArg x5 (funext fun a => by fin_cases a <;> rfl)
  rw [e5]
  rfl

end Cert.Proof.OutReference
-- ==== Proof.OutClaim.lean ====
/- The output projection: the value claim from the runs and the equality of the arrays. -/
module

public import proofs.«01_k».proof.Defs
public import proofs.«01_k».proof.Proof.OutReference

@[expose] public section

set_option maxRecDepth 16384

noncomputable section

namespace Cert.Proof.OutClaim

open Idealize.ShloMosaic
open Idealize.ShloMosaic.ValueIdx Idealize.ShloMosaic.TcCoe Idealize.SL.Sem
open Cert.Proof.OutKernel Cert.Proof.OutReference

variable (m : (ℓ : Loc Cert.OutIdeal.nD Cert.OutIdeal.τ Cert.OutIdeal.sig) → Buf (Elt Ideal) ℓ) (c : Dev Cert.OutIdeal.nD)

/-- An index by its three coordinates. -/
theorem index_eq (i : (⟨3, ![8, 4352, 1024]⟩ : Shape).Idx) : i = ix3 (i 0) (i 1) (i 2) :=
  funext fun a => match a with
    | ⟨0, _⟩ => rfl
    | ⟨1, _⟩ => rfl
    | ⟨2, _⟩ => rfl

/-- What the kernel's first result array ends holding is the reference's first result of the arguments. -/
theorem result8_eq : (result8 m c : FVec Ideal ⟨3, ![8, 4352, 1024]⟩ .f32) = Cert.OutRefIdeal.Read.val_main_v25 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4)) := by
  funext i
  refine Eq.trans ?_ (congrArg (Cert.OutRefIdeal.Read.val_main_v25 (F := Ideal) _ _ _ _ _) (index_eq i).symm)
  exact (stream_apply _ _ _ _ _ (i 0) (i 1) (i 2)).symm

/-- What the kernel's second result array ends holding is the reference's second result of the arguments. -/
theorem result9_eq : (result9 m c : FVec Ideal ⟨3, ![8, 4352, 1024]⟩ .f32) = Cert.OutRefIdeal.Read.val_main_v42 (F := Ideal)
      (m ((c.tc : Thread Cert.OutIdeal.nD Cert.OutIdeal.τ).loc Cert.OutIdeal.main_arg0))
      (m ((c.tc : Thread Cert.OutIdeal.nD Cert.OutIdeal.τ).loc Cert.OutIdeal.main_arg1))
      (m ((c.tc : Thread Cert.OutIdeal.nD Cert.OutIdeal.τ).loc Cert.OutIdeal.main_arg2))
      (m ((c.tc : Thread Cert.OutIdeal.nD Cert.OutIdeal.τ).loc Cert.OutIdeal.main_arg3))
      (m ((c.tc : Thread Cert.OutIdeal.nD Cert.OutIdeal.τ).loc Cert.OutIdeal.main_arg4))
      (m ((c.tc : Thread Cert.OutIdeal.nD Cert.OutIdeal.τ).loc Cert.OutIdeal.main_arg5)) := by
  funext i
  refine Eq.trans ?_ (congrArg (Cert.OutRefIdeal.Read.val_main_v42 (F := Ideal) _ _ _ _ _ _) (index_eq i).symm)
  exact (hidden_apply _ _ _ _ _ _ (i 0) (i 1) (i 2)).symm

/-- The idealized kernel and the idealized reference end with equal results. -/
theorem algebraic : algebraic_OutIdeal_OutRefIdeal := by
  intro m g m' g' _ ha
  refine ⟨fun c => result8 m c, fun c => result9 m c, ?_, ?_⟩
  · refine (θ_run _ _ _).mono (fun r h c => ?_) (run_results m g)
    exact ⟨(h.1 c).1, (h.1 c).2, h.2 c⟩
  · refine (θ_run _ _ _).mono (fun r h c => ?_) (Cert.OutRefIdeal.Value.run m' g')
    obtain ⟨h25, h42, hargs⟩ := h c
    obtain ⟨e0, e1, e2, e3, e4, e5, _, _⟩ := ha c
    refine ⟨h25.trans ?_, h42.trans ?_, hargs⟩
    · refine (Cert.OutRefIdeal.Read.val_main_v25_eq _ _ _ _ _).trans ?_
      rw [e0, e1, e2, e3, e4]
      exact (result8_eq m c).symm
    · refine (Cert.OutRefIdeal.Read.val_main_v42_eq _ _).trans ?_
      rw [e0, e1, e2, e3, e4, e5]
      exact (result9_eq m c).symm

end Cert.Proof.OutClaim
-- ==== Proof.FeatBlocks.lean ====
/- The features' call: the memory before its region, its windows' blocks, and what its body leaves in each output's buffer. -/
module

public import proofs.«01_k».proof.Proof.Gen.FeatIdeal.Launch
public import proofs.«01_k».proof.Proof.Gen.FeatIdeal.Skeleton
public import proofs.«01_k».proof.Proof.Gen.FeatIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.FeatFrame

open Cert.FeatIdeal Cert.FeatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh⟩) main_chain

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg10` as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg11` as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg12` as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg13` as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg14` as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg15` as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg16` as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg17` as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, hostOps0_1, hostOps0_2, hostOps0_3, hostOps0_4, hostOps0_5, hostOps0_6, hostOps0_7, hostOps0_8, hostOps0_9, hostOps0_10, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1800000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_FeatIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => ⟨((h c).1 2).trans (((dats 0 c).arrAt_in 2 rfl _).trans ((hA c 2).trans (V_main_arg0 m c))),
      ((h c).1 3).trans (((dats 0 c).arrAt_in 3 rfl _).trans ((hA c 3).trans (V_main_arg1 m c))),
      ((h c).2 main_arg2 (Pipeline.mem_restRefs_of main_arg2 (by decide) (by decide))).trans (V_main_arg2 m c),
      ((h c).1 5).trans (((dats 0 c).arrAt_in 5 rfl _).trans ((hA c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 9).trans (((dats 0 c).arrAt_in 9 rfl _).trans ((hA c 9).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).1 12).trans (((dats 0 c).arrAt_in 12 rfl _).trans ((hA c 12).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c)⟩) h

/-! ## The body's accesses -/

abbrev r0_0 : Rect S1x1x6x1024 := Rect.unit (s := S1x1x6x1024) ![0, 0, 0, 0] S1x1x6x1024.size inb_S1x1x6x1024_S1x1x6x1024_0_0_0_0
abbrev r0_1 : Rect S1x1024 := Rect.unit (s := S1x1024) ![0, 0] S1x1024.size inb_S1x1024_S1x1024_0_0
abbrev r0_2 : Rect S1x256x1024 := Rect.unit (s := S1x256x1024) ![0, 0, 0] S1x256x1024.size inb_S1x256x1024_S1x256x1024_0_0_0
abbrev r0_3 : Rect S1x8x1024 := Rect.unit (s := S1x8x1024) ![0, 0, 0] S1x8x1024.size inb_S1x8x1024_S1x8x1024_0_0_0
abbrev r0_4 : Rect S6x1024 := Rect.unit (s := S6x1024) ![0, 0] S1x1024.size inb_S6x1024_S1x1024_0_0
abbrev r0_5 : Rect S6x1024 := Rect.unit (s := S6x1024) ![1, 0] S1x1024.size inb_S6x1024_S1x1024_1_0
abbrev r0_6 : Rect S6x1024 := Rect.unit (s := S6x1024) ![2, 0] S1x1024.size inb_S6x1024_S1x1024_2_0
abbrev r0_7 : Rect S6x1024 := Rect.unit (s := S6x1024) ![3, 0] S1x1024.size inb_S6x1024_S1x1024_3_0
abbrev r0_8 : Rect S6x1024 := Rect.unit (s := S6x1024) ![4, 0] S1x1024.size inb_S6x1024_S1x1024_4_0
abbrev r0_9 : Rect S6x1024 := Rect.unit (s := S6x1024) ![5, 0] S1x1024.size inb_S6x1024_S1x1024_5_0
abbrev r0_10 : Rect S1024x1024 := Rect.unit (s := S1024x1024) ![0, 0] S1024x1024.size inb_S1024x1024_S1024x1024_0_0
abbrev r0_11 : Rect S1024x128 := Rect.unit (s := S1024x128) ![0, 0] S1024x128.size inb_S1024x128_S1024x128_0_0
abbrev r0_12 : Rect S128x1024 := Rect.unit (s := S128x1024) ![0, 0] S128x1024.size inb_S128x1024_S128x1024_0_0
abbrev r0_13 : Rect S2x1024 := Rect.unit (s := S2x1024) ![0, 0] S1x1024.size inb_S2x1024_S1x1024_0_0
abbrev r0_14 : Rect S2x128x1024 := Rect.unit (s := S2x128x1024) ![0, 0, 0] S1x128x1024.size inb_S2x128x1024_S1x128x1024_0_0_0
abbrev r0_15 : Rect S2x1x256x1024 := Rect.unit (s := S2x1x256x1024) ![0, 0, 0, 0] S1x1x256x1024.size inb_S2x1x256x1024_S1x1x256x1024_0_0_0_0
abbrev r0_16 : Rect S2x1024 := Rect.unit (s := S2x1024) ![1, 0] S1x1024.size inb_S2x1024_S1x1024_1_0
abbrev r0_17 : Rect S2x128x1024 := Rect.unit (s := S2x128x1024) ![1, 0, 0] S1x128x1024.size inb_S2x128x1024_S1x128x1024_1_0_0
abbrev r0_18 : Rect S2x1x256x1024 := Rect.unit (s := S2x1x256x1024) ![1, 0, 0, 0] S1x1x256x1024.size inb_S2x1x256x1024_S1x1x256x1024_1_0_0_0

/-! ## What the body leaves in each output window's buffer -/

/-! ### Values of the body that several stores name -/

def k0_pay50 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S6x1024 .f32 :=
  k0_pay1 (View.ld x3 r0_0) -- `v1`
def k0_pay51 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S1x1024 .f32 :=
  k0_pay2 (View.ld x4 r0_1) -- `v3`
def k0_pay52 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay3 (View.ld x3 r0_0) (View.ld x4 r0_1) (View.ld x0 r0_2) -- `v25`
def k0_pay53 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : IVec S256x1024 32 :=
  iota .tc S256x1024 32 [0] iota_S256x1024_d0_w32 -- `v84`
def k0_pay54 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S1x1024 .f32 :=
  k0_pay8 (k0_pay50 i x0 x1 x2 x3 x4 x5 x6 x7 x8 x9 x10 x11 x12 x13 x14 x15 x16 x17 x18 x19 x20 x21) (k0_pay51 i x0 x1 x2 x3 x4 x5 x6 x7 x8 x9 x10 x11 x12 x13 x14 x15 x16 x17 x18 x19 x20 x21) (k0_pay4 (F := F) i) (k0_pay6 (View.ld x1 r0_3)) (k0_pay7 (View.ld x1 r0_3)) -- `v58`
def k0_pay55 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S1x1024 .f32 :=
  k0_pay9 (k0_pay50 i x0 x1 x2 x3 x4 x5 x6 x7 x8 x9 x10 x11 x12 x13 x14 x15 x16 x17 x18 x19 x20 x21) (k0_pay51 i x0 x1 x2 x3 x4 x5 x6 x7 x8 x9 x10 x11 x12 x13 x14 x15 x16 x17 x18 x19 x20 x21) (k0_pay5 (F := F) i) (View.ld x2 r0_3) -- `v83`
def k0_pay56 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : IVec S256x1024 1 :=
  k0_pay10 -- `v86`
def k0_pay57 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay12 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_5) -- `v108`
def k0_pay58 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay13 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_6) -- `v112`
def k0_pay59 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay19 (k0_pay17 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_4)) (k0_pay18 (View.ld x6 r0_10)) (constant S256x1024 .f32 0x00000000#32) -- `v128`
def k0_pay60 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay20 (k0_pay58 i x0 x1 x2 x3 x4 x5 x6 x7 x8 x9 x10 x11 x12 x13 x14 x15 x16 x17 x18 x19 x20 x21) (View.ld x7 r0_10) -- `v132`
def k0_pay61 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay21 (k0_pay14 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_7)) (View.ld x8 r0_10) -- `v136`
def k0_pay62 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay24 (k0_pay22 (k0_pay58 i x0 x1 x2 x3 x4 x5 x6 x7 x8 x9 x10 x11 x12 x13 x14 x15 x16 x17 x18 x19 x20 x21) (View.ld x7 r0_10) (View.ld x17 r0_1)) (k0_pay23 (k0_pay58 i x0 x1 x2 x3 x4 x5 x6 x7 x8 x9 x10 x11 x12 x13 x14 x15 x16 x17 x18 x19 x20 x21) (View.ld x7 r0_10) (View.ld x17 r0_1) (View.ld x20 r0_11) (View.ld x20 r0_11) (View.ld x21 r0_12) (View.ld x21 r0_12)) -- `v167`
def k0_pay63 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x128 .bf16 :=
  k0_pay26 (k0_pay15 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_8)) (View.ld x13 r0_11) -- `v178`
def k0_pay64 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay33 (k0_pay60 i x0 x1 x2 x3 x4 x5 x6 x7 x8 x9 x10 x11 x12 x13 x14 x15 x16 x17 x18 x19 x20 x21) (k0_pay63 i x0 x1 x2 x3 x4 x5 x6 x7 x8 x9 x10 x11 x12 x13 x14 x15 x16 x17 x18 x19 x20 x21) (k0_pay27 (F := F)) (View.ld x12 r0_13) (View.ld x14 r0_14) (View.ld x18 r0_1) -- `v227`
def k0_pay65 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : FVec F S256x1024 .f32 :=
  k0_pay38 (k0_pay60 i x0 x1 x2 x3 x4 x5 x6 x7 x8 x9 x10 x11 x12 x13 x14 x15 x16 x17 x18 x19 x20 x21) (k0_pay63 i x0 x1 x2 x3 x4 x5 x6 x7 x8 x9 x10 x11 x12 x13 x14 x15 x16 x17 x18 x19 x20 x21) (View.ld x12 r0_16) (View.ld x14 r0_17) (View.ld x18 r0_1) -- `v267`

/-- Window 22's staging buffer after the body, from the input windows' blocks: its 1 store as pieces, LAST
    FIRST (Lib/Pipeline/FrameBody.lean `View.canon`; the payloads are the skeleton's and the values stated above). -/
def out0_22 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S1x256x1024 .f32 :=
  View.canon [⟨r0_2, k0_pay47 (k0_pay59 i x0 x1 x2 x3 x4 x5 x6 x7 x8 x9 x10 x11 x12 x13 x14 x15 x16 x17 x18 x19 x20 x21)⟩]

/-- Its stores tile the buffer (checked by evaluation), so they cover it. -/
theorem cover0_22 (p0 : Vec F S1x256x1024 .f32) (y : S1x256x1024.Idx) :
    ∃ pc ∈ ([⟨r0_2, p0⟩] : List (View.Piece (Elt F) S1x256x1024 .f32)), y ∈ pc.1.set :=
  View.cover_of_tiled [⟨r0_2, p0⟩] S1x256x1024.size (by rfl) y

/-- Window 23's staging buffer after the body, from the input windows' blocks: its 1 store as pieces, LAST
    FIRST (Lib/Pipeline/FrameBody.lean `View.canon`; the payloads are the skeleton's and the values stated above). -/
def out0_23 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S1x256x1024 .f32 :=
  View.canon [⟨r0_2, k0_pay48 (k0_pay61 i x0 x1 x2 x3 x4 x5 x6 x7 x8 x9 x10 x11 x12 x13 x14 x15 x16 x17 x18 x19 x20 x21)⟩]

/-- Its stores tile the buffer (checked by evaluation), so they cover it. -/
theorem cover0_23 (p0 : Vec F S1x256x1024 .f32) (y : S1x256x1024.Idx) :
    ∃ pc ∈ ([⟨r0_2, p0⟩] : List (View.Piece (Elt F) S1x256x1024 .f32)), y ∈ pc.1.set :=
  View.cover_of_tiled [⟨r0_2, p0⟩] S1x256x1024.size (by rfl) y

/-- Window 24's staging buffer after the body, from the input windows' blocks: its 1 store as pieces, LAST
    FIRST (Lib/Pipeline/FrameBody.lean `View.canon`; the payloads are the skeleton's and the values stated above). -/
def out0_24 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S1x256x1024 .f32 :=
  View.canon [⟨r0_2, k0_pay49 (k0_pay62 i x0 x1 x2 x3 x4 x5 x6 x7 x8 x9 x10 x11 x12 x13 x14 x15 x16 x17 x18 x19 x20 x21)⟩]

/-- Its stores tile the buffer (checked by evaluation), so they cover it. -/
theorem cover0_24 (p0 : Vec F S1x256x1024 .f32) (y : S1x256x1024.Idx) :
    ∃ pc ∈ ([⟨r0_2, p0⟩] : List (View.Piece (Elt F) S1x256x1024 .f32)), y ∈ pc.1.set :=
  View.cover_of_tiled [⟨r0_2, p0⟩] S1x256x1024.size (by rfl) y

/-- Window 25's staging buffer after the body, from the input windows' blocks: its 2 stores as pieces, LAST
    FIRST (Lib/Pipeline/FrameBody.lean `View.canon`; the payloads are the skeleton's and the values stated above). -/
def out0_25 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S2x1x256x1024 .f32 :=
  View.canon [⟨r0_18, k0_pay36 (k0_pay34 (k0_pay25 (k0_pay57 i x0 x1 x2 x3 x4 x5 x6 x7 x8 x9 x10 x11 x12 x13 x14 x15 x16 x17 x18 x19 x20 x21) (View.ld x10 r0_11)) (View.ld x9 r0_16) (View.ld x11 r0_17)) (k0_pay35 (F := F))⟩,
    ⟨r0_15, k0_pay28 (k0_pay57 i x0 x1 x2 x3 x4 x5 x6 x7 x8 x9 x10 x11 x12 x13 x14 x15 x16 x17 x18 x19 x20 x21) (View.ld x10 r0_11) (View.ld x9 r0_13) (View.ld x11 r0_14)⟩]

/-- Its stores tile the buffer (checked by evaluation), so they cover it. -/
theorem cover0_25 (p0 : Vec F S1x1x256x1024 .f32) (p1 : Vec F S1x1x256x1024 .f32) (y : S2x1x256x1024.Idx) :
    ∃ pc ∈ ([⟨r0_18, p0⟩, ⟨r0_15, p1⟩] : List (View.Piece (Elt F) S2x1x256x1024 .f32)), y ∈ pc.1.set :=
  View.cover_of_tiled [⟨r0_18, p0⟩, ⟨r0_15, p1⟩] S1x1x256x1024.size (by rfl) y

/-- Window 26's staging buffer after the body, from the input windows' blocks: its 2 stores as pieces, LAST
    FIRST (Lib/Pipeline/FrameBody.lean `View.canon`; the payloads are the skeleton's and the values stated above). -/
def out0_26 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S2x1x256x1024 .f32 :=
  View.canon [⟨r0_18, k0_pay39 (k0_pay65 i x0 x1 x2 x3 x4 x5 x6 x7 x8 x9 x10 x11 x12 x13 x14 x15 x16 x17 x18 x19 x20 x21)⟩,
    ⟨r0_15, k0_pay31 (k0_pay60 i x0 x1 x2 x3 x4 x5 x6 x7 x8 x9 x10 x11 x12 x13 x14 x15 x16 x17 x18 x19 x20 x21) (k0_pay63 i x0 x1 x2 x3 x4 x5 x6 x7 x8 x9 x10 x11 x12 x13 x14 x15 x16 x17 x18 x19 x20 x21) (View.ld x12 r0_13) (View.ld x14 r0_14) (View.ld x18 r0_1)⟩]

/-- Its stores tile the buffer (checked by evaluation), so they cover it. -/
theorem cover0_26 (p0 : Vec F S1x1x256x1024 .f32) (p1 : Vec F S1x1x256x1024 .f32) (y : S2x1x256x1024.Idx) :
    ∃ pc ∈ ([⟨r0_18, p0⟩, ⟨r0_15, p1⟩] : List (View.Piece (Elt F) S2x1x256x1024 .f32)), y ∈ pc.1.set :=
  View.cover_of_tiled [⟨r0_18, p0⟩, ⟨r0_15, p1⟩] S1x1x256x1024.size (by rfl) y

/-- Window 27's staging buffer after the body, from the input windows' blocks: its 2 stores as pieces, LAST
    FIRST (Lib/Pipeline/FrameBody.lean `View.canon`; the payloads are the skeleton's and the values stated above). -/
def out0_27 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S2x1x256x1024 .f32 :=
  View.canon [⟨r0_18, k0_pay40 (k0_pay62 i x0 x1 x2 x3 x4 x5 x6 x7 x8 x9 x10 x11 x12 x13 x14 x15 x16 x17 x18 x19 x20 x21) (k0_pay37 (k0_pay63 i x0 x1 x2 x3 x4 x5 x6 x7 x8 x9 x10 x11 x12 x13 x14 x15 x16 x17 x18 x19 x20 x21) (View.ld x12 r0_16) (View.ld x14 r0_17))⟩,
    ⟨r0_15, k0_pay32 (k0_pay62 i x0 x1 x2 x3 x4 x5 x6 x7 x8 x9 x10 x11 x12 x13 x14 x15 x16 x17 x18 x19 x20 x21) (k0_pay63 i x0 x1 x2 x3 x4 x5 x6 x7 x8 x9 x10 x11 x12 x13 x14 x15 x16 x17 x18 x19 x20 x21) (View.ld x12 r0_13) (View.ld x14 r0_14)⟩]

/-- Its stores tile the buffer (checked by evaluation), so they cover it. -/
theorem cover0_27 (p0 : Vec F S1x1x256x1024 .f32) (p1 : Vec F S1x1x256x1024 .f32) (y : S2x1x256x1024.Idx) :
    ∃ pc ∈ ([⟨r0_18, p0⟩, ⟨r0_15, p1⟩] : List (View.Piece (Elt F) S2x1x256x1024 .f32)), y ∈ pc.1.set :=
  View.cover_of_tiled [⟨r0_18, p0⟩, ⟨r0_15, p1⟩] S1x1x256x1024.size (by rfl) y

/-- Window 28's staging buffer after the body, from the input windows' blocks: its 1 store as pieces, LAST
    FIRST (Lib/Pipeline/FrameBody.lean `View.canon`; the payloads are the skeleton's and the values stated above). -/
def out0_28 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S1x256x1024 .f32 :=
  View.canon [⟨r0_2, k0_pay41 (k0_pay16 (k0_pay52 i x0 x1 x2 x3 x4 x5 x6 x7 x8 x9 x10 x11 x12 x13 x14 x15 x16 x17 x18 x19 x20 x21) (k0_pay54 i x0 x1 x2 x3 x4 x5 x6 x7 x8 x9 x10 x11 x12 x13 x14 x15 x16 x17 x18 x19 x20 x21) (k0_pay55 i x0 x1 x2 x3 x4 x5 x6 x7 x8 x9 x10 x11 x12 x13 x14 x15 x16 x17 x18 x19 x20 x21) (k0_pay53 i x0 x1 x2 x3 x4 x5 x6 x7 x8 x9 x10 x11 x12 x13 x14 x15 x16 x17 x18 x19 x20 x21) (k0_pay56 i x0 x1 x2 x3 x4 x5 x6 x7 x8 x9 x10 x11 x12 x13 x14 x15 x16 x17 x18 x19 x20 x21) (View.ld x5 r0_9)) (View.ld x15 r0_11) (View.ld x16 r0_12)⟩]

/-- Its stores tile the buffer (checked by evaluation), so they cover it. -/
theorem cover0_28 (p0 : Vec F S1x256x1024 .f32) (y : S1x256x1024.Idx) :
    ∃ pc ∈ ([⟨r0_2, p0⟩] : List (View.Piece (Elt F) S1x256x1024 .f32)), y ∈ pc.1.set :=
  View.cover_of_tiled [⟨r0_2, p0⟩] S1x256x1024.size (by rfl) y

/-- Window 29's staging buffer after the body, from the input windows' blocks: its 1 store as pieces, LAST
    FIRST (Lib/Pipeline/FrameBody.lean `View.canon`; the payloads are the skeleton's and the values stated above). -/
def out0_29 (i : grid0.Coords) (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) : Vec F S1x256x1024 .f32 :=
  View.canon [⟨r0_2, k0_pay46 (k0_pay61 i x0 x1 x2 x3 x4 x5 x6 x7 x8 x9 x10 x11 x12 x13 x14 x15 x16 x17 x18 x19 x20 x21) (k0_pay44 (k0_pay59 i x0 x1 x2 x3 x4 x5 x6 x7 x8 x9 x10 x11 x12 x13 x14 x15 x16 x17 x18 x19 x20 x21) (k0_pay64 i x0 x1 x2 x3 x4 x5 x6 x7 x8 x9 x10 x11 x12 x13 x14 x15 x16 x17 x18 x19 x20 x21) (k0_pay65 i x0 x1 x2 x3 x4 x5 x6 x7 x8 x9 x10 x11 x12 x13 x14 x15 x16 x17 x18 x19 x20 x21) (View.ld x19 r0_1)) (k0_pay45 (k0_pay59 i x0 x1 x2 x3 x4 x5 x6 x7 x8 x9 x10 x11 x12 x13 x14 x15 x16 x17 x18 x19 x20 x21) (k0_pay64 i x0 x1 x2 x3 x4 x5 x6 x7 x8 x9 x10 x11 x12 x13 x14 x15 x16 x17 x18 x19 x20 x21) (k0_pay65 i x0 x1 x2 x3 x4 x5 x6 x7 x8 x9 x10 x11 x12 x13 x14 x15 x16 x17 x18 x19 x20 x21) (View.ld x19 r0_1) (View.ld x20 r0_11)) (View.ld x20 r0_11) (View.ld x21 r0_12) (View.ld x21 r0_12)⟩]

/-- Its stores tile the buffer (checked by evaluation), so they cover it. -/
theorem cover0_29 (p0 : Vec F S1x256x1024 .f32) (y : S1x256x1024.Idx) :
    ∃ pc ∈ ([⟨r0_2, p0⟩] : List (View.Piece (Elt F) S1x256x1024 .f32)), y ∈ pc.1.set :=
  View.cover_of_tiled [⟨r0_2, p0⟩] S1x256x1024.size (by rfl) y

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨23, _⟩ => out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨24, _⟩ => out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨25, _⟩ => out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨26, _⟩ => out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨27, _⟩ => out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨28, _⟩ => out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨29, _⟩ => out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t)
    | ⟨_ + 30, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_23 (c : Dev nD) (t : Fin cfg0.N) : (dats m 0 c).after 23 t = out0_23 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_24 (c : Dev nD) (t : Fin cfg0.N) : (dats m 0 c).after 24 t = out0_24 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_25 (c : Dev nD) (t : Fin cfg0.N) : (dats m 0 c).after 25 t = out0_25 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_26 (c : Dev nD) (t : Fin cfg0.N) : (dats m 0 c).after 26 t = out0_26 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_27 (c : Dev nD) (t : Fin cfg0.N) : (dats m 0 c).after 27 t = out0_27 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_28 (c : Dev nD) (t : Fin cfg0.N) : (dats m 0 c).after 28 t = out0_28 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]
theorem after0_29 (c : Dev nD) (t : Fin cfg0.N) : (dats m 0 c).after 29 t = out0_29 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t))

end Cert.Proof.FeatFrame

end
-- ==== Proof.FeatFrame.lean ====
/- The run of the features' call: its body's triple, and the two frames. -/
module

public import proofs.«01_k».proof.Proof.FeatBlocks
public import proofs.«01_k».proof.Proof.Gen.FeatIdeal.Launch
public import proofs.«01_k».proof.Proof.Gen.FeatIdeal.Skeleton
public import proofs.«01_k».proof.Proof.Gen.FeatIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Proof.FeatFrame

open Cert.FeatIdeal Cert.FeatIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S1x256x1024 .f32) (harg2 : arg2.IsWhole) (arg3 : Memref sig .tc .vmem S1x8x1024 .f32) (harg3 : arg3.IsWhole) (arg4 : Memref sig .tc .vmem S1x8x1024 .f32) (harg4 : arg4.IsWhole) (arg5 : Memref sig .tc .vmem S1x1x6x1024 .f32) (harg5 : arg5.IsWhole) (arg6 : Memref sig .tc .vmem S1x1024 .f32) (harg6 : arg6.IsWhole) (arg7 : Memref sig .tc .vmem S6x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2x1024 .f32) (harg11 : arg11.IsWhole) (arg12 : Memref sig .tc .vmem S1024x128 .bf16) (harg12 : arg12.IsWhole) (arg13 : Memref sig .tc .vmem S2x128x1024 .bf16) (harg13 : arg13.IsWhole) (arg14 : Memref sig .tc .vmem S2x1024 .f32) (harg14 : arg14.IsWhole) (arg15 : Memref sig .tc .vmem S1024x128 .bf16) (harg15 : arg15.IsWhole) (arg16 : Memref sig .tc .vmem S2x128x1024 .bf16) (harg16 : arg16.IsWhole) (arg17 : Memref sig .tc .vmem S1024x128 .bf16) (harg17 : arg17.IsWhole) (arg18 : Memref sig .tc .vmem S128x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x1024 .f32) (harg21 : arg21.IsWhole) (arg22 : Memref sig .tc .vmem S1024x128 .bf16) (harg22 : arg22.IsWhole) (arg23 : Memref sig .tc .vmem S128x1024 .bf16) (harg23 : arg23.IsWhole) (arg24 : Memref sig .tc .vmem S1x256x1024 .f32) (harg24 : arg24.IsWhole) (arg25 : Memref sig .tc .vmem S1x256x1024 .f32) (harg25 : arg25.IsWhole) (arg26 : Memref sig .tc .vmem S1x256x1024 .f32) (harg26 : arg26.IsWhole) (arg27 : Memref sig .tc .vmem S2x1x256x1024 .f32) (harg27 : arg27.IsWhole) (arg28 : Memref sig .tc .vmem S2x1x256x1024 .f32) (harg28 : arg28.IsWhole) (arg29 : Memref sig .tc .vmem S2x1x256x1024 .f32) (harg29 : arg29.IsWhole) (arg30 : Memref sig .tc .vmem S1x256x1024 .f32) (harg30 : arg30.IsWhole) (arg31 : Memref sig .tc .vmem S1x256x1024 .f32) (harg31 : arg31.IsWhole)
    (x0 : Vec F S1x256x1024 .f32) (x1 : Vec F S1x8x1024 .f32) (x2 : Vec F S1x8x1024 .f32) (x3 : Vec F S1x1x6x1024 .f32) (x4 : Vec F S1x1024 .f32) (x5 : Vec F S6x1024 .f32) (x6 : Vec F S1024x1024 .bf16) (x7 : Vec F S1024x1024 .bf16) (x8 : Vec F S1024x1024 .bf16) (x9 : Vec F S2x1024 .f32) (x10 : Vec F S1024x128 .bf16) (x11 : Vec F S2x128x1024 .bf16) (x12 : Vec F S2x1024 .f32) (x13 : Vec F S1024x128 .bf16) (x14 : Vec F S2x128x1024 .bf16) (x15 : Vec F S1024x128 .bf16) (x16 : Vec F S128x1024 .bf16) (x17 : Vec F S1x1024 .f32) (x18 : Vec F S1x1024 .f32) (x19 : Vec F S1x1024 .f32) (x20 : Vec F S1024x128 .bf16) (x21 : Vec F S128x1024 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare (out0_22 i x0 x1 x2 x3 x4 x5 x6 x7 x8 x9 x10 x11 x12 x13 x14 x15 x16 x17 x18 x19 x20 x21) ∗ owns (c : Thread nD τ) arg25 fullShare (out0_23 i x0 x1 x2 x3 x4 x5 x6 x7 x8 x9 x10 x11 x12 x13 x14 x15 x16 x17 x18 x19 x20 x21) ∗ owns (c : Thread nD τ) arg26 fullShare (out0_24 i x0 x1 x2 x3 x4 x5 x6 x7 x8 x9 x10 x11 x12 x13 x14 x15 x16 x17 x18 x19 x20 x21) ∗ owns (c : Thread nD τ) arg27 fullShare (out0_25 i x0 x1 x2 x3 x4 x5 x6 x7 x8 x9 x10 x11 x12 x13 x14 x15 x16 x17 x18 x19 x20 x21) ∗ owns (c : Thread nD τ) arg28 fullShare (out0_26 i x0 x1 x2 x3 x4 x5 x6 x7 x8 x9 x10 x11 x12 x13 x14 x15 x16 x17 x18 x19 x20 x21) ∗ owns (c : Thread nD τ) arg29 fullShare (out0_27 i x0 x1 x2 x3 x4 x5 x6 x7 x8 x9 x10 x11 x12 x13 x14 x15 x16 x17 x18 x19 x20 x21) ∗ owns (c : Thread nD τ) arg30 fullShare (out0_28 i x0 x1 x2 x3 x4 x5 x6 x7 x8 x9 x10 x11 x12 x13 x14 x15 x16 x17 x18 x19 x20 x21) ∗ owns (c : Thread nD τ) arg31 fullShare (out0_29 i x0 x1 x2 x3 x4 x5 x6 x7 x8 x9 x10 x11 x12 x13 x14 x15 x16 x17 x18 x19 x20 x21)) -∗ K ⟨⟩))
      ⊢ wp frame (wpE (defs₀ (F := F)) Variants.none c none) E (cc0_rwkv_feat i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  simp only [cc0_rwkv_feat_eq_skeleton]; unfold cc0_rwkv_feat_skel
  simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, Hk⟩
  subst hf0 hf1 hf2 hf3 hf4 hf5 hf6 hf7 hf8 hf9 hf10 hf11 hf12 hf13 hf14 hf15 hf16 hf17 hf18 hf19 hf20 hf21
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _ _)).trans ?_
    rfl
  isplitl [H26]
  · iexists _; isplitr
    swap; · iexact H26
    ipureintro
    refine (View.read_writes_eq_canon _ _ _ (cover0_26 _ _)).trans ?_
    rfl
  isplitl [H27]
  · iexists _; isplitr
    swap; · iexact H27
    ipureintro
    refine (View.read_writes_eq_canon _ _ _ (cover0_27 _ _)).trans ?_
    rfl
  isplitl [H28]
  · iexists _; isplitr
    swap; · iexact H28
    ipureintro
    refine (View.read_writes_eq_canon _ _ _ (cover0_28 _)).trans ?_
    rfl
  iexists _; isplitr
  swap; · iexact H29
  ipureintro
  refine (View.read_writes_eq_canon _ _ _ (cover0_29 _)).trans ?_
  rfl

set_option maxHeartbeats 8000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iintro ⟨H0, H1, H2, H3, H4, H5, H6, H7, H8, H9, H10, H11, H12, H13, H14, H15, H16, H17, H18, H19, H20, H21, H22, H23, H24, H25, H26, H27, H28, H29⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  iexact H29

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

/-- THE FRAME: `Cert.quiescent_FeatIdeal`'s statement (Defs.lean) at any `F` — Proof.lean cites it at `Bits`:
    `theorem Cert.Proof.claim : Cert.Claim := ⟨Cert.FeatIdeal.Gen.facts, fun m ρ _ => Cert.FeatIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17))
      ∧ r.2.sem = fun _ => 0) :=
  θ_run_and (unchanged m ρ) ((θ_run defs _ _).mono (fun _ h => h.2) (run_main_quiescent m ρ))

end Cert.Proof.FeatFrame

end
-- ==== Proof.FeatBits.lean ====
/- The features' call: its frames. The kernel's program and the idealized kernel's are one text, so one run gives both. -/
module

public import proofs.«01_k».proof.Defs
public import proofs.«01_k».proof.Proof.FeatFrame
public import proofs.«01_k».proof.Proof.MoeFrame
public import proofs.«01_k».proof.Proof.Gen.Feat.Skeleton

@[expose] public section

set_option maxRecDepth 16384

noncomputable section

namespace Cert.Proof.FeatBits

open Idealize.ShloMosaic Idealize.ShloMosaic.TcCoe Idealize.SL.Sem

variable {F : FTy → Type} [FloatOps F]

set_option maxHeartbeats 40000000 in
/-- The two programs' bodies are the same at every label. -/
theorem bodies_eq : Cert.Feat.defs₀ (F := F) = Cert.FeatIdeal.defs₀ (F := F) := by
  funext p l a
  cases p with
  | tc =>
    obtain ⟨v, h⟩ := l
    cases v with
    | zero => obtain ⟨t, s⟩ := a; rfl
    | succ v => exact absurd h (by show ¬ v + 1 < 1; omega)
  | scScalar _ => rfl
  | scVector _ _ => rfl

set_option maxHeartbeats 40000000 in
/-- So are their definitions. -/
theorem defs_eq : Cert.Feat.defs (F := F) = Cert.FeatIdeal.defs (F := F) :=
  congrArg (Pipeline.defs (Cert.FeatIdeal.pcfgs (F := F))) bodies_eq

set_option maxHeartbeats 40000000 in
/-- And their host programs. -/
theorem main_eq : Cert.Feat.main (F := F) = Cert.FeatIdeal.main (F := F) := rfl

set_option maxHeartbeats 8000000 in
/-- The kernel keeps its arguments: the idealized kernel's run, at the kernel's own floats. -/
theorem frame : quiescent_Feat := fun m g _ =>
  MoeFrame.transport (nD := Cert.FeatIdeal.nD) (τ := Cert.FeatIdeal.τ) (sig := Cert.FeatIdeal.sig) (defs_eq (F := Bits)).symm main_eq.symm
    (FeatFrame.frame (F := Bits) m g)

/-- So does the idealized kernel. -/
theorem frameIdeal : quiescent_FeatIdeal := fun m g _ => FeatFrame.frame (F := Ideal) m g

end Cert.Proof.FeatBits
-- ==== Proof.FeatMath.lean ====
/- The features of one token: its modulated norm mixed with its two neighbours', and the products of the mixed rows. -/
module

public import proofs.«01_k».proof.Proof.OutMath

@[expose] public section

set_option maxRecDepth 16384

noncomputable section

namespace Cert.Proof.FeatMath

open Idealize.ShloMosaic

/-- The modulation a token takes: the context's for the first 256 tokens, the latent's for the others. -/
abbrev kind (n : Fin 4352) : Fin 2 := ⟨min (n.val / 256) 1, by omega⟩

/-- A row moved towards the mean of its two neighbours by a weight. -/
def mixed (h p q w : EReal) : EReal := h + (Ideal.ofBits .f32 0x3F000000#32 * (p + q) - h) * w

/-- The row before a token's, zero for the first token of the context and of the latent. -/
def before (H : Fin 4352 → Fin 1024 → EReal) (n : Fin 4352) (j : Fin 1024) : EReal :=
  if n.val = 0 ∨ n.val = 256 then 0 else H ⟨n.val - 1, by have := n.isLt; omega⟩ j

/-- The row after a token's, zero for the last token of the context and of the latent. -/
def after (H : Fin 4352 → Fin 1024 → EReal) (n : Fin 4352) (j : Fin 1024) : EReal :=
  if h : n.val = 255 ∨ n.val = 4351 then 0 else H ⟨n.val + 1, by have := n.isLt; omega⟩ j

/-- A token's row mixed with its neighbours'. -/
def mixRow (H : Fin 4352 → Fin 1024 → EReal) (w : Fin 1024 → EReal) (n : Fin 4352) (j : Fin 1024) : EReal :=
  mixed (H n j) (before H n j) (after H n j) (w j)

/-- A row through a matrix. -/
def project (f : Fin 1024 → EReal) (w : Fin 1024 → Fin 1024 → EReal) (j : Fin 1024) : EReal := ∑ k : Fin 1024, f k * w k j

/-- The logistic function. -/
def logistic (z : EReal) : EReal :=
  Ideal.div (Ideal.ofBits .f32 0x3F800000#32) (Ideal.ofBits .f32 0x3F800000#32 + Ideal.exp (-z))

/-- A row through a matrix of 128 columns, the logistic function and a second matrix. -/
def gateRow (f : Fin 1024 → EReal) (g1 : Fin 1024 → Fin 128 → EReal) (g2 : Fin 128 → Fin 1024 → EReal) (j : Fin 1024) : EReal :=
  ∑ l : Fin 128, logistic (∑ k : Fin 1024, f k * g1 k l) * g2 l j

/-- A block's row above, the first one's given apart. -/
def above (h : Fin 256 → Fin 1024 → EReal) (p : Fin 1024 → EReal) (r : Fin 256) (j : Fin 1024) : EReal :=
  if r.val = 0 then p j else h ⟨r.val - 1, by have := r.isLt; omega⟩ j

/-- A block's row below, the last one's given apart. -/
def below (h : Fin 256 → Fin 1024 → EReal) (q : Fin 1024 → EReal) (r : Fin 256) (j : Fin 1024) : EReal :=
  if h' : r.val = 255 then q j else h ⟨r.val + 1, by have := r.isLt; omega⟩ j

end Cert.Proof.FeatMath
-- ==== Proof.FeatTile.lean ====
/- The payloads of the features' body over its blocks, read at a row and a column. -/
module

public import proofs.«01_k».proof.Proof.FeatBlocks
public import Idealize.ShloMosaic.Lib.Pipeline.ValueKit.Tiles
public import Idealize.ShloMosaic.Lib.KernelVsHost
public import proofs.«01_k».proof.Proof.MoeTile
public import proofs.«01_k».proof.Proof.FeatMath

@[expose] public section

set_option maxRecDepth 16384

noncomputable section

namespace Cert.Proof.FeatTile

open Cert.FeatIdeal Cert.FeatIdeal.Gen Cert.Proof.FeatFrame
open Idealize.ShloMosaic Idealize.ShloMosaic.ValueIdx
open Cert.Tile Cert.Proof.MoeTile Cert.Proof.OutMath Cert.Proof.FeatMath

/-- A block's rows over the roots of their mean squares, weighted, scaled and shifted, as the body takes them. -/
def normBlock {n : Nat} (hr : (⟨2, ![n, 1024]⟩ : Shape).Reduces [1] ⟨1, ![n]⟩) (hc : (⟨1, ![n]⟩ : Shape).ShapeCasts ⟨2, ![n, 1]⟩)
    (hb : (⟨2, ![n, 1]⟩ : Shape).Broadcasts ⟨2, ![n, 1024]⟩) (hw : (⟨2, ![1, 1024]⟩ : Shape).Broadcasts ⟨2, ![n, 1024]⟩)
    (y : FVec Ideal ⟨2, ![n, 1024]⟩ .f32) (w s t : FVec Ideal ⟨2, ![1, 1024]⟩ .f32) : FVec Ideal ⟨2, ![n, 1024]⟩ .f32 :=
  addf (mulf (mulf (mulf y (broadcastTo ⟨2, ![n, 1024]⟩ (rsqrt (addf (mulf
      (shapeCast ⟨2, ![n, 1]⟩ (multiReduction .add [1] ⟨1, ![n]⟩ (mulf y y) 0x00000000#32 hr (.inl rfl) rfl) hc)
      (broadcast ⟨2, ![n, 1]⟩ (Scalar.ofBits .f32 0x3A800000#32))) (broadcast ⟨2, ![n, 1]⟩ (Scalar.ofBits .f32 0x358637BD#32)))) hb))
    (broadcastTo ⟨2, ![n, 1024]⟩ w hw))
    (broadcastTo ⟨2, ![n, 1024]⟩ (addf (broadcast ⟨2, ![1, 1024]⟩ (Scalar.ofBits .f32 0x3F800000#32)) s) hw))
    (broadcastTo ⟨2, ![n, 1024]⟩ t hw)

/-- At a row and a column it is the row's modulated norm. -/
theorem normBlock_apply {n : Nat} (hn : n ≠ 1) (hr : (⟨2, ![n, 1024]⟩ : Shape).Reduces [1] ⟨1, ![n]⟩)
    (hc : (⟨1, ![n]⟩ : Shape).ShapeCasts ⟨2, ![n, 1]⟩)
    (hb : (⟨2, ![n, 1]⟩ : Shape).Broadcasts ⟨2, ![n, 1024]⟩) (hw : (⟨2, ![1, 1024]⟩ : Shape).Broadcasts ⟨2, ![n, 1024]⟩)
    (y : FVec Ideal ⟨2, ![n, 1024]⟩ .f32) (w s t : FVec Ideal ⟨2, ![1, 1024]⟩ .f32) (r : Fin n) (j : Fin 1024) :
    normBlock hr hc hb hw y w s t (ix2 r j)
      = normed (fun j => y (ix2 r j)) (fun j => w (ix2 0 j)) (fun j => s (ix2 0 j)) (fun j => t (ix2 0 j)) j := by
  unfold normBlock normed
  refine congrArg₂ (fun a b : EReal => a + b) ?_ (down_apply (by decide) _ _ r j)
  refine congrArg₂ (fun a b : EReal => a * b) ?_ (down_apply (by decide) _ _ r j)
  refine congrArg₂ (fun a b : EReal => a * b) ?_ (down_apply (by decide) _ _ r j)
  refine congrArg (fun a : EReal => y (ix2 r j) * a) ?_
  refine (broadcastTo_apply _ hb (ix2 r j) (ix2 r 0) (fun a => match a with
    | ⟨0, _⟩ => by show r.val = if n = 1 then 0 else r.val; rw [if_neg hn]
    | ⟨1, _⟩ => by show 0 = if (1 : Nat) = 1 then 0 else j.val; rw [if_pos rfl])).trans ?_
  refine congrArg (fun a : EReal => Ideal.rsqrt (a * Ideal.ofBits .f32 0x3A800000#32 + Ideal.ofBits .f32 0x358637BD#32)) ?_
  refine (shapeCast_apply _ hc (ix2 r 0) (ix1 r) (by
    rw [Shape.rowMajor_val_one, Shape.rowMajor_val_two]; show r.val = r.val * 1 + 0; omega)).trans ?_
  refine (Ideal.multiReduction_add_single (mulf y y) 0x00000000#32 hr (.inl rfl) rfl (ix1 r)).trans ?_
  refine Finset.sum_congr rfl fun i _ => ?_
  refine congrArg (fun i' : (⟨2, ![n, 1024]⟩ : Shape).Idx => (y i' * y i' : EReal)) (funext fun a => Fin.ext ?_)
  match a with
  | ⟨0, _⟩ => rfl
  | ⟨1, _⟩ => rfl

/-- A row of the modulation block. -/
theorem row_apply (v : FVec Ideal S1x1x6x1024 .f32) (o : Nat) (r : Fin 6) (ho : r.val = o) (hs : (S6x1024 : Shape).Slices ![o, 0] S1x1024) (j : Fin 1024) :
    extractStridedSlice S1x1024 ![o, 0] (k0_pay1 (F := Ideal) v) hs (ix2 0 j) = v (ix4 0 0 r j) := by
  refine (extractStridedSlice_apply ![o, 0] (k0_pay1 (F := Ideal) v) hs (ix2 0 j) (ix2 r j) (fun a => match a with
    | ⟨0, _⟩ => by show r.val = o + 0; omega
    | ⟨1, _⟩ => by show j.val = 0 + j.val; omega)).trans ?_
  unfold k0_pay1
  exact drop2_apply v _ r j

/-- The weights as the body takes them. -/
theorem pay2_apply (w : FVec Ideal S1x1024 .f32) (j : Fin 1024) : k0_pay2 (F := Ideal) w (ix2 0 j) = w (ix2 0 j) := by
  unfold k0_pay2
  exact shapeCast_apply w _ (ix2 0 j) (ix2 0 j) rfl

/-- The modulated norm of a row of a block of `n` rows. -/
def hidden {n : Nat} (y : FVec Ideal ⟨3, ![1, n, 1024]⟩ .f32) (v : FVec Ideal S1x1x6x1024 .f32) (w : FVec Ideal S1x1024 .f32) (r : Fin n) : Fin 1024 → EReal :=
  normed (fun j => y (ix3 0 r j)) (fun j => w (ix2 0 j)) (fun j => v (ix4 0 0 1 j)) (fun j => v (ix4 0 0 0 j))

/-- The composed norm of a block with a unit axis. -/
theorem hidden_apply {n : Nat} (hn : n ≠ 1) (hr : (⟨2, ![n, 1024]⟩ : Shape).Reduces [1] ⟨1, ![n]⟩)
    (hc : (⟨1, ![n]⟩ : Shape).ShapeCasts ⟨2, ![n, 1]⟩) (hd : (⟨3, ![1, n, 1024]⟩ : Shape).ShapeCasts ⟨2, ![n, 1024]⟩)
    (hb : (⟨2, ![n, 1]⟩ : Shape).Broadcasts ⟨2, ![n, 1024]⟩) (hw : (⟨2, ![1, 1024]⟩ : Shape).Broadcasts ⟨2, ![n, 1024]⟩)
    (h1 : (S6x1024 : Shape).Slices ![1, 0] S1x1024) (h0 : (S6x1024 : Shape).Slices ![0, 0] S1x1024)
    (y : FVec Ideal ⟨3, ![1, n, 1024]⟩ .f32) (v : FVec Ideal S1x1x6x1024 .f32) (w : FVec Ideal S1x1024 .f32) (r : Fin n) (j : Fin 1024) :
    normBlock hr hc hb hw (shapeCast ⟨2, ![n, 1024]⟩ y hd) (k0_pay2 (F := Ideal) w) (extractStridedSlice S1x1024 ![1, 0] (k0_pay1 (F := Ideal) v) h1)
        (extractStridedSlice S1x1024 ![0, 0] (k0_pay1 (F := Ideal) v) h0) (ix2 r j) = hidden y v w r j := by
  refine (normBlock_apply hn hr hc hb hw _ _ _ _ r j).trans ?_
  unfold hidden
  have ey : (fun j : Fin 1024 => shapeCast ⟨2, ![n, 1024]⟩ y hd (ix2 r j)) = _ := funext fun j => drop1_apply y hd r j
  have ew : (fun j : Fin 1024 => k0_pay2 (F := Ideal) w (ix2 0 j)) = _ := funext fun j => pay2_apply w j
  have e1 : (fun j : Fin 1024 => extractStridedSlice S1x1024 ![1, 0] (k0_pay1 (F := Ideal) v) h1 (ix2 0 j)) = _ := funext fun j => row_apply v 1 1 rfl h1 j
  have e0 : (fun j : Fin 1024 => extractStridedSlice S1x1024 ![0, 0] (k0_pay1 (F := Ideal) v) h0 (ix2 0 j)) = _ := funext fun j => row_apply v 0 0 rfl h0 j
  rw [ey, ew, e1, e0]

/-- The block's modulated norms. -/
theorem pay3_apply (v : FVec Ideal S1x1x6x1024 .f32) (w : FVec Ideal S1x1024 .f32) (y : FVec Ideal S1x256x1024 .f32) (r : Fin 256) (j : Fin 1024) :
    k0_pay3 (F := Ideal) v w y (ix2 r j) = hidden y v w r j := by
  unfold k0_pay3
  exact hidden_apply (n := 256) (by decide) _ _ _ _ _ _ _ y v w r j

/-- The row before the block, by its condition. -/
theorem pay8_apply (v : FVec Ideal S1x1x6x1024 .f32) (w : FVec Ideal S1x1024 .f32) (f : Ideal .f32) (y : FVec Ideal S1x8x1024 .f32) (j : Fin 1024) :
    k0_pay8 (F := Ideal) (k0_pay1 (F := Ideal) v) (k0_pay2 (F := Ideal) w) f (k0_pay6 (F := Ideal) y) (k0_pay7 (F := Ideal) y) (ix2 0 j)
      = hidden y v w (7 : Fin 8) j * f := by
  unfold k0_pay8 k0_pay7 k0_pay6
  refine congrArg (fun a : EReal => a * f) ?_
  refine (extractStridedSlice_apply ![7, 0] _ _ (ix2 0 j) (ix2 (7 : Fin 8) j) (fun a => match a with
    | ⟨0, _⟩ => by show 7 = 7 + 0; rfl
    | ⟨1, _⟩ => by show j.val = 0 + j.val; omega)).trans ?_
  exact hidden_apply (n := 8) (by decide) _ _ _ _ _ _ _ y v w 7 j

/-- The row after the block, by its condition. -/
theorem pay9_apply (v : FVec Ideal S1x1x6x1024 .f32) (w : FVec Ideal S1x1024 .f32) (f : Ideal .f32) (y : FVec Ideal S1x8x1024 .f32) (j : Fin 1024) :
    k0_pay9 (F := Ideal) (k0_pay1 (F := Ideal) v) (k0_pay2 (F := Ideal) w) f y (ix2 0 j) = hidden y v w (0 : Fin 8) j * f := by
  unfold k0_pay9
  refine congrArg (fun a : EReal => a * f) ?_
  refine (extractStridedSlice_apply ![0, 0] _ _ (ix2 0 j) (ix2 (0 : Fin 8) j) (fun a => match a with
    | ⟨0, _⟩ => by show 0 = 0 + 0; rfl
    | ⟨1, _⟩ => by show j.val = 0 + j.val; omega)).trans ?_
  exact hidden_apply (n := 8) (by decide) _ _ _ _ _ _ _ y v w 0 j

/-- Whether a row before the block counts: from the second latent block on. -/
theorem pay4_eq (i : grid0.Coords) : k0_pay4 (F := Ideal) i = if 2 ≤ (i 1).val then (1 : EReal) else 0 := by
  have h : ∀ k : Fin 17, (Scalar.extui (Scalar.cmpi .sge (BitVec.ofNat 32 k.val) 2#32)).toInt = if 2 ≤ k.val then 1 else 0 := by decide +kernel
  show ((((Scalar.extui (Scalar.cmpi .sge (BitVec.ofNat 32 (i 1).val) 2#32)).toInt : ℤ) : ℝ) : EReal) = _
  rw [h (i 1)]
  split <;> simp

/-- Whether a row after the block counts: for the latent blocks but the last. -/
theorem pay5_eq (i : grid0.Coords) : k0_pay5 (F := Ideal) i = if 1 ≤ (i 1).val ∧ (i 1).val < 16 then (1 : EReal) else 0 := by
  have h : ∀ k : Fin 17, (Scalar.extui (Scalar.andi (Scalar.cmpi .sge (BitVec.ofNat 32 k.val) 1#32) (Scalar.cmpi .slt (BitVec.ofNat 32 k.val) 16#32))).toInt
      = if 1 ≤ k.val ∧ k.val < 16 then 1 else 0 := by decide +kernel
  show ((((Scalar.extui (Scalar.andi (Scalar.cmpi .sge (BitVec.ofNat 32 (i 1).val) 1#32)
    (Scalar.cmpi .slt (BitVec.ofNat 32 (i 1).val) 16#32))).toInt : ℤ) : ℝ) : EReal) = _
  rw [h (i 1)]
  split <;> simp

/-- The body's choices of a row by its number. -/
theorem first_row : ∀ r : Fin 256, IntOp.cmpi .eq (BitVec.ofNat 32 r.val) 0#32 = if r.val = 0 then 1#1 else 0#1 := by decide +kernel
theorem last_row : ∀ r : Fin 256, IntOp.cmpi .eq (BitVec.ofNat 32 r.val) 255#32 = if r.val = 255 then 1#1 else 0#1 := by decide +kernel

/-- The weight of the mix with the neighbours, at a row and a column. -/
theorem pay11_apply (h : FVec Ideal S256x1024 .f32) (p q : FVec Ideal S1x1024 .f32) (r : Fin 256) (j : Fin 1024) :
    k0_pay11 (F := Ideal) h p q (iota .tc S256x1024 32 [0] iota_S256x1024_d0_w32) k0_pay10 (ix2 r j)
      = Ideal.ofBits .f32 0x3F000000#32 * (above (fun r j => h (ix2 r j)) (fun j => p (ix2 0 j)) r j
          + below (fun r j => h (ix2 r j)) (fun j => q (ix2 0 j)) r j) - h (ix2 r j) := by
  unfold k0_pay11 k0_pay10
  have ei : iota .tc S256x1024 32 [0] iota_S256x1024_d0_w32 (ix2 r j : S256x1024.Idx) = BitVec.ofNat 32 r.val :=
    iota_single_apply .tc S256x1024 32 0 _ (ix2 r j)
  have hr := r.isLt
  refine congrArg (fun a : EReal => Ideal.ofBits .f32 0x3F000000#32 * a - h (ix2 r j)) ?_
  refine congrArg₂ (fun a b : EReal => a + b) ?_ ?_
  · refine (select_apply _ _ _ (ix2 r j)).trans ?_
    show Scalar.select (IntOp.cmpi .eq (iota .tc S256x1024 32 [0] iota_S256x1024_d0_w32 (ix2 r j : S256x1024.Idx)) 0#32) _ _ = _
    rw [ei, first_row r]
    unfold above
    by_cases hz : r.val = 0
    · rw [if_pos hz, if_pos hz]
      refine (down_apply (by decide) (shapeCast S1x1024 p shapeCasts_S1x1024_S1x1024) broadcasts_S1x1024_S256x1024 r j).trans ?_
      exact shapeCast_apply p _ (ix2 0 j) (ix2 0 j) rfl
    · rw [if_neg hz, if_neg hz]
      exact dynamicRotate_apply (0 : Fin 2) 1#32 h rotates_S256x1024_d0 (ix2 r j) (ix2 ⟨r.val - 1, by omega⟩ j) (fun b => match b with
        | ⟨0, _⟩ => by show r.val - 1 = (r.val + 256 - 1 % 256) % 256; omega
        | ⟨1, _⟩ => rfl)
  · refine (select_apply _ _ _ (ix2 r j)).trans ?_
    show Scalar.select (IntOp.cmpi .eq (iota .tc S256x1024 32 [0] iota_S256x1024_d0_w32 (ix2 r j : S256x1024.Idx)) 255#32) _ _ = _
    rw [ei, last_row r]
    unfold below
    by_cases hz : r.val = 255
    · rw [if_pos hz, dif_pos hz]
      refine (down_apply (by decide) (shapeCast S1x1024 q shapeCasts_S1x1024_S1x1024) broadcasts_S1x1024_S256x1024 r j).trans ?_
      exact shapeCast_apply q _ (ix2 0 j) (ix2 0 j) rfl
    · rw [if_neg hz, dif_neg hz]
      exact dynamicRotate_apply (0 : Fin 2) 255#32 h rotates_S256x1024_d0 (ix2 r j) (ix2 ⟨r.val + 1, by omega⟩ j) (fun b => match b with
        | ⟨0, _⟩ => by show r.val + 1 = (r.val + 256 - 255 % 256) % 256; omega
        | ⟨1, _⟩ => rfl)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- A product of a block of rows by a matrix. -/
theorem product_apply (a : FVec Ideal S256x1024 .bf16) (b : FVec Ideal S1024x1024 .bf16) (h : (S1024x1024 : Shape).ShapeCasts S1024x1024)
    (r : Fin 256) (j : Fin 1024) :
    matmul dot_S256x1024_S1024x1024_S256x1024_1_0_0_1_n_n none a (shapeCast S1024x1024 b h) (constant S256x1024 .f32 0x00000000#32) (ix2 r j)
      = project (fun k => a (ix2 r k)) (fun k j => b (ix2 k j)) j := by
  refine (Ideal.matmul_plain_apply (M := 256) (K := 1024) (N := 1024) (φ₁ := .bf16) (φ₂ := .bf16) none _ _ _ r j).trans ?_
  refine (congrArg (fun z : EReal => z + _) Ideal.ofBits_zero_f32).trans ((zero_add _).trans (Finset.sum_congr rfl fun k _ => ?_))
  exact congrArg (fun q : EReal => a (ix2 r k) * q) (shapeCast_apply b h (ix2 k j) (ix2 k j) rfl)

/-- The gate's payload: a product, the logistic function and a second product. -/
theorem pay41_apply (a : FVec Ideal S256x1024 .f32) (b : FVec Ideal S1024x128 .bf16) (d : FVec Ideal S128x1024 .bf16) (r : Fin 256) (j : Fin 1024) :
    k0_pay41 (F := Ideal) a b d (ix3 0 r j) = gateRow (fun k => a (ix2 r k)) (fun k l => b (ix2 k l)) (fun l j => d (ix2 l j)) j := by
  unfold k0_pay41 gateRow
  refine (add1_apply _ _ r j).trans ?_
  refine (Ideal.matmul_plain_apply (M := 256) (K := 128) (N := 1024) (φ₁ := .bf16) (φ₂ := .bf16) none _ _ _ r j).trans ?_
  refine (congrArg (fun z : EReal => z + _) Ideal.ofBits_zero_f32).trans ((zero_add _).trans (Finset.sum_congr rfl fun l _ => ?_))
  refine congrArg₂ (fun p q : EReal => p * q) ?_ (shapeCast_apply d _ (ix2 l j) (ix2 l j) rfl)
  unfold FeatMath.logistic
  refine congrArg (fun z : EReal => Ideal.div (Ideal.ofBits .f32 0x3F800000#32) (Ideal.ofBits .f32 0x3F800000#32 + Ideal.exp z)) ?_
  refine (Ideal.subf_zero_eq_hostNegf _).trans ?_
  refine congrArg (fun z : EReal => -z) ?_
  refine (Ideal.matmul_plain_apply (M := 256) (K := 1024) (N := 128) (φ₁ := .bf16) (φ₂ := .bf16) none _ _ _ r l).trans ?_
  refine (congrArg (fun z : EReal => z + _) Ideal.ofBits_zero_f32).trans ((zero_add _).trans (Finset.sum_congr rfl fun k _ => ?_))
  exact congrArg (fun q : EReal => a (ix2 r k) * q) (shapeCast_apply b _ (ix2 k l) (ix2 k l) rfl)

variable (i : grid0.Coords) (x0 : Vec Ideal S1x256x1024 .f32) (x1 x2 : Vec Ideal S1x8x1024 .f32) (x3 : Vec Ideal S1x1x6x1024 .f32)
  (x4 : Vec Ideal S1x1024 .f32) (x5 : Vec Ideal S6x1024 .f32) (x6 x7 x8 : Vec Ideal S1024x1024 .bf16) (x9 : Vec Ideal S2x1024 .f32)
  (x10 : Vec Ideal S1024x128 .bf16) (x11 : Vec Ideal S2x128x1024 .bf16) (x12 : Vec Ideal S2x1024 .f32) (x13 : Vec Ideal S1024x128 .bf16)
  (x14 : Vec Ideal S2x128x1024 .bf16) (x15 : Vec Ideal S1024x128 .bf16) (x16 : Vec Ideal S128x1024 .bf16)
  (x17 x18 x19 : Vec Ideal S1x1024 .f32) (x20 : Vec Ideal S1024x128 .bf16) (x21 : Vec Ideal S128x1024 .bf16)

/-- A row of the mixing weights, as loaded. -/
theorem mix_apply (o : Nat) (q : Fin 6) (ho : q.val = o) (hi : ∀ a, (![o, 0] : Fin 2 → Nat) a + S1x1024.size a ≤ S6x1024.size a) (j : Fin 1024) :
    View.ld x5 (Rect.unit (s := S6x1024) ![o, 0] S1x1024.size hi) (ix2 0 j : S1x1024.Idx) = x5 (ix2 q j) :=
  View.ld_unit_apply_of x5 ![o, 0] S1x1024.size hi (ix2 0 j) (ix2 q j) (fun a => match a with
    | ⟨0, _⟩ => by show q.val = o + 0; omega
    | ⟨1, _⟩ => by show j.val = 0 + j.val; omega)

/-- The row before a block and the row after it, as the body takes them. -/
def prevRow (j : Fin 1024) : EReal := hidden x1 x3 x4 (7 : Fin 8) j * (if 2 ≤ (i 1).val then (1 : EReal) else 0)
def nextRow (j : Fin 1024) : EReal := hidden x2 x3 x4 (0 : Fin 8) j * (if 1 ≤ (i 1).val ∧ (i 1).val < 16 then (1 : EReal) else 0)

/-- A row of the block mixed with its neighbours by a row of the weights. -/
def mixTile (q : Fin 6) (r : Fin 256) (j : Fin 1024) : EReal :=
  mixed (hidden x0 x3 x4 r j) (above (hidden x0 x3 x4) (prevRow i x1 x3 x4) r j) (below (hidden x0 x3 x4) (nextRow i x2 x3 x4) r j) (x5 (ix2 q j))

/-- The mixed block, as the body composes it. -/
theorem mixed_apply (w : FVec Ideal S1x1024 .f32) (q : Fin 6) (hw : ∀ j, w (ix2 0 j) = x5 (ix2 q j))
    (hb : (S1x1024 : Shape).Broadcasts S256x1024) (r : Fin 256) (j : Fin 1024) :
    addf (k0_pay3 (F := Ideal) (View.ld x3 r0_0) (View.ld x4 r0_1) (View.ld x0 r0_2))
        (mulf (k0_pay11 (F := Ideal) (k0_pay3 (F := Ideal) (View.ld x3 r0_0) (View.ld x4 r0_1) (View.ld x0 r0_2))
          (k0_pay8 (F := Ideal) (k0_pay1 (F := Ideal) (View.ld x3 r0_0)) (k0_pay2 (F := Ideal) (View.ld x4 r0_1)) (k0_pay4 (F := Ideal) i)
            (k0_pay6 (F := Ideal) (View.ld x1 r0_3)) (k0_pay7 (F := Ideal) (View.ld x1 r0_3)))
          (k0_pay9 (F := Ideal) (k0_pay1 (F := Ideal) (View.ld x3 r0_0)) (k0_pay2 (F := Ideal) (View.ld x4 r0_1)) (k0_pay5 (F := Ideal) i)
            (View.ld x2 r0_3))
          (iota .tc S256x1024 32 [0] iota_S256x1024_d0_w32) k0_pay10) (broadcastTo S256x1024 w hb)) (ix2 r j)
      = mixTile i x0 x1 x2 x3 x4 x5 q r j := by
  rw [View.ld_unit_zero zero4, View.ld_unit_zero zero2, View.ld_unit_zero zero3, View.ld_unit_zero zero3, View.ld_unit_zero zero3]
  unfold mixTile mixed
  refine congrArg₂ (fun a b : EReal => a + b) (pay3_apply x3 x4 x0 r j) ?_
  refine congrArg₂ (fun a b : EReal => a * b) ((pay11_apply _ _ _ r j).trans ?_) ((down_apply (by decide) w hb r j).trans (hw j))
  have e0 : (fun (r : Fin 256) (j : Fin 1024) => k0_pay3 (F := Ideal) x3 x4 x0 (ix2 r j)) = hidden x0 x3 x4 :=
    funext fun r => funext fun j => pay3_apply x3 x4 x0 r j
  have e1 : (fun j : Fin 1024 => k0_pay8 (F := Ideal) (k0_pay1 (F := Ideal) x3) (k0_pay2 (F := Ideal) x4) (k0_pay4 (F := Ideal) i)
      (k0_pay6 (F := Ideal) x1) (k0_pay7 (F := Ideal) x1) (ix2 0 j)) = prevRow i x1 x3 x4 :=
    funext fun j => (pay8_apply x3 x4 _ x1 j).trans (congrArg (fun a : EReal => hidden x1 x3 x4 (7 : Fin 8) j * a) (pay4_eq i))
  have e2 : (fun j : Fin 1024 => k0_pay9 (F := Ideal) (k0_pay1 (F := Ideal) x3) (k0_pay2 (F := Ideal) x4) (k0_pay5 (F := Ideal) i) x2 (ix2 0 j))
      = nextRow i x2 x3 x4 :=
    funext fun j => (pay9_apply x3 x4 _ x2 j).trans (congrArg (fun a : EReal => hidden x2 x3 x4 (0 : Fin 8) j * a) (pay5_eq i))
  rw [e0, e1, e2, pay3_apply]

/-- What the body leaves in the first result's buffer. -/
theorem out22_apply (r : Fin 256) (j : Fin 1024) :
    out0_22 (F := Ideal) i x0 x1 x2 x3 x4 x5 x6 x7 x8 x9 x10 x11 x12 x13 x14 x15 x16 x17 x18 x19 x20 x21 (ix3 0 r j)
      = project (mixTile i x0 x1 x2 x3 x4 x5 0 r) (fun k j => x6 (ix2 k j)) j := by
  unfold out0_22 k0_pay59 k0_pay56 k0_pay55 k0_pay54 k0_pay53 k0_pay52 k0_pay51 k0_pay50
  rw [View.canon_unit_zero zero3]
  unfold k0_pay47 k0_pay19 k0_pay18
  refine (add1_apply _ _ r j).trans ((product_apply _ _ _ r j).trans ?_)
  rw [View.ld_unit_zero (X := x6) zero2]
  refine congrArg (fun f : Fin 1024 → EReal => project f (fun k j => x6 (ix2 k j)) j) (funext fun k => ?_)
  unfold k0_pay17
  exact mixed_apply i x0 x1 x2 x3 x4 x5 _ 0 (fun j => mix_apply x5 0 0 rfl _ j) _ r k

/-- What the body leaves in the second result's buffer. -/
theorem out23_apply (r : Fin 256) (j : Fin 1024) :
    out0_23 (F := Ideal) i x0 x1 x2 x3 x4 x5 x6 x7 x8 x9 x10 x11 x12 x13 x14 x15 x16 x17 x18 x19 x20 x21 (ix3 0 r j)
      = project (mixTile i x0 x1 x2 x3 x4 x5 3 r) (fun k j => x8 (ix2 k j)) j := by
  unfold out0_23 k0_pay61 k0_pay56 k0_pay55 k0_pay54 k0_pay53 k0_pay52 k0_pay51 k0_pay50
  rw [View.canon_unit_zero zero3]
  unfold k0_pay48 k0_pay21
  refine (add1_apply _ _ r j).trans ((product_apply _ _ _ r j).trans ?_)
  rw [View.ld_unit_zero (X := x8) zero2]
  refine congrArg (fun f : Fin 1024 → EReal => project f (fun k j => x8 (ix2 k j)) j) (funext fun k => ?_)
  unfold k0_pay14
  exact mixed_apply i x0 x1 x2 x3 x4 x5 _ 3 (fun j => mix_apply x5 3 3 rfl _ j) _ r k

/-- What the body leaves in the third result's buffer. -/
theorem out28_apply (r : Fin 256) (j : Fin 1024) :
    out0_28 (F := Ideal) i x0 x1 x2 x3 x4 x5 x6 x7 x8 x9 x10 x11 x12 x13 x14 x15 x16 x17 x18 x19 x20 x21 (ix3 0 r j)
      = gateRow (mixTile i x0 x1 x2 x3 x4 x5 5 r) (fun k l => x15 (ix2 k l)) (fun l j => x16 (ix2 l j)) j := by
  unfold out0_28 k0_pay56 k0_pay55 k0_pay54 k0_pay53 k0_pay52 k0_pay51 k0_pay50
  rw [View.canon_unit_zero zero3]
  refine (pay41_apply _ _ _ r j).trans ?_
  rw [View.ld_unit_zero (X := x15) zero2, View.ld_unit_zero (X := x16) zero2]
  refine congrArg (fun f : Fin 1024 → EReal => gateRow f (fun k l => x15 (ix2 k l)) (fun l j => x16 (ix2 l j)) j) (funext fun k => ?_)
  unfold k0_pay16
  exact mixed_apply i x0 x1 x2 x3 x4 x5 _ 5 (fun j => mix_apply x5 5 5 rfl _ j) _ r k

end Cert.Proof.FeatTile
-- ==== Proof.FeatKernel.lean ====
/- The features' call read as arrays: what a grid point leaves in its staging buffers, and so what three of the result
   arrays end holding, in terms of the arguments. -/
module

public import proofs.«01_k».proof.Proof.FeatTile
public import proofs.«01_k».proof.Proof.FeatFrame

@[expose] public section

set_option maxRecDepth 16384

noncomputable section

namespace Cert.Proof.FeatKernel

open Cert.FeatIdeal Cert.FeatIdeal.Gen Cert.Proof.FeatFrame
open Idealize.ShloMosaic Idealize.ShloMosaic.TcCoe Idealize.ShloMosaic.ValueIdx Idealize.SL.Sem
open Idealize.ShloMosaic.Pipeline (Dat)
open Cert.Proof.OutMath Cert.Proof.FeatMath Cert.Proof.FeatTile

/-- The block each window stages at a point: the point's batch and its block of tokens, with eight tokens before it and after. -/
theorem index0 : ∀ t : Fin cfg0.N, win0_0.index t (0 : Fin 3) = t.val / 17 ∧ win0_0.index t (1 : Fin 3) = t.val % 17
    ∧ win0_0.index t (2 : Fin 3) = 0 := (by decide +kernel : ∀ t : Fin grid0.N, _)
theorem index1 : ∀ t : Fin cfg0.N, win0_1.index t (0 : Fin 3) = t.val / 17 ∧ win0_1.index t (1 : Fin 3) = t.val % 17 * 32 - 1
    ∧ win0_1.index t (2 : Fin 3) = 0 := (by decide +kernel : ∀ t : Fin grid0.N, _)
theorem index2 : ∀ t : Fin cfg0.N, win0_2.index t (0 : Fin 3) = t.val / 17 ∧ win0_2.index t (1 : Fin 3) = min ((t.val % 17 + 1) * 32) 543
    ∧ win0_2.index t (2 : Fin 3) = 0 := (by decide +kernel : ∀ t : Fin grid0.N, _)
theorem index3 : ∀ t : Fin cfg0.N, win0_3.index t (0 : Fin 4) = t.val / 17 ∧ win0_3.index t (1 : Fin 4) = min (t.val % 17) 1
    ∧ win0_3.index t (2 : Fin 4) = 0 ∧ win0_3.index t (3 : Fin 4) = 0 := (by decide +kernel : ∀ t : Fin grid0.N, _)
theorem index4 : ∀ t : Fin cfg0.N, win0_4.index t (0 : Fin 2) = 0 ∧ win0_4.index t (1 : Fin 2) = 0 := (by decide +kernel : ∀ t : Fin grid0.N, _)
theorem index5 : ∀ t : Fin cfg0.N, win0_5.index t (0 : Fin 2) = 0 ∧ win0_5.index t (1 : Fin 2) = 0 := (by decide +kernel : ∀ t : Fin grid0.N, _)
theorem index6 : ∀ t : Fin cfg0.N, win0_6.index t (0 : Fin 2) = 0 ∧ win0_6.index t (1 : Fin 2) = 0 := (by decide +kernel : ∀ t : Fin grid0.N, _)
theorem index8 : ∀ t : Fin cfg0.N, win0_8.index t (0 : Fin 2) = 0 ∧ win0_8.index t (1 : Fin 2) = 0 := (by decide +kernel : ∀ t : Fin grid0.N, _)
theorem index15 : ∀ t : Fin cfg0.N, win0_15.index t (0 : Fin 2) = 0 ∧ win0_15.index t (1 : Fin 2) = 0 := (by decide +kernel : ∀ t : Fin grid0.N, _)
theorem index16 : ∀ t : Fin cfg0.N, win0_16.index t (0 : Fin 2) = 0 ∧ win0_16.index t (1 : Fin 2) = 0 := (by decide +kernel : ∀ t : Fin grid0.N, _)
theorem index22 : ∀ t : Fin cfg0.N, win0_22.index t (0 : Fin 3) = t.val / 17 ∧ win0_22.index t (1 : Fin 3) = t.val % 17
    ∧ win0_22.index t (2 : Fin 3) = 0 := (by decide +kernel : ∀ t : Fin grid0.N, _)
theorem index23 : ∀ t : Fin cfg0.N, win0_23.index t (0 : Fin 3) = t.val / 17 ∧ win0_23.index t (1 : Fin 3) = t.val % 17
    ∧ win0_23.index t (2 : Fin 3) = 0 := (by decide +kernel : ∀ t : Fin grid0.N, _)
theorem index28 : ∀ t : Fin cfg0.N, win0_28.index t (0 : Fin 3) = t.val / 17 ∧ win0_28.index t (1 : Fin 3) = t.val % 17
    ∧ win0_28.index t (2 : Fin 3) = 0 := (by decide +kernel : ∀ t : Fin grid0.N, _)

/-- A point's second coordinate. -/
theorem second : ∀ t : Fin cfg0.N, (grid0.coords t (1 : Fin 2)).val = t.val % 17 := (by decide +kernel : ∀ t : Fin grid0.N, _)

/-- A point's batch, and its block's token in the whole array. -/
abbrev batchOf (t : Fin cfg0.N) : Fin 8 := ⟨t.val / 17, by have := lt_of_lt_of_eq t.isLt (show cfg0.N = 136 from N_0); omega⟩
abbrev tokenOf (t : Fin cfg0.N) (r : Fin 256) : Fin 4352 :=
  ⟨t.val % 17 * 256 + r.val, by have := r.isLt; have := Nat.mod_lt t.val (show 17 > 0 by decide); omega⟩

variable (m : (ℓ : Loc nD τ sig) → Buf (Elt Ideal) ℓ) (c : Dev nD)

/-- The matrix the call is handed as `main_v40` is the argument. -/
theorem array4 (k : Fin 1024) (j : Fin 1024) :
    (V m c main_v40 : Vec Ideal S1024x1024 .bf16) (ix2 k j) = (m ((c : Thread nD τ).loc main_arg4) : Vec Ideal S1024x1024 .f32) (ix2 k j) := by
  have e : (V m c main_v40 : Vec Ideal S1024x1024 .bf16)
      = (truncf .bf16 (m ((c : Thread nD τ).loc main_arg4) : FVec Ideal S1024x1024 .f32) bitsLt_bf16_f32 : FVec Ideal S1024x1024 .bf16) := by
    unfold V
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    after_results
  rw [e]
  rfl

/-- The matrix the call is handed as `main_v42` is the argument. -/
theorem array6 (k : Fin 1024) (j : Fin 1024) :
    (V m c main_v42 : Vec Ideal S1024x1024 .bf16) (ix2 k j) = (m ((c : Thread nD τ).loc main_arg6) : Vec Ideal S1024x1024 .f32) (ix2 k j) := by
  have e : (V m c main_v42 : Vec Ideal S1024x1024 .bf16)
      = (truncf .bf16 (m ((c : Thread nD τ).loc main_arg6) : FVec Ideal S1024x1024 .f32) bitsLt_bf16_f32 : FVec Ideal S1024x1024 .bf16) := by
    unfold V
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    after_results
  rw [e]
  rfl

/-- The matrix the call is handed as `main_v43` is the argument. -/
theorem array13 (k : Fin 1024) (j : Fin 128) :
    (V m c main_v43 : Vec Ideal S1024x128 .bf16) (ix2 k j) = (m ((c : Thread nD τ).loc main_arg13) : Vec Ideal S1024x128 .f32) (ix2 k j) := by
  have e : (V m c main_v43 : Vec Ideal S1024x128 .bf16)
      = (truncf .bf16 (m ((c : Thread nD τ).loc main_arg13) : FVec Ideal S1024x128 .f32) bitsLt_bf16_f32 : FVec Ideal S1024x128 .bf16) := by
    unfold V
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    after_results
  rw [e]
  rfl

/-- The matrix the call is handed as `main_v44` is the argument. -/
theorem array14 (k : Fin 128) (j : Fin 1024) :
    (V m c main_v44 : Vec Ideal S128x1024 .bf16) (ix2 k j) = (m ((c : Thread nD τ).loc main_arg14) : Vec Ideal S128x1024 .f32) (ix2 k j) := by
  have e : (V m c main_v44 : Vec Ideal S128x1024 .bf16)
      = (truncf .bf16 (m ((c : Thread nD τ).loc main_arg14) : FVec Ideal S128x1024 .f32) bitsLt_bf16_f32 : FVec Ideal S128x1024 .bf16) := by
    unfold V
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    after_results
  rw [e]
  rfl

/-- The norm's weights the call is handed are the argument with a unit axis. -/
theorem array2 (j : Fin 1024) :
    (V m c main_v55 : Vec Ideal S1x1024 .f32) (ix2 0 j) = (m ((c : Thread nD τ).loc main_arg2) : Vec Ideal S1024 .f32) (ix1 j) := by
  have e : (V m c main_v55 : Vec Ideal S1x1024 .f32)
      = (shapeCast S1x1024 (m ((c : Thread nD τ).loc main_arg2) : FVec Ideal S1024 .f32) shapeCasts_S1024_S1x1024 : FVec Ideal S1x1024 .f32) := by
    unfold V
    simp only [hostOps0, hostOps0_1, hostOps0_2, hostOps0_3, hostOps0_4, hostOps0_5, hostOps0_6, hostOps0_7, hostOps0_8, hostOps0_9, hostOps0_10,
      List.flatten_cons, List.flatten_nil, List.append_nil, List.cons_append, List.nil_append]
    after_results
    rfl
  rw [e]
  exact shapeCast_apply _ _ (ix2 0 j) (ix1 j) (by
    rw [Shape.rowMajor_val_one, Shape.rowMajor_val_two]; show j.val = 0 * 1024 + j.val; omega)

/-- The tokens' block at a point. -/
theorem iblk0_apply (t : Fin cfg0.N) (r : Fin 256) (j : Fin 1024) :
    (iblk m c 0 t : Vec Ideal S1x256x1024 .f32) (ix3 0 r j)
      = (m ((c : Thread nD τ).loc main_arg0) : Vec Ideal S8x4352x1024 .f32) (ix3 (batchOf t) (tokenOf t r) j) := by
  obtain ⟨e0, e1, e2⟩ := index0 t
  rw [← V_main_arg0 m c]
  show V m c main_arg0 (((cfg0.win 0).blk t).view.emb (ix3 0 r j)) = _
  refine congrArg (V m c main_arg0) (funext fun a => Fin.ext ?_)
  match a with
  | ⟨0, _⟩ => show win0_0.index t (0 : Fin 3) * 1 + 1 * 0 = t.val / 17; omega
  | ⟨1, _⟩ => show win0_0.index t (1 : Fin 3) * 256 + 1 * r.val = t.val % 17 * 256 + r.val; omega
  | ⟨2, _⟩ => show win0_0.index t (2 : Fin 3) * 1024 + 1 * j.val = j.val; omega

/-- The last of the eight tokens before a block. -/
theorem iblk1_apply (t : Fin cfg0.N) (n : Fin 4352) (hn : n.val + 1 = t.val % 17 * 256) (j : Fin 1024) :
    (iblk m c 1 t : Vec Ideal S1x8x1024 .f32) (ix3 0 7 j)
      = (m ((c : Thread nD τ).loc main_arg0) : Vec Ideal S8x4352x1024 .f32) (ix3 (batchOf t) n j) := by
  obtain ⟨e0, e1, e2⟩ := index1 t
  rw [← V_main_arg0 m c]
  show V m c main_arg0 (((cfg0.win 1).blk t).view.emb (ix3 0 7 j)) = _
  refine congrArg (V m c main_arg0) (funext fun a => Fin.ext ?_)
  match a with
  | ⟨0, _⟩ => show win0_1.index t (0 : Fin 3) * 1 + 1 * 0 = t.val / 17; omega
  | ⟨1, _⟩ => show win0_1.index t (1 : Fin 3) * 8 + 1 * 7 = n.val; omega
  | ⟨2, _⟩ => show win0_1.index t (2 : Fin 3) * 1024 + 1 * j.val = j.val; omega

/-- The first of the eight tokens after a block. -/
theorem iblk2_apply (t : Fin cfg0.N) (n : Fin 4352) (hn : n.val = (t.val % 17 + 1) * 256) (j : Fin 1024) :
    (iblk m c 2 t : Vec Ideal S1x8x1024 .f32) (ix3 0 0 j)
      = (m ((c : Thread nD τ).loc main_arg0) : Vec Ideal S8x4352x1024 .f32) (ix3 (batchOf t) n j) := by
  obtain ⟨e0, e1, e2⟩ := index2 t
  have hlt := n.isLt
  rw [← V_main_arg0 m c]
  show V m c main_arg0 (((cfg0.win 2).blk t).view.emb (ix3 0 0 j)) = _
  refine congrArg (V m c main_arg0) (funext fun a => Fin.ext ?_)
  match a with
  | ⟨0, _⟩ => show win0_2.index t (0 : Fin 3) * 1 + 1 * 0 = t.val / 17; omega
  | ⟨1, _⟩ => show win0_2.index t (1 : Fin 3) * 8 + 1 * 0 = n.val; omega
  | ⟨2, _⟩ => show win0_2.index t (2 : Fin 3) * 1024 + 1 * j.val = j.val; omega

/-- The modulation block at a point: of the batch, and of the kind of the block's tokens. -/
theorem iblk3_apply (t : Fin cfg0.N) (n : Fin 4352) (hn : min (n.val / 256) 1 = min (t.val % 17) 1) (s : Fin 6) (j : Fin 1024) :
    (iblk m c 3 t : Vec Ideal S1x1x6x1024 .f32) (ix4 0 0 s j)
      = (m ((c : Thread nD τ).loc main_arg1) : Vec Ideal S8x2x6x1024 .f32) (ix4 (batchOf t) (kind n) s j) := by
  obtain ⟨e0, e1, e2, e3⟩ := index3 t
  rw [← V_main_arg1 m c]
  show V m c main_arg1 (((cfg0.win 3).blk t).view.emb (ix4 0 0 s j)) = _
  refine congrArg (V m c main_arg1) (funext fun a => Fin.ext ?_)
  match a with
  | ⟨0, _⟩ => show win0_3.index t (0 : Fin 4) * 1 + 1 * 0 = t.val / 17; omega
  | ⟨1, _⟩ => show win0_3.index t (1 : Fin 4) * 1 + 1 * 0 = min (n.val / 256) 1; omega
  | ⟨2, _⟩ => show win0_3.index t (2 : Fin 4) * 6 + 1 * s.val = s.val; omega
  | ⟨3, _⟩ => show win0_3.index t (3 : Fin 4) * 1024 + 1 * j.val = j.val; omega

/-- The norm's weights at a point. -/
theorem iblk4_apply (t : Fin cfg0.N) (j : Fin 1024) :
    (iblk m c 4 t : Vec Ideal S1x1024 .f32) (ix2 0 j) = (m ((c : Thread nD τ).loc main_arg2) : Vec Ideal S1024 .f32) (ix1 j) := by
  obtain ⟨e0, e1⟩ := index4 t
  rw [← array2 m c j]
  show V m c main_v55 (((cfg0.win 4).blk t).view.emb (ix2 0 j)) = _
  refine congrArg (V m c main_v55) (funext fun a => Fin.ext ?_)
  match a with
  | ⟨0, _⟩ => show win0_4.index t (0 : Fin 2) * 1 + 1 * 0 = 0; omega
  | ⟨1, _⟩ => show win0_4.index t (1 : Fin 2) * 1024 + 1 * j.val = j.val; omega

/-- The mixing weights at a point. -/
theorem iblk5_apply (t : Fin cfg0.N) (q : Fin 6) (j : Fin 1024) :
    (iblk m c 5 t : Vec Ideal S6x1024 .f32) (ix2 q j) = (m ((c : Thread nD τ).loc main_arg3) : Vec Ideal S6x1024 .f32) (ix2 q j) := by
  obtain ⟨e0, e1⟩ := index5 t
  rw [← V_main_arg3 m c]
  show V m c main_arg3 (((cfg0.win 5).blk t).view.emb (ix2 q j)) = _
  refine congrArg (V m c main_arg3) (funext fun a => Fin.ext ?_)
  match a with
  | ⟨0, _⟩ => show win0_5.index t (0 : Fin 2) * 6 + 1 * q.val = q.val; omega
  | ⟨1, _⟩ => show win0_5.index t (1 : Fin 2) * 1024 + 1 * j.val = j.val; omega

/-- Window 6's block at a point: the whole matrix. -/
theorem iblk6_apply (t : Fin cfg0.N) (k : Fin 1024) (j : Fin 1024) :
    (iblk m c 6 t : Vec Ideal S1024x1024 .bf16) (ix2 k j)
      = (m ((c : Thread nD τ).loc main_arg4) : Vec Ideal S1024x1024 .f32) (ix2 k j) := by
  obtain ⟨e0, e1⟩ := index6 t
  rw [← array4 m c k j]
  show V m c main_v40 (((cfg0.win 6).blk t).view.emb (ix2 k j)) = _
  refine congrArg (V m c main_v40) (funext fun a => Fin.ext ?_)
  match a with
  | ⟨0, _⟩ => show win0_6.index t (0 : Fin 2) * 1024 + 1 * k.val = k.val; omega
  | ⟨1, _⟩ => show win0_6.index t (1 : Fin 2) * 1024 + 1 * j.val = j.val; omega

/-- Window 8's block at a point: the whole matrix. -/
theorem iblk8_apply (t : Fin cfg0.N) (k : Fin 1024) (j : Fin 1024) :
    (iblk m c 8 t : Vec Ideal S1024x1024 .bf16) (ix2 k j)
      = (m ((c : Thread nD τ).loc main_arg6) : Vec Ideal S1024x1024 .f32) (ix2 k j) := by
  obtain ⟨e0, e1⟩ := index8 t
  rw [← array6 m c k j]
  show V m c main_v42 (((cfg0.win 8).blk t).view.emb (ix2 k j)) = _
  refine congrArg (V m c main_v42) (funext fun a => Fin.ext ?_)
  match a with
  | ⟨0, _⟩ => show win0_8.index t (0 : Fin 2) * 1024 + 1 * k.val = k.val; omega
  | ⟨1, _⟩ => show win0_8.index t (1 : Fin 2) * 1024 + 1 * j.val = j.val; omega

/-- Window 15's block at a point: the whole matrix. -/
theorem iblk15_apply (t : Fin cfg0.N) (k : Fin 1024) (j : Fin 128) :
    (iblk m c 15 t : Vec Ideal S1024x128 .bf16) (ix2 k j)
      = (m ((c : Thread nD τ).loc main_arg13) : Vec Ideal S1024x128 .f32) (ix2 k j) := by
  obtain ⟨e0, e1⟩ := index15 t
  rw [← array13 m c k j]
  show V m c main_v43 (((cfg0.win 15).blk t).view.emb (ix2 k j)) = _
  refine congrArg (V m c main_v43) (funext fun a => Fin.ext ?_)
  match a with
  | ⟨0, _⟩ => show win0_15.index t (0 : Fin 2) * 1024 + 1 * k.val = k.val; omega
  | ⟨1, _⟩ => show win0_15.index t (1 : Fin 2) * 128 + 1 * j.val = j.val; omega

/-- Window 16's block at a point: the whole matrix. -/
theorem iblk16_apply (t : Fin cfg0.N) (k : Fin 128) (j : Fin 1024) :
    (iblk m c 16 t : Vec Ideal S128x1024 .bf16) (ix2 k j)
      = (m ((c : Thread nD τ).loc main_arg14) : Vec Ideal S128x1024 .f32) (ix2 k j) := by
  obtain ⟨e0, e1⟩ := index16 t
  rw [← array14 m c k j]
  show V m c main_v44 (((cfg0.win 16).blk t).view.emb (ix2 k j)) = _
  refine congrArg (V m c main_v44) (funext fun a => Fin.ext ?_)
  match a with
  | ⟨0, _⟩ => show win0_16.index t (0 : Fin 2) * 128 + 1 * k.val = k.val; omega
  | ⟨1, _⟩ => show win0_16.index t (1 : Fin 2) * 1024 + 1 * j.val = j.val; omega

/-- A token's modulated norm, of the arguments. -/
def hiddenRow (x : FVec Ideal ⟨3, ![8, 4352, 1024]⟩ .f32) (mod : FVec Ideal ⟨4, ![8, 2, 6, 1024]⟩ .f32) (nm : FVec Ideal ⟨1, ![1024]⟩ .f32)
    (b : Fin 8) (n : Fin 4352) : Fin 1024 → EReal :=
  normed (fun j => x (ix3 b n j)) (fun j => nm (ix1 j)) (fun j => mod (ix4 b (kind n) 1 j)) (fun j => mod (ix4 b (kind n) 0 j))

/-- A token's mixed row, by a row of the mixing weights. -/
def mixedRow (x : FVec Ideal ⟨3, ![8, 4352, 1024]⟩ .f32) (mod : FVec Ideal ⟨4, ![8, 2, 6, 1024]⟩ .f32) (nm : FVec Ideal ⟨1, ![1024]⟩ .f32)
    (mix : FVec Ideal ⟨2, ![6, 1024]⟩ .f32) (q : Fin 6) (b : Fin 8) (n : Fin 4352) : Fin 1024 → EReal :=
  mixRow (hiddenRow x mod nm b) (fun j => mix (ix2 q j)) n

/-- A token's feature: its mixed row through a matrix. -/
def featureRow (x : FVec Ideal ⟨3, ![8, 4352, 1024]⟩ .f32) (mod : FVec Ideal ⟨4, ![8, 2, 6, 1024]⟩ .f32) (nm : FVec Ideal ⟨1, ![1024]⟩ .f32)
    (mix : FVec Ideal ⟨2, ![6, 1024]⟩ .f32) (w : FVec Ideal ⟨2, ![1024, 1024]⟩ .f32) (q : Fin 6) (b : Fin 8) (n : Fin 4352) : Fin 1024 → EReal :=
  project (mixedRow x mod nm mix q b n) (fun k j => w (ix2 k j))

/-- A token's gate: its mixed row through the two matrices, with the logistic function between. -/
def outGate (x : FVec Ideal ⟨3, ![8, 4352, 1024]⟩ .f32) (mod : FVec Ideal ⟨4, ![8, 2, 6, 1024]⟩ .f32) (nm : FVec Ideal ⟨1, ![1024]⟩ .f32)
    (mix : FVec Ideal ⟨2, ![6, 1024]⟩ .f32) (g1 : FVec Ideal ⟨2, ![1024, 128]⟩ .f32) (g2 : FVec Ideal ⟨2, ![128, 1024]⟩ .f32)
    (b : Fin 8) (n : Fin 4352) : Fin 1024 → EReal :=
  gateRow (mixedRow x mod nm mix 5 b n) (fun k l => g1 (ix2 k l)) (fun l j => g2 (ix2 l j))

/-- The arguments the three results depend on. -/
abbrev argX : FVec Ideal ⟨3, ![8, 4352, 1024]⟩ .f32 := m ((c : Thread nD τ).loc main_arg0)
abbrev argMod : FVec Ideal ⟨4, ![8, 2, 6, 1024]⟩ .f32 := m ((c : Thread nD τ).loc main_arg1)
abbrev argNorm : FVec Ideal ⟨1, ![1024]⟩ .f32 := m ((c : Thread nD τ).loc main_arg2)
abbrev argMix : FVec Ideal ⟨2, ![6, 1024]⟩ .f32 := m ((c : Thread nD τ).loc main_arg3)

/-- The first result: the receptance of every token. -/
def result22 : Vec Ideal S8x4352x1024 .f32 := fun i =>
  featureRow (argX m c) (argMod m c) (argNorm m c) (argMix m c) (m ((c : Thread nD τ).loc main_arg4)) 0 (i 0) (i 1) (i 2)

/-- The second result: the value of every token. -/
def result23 : Vec Ideal S8x4352x1024 .f32 := fun i =>
  featureRow (argX m c) (argMod m c) (argNorm m c) (argMix m c) (m ((c : Thread nD τ).loc main_arg6)) 3 (i 0) (i 1) (i 2)

/-- The third result: the gate of every token. -/
def result28 : Vec Ideal S8x4352x1024 .f32 := fun i =>
  outGate (argX m c) (argMod m c) (argNorm m c) (argMix m c) (m ((c : Thread nD τ).loc main_arg13)) (m ((c : Thread nD τ).loc main_arg14)) (i 0) (i 1) (i 2)

/-- A staged row's modulated norm is the token's, where the row is the token's and the block's kind is the token's. -/
theorem hidden_eq {k : Nat} (y : FVec Ideal ⟨3, ![1, k, 1024]⟩ .f32) (t : Fin cfg0.N) (r : Fin k) (n : Fin 4352)
    (hk : min (n.val / 256) 1 = min (t.val % 17) 1) (hy : ∀ j, y (ix3 0 r j) = argX m c (ix3 (batchOf t) n j)) :
    hidden y (iblk m c 3 t) (iblk m c 4 t) r = hiddenRow (argX m c) (argMod m c) (argNorm m c) (batchOf t) n := by
  unfold FeatTile.hidden hiddenRow
  have e0 : (fun j : Fin 1024 => y (ix3 0 r j)) = _ := funext hy
  have e1 : (fun j : Fin 1024 => (iblk m c 3 t : Vec Ideal S1x1x6x1024 .f32) (ix4 0 0 0 j)) = _ := funext fun j => iblk3_apply m c t n hk 0 j
  have e2 : (fun j : Fin 1024 => (iblk m c 3 t : Vec Ideal S1x1x6x1024 .f32) (ix4 0 0 1 j)) = _ := funext fun j => iblk3_apply m c t n hk 1 j
  have e3 : (fun j : Fin 1024 => (iblk m c 4 t : Vec Ideal S1x1024 .f32) (ix2 0 j)) = _ := funext fun j => iblk4_apply m c t j
  rw [e0, e1, e2, e3]

/-- The rows of a point's block. -/
theorem hidden0_eq (t : Fin cfg0.N) (r : Fin 256) :
    hidden (iblk m c 0 t) (iblk m c 3 t) (iblk m c 4 t) r = hiddenRow (argX m c) (argMod m c) (argNorm m c) (batchOf t) (tokenOf t r) :=
  hidden_eq m c _ t r (tokenOf t r) (by have := r.isLt; show min ((t.val % 17 * 256 + r.val) / 256) 1 = _; omega) fun j => iblk0_apply m c t r j

/-- The row above in the body is the token's row before. -/
theorem above_eq (t : Fin cfg0.N) (r : Fin 256) (j : Fin 1024) :
    above (hidden (iblk m c 0 t) (iblk m c 3 t) (iblk m c 4 t)) (prevRow (grid0.coords t) (iblk m c 1 t) (iblk m c 3 t) (iblk m c 4 t)) r j
      = before (hiddenRow (argX m c) (argMod m c) (argNorm m c) (batchOf t)) (tokenOf t r) j := by
  have hr := r.isLt
  have h17 := Nat.mod_lt t.val (show 17 > 0 by decide)
  unfold above before
  by_cases hz : r.val = 0
  · rw [if_pos hz]
    unfold prevRow
    rw [second t]
    by_cases h2 : 2 ≤ t.val % 17
    · rw [if_pos h2, if_neg (by show ¬(t.val % 17 * 256 + r.val = 0 ∨ t.val % 17 * 256 + r.val = 256); omega), mul_one]
      exact congrFun (hidden_eq m c _ t 7 ⟨t.val % 17 * 256 + r.val - 1, by omega⟩
        (by show min ((t.val % 17 * 256 + r.val - 1) / 256) 1 = _; omega)
        fun j => iblk1_apply m c t _ (by show t.val % 17 * 256 + r.val - 1 + 1 = _; omega) j) j
    · rw [if_neg h2, if_pos (by show t.val % 17 * 256 + r.val = 0 ∨ t.val % 17 * 256 + r.val = 256; omega), mul_zero]
  · rw [if_neg hz, if_neg (by show ¬(t.val % 17 * 256 + r.val = 0 ∨ t.val % 17 * 256 + r.val = 256); omega), hidden0_eq]
    refine congrArg (fun n => hiddenRow (argX m c) (argMod m c) (argNorm m c) (batchOf t) n j) (Fin.ext ?_)
    show t.val % 17 * 256 + (r.val - 1) = t.val % 17 * 256 + r.val - 1
    omega

/-- The row below in the body is the token's row after. -/
theorem below_eq (t : Fin cfg0.N) (r : Fin 256) (j : Fin 1024) :
    below (hidden (iblk m c 0 t) (iblk m c 3 t) (iblk m c 4 t)) (nextRow (grid0.coords t) (iblk m c 2 t) (iblk m c 3 t) (iblk m c 4 t)) r j
      = after (hiddenRow (argX m c) (argMod m c) (argNorm m c) (batchOf t)) (tokenOf t r) j := by
  have hr := r.isLt
  have h17 := Nat.mod_lt t.val (show 17 > 0 by decide)
  unfold below after
  by_cases hz : r.val = 255
  · rw [dif_pos hz]
    unfold nextRow
    rw [second t]
    by_cases h2 : 1 ≤ t.val % 17 ∧ t.val % 17 < 16
    · rw [if_pos h2, dif_neg (by show ¬(t.val % 17 * 256 + r.val = 255 ∨ t.val % 17 * 256 + r.val = 4351); omega), mul_one]
      exact congrFun (hidden_eq m c _ t 0 ⟨t.val % 17 * 256 + r.val + 1, by omega⟩
        (by show min ((t.val % 17 * 256 + r.val + 1) / 256) 1 = _; omega)
        fun j => iblk2_apply m c t _ (by show t.val % 17 * 256 + r.val + 1 = _; omega) j) j
    · rw [if_neg h2, dif_pos (by show t.val % 17 * 256 + r.val = 255 ∨ t.val % 17 * 256 + r.val = 4351; omega), mul_zero]
  · rw [dif_neg hz, dif_neg (by show ¬(t.val % 17 * 256 + r.val = 255 ∨ t.val % 17 * 256 + r.val = 4351); omega), hidden0_eq]
    refine congrArg (fun n => hiddenRow (argX m c) (argMod m c) (argNorm m c) (batchOf t) n j) (Fin.ext ?_)
    show t.val % 17 * 256 + (r.val + 1) = t.val % 17 * 256 + r.val + 1
    omega

/-- The mixed row of the body is the token's. -/
theorem mixTile_eq (q : Fin 6) (t : Fin cfg0.N) (r : Fin 256) :
    mixTile (grid0.coords t) (iblk m c 0 t) (iblk m c 1 t) (iblk m c 2 t) (iblk m c 3 t) (iblk m c 4 t) (iblk m c 5 t) q r
      = mixedRow (argX m c) (argMod m c) (argNorm m c) (argMix m c) q (batchOf t) (tokenOf t r) := by
  funext j
  unfold mixTile mixedRow mixRow
  rw [above_eq m c t r j, below_eq m c t r j, iblk5_apply m c t q j, hidden0_eq m c t r]

/-- An index of a block by its row and its column. -/
theorem index_block (y : S1x256x1024.Idx) : ∃ (r : Fin 256) (j : Fin 1024), y = (ix3 0 r j : S1x256x1024.Idx) :=
  ⟨y 1, y 2, funext fun a => match a with
    | ⟨0, _⟩ => Fin.ext (by have := (y 0).isLt; show (y 0).val = 0; exact Nat.lt_one_iff.1 this)
    | ⟨1, _⟩ => rfl
    | ⟨2, _⟩ => rfl⟩

/-- The point whose block a token lies in, and the token's place in it. -/
theorem point_of (i : S8x4352x1024.Idx) : ∃ (t : Fin cfg0.N) (r : Fin 256) (j : Fin 1024), (ix3 (batchOf t) (tokenOf t r) j : S8x4352x1024.Idx) = i := by
  have h0 : (i 0 : Nat) < 8 := (i 0).isLt
  have h1 : (i 1 : Nat) < 4352 := (i 1).isLt
  obtain ⟨T, hT⟩ : ∃ T, T = (i 0).val * 17 + (i 1).val / 256 := ⟨_, rfl⟩
  have hlt : T < cfg0.N := lt_of_lt_of_eq (by omega : T < 136) (show cfg0.N = 136 from N_0).symm
  refine ⟨⟨T, hlt⟩, ⟨(i 1).val % 256, Nat.mod_lt _ (by decide)⟩, i 2, funext fun a => Fin.ext ?_⟩
  match a with
  | ⟨0, _⟩ => show T / 17 = (i 0).val; omega
  | ⟨1, _⟩ => show T % 17 * 256 + (i 1).val % 256 = (i 1).val; omega
  | ⟨2, _⟩ => rfl

/-- Where a point's block of the first result lies in its array. -/
theorem place22 (t : Fin cfg0.N) (r : Fin 256) (j : Fin 1024) :
    ((cfg0.win 22).blk t).view.emb (ix3 0 r j) = (ix3 (batchOf t) (tokenOf t r) j : S8x4352x1024.Idx) := by
  obtain ⟨e0, e1, e2⟩ := index22 t
  funext a; apply Fin.ext
  match a with
  | ⟨0, _⟩ => show win0_22.index t (0 : Fin 3) * 1 + 1 * 0 = t.val / 17; omega
  | ⟨1, _⟩ => show win0_22.index t (1 : Fin 3) * 256 + 1 * r.val = t.val % 17 * 256 + r.val; omega
  | ⟨2, _⟩ => show win0_22.index t (2 : Fin 3) * 1024 + 1 * j.val = j.val; omega

/-- What a point writes back of the first result is its block of it. -/
theorem flushed22_eq (t : Fin cfg0.N) :
    (dats m 0 c).flushed 22 t = ((cfg0.win 22).blk t).view.read (Elt Ideal) (result22 m c) := by
  funext y
  obtain ⟨r, j, rfl⟩ := index_block y
  have e : ((cfg0.win 22).blk t).view.read (Elt Ideal) (result22 m c) (ix3 0 r j) = result22 m c (ix3 (batchOf t) (tokenOf t r) j) :=
    congrArg (result22 m c) (place22 t r j)
  refine Eq.trans ?_ e.symm
  show (cfg0.win 22).cut (grid0.coords t) ((dats m 0 c).after 22 t) (ix3 0 r j) = _
  rw [after0_22]
  refine (out22_apply _ _ _ _ _ _ _ _ _ _ _ _ _ _ _ _ _ _ _ _ _ _ _ r j).trans ?_
  show _ = featureRow _ _ _ _ _ 0 (batchOf t) (tokenOf t r) j
  unfold featureRow
  have hw : (fun k j : Fin 1024 => (iblk m c 6 t : Vec Ideal S1024x1024 .bf16) (ix2 k j)) = _ := funext fun k => funext fun j => iblk6_apply m c t k j
  rw [hw, mixTile_eq m c 0 t r]

/-- Every index of the first result is in a point's block. -/
theorem covered22 (i : S8x4352x1024.Idx) : ∃ t : Fin cfg0.N, (cfg0.win 22).flush t = true ∧ i ∈ ((cfg0.win 22).blk t).view.set := by
  obtain ⟨t, r, j, e⟩ := point_of i
  refine ⟨t, flush0_22 _, ?_⟩
  have h := ((cfg0.win 22).blk t).view.emb_mem_set (ix3 0 r j : S1x256x1024.Idx)
  rwa [(place22 t r j).trans e] at h

/-- So the first result's array ends holding the first result of the arguments. -/
theorem final22 : (dats m 0 c).arrAt 22 cfg0.N = result22 m c :=
  (dats m 0 c).arrAt_eq_of_cover 22 (result22 m c) (fun t _ => flushed22_eq m c t) covered22

/-- Where a point's block of the second result lies in its array. -/
theorem place23 (t : Fin cfg0.N) (r : Fin 256) (j : Fin 1024) :
    ((cfg0.win 23).blk t).view.emb (ix3 0 r j) = (ix3 (batchOf t) (tokenOf t r) j : S8x4352x1024.Idx) := by
  obtain ⟨e0, e1, e2⟩ := index23 t
  funext a; apply Fin.ext
  match a with
  | ⟨0, _⟩ => show win0_23.index t (0 : Fin 3) * 1 + 1 * 0 = t.val / 17; omega
  | ⟨1, _⟩ => show win0_23.index t (1 : Fin 3) * 256 + 1 * r.val = t.val % 17 * 256 + r.val; omega
  | ⟨2, _⟩ => show win0_23.index t (2 : Fin 3) * 1024 + 1 * j.val = j.val; omega

/-- What a point writes back of the second result is its block of it. -/
theorem flushed23_eq (t : Fin cfg0.N) :
    (dats m 0 c).flushed 23 t = ((cfg0.win 23).blk t).view.read (Elt Ideal) (result23 m c) := by
  funext y
  obtain ⟨r, j, rfl⟩ := index_block y
  have e : ((cfg0.win 23).blk t).view.read (Elt Ideal) (result23 m c) (ix3 0 r j) = result23 m c (ix3 (batchOf t) (tokenOf t r) j) :=
    congrArg (result23 m c) (place23 t r j)
  refine Eq.trans ?_ e.symm
  show (cfg0.win 23).cut (grid0.coords t) ((dats m 0 c).after 23 t) (ix3 0 r j) = _
  rw [after0_23]
  refine (out23_apply _ _ _ _ _ _ _ _ _ _ _ _ _ _ _ _ _ _ _ _ _ _ _ r j).trans ?_
  show _ = featureRow _ _ _ _ _ 3 (batchOf t) (tokenOf t r) j
  unfold featureRow
  have hw : (fun k j : Fin 1024 => (iblk m c 8 t : Vec Ideal S1024x1024 .bf16) (ix2 k j)) = _ := funext fun k => funext fun j => iblk8_apply m c t k j
  rw [hw, mixTile_eq m c 3 t r]

/-- Every index of the second result is in a point's block. -/
theorem covered23 (i : S8x4352x1024.Idx) : ∃ t : Fin cfg0.N, (cfg0.win 23).flush t = true ∧ i ∈ ((cfg0.win 23).blk t).view.set := by
  obtain ⟨t, r, j, e⟩ := point_of i
  refine ⟨t, flush0_23 _, ?_⟩
  have h := ((cfg0.win 23).blk t).view.emb_mem_set (ix3 0 r j : S1x256x1024.Idx)
  rwa [(place23 t r j).trans e] at h

/-- So the second result's array ends holding the second result of the arguments. -/
theorem final23 : (dats m 0 c).arrAt 23 cfg0.N = result23 m c :=
  (dats m 0 c).arrAt_eq_of_cover 23 (result23 m c) (fun t _ => flushed23_eq m c t) covered23

/-- Where a point's block of the third result lies in its array. -/
theorem place28 (t : Fin cfg0.N) (r : Fin 256) (j : Fin 1024) :
    ((cfg0.win 28).blk t).view.emb (ix3 0 r j) = (ix3 (batchOf t) (tokenOf t r) j : S8x4352x1024.Idx) := by
  obtain ⟨e0, e1, e2⟩ := index28 t
  funext a; apply Fin.ext
  match a with
  | ⟨0, _⟩ => show win0_28.index t (0 : Fin 3) * 1 + 1 * 0 = t.val / 17; omega
  | ⟨1, _⟩ => show win0_28.index t (1 : Fin 3) * 256 + 1 * r.val = t.val % 17 * 256 + r.val; omega
  | ⟨2, _⟩ => show win0_28.index t (2 : Fin 3) * 1024 + 1 * j.val = j.val; omega

/-- What a point writes back of the third result is its block of it. -/
theorem flushed28_eq (t : Fin cfg0.N) :
    (dats m 0 c).flushed 28 t = ((cfg0.win 28).blk t).view.read (Elt Ideal) (result28 m c) := by
  funext y
  obtain ⟨r, j, rfl⟩ := index_block y
  have e : ((cfg0.win 28).blk t).view.read (Elt Ideal) (result28 m c) (ix3 0 r j) = result28 m c (ix3 (batchOf t) (tokenOf t r) j) :=
    congrArg (result28 m c) (place28 t r j)
  refine Eq.trans ?_ e.symm
  show (cfg0.win 28).cut (grid0.coords t) ((dats m 0 c).after 28 t) (ix3 0 r j) = _
  rw [after0_28]
  refine (out28_apply _ _ _ _ _ _ _ _ _ _ _ _ _ _ _ _ _ _ _ _ _ _ _ r j).trans ?_
  show _ = outGate _ _ _ _ _ _ (batchOf t) (tokenOf t r) j
  unfold outGate
  have h1 : (fun (k : Fin 1024) (l : Fin 128) => (iblk m c 15 t : Vec Ideal S1024x128 .bf16) (ix2 k l)) = _ := funext fun k => funext fun l => iblk15_apply m c t k l
  have h2 : (fun (l : Fin 128) (j : Fin 1024) => (iblk m c 16 t : Vec Ideal S128x1024 .bf16) (ix2 l j)) = _ := funext fun l => funext fun j => iblk16_apply m c t l j
  rw [h1, h2, mixTile_eq m c 5 t r]

/-- Every index of the third result is in a point's block. -/
theorem covered28 (i : S8x4352x1024.Idx) : ∃ t : Fin cfg0.N, (cfg0.win 28).flush t = true ∧ i ∈ ((cfg0.win 28).blk t).view.set := by
  obtain ⟨t, r, j, e⟩ := point_of i
  refine ⟨t, flush0_28 _, ?_⟩
  have h := ((cfg0.win 28).blk t).view.emb_mem_set (ix3 0 r j : S1x256x1024.Idx)
  rwa [(place28 t r j).trans e] at h

/-- So the third result's array ends holding the third result of the arguments. -/
theorem final28 : (dats m 0 c).arrAt 28 cfg0.N = result28 m c :=
  (dats m 0 c).arrAt_eq_of_cover 28 (result28 m c) (fun t _ => flushed28_eq m c t) covered28

/-- The whole run: the three result arrays end holding the results of the arguments, and the arguments are unchanged. -/
theorem run_results (g : Dev nD → PrngReg) :
    θ_run (defs (F := Ideal)) (onTc (τ := τ) (main (F := Ideal))) ⟨m, fun _ => 0, g⟩ (fun r =>
      (∀ c : Dev nD, r.2.mem ((c : Thread nD τ).loc main_v56_0) = result22 m c ∧ r.2.mem ((c : Thread nD τ).loc main_v56_1) = result23 m c
        ∧ r.2.mem ((c : Thread nD τ).loc main_v56_6) = result28 m c)
      ∧ ∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)) :=
  θ_run_and ((θ_run _ _ _).mono (fun _ h c => ⟨((h c).1 22).trans (final22 m c), ((h c).1 23).trans (final23 m c), ((h c).1 28).trans (final28 m c)⟩)
    (run_main m g)) (unchanged m g)

end Cert.Proof.FeatKernel
-- ==== Proof.FeatReference.lean ====
/- The features' reference read as arrays: the context's stages and the latent's, each at an index, and so what its three
   results hold, in terms of the arguments. -/
module

public import proofs.«01_k».proof.Proof.FeatKernel
public import proofs.«01_k».proof.Proof.Gen.FeatRefIdeal.Read

@[expose] public section

set_option maxRecDepth 16384

noncomputable section

namespace Cert.Proof.FeatReference

open Idealize.ShloMosaic
open Idealize.ShloMosaic.ValueIdx Idealize.ShloMosaic.TcCoe
open Cert.Proof.OutMath Cert.Proof.FeatMath Cert.Proof.FeatKernel
open Cert.FeatRefIdeal Cert.FeatRefIdeal.Read

/-- A token of the context, and a token of the latent, among all. -/
abbrev ctx (n : Fin 256) : Fin 4352 := ⟨n.val, by have := n.isLt; omega⟩
abbrev lat (n : Fin 4096) : Fin 4352 := ⟨256 + n.val, by have := n.isLt; omega⟩

/-- The context's rows and the latent's, joined: every token has its own. -/
theorem joined_apply (x : FVec Ideal S8x256x1024 .f32) (y : FVec Ideal S8x4096x1024 .f32) (z : Fin 8 → Fin 4352 → Fin 1024 → EReal)
    (h : Shape.Concatenates [S8x256x1024, S8x4096x1024] S8x4352x1024 1)
    (hx : ∀ b n j, x (ix3 b n j) = z b (ctx n) j) (hy : ∀ b n j, y (ix3 b n j) = z b (lat n) j) (b : Fin 8) (n : Fin 4352) (j : Fin 1024) :
    concatenate S8x4352x1024 1 [⟨S8x256x1024, x⟩, ⟨S8x4096x1024, y⟩] h (ix3 b n j) = z b n j := by
  have hlt := n.isLt
  by_cases hn : n.val < 256
  · exact (concatenate_pair_apply_left (t := S8x4352x1024) (s₁ := S8x256x1024) (s₂ := S8x4096x1024) 1 x y h (ix3 b n j) rfl
      (ix3 b ⟨n.val, hn⟩ j) (fun a => match a with
        | ⟨0, _⟩ => rfl
        | ⟨1, _⟩ => rfl
        | ⟨2, _⟩ => rfl)).trans (hx b _ j)
  · refine (concatenate_pair_apply_right (t := S8x4352x1024) (s₁ := S8x256x1024) (s₂ := S8x4096x1024) 1 x y h (ix3 b n j) rfl rfl
      (ix3 b ⟨n.val - 256, by omega⟩ j) (fun a ha => ?_) ?_).trans ((hy b _ j).trans ?_)
    · match a with
      | ⟨0, _⟩ => rfl
      | ⟨1, _⟩ => exact absurd rfl ha
      | ⟨2, _⟩ => rfl
    · show n.val - 256 + 256 = n.val; omega
    · exact congrArg (fun k => z b k j) (Fin.ext (show 256 + (n.val - 256) = n.val by omega))

/-- Rows moved down by one under a row of zeros: a token's row is the one before it. -/
theorem before_apply {k n : Nat} (y : FVec Ideal ⟨3, ![8, k, 1024]⟩ .f32) (v : FVec Ideal S_ .f32)
    (hp : (⟨3, ![8, k, 1024]⟩ : Shape).Pads (![0, 1, 0] : Fin 3 → Nat) ![0, 0, 0] ![0, 0, 0] ⟨3, ![8, n, 1024]⟩) (hu : 0 < S_.numel)
    (hv : v (Shape.Idx.first hu) = 0) (hk : n = k + 1) (H : Fin 4352 → Fin 1024 → EReal) (b : Fin 8) (r : Fin n) (j : Fin 1024)
    (p : Fin 4352) (hz : p.val = 0 ∨ p.val = 256 ↔ r.val = 0)
    (hy : ∀ (r' : Fin k) (p' : Fin 4352), r'.val + 1 = r.val → p'.val = p.val - 1 → y (ix3 b r' j) = H p' j) :
    pad ⟨3, ![8, n, 1024]⟩ ![0, 1, 0] ![0, 0, 0] ![0, 0, 0] y v hp hu (ix3 b r j) = before H p j := by
  have hr := r.isLt
  unfold before
  by_cases h0 : r.val = 0
  · rw [if_pos (hz.2 h0)]
    exact (pad_apply_of_not_inside _ _ _ y v hp hu _ (1 : Fin 3) (by
      intro hin
      have e : 1 ≤ r.val := hin.1
      omega)).trans hv
  · rw [if_neg fun h => h0 (hz.1 h)]
    refine (pad_apply_of_inside _ _ _ y v hp hu _ (ix3 b (⟨r.val - 1, by omega⟩ : Fin k) j) (fun a => ?_)).trans
      (hy _ _ (by show r.val - 1 + 1 = r.val; omega) rfl)
    match a with
    | ⟨0, _⟩ => show b.val = 0 + b.val * (0 + 1); omega
    | ⟨1, _⟩ => show r.val = 1 + (r.val - 1) * (0 + 1); omega
    | ⟨2, _⟩ => show j.val = 0 + j.val * (0 + 1); omega

/-- Rows moved up by one over a row of zeros: a token's row is the one after it. -/
theorem after_apply {k n : Nat} (y : FVec Ideal ⟨3, ![8, k, 1024]⟩ .f32) (v : FVec Ideal S_ .f32)
    (hp : (⟨3, ![8, k, 1024]⟩ : Shape).Pads (![0, 0, 0] : Fin 3 → Nat) ![0, 1, 0] ![0, 0, 0] ⟨3, ![8, n, 1024]⟩) (hu : 0 < S_.numel)
    (hv : v (Shape.Idx.first hu) = 0) (hk : n = k + 1) (H : Fin 4352 → Fin 1024 → EReal) (b : Fin 8) (r : Fin n) (j : Fin 1024)
    (p : Fin 4352) (hz : p.val = 255 ∨ p.val = 4351 ↔ r.val = k)
    (hy : ∀ (r' : Fin k) (p' : Fin 4352), r'.val = r.val → p'.val = p.val + 1 → y (ix3 b r' j) = H p' j) :
    pad ⟨3, ![8, n, 1024]⟩ ![0, 0, 0] ![0, 1, 0] ![0, 0, 0] y v hp hu (ix3 b r j) = after H p j := by
  have hr := r.isLt
  unfold after
  by_cases h0 : r.val = k
  · rw [dif_pos (hz.2 h0)]
    exact (pad_apply_of_not_inside _ _ _ y v hp hu _ (1 : Fin 3) (by
      intro hin
      have e : (r.val - 0) / (0 + 1) < k := hin.2.2
      omega)).trans hv
  · rw [dif_neg fun h => h0 (hz.1 h)]
    refine (pad_apply_of_inside _ _ _ y v hp hu _ (ix3 b (⟨r.val, by omega⟩ : Fin k) j) (fun a => ?_)).trans (hy _ _ rfl rfl)
    match a with
    | ⟨0, _⟩ => show b.val = 0 + b.val * (0 + 1); omega
    | ⟨1, _⟩ => show r.val = 0 + r.val * (0 + 1); omega
    | ⟨2, _⟩ => show j.val = 0 + j.val * (0 + 1); omega

/-- What a feature's stage takes from a mixed row: the row through a matrix. -/
theorem project_congr {f g : Fin 1024 → EReal} (w : Fin 1024 → Fin 1024 → EReal) (h : ∀ k, f k = g k) (j : Fin 1024) :
    (∑ k : Fin 1024, f k * w k j) = project g w j := Finset.sum_congr rfl fun k _ => by rw [h k]

variable (x0 : FVec Ideal ⟨3, ![8, 4352, 1024]⟩ .f32) (x1 : FVec Ideal ⟨4, ![8, 2, 6, 1024]⟩ .f32) (x2 : FVec Ideal ⟨1, ![1024]⟩ .f32)
  (x3 : FVec Ideal ⟨2, ![6, 1024]⟩ .f32) (x4 x6 : FVec Ideal ⟨2, ![1024, 1024]⟩ .f32) (x13 : FVec Ideal ⟨2, ![1024, 128]⟩ .f32)
  (x14 : FVec Ideal ⟨2, ![128, 1024]⟩ .f32)

/-- The shift of a token of the context. -/
theorem context_shift (b : Fin 8) (n : Fin 256) (j : Fin 1024) : val_main_v26 (F := Ideal) x1 (ix3 b n j) = x1 (ix4 b (kind (ctx n)) 0 j) := by
  rw [val_main_v26_apply, val_main_v18_apply, val_main_v17_apply, val_main_v16_apply, val_main_v2_apply, val_main_v1_apply]
  have hb := b.isLt
  have hj := j.isLt
  have hn := n.isLt
  refine congrArg x1 (funext fun a => Fin.ext ?_)
  match a with
  | ⟨0, _⟩ => show (((b.val * 1024 + j.val) / 1024 * 6 + (0)) * 1024 + (b.val * 1024 + j.val) % 1024) / 6144 = b.val; omega
  | ⟨1, _⟩ => show 0 = min (n.val / 256) 1; omega
  | ⟨2, _⟩ => show (((b.val * 1024 + j.val) / 1024 * 6 + (0)) * 1024 + (b.val * 1024 + j.val) % 1024) / 1024 % 6 = 0; omega
  | ⟨3, _⟩ => show (((b.val * 1024 + j.val) / 1024 * 6 + (0)) * 1024 + (b.val * 1024 + j.val) % 1024) % 1024 = j.val; omega

/-- The scale of a token of the context. -/
theorem context_scale (b : Fin 8) (n : Fin 256) (j : Fin 1024) :
    val_main_v24 (F := Ideal) x1 (ix3 b n j) = Ideal.ofBits .f32 0x3F800000#32 + x1 (ix4 b (kind (ctx n)) 1 j) := by
  rw [val_main_v24_apply, val_main_v23_apply, val_main_v22_apply, val_main_v21_apply, val_main_v20_apply, val_main_v19_apply, val_main_v2_apply, val_main_v1_apply]
  refine congrArg (fun a : EReal => Ideal.ofBits .f32 0x3F800000#32 + a) ?_
  have hb := b.isLt
  have hj := j.isLt
  have hn := n.isLt
  refine congrArg x1 (funext fun a => Fin.ext ?_)
  match a with
  | ⟨0, _⟩ => show (((b.val * 1024 + j.val) / 1024 * 6 + (1 + 0)) * 1024 + (b.val * 1024 + j.val) % 1024) / 6144 = b.val; omega
  | ⟨1, _⟩ => show 0 = min (n.val / 256) 1; omega
  | ⟨2, _⟩ => show (((b.val * 1024 + j.val) / 1024 * 6 + (1 + 0)) * 1024 + (b.val * 1024 + j.val) % 1024) / 1024 % 6 = 1; omega
  | ⟨3, _⟩ => show (((b.val * 1024 + j.val) / 1024 * 6 + (1 + 0)) * 1024 + (b.val * 1024 + j.val) % 1024) % 1024 = j.val; omega

/-- The inverse root of a token of the context. -/
theorem context_root (b : Fin 8) (n : Fin 256) (j : Fin 1024) :
    val_main_v11 (F := Ideal) x0 (ix3 b n j)
      = Ideal.rsqrt ((∑ i : Fin 1024, x0 (ix3 b (ctx n) i) * x0 (ix3 b (ctx n) i)) * Ideal.ofBits .f32 0x3A800000#32
          + Ideal.ofBits .f32 0x358637BD#32) := by
  rw [val_main_v11_apply, val_main_v10_apply, val_main_v9_apply, val_main_v8_apply, val_main_v7_apply, val_main_v6_apply, val_main_v5_apply, val_main_v4_apply]
  refine congrArg (fun a : EReal => Ideal.rsqrt (a + Ideal.ofBits .f32 0x358637BD#32)) ?_
  refine Eq.trans ?_ (mean_eq _)
  refine congrArg (fun a : EReal => Ideal.div a (Ideal.ofBits .f32 0x44800000#32)) ?_
  refine (congrArg (fun a : EReal => a + _) Ideal.ofBits_zero_f32).trans ((zero_add _).trans (Finset.sum_congr rfl fun i _ => ?_))
  rw [val_main_v3_apply, val_main_v0_apply]
  refine congrArg (fun i' : S8x4352x1024.Idx => (x0 i' * x0 i' : EReal)) (funext fun a => ?_)
  fin_cases a <;> rfl

/-- The modulated norm of a token of the context. -/
theorem context_hidden (b : Fin 8) (n : Fin 256) (j : Fin 1024) :
    val_main_v27 (F := Ideal) x0 x1 x2 (ix3 b n j) = hiddenRow x0 x1 x2 b (ctx n) j := by
  unfold hiddenRow normed
  rw [val_main_v27_apply, val_main_v25_apply, val_main_v15_apply, val_main_v12_apply, val_main_v14_apply, val_main_v13_apply, val_main_v0_apply, context_shift, context_scale, context_root]
  have e0 : x0 (idx_main_v0 (ix3 b n j)) = x0 (ix3 b (ctx n) j) := congrArg x0 (funext fun a => by fin_cases a <;> rfl)
  have e2 : x2 (idx_main_v13 (idx_main_v14 (ix3 b n j))) = x2 (ix1 j) := congrArg x2 (funext fun a => by fin_cases a <;> rfl)
  rw [e0, e2]
  rfl

/-- The row before a token of the context. -/
theorem context_before (b : Fin 8) (n : Fin 256) (j : Fin 1024) :
    val_main_v29 (F := Ideal) x0 x1 x2 (ix3 b n j) = before (hiddenRow x0 x1 x2 b) (ctx n) j := by
  have hn := n.isLt
  unfold val_main_v29
  refine before_apply (k := 255) _ _ _ _ sitofp_zero rfl _ b n j (ctx n)
    (by show n.val = 0 ∨ n.val = 256 ↔ n.val = 0; omega) fun r p hr hp => ?_
  have hp' : p.val = n.val - 1 := hp
  have e : idx_main_v28 (ix3 b r j) = ix3 b (⟨r.val, by omega⟩ : Fin 256) j := funext fun a => by fin_cases a <;> rfl
  rw [val_main_v28_apply, e, context_hidden]
  exact congrArg (fun p => hiddenRow x0 x1 x2 b p j) (Fin.ext (by show r.val = p.val; omega))

/-- The row after a token of the context. -/
theorem context_after (b : Fin 8) (n : Fin 256) (j : Fin 1024) :
    val_main_v31 (F := Ideal) x0 x1 x2 (ix3 b n j) = after (hiddenRow x0 x1 x2 b) (ctx n) j := by
  have hn := n.isLt
  unfold val_main_v31
  refine after_apply (k := 255) _ _ _ _ sitofp_zero rfl _ b n j (ctx n)
    (by show n.val = 255 ∨ n.val = 4351 ↔ n.val = 255; omega) fun r p hr hp => ?_
  have hlt := r.isLt
  have hp' : p.val = n.val + 1 := hp
  have e : idx_main_v30 (ix3 b r j) = ix3 b (⟨1 + r.val, by omega⟩ : Fin 256) j := funext fun a => by fin_cases a <;> rfl
  rw [val_main_v30_apply, e, context_hidden]
  exact congrArg (fun p => hiddenRow x0 x1 x2 b p j) (Fin.ext (by show (1 + r.val) = p.val; omega))

/-- The neighbours' mean less a token's own row, in the context. -/
theorem context_centred (b : Fin 8) (n : Fin 256) (j : Fin 1024) :
    val_main_v35 (F := Ideal) x0 x1 x2 (ix3 b n j)
      = Ideal.ofBits .f32 0x3F000000#32 * (before (hiddenRow x0 x1 x2 b) (ctx n) j + after (hiddenRow x0 x1 x2 b) (ctx n) j)
          - hiddenRow x0 x1 x2 b (ctx n) j := by
  rw [val_main_v35_apply, val_main_v34_apply, val_main_v33_apply, val_main_v32_apply, context_before, context_after, context_hidden]
  rfl

/-- The mixed row of a token of the context, for the receptance. -/
theorem context_mixed_receptance (b : Fin 8) (n : Fin 256) (j : Fin 1024) :
    val_main_v41 (F := Ideal) x0 x1 x2 x3 (ix3 b n j) = mixedRow x0 x1 x2 x3 0 b (ctx n) j := by
  unfold mixedRow mixRow mixed
  rw [val_main_v41_apply, val_main_v40_apply, context_hidden, context_centred, val_main_v39_apply, val_main_v38_apply, val_main_v37_apply, val_main_v36_apply]
  refine congrArg (fun a : EReal => _ + _ * a) (congrArg x3 (funext fun a => Fin.ext ?_))
  match a with
  | ⟨0, _⟩ => rfl
  | ⟨1, _⟩ => exact Nat.mod_eq_of_lt j.isLt

/-- The mixed row of a token of the context, for the value. -/
theorem context_mixed_value (b : Fin 8) (n : Fin 256) (j : Fin 1024) :
    val_main_v59 (F := Ideal) x0 x1 x2 x3 (ix3 b n j) = mixedRow x0 x1 x2 x3 3 b (ctx n) j := by
  unfold mixedRow mixRow mixed
  rw [val_main_v59_apply, val_main_v58_apply, context_hidden, context_centred, val_main_v57_apply, val_main_v56_apply, val_main_v55_apply, val_main_v54_apply]
  refine congrArg (fun a : EReal => _ + _ * a) (congrArg x3 (funext fun a => Fin.ext ?_))
  match a with
  | ⟨0, _⟩ => rfl
  | ⟨1, _⟩ => exact Nat.mod_eq_of_lt j.isLt

/-- The mixed row of a token of the context, for the gate. -/
theorem context_mixed_gate (b : Fin 8) (n : Fin 256) (j : Fin 1024) :
    val_main_v71 (F := Ideal) x0 x1 x2 x3 (ix3 b n j) = mixedRow x0 x1 x2 x3 5 b (ctx n) j := by
  unfold mixedRow mixRow mixed
  rw [val_main_v71_apply, val_main_v70_apply, context_hidden, context_centred, val_main_v69_apply, val_main_v68_apply, val_main_v67_apply, val_main_v66_apply]
  refine congrArg (fun a : EReal => _ + _ * a) (congrArg x3 (funext fun a => Fin.ext ?_))
  match a with
  | ⟨0, _⟩ => rfl
  | ⟨1, _⟩ => exact Nat.mod_eq_of_lt j.isLt

/-- The receptance of a token of the context. -/
theorem context_receptance (b : Fin 8) (n : Fin 256) (j : Fin 1024) :
    val_main_v72 (F := Ideal) x0 x1 x2 x3 x4 (ix3 b n j) = featureRow x0 x1 x2 x3 x4 0 b (ctx n) j := by
  rw [val_main_v72_apply]
  have el (k : Fin 1024) : lidx_main_v72 (ix3 b n j) k = ix3 b n k := funext fun a => by fin_cases a <;> rfl
  have er (k : Fin 1024) : ridx_main_v72 (ix3 b n j) k = ix2 k j := funext fun a => by fin_cases a <;> rfl
  simp only [el, er]
  exact project_congr (fun k j => x4 (ix2 k j)) (fun k => context_mixed_receptance x0 x1 x2 x3 b n k) j

/-- The value of a token of the context. -/
theorem context_value (b : Fin 8) (n : Fin 256) (j : Fin 1024) :
    val_main_v73 (F := Ideal) x0 x1 x2 x3 x6 (ix3 b n j) = featureRow x0 x1 x2 x3 x6 3 b (ctx n) j := by
  rw [val_main_v73_apply]
  have el (k : Fin 1024) : lidx_main_v73 (ix3 b n j) k = ix3 b n k := funext fun a => by fin_cases a <;> rfl
  have er (k : Fin 1024) : ridx_main_v73 (ix3 b n j) k = ix2 k j := funext fun a => by fin_cases a <;> rfl
  simp only [el, er]
  exact project_congr (fun k j => x6 (ix2 k j)) (fun k => context_mixed_value x0 x1 x2 x3 b n k) j

/-- The logistic row of a token of the context. -/
theorem context_logistic (b : Fin 8) (n : Fin 256) (l : Fin 128) :
    val_main_v80 (F := Ideal) x0 x1 x2 x3 x13 (ix3 b n l)
      = FeatMath.logistic (∑ k : Fin 1024, mixedRow x0 x1 x2 x3 5 b (ctx n) k * x13 (ix2 k l)) := by
  have el (k : Fin 1024) : lidx_main_v74 (ix3 b n l) k = ix3 b n k := funext fun a => by fin_cases a <;> rfl
  have er (k : Fin 1024) : ridx_main_v74 (ix3 b n l) k = ix2 k l := funext fun a => by fin_cases a <;> rfl
  have e : val_main_v74 (F := Ideal) x0 x1 x2 x3 x13 (ix3 b n l) = ∑ k : Fin 1024, mixedRow x0 x1 x2 x3 5 b (ctx n) k * x13 (ix2 k l) := by
    rw [val_main_v74_apply]
    exact Finset.sum_congr rfl fun k _ => by rw [el, er, context_mixed_gate]
  rw [val_main_v80_apply, val_main_v79_apply, val_main_v78_apply, val_main_v77_apply, val_main_v76_apply, val_main_v75_apply, e]
  rfl

/-- The gate of a token of the context. -/
theorem context_gate (b : Fin 8) (n : Fin 256) (j : Fin 1024) :
    val_main_v81 (F := Ideal) x0 x1 x2 x3 x13 x14 (ix3 b n j) = outGate x0 x1 x2 x3 x13 x14 b (ctx n) j := by
  have el (l : Fin 128) : lidx_main_v81 (ix3 b n j) l = ix3 b n l := funext fun a => by fin_cases a <;> rfl
  have er (l : Fin 128) : ridx_main_v81 (ix3 b n j) l = ix2 l j := funext fun a => by fin_cases a <;> rfl
  unfold outGate gateRow
  rw [val_main_v81_apply]
  exact Finset.sum_congr rfl fun l _ => by rw [el, er, context_logistic]

/-- The shift of a token of the latent. -/
theorem latent_shift (b : Fin 8) (n : Fin 4096) (j : Fin 1024) : val_main_v108 (F := Ideal) x1 (ix3 b n j) = x1 (ix4 b (kind (lat n)) 0 j) := by
  rw [val_main_v108_apply, val_main_v100_apply, val_main_v99_apply, val_main_v98_apply, val_main_v84_apply, val_main_v83_apply]
  have hb := b.isLt
  have hj := j.isLt
  have hn := n.isLt
  refine congrArg x1 (funext fun a => Fin.ext ?_)
  match a with
  | ⟨0, _⟩ => show (((b.val * 1024 + j.val) / 1024 * 6 + (0)) * 1024 + (b.val * 1024 + j.val) % 1024) / 6144 = b.val; omega
  | ⟨1, _⟩ => show 1 + 0 = min ((256 + n.val) / 256) 1; omega
  | ⟨2, _⟩ => show (((b.val * 1024 + j.val) / 1024 * 6 + (0)) * 1024 + (b.val * 1024 + j.val) % 1024) / 1024 % 6 = 0; omega
  | ⟨3, _⟩ => show (((b.val * 1024 + j.val) / 1024 * 6 + (0)) * 1024 + (b.val * 1024 + j.val) % 1024) % 1024 = j.val; omega

/-- The scale of a token of the latent. -/
theorem latent_scale (b : Fin 8) (n : Fin 4096) (j : Fin 1024) :
    val_main_v106 (F := Ideal) x1 (ix3 b n j) = Ideal.ofBits .f32 0x3F800000#32 + x1 (ix4 b (kind (lat n)) 1 j) := by
  rw [val_main_v106_apply, val_main_v105_apply, val_main_v104_apply, val_main_v103_apply, val_main_v102_apply, val_main_v101_apply, val_main_v84_apply, val_main_v83_apply]
  refine congrArg (fun a : EReal => Ideal.ofBits .f32 0x3F800000#32 + a) ?_
  have hb := b.isLt
  have hj := j.isLt
  have hn := n.isLt
  refine congrArg x1 (funext fun a => Fin.ext ?_)
  match a with
  | ⟨0, _⟩ => show (((b.val * 1024 + j.val) / 1024 * 6 + (1 + 0)) * 1024 + (b.val * 1024 + j.val) % 1024) / 6144 = b.val; omega
  | ⟨1, _⟩ => show 1 + 0 = min ((256 + n.val) / 256) 1; omega
  | ⟨2, _⟩ => show (((b.val * 1024 + j.val) / 1024 * 6 + (1 + 0)) * 1024 + (b.val * 1024 + j.val) % 1024) / 1024 % 6 = 1; omega
  | ⟨3, _⟩ => show (((b.val * 1024 + j.val) / 1024 * 6 + (1 + 0)) * 1024 + (b.val * 1024 + j.val) % 1024) % 1024 = j.val; omega

/-- The inverse root of a token of the latent. -/
theorem latent_root (b : Fin 8) (n : Fin 4096) (j : Fin 1024) :
    val_main_v93 (F := Ideal) x0 (ix3 b n j)
      = Ideal.rsqrt ((∑ i : Fin 1024, x0 (ix3 b (lat n) i) * x0 (ix3 b (lat n) i)) * Ideal.ofBits .f32 0x3A800000#32
          + Ideal.ofBits .f32 0x358637BD#32) := by
  rw [val_main_v93_apply, val_main_v92_apply, val_main_v91_apply, val_main_v90_apply, val_main_v89_apply, val_main_v88_apply, val_main_v87_apply, val_main_v86_apply]
  refine congrArg (fun a : EReal => Ideal.rsqrt (a + Ideal.ofBits .f32 0x358637BD#32)) ?_
  refine Eq.trans ?_ (mean_eq _)
  refine congrArg (fun a : EReal => Ideal.div a (Ideal.ofBits .f32 0x44800000#32)) ?_
  refine (congrArg (fun a : EReal => a + _) Ideal.ofBits_zero_f32).trans ((zero_add _).trans (Finset.sum_congr rfl fun i _ => ?_))
  rw [val_main_v85_apply, val_main_v82_apply]
  refine congrArg (fun i' : S8x4352x1024.Idx => (x0 i' * x0 i' : EReal)) (funext fun a => ?_)
  fin_cases a <;> rfl

/-- The modulated norm of a token of the latent. -/
theorem latent_hidden (b : Fin 8) (n : Fin 4096) (j : Fin 1024) :
    val_main_v109 (F := Ideal) x0 x1 x2 (ix3 b n j) = hiddenRow x0 x1 x2 b (lat n) j := by
  unfold hiddenRow normed
  rw [val_main_v109_apply, val_main_v107_apply, val_main_v97_apply, val_main_v94_apply, val_main_v96_apply, val_main_v95_apply, val_main_v82_apply, latent_shift, latent_scale, latent_root]
  have e0 : x0 (idx_main_v82 (ix3 b n j)) = x0 (ix3 b (lat n) j) := congrArg x0 (funext fun a => by fin_cases a <;> rfl)
  have e2 : x2 (idx_main_v95 (idx_main_v96 (ix3 b n j))) = x2 (ix1 j) := congrArg x2 (funext fun a => by fin_cases a <;> rfl)
  rw [e0, e2]
  rfl

/-- The row before a token of the latent. -/
theorem latent_before (b : Fin 8) (n : Fin 4096) (j : Fin 1024) :
    val_main_v111 (F := Ideal) x0 x1 x2 (ix3 b n j) = before (hiddenRow x0 x1 x2 b) (lat n) j := by
  have hn := n.isLt
  unfold val_main_v111
  refine before_apply (k := 4095) _ _ _ _ sitofp_zero rfl _ b n j (lat n)
    (by show (256 + n.val) = 0 ∨ (256 + n.val) = 256 ↔ n.val = 0; omega) fun r p hr hp => ?_
  have hp' : p.val = (256 + n.val) - 1 := hp
  have e : idx_main_v110 (ix3 b r j) = ix3 b (⟨r.val, by omega⟩ : Fin 4096) j := funext fun a => by fin_cases a <;> rfl
  rw [val_main_v110_apply, e, latent_hidden]
  exact congrArg (fun p => hiddenRow x0 x1 x2 b p j) (Fin.ext (by show (256 + r.val) = p.val; omega))

/-- The row after a token of the latent. -/
theorem latent_after (b : Fin 8) (n : Fin 4096) (j : Fin 1024) :
    val_main_v113 (F := Ideal) x0 x1 x2 (ix3 b n j) = after (hiddenRow x0 x1 x2 b) (lat n) j := by
  have hn := n.isLt
  unfold val_main_v113
  refine after_apply (k := 4095) _ _ _ _ sitofp_zero rfl _ b n j (lat n)
    (by show (256 + n.val) = 255 ∨ (256 + n.val) = 4351 ↔ n.val = 4095; omega) fun r p hr hp => ?_
  have hlt := r.isLt
  have hp' : p.val = (256 + n.val) + 1 := hp
  have e : idx_main_v112 (ix3 b r j) = ix3 b (⟨1 + r.val, by omega⟩ : Fin 4096) j := funext fun a => by fin_cases a <;> rfl
  rw [val_main_v112_apply, e, latent_hidden]
  exact congrArg (fun p => hiddenRow x0 x1 x2 b p j) (Fin.ext (by show (256 + (1 + r.val)) = p.val; omega))

/-- The neighbours' mean less a token's own row, in the latent. -/
theorem latent_centred (b : Fin 8) (n : Fin 4096) (j : Fin 1024) :
    val_main_v117 (F := Ideal) x0 x1 x2 (ix3 b n j)
      = Ideal.ofBits .f32 0x3F000000#32 * (before (hiddenRow x0 x1 x2 b) (lat n) j + after (hiddenRow x0 x1 x2 b) (lat n) j)
          - hiddenRow x0 x1 x2 b (lat n) j := by
  rw [val_main_v117_apply, val_main_v116_apply, val_main_v115_apply, val_main_v114_apply, latent_before, latent_after, latent_hidden]
  rfl

/-- The mixed row of a token of the latent, for the receptance. -/
theorem latent_mixed_receptance (b : Fin 8) (n : Fin 4096) (j : Fin 1024) :
    val_main_v123 (F := Ideal) x0 x1 x2 x3 (ix3 b n j) = mixedRow x0 x1 x2 x3 0 b (lat n) j := by
  unfold mixedRow mixRow mixed
  rw [val_main_v123_apply, val_main_v122_apply, latent_hidden, latent_centred, val_main_v121_apply, val_main_v120_apply, val_main_v119_apply, val_main_v118_apply]
  refine congrArg (fun a : EReal => _ + _ * a) (congrArg x3 (funext fun a => Fin.ext ?_))
  match a with
  | ⟨0, _⟩ => rfl
  | ⟨1, _⟩ => exact Nat.mod_eq_of_lt j.isLt

/-- The mixed row of a token of the latent, for the value. -/
theorem latent_mixed_value (b : Fin 8) (n : Fin 4096) (j : Fin 1024) :
    val_main_v141 (F := Ideal) x0 x1 x2 x3 (ix3 b n j) = mixedRow x0 x1 x2 x3 3 b (lat n) j := by
  unfold mixedRow mixRow mixed
  rw [val_main_v141_apply, val_main_v140_apply, latent_hidden, latent_centred, val_main_v139_apply, val_main_v138_apply, val_main_v137_apply, val_main_v136_apply]
  refine congrArg (fun a : EReal => _ + _ * a) (congrArg x3 (funext fun a => Fin.ext ?_))
  match a with
  | ⟨0, _⟩ => rfl
  | ⟨1, _⟩ => exact Nat.mod_eq_of_lt j.isLt

/-- The mixed row of a token of the latent, for the gate. -/
theorem latent_mixed_gate (b : Fin 8) (n : Fin 4096) (j : Fin 1024) :
    val_main_v153 (F := Ideal) x0 x1 x2 x3 (ix3 b n j) = mixedRow x0 x1 x2 x3 5 b (lat n) j := by
  unfold mixedRow mixRow mixed
  rw [val_main_v153_apply, val_main_v152_apply, latent_hidden, latent_centred, val_main_v151_apply, val_main_v150_apply, val_main_v149_apply, val_main_v148_apply]
  refine congrArg (fun a : EReal => _ + _ * a) (congrArg x3 (funext fun a => Fin.ext ?_))
  match a with
  | ⟨0, _⟩ => rfl
  | ⟨1, _⟩ => exact Nat.mod_eq_of_lt j.isLt

/-- The receptance of a token of the latent. -/
theorem latent_receptance (b : Fin 8) (n : Fin 4096) (j : Fin 1024) :
    val_main_v154 (F := Ideal) x0 x1 x2 x3 x4 (ix3 b n j) = featureRow x0 x1 x2 x3 x4 0 b (lat n) j := by
  rw [val_main_v154_apply]
  have el (k : Fin 1024) : lidx_main_v154 (ix3 b n j) k = ix3 b n k := funext fun a => by fin_cases a <;> rfl
  have er (k : Fin 1024) : ridx_main_v154 (ix3 b n j) k = ix2 k j := funext fun a => by fin_cases a <;> rfl
  simp only [el, er]
  exact project_congr (fun k j => x4 (ix2 k j)) (fun k => latent_mixed_receptance x0 x1 x2 x3 b n k) j

/-- The value of a token of the latent. -/
theorem latent_value (b : Fin 8) (n : Fin 4096) (j : Fin 1024) :
    val_main_v155 (F := Ideal) x0 x1 x2 x3 x6 (ix3 b n j) = featureRow x0 x1 x2 x3 x6 3 b (lat n) j := by
  rw [val_main_v155_apply]
  have el (k : Fin 1024) : lidx_main_v155 (ix3 b n j) k = ix3 b n k := funext fun a => by fin_cases a <;> rfl
  have er (k : Fin 1024) : ridx_main_v155 (ix3 b n j) k = ix2 k j := funext fun a => by fin_cases a <;> rfl
  simp only [el, er]
  exact project_congr (fun k j => x6 (ix2 k j)) (fun k => latent_mixed_value x0 x1 x2 x3 b n k) j

/-- The logistic row of a token of the latent. -/
theorem latent_logistic (b : Fin 8) (n : Fin 4096) (l : Fin 128) :
    val_main_v162 (F := Ideal) x0 x1 x2 x3 x13 (ix3 b n l)
      = FeatMath.logistic (∑ k : Fin 1024, mixedRow x0 x1 x2 x3 5 b (lat n) k * x13 (ix2 k l)) := by
  have el (k : Fin 1024) : lidx_main_v156 (ix3 b n l) k = ix3 b n k := funext fun a => by fin_cases a <;> rfl
  have er (k : Fin 1024) : ridx_main_v156 (ix3 b n l) k = ix2 k l := funext fun a => by fin_cases a <;> rfl
  have e : val_main_v156 (F := Ideal) x0 x1 x2 x3 x13 (ix3 b n l) = ∑ k : Fin 1024, mixedRow x0 x1 x2 x3 5 b (lat n) k * x13 (ix2 k l) := by
    rw [val_main_v156_apply]
    exact Finset.sum_congr rfl fun k _ => by rw [el, er, latent_mixed_gate]
  rw [val_main_v162_apply, val_main_v161_apply, val_main_v160_apply, val_main_v159_apply, val_main_v158_apply, val_main_v157_apply, e]
  rfl

/-- The gate of a token of the latent. -/
theorem latent_gate (b : Fin 8) (n : Fin 4096) (j : Fin 1024) :
    val_main_v163 (F := Ideal) x0 x1 x2 x3 x13 x14 (ix3 b n j) = outGate x0 x1 x2 x3 x13 x14 b (lat n) j := by
  have el (l : Fin 128) : lidx_main_v163 (ix3 b n j) l = ix3 b n l := funext fun a => by fin_cases a <;> rfl
  have er (l : Fin 128) : ridx_main_v163 (ix3 b n j) l = ix2 l j := funext fun a => by fin_cases a <;> rfl
  unfold outGate gateRow
  rw [val_main_v163_apply]
  exact Finset.sum_congr rfl fun l _ => by rw [el, er, latent_logistic]

/-- The reference's first result is the token's receptance. -/
theorem receptance_apply (b : Fin 8) (n : Fin 4352) (j : Fin 1024) :
    val_main_v164 (F := Ideal) x0 x1 x2 x3 x4 (ix3 b n j) = featureRow x0 x1 x2 x3 x4 0 b n j := by
  unfold val_main_v164
  exact joined_apply _ _ (featureRow x0 x1 x2 x3 x4 0) _ (context_receptance x0 x1 x2 x3 x4) (latent_receptance x0 x1 x2 x3 x4) b n j

/-- The reference's second result is the token's value. -/
theorem value_apply (b : Fin 8) (n : Fin 4352) (j : Fin 1024) :
    val_main_v165 (F := Ideal) x0 x1 x2 x3 x6 (ix3 b n j) = featureRow x0 x1 x2 x3 x6 3 b n j := by
  unfold val_main_v165
  exact joined_apply _ _ (featureRow x0 x1 x2 x3 x6 3) _ (context_value x0 x1 x2 x3 x6) (latent_value x0 x1 x2 x3 x6) b n j

/-- The reference's third result is the token's gate. -/
theorem gate_apply (b : Fin 8) (n : Fin 4352) (j : Fin 1024) :
    val_main_v166 (F := Ideal) x0 x1 x2 x3 x13 x14 (ix3 b n j) = outGate x0 x1 x2 x3 x13 x14 b n j := by
  unfold val_main_v166
  exact joined_apply _ _ (outGate x0 x1 x2 x3 x13 x14) _ (context_gate x0 x1 x2 x3 x13 x14) (latent_gate x0 x1 x2 x3 x13 x14) b n j

end Cert.Proof.FeatReference
-- ==== Proof.FeatClaim.lean ====
/- The features' call: the value claim from the runs and the equality of the arrays. -/
module

public import proofs.«01_k».proof.Defs
public import proofs.«01_k».proof.Proof.FeatReference

@[expose] public section

set_option maxRecDepth 16384

noncomputable section

namespace Cert.Proof.FeatClaim

open Idealize.ShloMosaic
open Idealize.ShloMosaic.ValueIdx Idealize.ShloMosaic.TcCoe Idealize.SL.Sem
open Cert.FeatIdeal (main_arg0 main_arg1 main_arg2 main_arg3 main_arg4 main_arg6 main_arg13 main_arg14)
open Cert.Proof.FeatKernel Cert.Proof.FeatReference

variable (m : (ℓ : Loc Cert.FeatIdeal.nD Cert.FeatIdeal.τ Cert.FeatIdeal.sig) → Buf (Elt Ideal) ℓ) (c : Dev Cert.FeatIdeal.nD)

/-- An array that the reference reads is the kernel's result where they agree at every triple of coordinates. -/
theorem array_eq (f : Fin 8 → Fin 4352 → Fin 1024 → EReal) (v : FVec Ideal ⟨3, ![8, 4352, 1024]⟩ .f32)
    (h : ∀ b n j, v (ix3 b n j) = f b n j) : v = fun i => f (i 0) (i 1) (i 2) := by
  funext i
  have e : i = ix3 (i 0) (i 1) (i 2) := funext fun a => match a with
    | ⟨0, _⟩ => rfl
    | ⟨1, _⟩ => rfl
    | ⟨2, _⟩ => rfl
  exact (congrArg v e).trans (h (i 0) (i 1) (i 2))

/-- The reference's first result of the arguments is what the kernel's first result array ends holding. -/
theorem result22_eq : Cert.FeatRefIdeal.Read.val_main_v164 (F := Ideal) (argX m c) (argMod m c) (argNorm m c) (argMix m c)
    (m ((c.tc : Thread Cert.FeatIdeal.nD Cert.FeatIdeal.τ).loc main_arg4)) = result22 m c :=
  array_eq _ _ (receptance_apply _ _ _ _ _)

/-- The reference's second result of the arguments is what the kernel's second result array ends holding. -/
theorem result23_eq : Cert.FeatRefIdeal.Read.val_main_v165 (F := Ideal) (argX m c) (argMod m c) (argNorm m c) (argMix m c)
    (m ((c.tc : Thread Cert.FeatIdeal.nD Cert.FeatIdeal.τ).loc main_arg6)) = result23 m c :=
  array_eq _ _ (value_apply _ _ _ _ _)

/-- The reference's third result of the arguments is what the kernel's third result array ends holding. -/
theorem result28_eq : Cert.FeatRefIdeal.Read.val_main_v166 (F := Ideal) (argX m c) (argMod m c) (argNorm m c) (argMix m c)
    (m ((c.tc : Thread Cert.FeatIdeal.nD Cert.FeatIdeal.τ).loc main_arg13))
    (m ((c.tc : Thread Cert.FeatIdeal.nD Cert.FeatIdeal.τ).loc main_arg14)) = result28 m c :=
  array_eq _ _ (gate_apply _ _ _ _ _ _)

/-- The idealized kernel and the idealized reference end with equal results. -/
theorem algebraic : algebraic_FeatIdeal_FeatRefIdeal := by
  intro m g m' g' _ ha
  refine ⟨fun c => result22 m c, fun c => result23 m c, fun c => result28 m c, ?_, ?_⟩
  · refine (θ_run _ _ _).mono (fun r h c => ?_) (run_results m g)
    exact ⟨(h.1 c).1, (h.1 c).2.1, (h.1 c).2.2, h.2 c⟩
  · refine (θ_run _ _ _).mono (fun r h c => ?_) (Cert.FeatRefIdeal.Value.run m' g')
    obtain ⟨h164, h165, h166, hargs⟩ := h c
    obtain ⟨e0, e1, e2, e3, e4, _, e6, _, _, _, _, _, _, e13, e14, _, _, _⟩ := ha c
    refine ⟨h164.trans ?_, h165.trans ?_, h166.trans ?_, hargs⟩
    · refine (Cert.FeatRefIdeal.Read.val_main_v164_eq _).trans ?_
      simp only [StableHlo.launchContents_devRef, e0, e1, e2, e3, e4]
      exact result22_eq m c
    · refine (Cert.FeatRefIdeal.Read.val_main_v165_eq _).trans ?_
      simp only [StableHlo.launchContents_devRef, e0, e1, e2, e3, e6]
      exact result23_eq m c
    · refine (Cert.FeatRefIdeal.Read.val_main_v166_eq _).trans ?_
      simp only [StableHlo.launchContents_devRef, e0, e1, e2, e3, e13, e14]
      exact result28_eq m c

end Cert.Proof.FeatClaim
-- ==== Proof.lean ====
/- The certificate: the frames of the attention, the output projection, the modulation and the de-interleaving from the generated
   modules, the experts' from MoeClaim and the recurrent features' from FeatBits, and a value claim from each program's Claim module. -/
module

public import proofs.«01_k».proof.Defs
public import proofs.«01_k».proof.Proof.Gen.Mla
public import proofs.«01_k».proof.Proof.Gen.Mla.Skeleton
public import proofs.«01_k».proof.Proof.Gen.Mla.Launch
public import proofs.«01_k».proof.Proof.Gen.Mla.Points
public import proofs.«01_k».proof.Proof.Gen.Mla.Frame
public import proofs.«01_k».proof.Proof.Gen.MlaIdeal
public import proofs.«01_k».proof.Proof.Gen.MlaIdeal.Skeleton
public import proofs.«01_k».proof.Proof.Gen.MlaIdeal.Launch
public import proofs.«01_k».proof.Proof.Gen.MlaIdeal.Points
public import proofs.«01_k».proof.Proof.Gen.MlaIdeal.Frame
public import proofs.«01_k».proof.Proof.Gen.MlaRefIdeal
public import proofs.«01_k».proof.Proof.Gen.Gqa
public import proofs.«01_k».proof.Proof.Gen.Gqa.Skeleton
public import proofs.«01_k».proof.Proof.Gen.Gqa.Launch
public import proofs.«01_k».proof.Proof.Gen.Gqa.Points
public import proofs.«01_k».proof.Proof.Gen.Gqa.Frame
public import proofs.«01_k».proof.Proof.Gen.GqaIdeal
public import proofs.«01_k».proof.Proof.Gen.GqaIdeal.Skeleton
public import proofs.«01_k».proof.Proof.Gen.GqaIdeal.Launch
public import proofs.«01_k».proof.Proof.Gen.GqaIdeal.Points
public import proofs.«01_k».proof.Proof.Gen.GqaIdeal.Frame
public import proofs.«01_k».proof.Proof.Gen.GqaRefIdeal
public import proofs.«01_k».proof.Proof.Gen.Pre_mla_finite_qk
public import proofs.«01_k».proof.Proof.Gen.Pre_gqa_finite_qk
public import proofs.«01_k».proof.Proof.Gen.MlaIdeal.Value
public import proofs.«01_k».proof.Proof.Gen.GqaIdeal.Value
public import proofs.«01_k».proof.Proof.Gen.MlaRefIdeal.Run
public import proofs.«01_k».proof.Proof.Gen.MlaRefIdeal.Read
public import proofs.«01_k».proof.Proof.Gen.GqaRefIdeal.Run
public import proofs.«01_k».proof.Proof.Gen.GqaRefIdeal.Read
public import Idealize.ShloMosaic.Adequacy
public import Idealize.ShloMosaic.Init
public import proofs.«01_k».proof.Proof.Gen.Moe
public import proofs.«01_k».proof.Proof.Gen.Moe.Skeleton
public import proofs.«01_k».proof.Proof.Gen.Moe.Launch
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeRefIdeal
public import proofs.«01_k».proof.Proof.Gen.MoeRefIdeal.Run
public import proofs.«01_k».proof.Proof.Gen.MoeRefIdeal.Read
public import proofs.«01_k».proof.Proof.Gen.Pre_tables_in_range
public import proofs.«01_k».proof.Proof.Gen.Ada
public import proofs.«01_k».proof.Proof.Gen.AdaIdeal
public import proofs.«01_k».proof.Proof.Gen.Ada.Skeleton
public import proofs.«01_k».proof.Proof.Gen.AdaIdeal.Skeleton
public import proofs.«01_k».proof.Proof.Gen.Ada.Launch
public import proofs.«01_k».proof.Proof.Gen.AdaIdeal.Launch
public import proofs.«01_k».proof.Proof.Gen.Ada.Points
public import proofs.«01_k».proof.Proof.Gen.AdaIdeal.Points
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal
public import proofs.«01_k».proof.Proof.Gen.AdaRefIdeal.Run
public import proofs.«01_k».proof.Proof.Gen.AdaRefIdeal.Read
public import proofs.«01_k».proof.Proof.Gen.Halves
public import proofs.«01_k».proof.Proof.Gen.HalvesIdeal
public import proofs.«01_k».proof.Proof.Gen.Halves.Skeleton
public import proofs.«01_k».proof.Proof.Gen.HalvesIdeal.Skeleton
public import proofs.«01_k».proof.Proof.Gen.Halves.Launch
public import proofs.«01_k».proof.Proof.Gen.HalvesIdeal.Launch
public import proofs.«01_k».proof.Proof.Gen.Halves.Points
public import proofs.«01_k».proof.Proof.Gen.HalvesIdeal.Points
public import proofs.«01_k».proof.Proof.Gen.Halves.Frame
public import proofs.«01_k».proof.Proof.Gen.HalvesIdeal.Frame
public import proofs.«01_k».proof.Proof.Gen.HalvesIdeal.Value
public import proofs.«01_k».proof.Proof.Gen.HalvesRefIdeal
public import proofs.«01_k».proof.Proof.Gen.HalvesRefIdeal.Run
public import proofs.«01_k».proof.Proof.Gen.HalvesRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.OutRefIdeal.Read
public import proofs.«01_k».proof.Proof.Gen.Feat
public import proofs.«01_k».proof.Proof.Gen.Feat.Skeleton
public import proofs.«01_k».proof.Proof.Gen.Feat.Launch
public import proofs.«01_k».proof.Proof.Gen.Feat.Points
public import proofs.«01_k».proof.Proof.Gen.FeatIdeal
public import proofs.«01_k».proof.Proof.Gen.FeatIdeal.Skeleton
public import proofs.«01_k».proof.Proof.Gen.FeatIdeal.Launch
public import proofs.«01_k».proof.Proof.Gen.FeatIdeal.Points
public import proofs.«01_k».proof.Proof.Gen.FeatRefIdeal
public import proofs.«01_k».proof.Proof.Gen.FeatRefIdeal.Run
public import proofs.«01_k».proof.Proof.Gen.FeatRefIdeal.Read
public import proofs.«01_k».proof.Proof.MlaClaim
public import proofs.«01_k».proof.Proof.GqaClaim
public import proofs.«01_k».proof.Proof.MoeClaim
public import proofs.«01_k».proof.Proof.AdaClaim
public import proofs.«01_k».proof.Proof.HalvesClaim
public import proofs.«01_k».proof.Proof.OutClaim
public import proofs.«01_k».proof.Proof.FeatBits
public import proofs.«01_k».proof.Proof.FeatClaim

@[expose] public section

noncomputable section

namespace Cert.Proof

open Idealize.ShloMosaic Idealize.SL.Sem

/-- The latent-attention reference keeps its arguments. -/
theorem frame_mlaReference : quiescent_MlaRefIdeal := fun m g _ =>
  (θ_run _ _ _).mono (fun r h => ⟨fun c => (h c).2, sem_eq_zero_of_no_sems (by decide) r.2⟩) (Cert.MlaRefIdeal.Value.run m g)

/-- The grouped-query reference keeps its arguments. -/
theorem frame_gqaReference : quiescent_GqaRefIdeal := fun m g _ =>
  (θ_run _ _ _).mono (fun r h => ⟨fun c => (h c).2, sem_eq_zero_of_no_sems (by decide) r.2⟩) (Cert.GqaRefIdeal.Value.run m g)

/-- The modulation reference keeps its arguments. -/
theorem frame_modulationReference : quiescent_AdaRefIdeal := fun m g _ =>
  (θ_run _ _ _).mono (fun r h => ⟨fun c => (h c).2, sem_eq_zero_of_no_sems (by decide) r.2⟩) (Cert.AdaRefIdeal.Value.run m g)

/-- The de-interleaving reference keeps its argument. -/
theorem frame_deinterleaveReference : quiescent_HalvesRefIdeal := fun m g _ =>
  (θ_run _ _ _).mono (fun r h => ⟨fun c => (h c).2, sem_eq_zero_of_no_sems (by decide) r.2⟩) (Cert.HalvesRefIdeal.Value.run m g)

/-- The output projection's reference keeps its arguments. -/
theorem frame_outReference : quiescent_OutRefIdeal := fun m g _ =>
  (θ_run _ _ _).mono (fun r h => ⟨fun c => (h c).2.2, sem_eq_zero_of_no_sems (by decide) r.2⟩) (Cert.OutRefIdeal.Value.run m g)

/-- The recurrent features' reference keeps its arguments. -/
theorem frame_featReference : quiescent_FeatRefIdeal := fun m g _ =>
  (θ_run _ _ _).mono (fun r h => ⟨fun c => (h c).2.2.2, sem_eq_zero_of_no_sems (by decide) r.2⟩) (Cert.FeatRefIdeal.Value.run m g)

/-- Every claim of the certificate. -/
theorem claim : Cert.Claim :=
  ⟨Cert.Mla.Gen.facts, Cert.MlaIdeal.Gen.facts, Cert.MlaRefIdeal.Gen.facts, Cert.Gqa.Gen.facts, Cert.GqaIdeal.Gen.facts,
    Cert.GqaRefIdeal.Gen.facts, Cert.Moe.Gen.facts, Cert.MoeIdeal.Gen.facts, Cert.MoeRefIdeal.Gen.facts,
    Cert.Ada.Gen.facts, Cert.AdaIdeal.Gen.facts, Cert.AdaRefIdeal.Gen.facts, Cert.Halves.Gen.facts, Cert.HalvesIdeal.Gen.facts,
    Cert.HalvesRefIdeal.Gen.facts, Cert.Out.Gen.facts, Cert.OutIdeal.Gen.facts, Cert.OutRefIdeal.Gen.facts,
    Cert.Feat.Gen.facts, Cert.FeatIdeal.Gen.facts, Cert.FeatRefIdeal.Gen.facts,
    Cert.Pre_mla_finite_qk.Gen.facts, Cert.Pre_gqa_finite_qk.Gen.facts, Cert.Pre_tables_in_range.Gen.facts,
    fun m g _ => Cert.Mla.Gen.frame m g, fun m g _ => Cert.MlaIdeal.Gen.frame m g, fun m g _ => Cert.MlaIdeal.Gen.frame m g,
    frame_mlaReference, fun m g _ => frame_mlaReference m g trivial,
    fun m g _ => Cert.Gqa.Gen.frame m g, fun m g _ => Cert.GqaIdeal.Gen.frame m g, fun m g _ => Cert.GqaIdeal.Gen.frame m g,
    frame_gqaReference, fun m g _ => frame_gqaReference m g trivial,
    MoeClaim.frame, MoeClaim.frameIdeal, MoeClaim.frameReference, fun m g _ => MoeClaim.frameReference m g trivial,
    fun m g _ => Cert.Ada.Gen.frame m g, fun m g _ => Cert.AdaIdeal.Gen.frame m g, frame_modulationReference,
    fun m g _ => Cert.Halves.Gen.frame m g, fun m g _ => Cert.HalvesIdeal.Gen.frame m g, frame_deinterleaveReference,
    fun m g _ => Cert.Out.Gen.frame m g, fun m g _ => Cert.OutIdeal.Gen.frame m g, frame_outReference,
    FeatBits.frame, FeatBits.frameIdeal, frame_featReference,
    trivial, MlaClaim.algebraic, trivial, GqaClaim.algebraic, trivial, MoeClaim.algebraic, trivial, AdaClaim.algebraic,
    trivial, HalvesClaim.algebraic, trivial, OutClaim.algebraic, trivial, FeatClaim.algebraic⟩

end Cert.Proof

end
